-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_dx_finite [hPre_dx_finite : Cert.Pre_dx_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_dx_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_dx_finite [hPre_dx_finite : Cert.Pre_dx_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_dx_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_dact_finite [hPre_dact_finite : Cert.Pre_dact_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_dact_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_dact_finite [hPre_dact_finite : Cert.Pre_dact_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_dact_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_mix_dx_finite [hPre_mix_dx_finite : Cert.Pre_mix_dx_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_mix_dx_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_mix_dx_finite [hPre_mix_dx_finite : Cert.Pre_mix_dx_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_mix_dx_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_ssd_dx_finite [hPre_ssd_dx_finite : Cert.Pre_ssd_dx_finite.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_ssd_dx_finite.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_ssd_dx_finite [hPre_ssd_dx_finite : Cert.Pre_ssd_dx_finite.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_ssd_dx_finite.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4))) = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_dx_finite [hKernel4Ideal : Cert.Kernel4Ideal.Facts] [hPre_dx_finite : Cert.Pre_dx_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_dx_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_dx_finite [hReference4Ideal : Cert.Reference4Ideal.Facts] [hPre_dx_finite : Cert.Pre_dx_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_dx_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_dact_finite [hKernel5Ideal : Cert.Kernel5Ideal.Facts] [hPre_dact_finite : Cert.Pre_dact_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_dact_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_dact_finite [hReference5Ideal : Cert.Reference5Ideal.Facts] [hPre_dact_finite : Cert.Pre_dact_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_dact_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_mix_dx_finite [hKernel8Ideal : Cert.Kernel8Ideal.Facts] [hPre_mix_dx_finite : Cert.Pre_mix_dx_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_mix_dx_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_mix_dx_finite [hReference8Ideal : Cert.Reference8Ideal.Facts] [hPre_mix_dx_finite : Cert.Pre_mix_dx_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_mix_dx_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Kernel16Ideal_pre_ssd_dx_finite [hKernel16Ideal : Cert.Kernel16Ideal.Facts] [hPre_ssd_dx_finite : Cert.Pre_ssd_dx_finite.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_ssd_dx_finite m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Reference16Ideal_pre_ssd_dx_finite [hReference16Ideal : Cert.Reference16Ideal.Facts] [hPre_ssd_dx_finite : Cert.Pre_ssd_dx_finite.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_ssd_dx_finite m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def preserves_Kernel_KernelIdeal : Prop :=
  True

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v57_0)) (v1 : (c : Dev Cert.KernelIdeal.nD) → Buf (Elt Ideal) ((c.tc : Thread Cert.KernelIdeal.nD Cert.KernelIdeal.τ).loc Cert.KernelIdeal.main_v57_1)) (v2 : (c : Dev Cert.KernelIdeal.nD) → Buf (Elt Ideal) ((c.tc : Thread Cert.KernelIdeal.nD Cert.KernelIdeal.τ).loc Cert.KernelIdeal.main_v57_2)) (v3 : (c : Dev Cert.KernelIdeal.nD) → Buf (Elt Ideal) ((c.tc : Thread Cert.KernelIdeal.nD Cert.KernelIdeal.τ).loc Cert.KernelIdeal.main_v57_3)) (v4 : (c : Dev Cert.KernelIdeal.nD) → Buf (Elt Ideal) ((c.tc : Thread Cert.KernelIdeal.nD Cert.KernelIdeal.τ).loc Cert.KernelIdeal.main_v57_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57_0) = v0 c
          ∧ r.2.mem ((c.tc : Thread Cert.KernelIdeal.nD Cert.KernelIdeal.τ).loc Cert.KernelIdeal.main_v57_1) = v1 c
          ∧ r.2.mem ((c.tc : Thread Cert.KernelIdeal.nD Cert.KernelIdeal.τ).loc Cert.KernelIdeal.main_v57_2) = v2 c
          ∧ r.2.mem ((c.tc : Thread Cert.KernelIdeal.nD Cert.KernelIdeal.τ).loc Cert.KernelIdeal.main_v57_3) = v3 c
          ∧ r.2.mem ((c.tc : Thread Cert.KernelIdeal.nD Cert.KernelIdeal.τ).loc Cert.KernelIdeal.main_v57_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_v81) = v3 c
          ∧ r.2.mem ((c.tc : Thread Cert.ReferenceIdeal.nD Cert.ReferenceIdeal.τ).loc Cert.ReferenceIdeal.main_v84) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v19)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_dx_finite [hKernel4Ideal : Cert.Kernel4Ideal.Facts] [hReference4Ideal : Cert.Reference4Ideal.Facts] [hPre_dx_finite : Cert.Pre_dx_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_dx_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v44) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_dact_finite [hKernel5Ideal : Cert.Kernel5Ideal.Facts] [hReference5Ideal : Cert.Reference5Ideal.Facts] [hPre_dact_finite : Cert.Pre_dact_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_dact_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v18)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v17_0)) (v1 : (c : Dev Cert.Kernel6Ideal.nD) → Buf (Elt Ideal) ((c.tc : Thread Cert.Kernel6Ideal.nD Cert.Kernel6Ideal.τ).loc Cert.Kernel6Ideal.main_v17_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17_0) = v0 c
          ∧ r.2.mem ((c.tc : Thread Cert.Kernel6Ideal.nD Cert.Kernel6Ideal.τ).loc Cert.Kernel6Ideal.main_v17_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_v21) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v20)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v20) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_pre_mix_dx_finite [hKernel8Ideal : Cert.Kernel8Ideal.Facts] [hReference8Ideal : Cert.Reference8Ideal.Facts] [hPre_mix_dx_finite : Cert.Pre_mix_dx_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_mix_dx_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_v39) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v15)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v15) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v15)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v15) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v15)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v15) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v13) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal_pre_ssd_dx_finite [hKernel16Ideal : Cert.Kernel16Ideal.Facts] [hReference16Ideal : Cert.Reference16Ideal.Facts] [hPre_ssd_dx_finite : Cert.Pre_ssd_dx_finite.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_ssd_dx_finite m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v38) = v0 c
          ∧ r.2.mem ((c.tc : Thread Cert.Reference16Ideal.nD Cert.Reference16Ideal.τ).loc Cert.Reference16Ideal.main_v39) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v15)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v15) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v17) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v16)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v16) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v14) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v57) = v0 c
          ∧ r.2.mem ((c.tc : Thread Cert.Reference22Ideal.nD Cert.Reference22Ideal.τ).loc Cert.Reference22Ideal.main_v58) = v1 c
          ∧ r.2.mem ((c.tc : Thread Cert.Reference22Ideal.nD Cert.Reference22Ideal.τ).loc Cert.Reference22Ideal.main_v59) = v2 c
          ∧ r.2.mem ((c.tc : Thread Cert.Reference22Ideal.nD Cert.Reference22Ideal.τ).loc Cert.Reference22Ideal.main_v60) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v6) = v2 c
          ∧ r.2.mem ((c.tc : Thread Cert.Reference24Ideal.nD Cert.Reference24Ideal.τ).loc Cert.Reference24Ideal.main_v12) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_inputs_finite : Cert.Pre_inputs_finite.Facts) (hPre_dx_finite : Cert.Pre_dx_finite.Facts) (hPre_dact_finite : Cert.Pre_dact_finite.Facts) (hPre_mix_dx_finite : Cert.Pre_mix_dx_finite.Facts) (hPre_ssd_dx_finite : Cert.Pre_ssd_dx_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_dx_finite (hKernel4Ideal := hKernel4Ideal) (hPre_dx_finite := hPre_dx_finite)
    ∧ quiescent_Reference4Ideal (hReference4Ideal := hReference4Ideal)
    ∧ quiescent_Reference4Ideal_pre_dx_finite (hReference4Ideal := hReference4Ideal) (hPre_dx_finite := hPre_dx_finite)
    ∧ quiescent_Kernel5 (hKernel5 := hKernel5)
    ∧ quiescent_Kernel5Ideal (hKernel5Ideal := hKernel5Ideal)
    ∧ quiescent_Kernel5Ideal_pre_dact_finite (hKernel5Ideal := hKernel5Ideal) (hPre_dact_finite := hPre_dact_finite)
    ∧ quiescent_Reference5Ideal (hReference5Ideal := hReference5Ideal)
    ∧ quiescent_Reference5Ideal_pre_dact_finite (hReference5Ideal := hReference5Ideal) (hPre_dact_finite := hPre_dact_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_mix_dx_finite (hKernel8Ideal := hKernel8Ideal) (hPre_mix_dx_finite := hPre_mix_dx_finite)
    ∧ quiescent_Reference8Ideal (hReference8Ideal := hReference8Ideal)
    ∧ quiescent_Reference8Ideal_pre_mix_dx_finite (hReference8Ideal := hReference8Ideal) (hPre_mix_dx_finite := hPre_mix_dx_finite)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel16Ideal_pre_ssd_dx_finite (hKernel16Ideal := hKernel16Ideal) (hPre_ssd_dx_finite := hPre_ssd_dx_finite)
    ∧ quiescent_Reference16Ideal (hReference16Ideal := hReference16Ideal)
    ∧ quiescent_Reference16Ideal_pre_ssd_dx_finite (hReference16Ideal := hReference16Ideal) (hPre_ssd_dx_finite := hPre_ssd_dx_finite)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_dx_finite (hKernel4Ideal := hKernel4Ideal) (hReference4Ideal := hReference4Ideal) (hPre_dx_finite := hPre_dx_finite)
    ∧ preserves_Kernel5_Kernel5Ideal
    ∧ algebraic_Kernel5Ideal_Reference5Ideal_pre_dact_finite (hKernel5Ideal := hKernel5Ideal) (hReference5Ideal := hReference5Ideal) (hPre_dact_finite := hPre_dact_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_mix_dx_finite (hKernel8Ideal := hKernel8Ideal) (hReference8Ideal := hReference8Ideal) (hPre_mix_dx_finite := hPre_mix_dx_finite)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_pre_ssd_dx_finite (hKernel16Ideal := hKernel16Ideal) (hReference16Ideal := hReference16Ideal) (hPre_ssd_dx_finite := hPre_ssd_dx_finite)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_dact_finite.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  reducesTo_S4096x1024_S_d0_1 : S4096x1024.ReducesTo [0, 1] S_
  h_S_ : 0 < S_.numel
  reducesTo_S1024_S_d0 : S1024.ReducesTo [0] S_
  reducesTo_S1024x5632_S_d0_1 : S1024x5632.ReducesTo [0, 1] S_
  reducesTo_S2816x1024_S_d0_1 : S2816x1024.ReducesTo [0, 1] S_

variable [Facts]

def fn_part1 {F : FTy → Type} [FloatOps F] (main_v2 : IVec S_ 1) (main_v5 : IVec S_ 1) (main_v8 : IVec S_ 1) (main_v11 : IVec S_ 1) (main_v13 : FVec F S_ .f32) (main_cst_8 : FVec F S_ .f32) : IVec S_ 1 :=
  let main_v14 : IVec S_ 1 := cmpf .olt main_v13 main_cst_8
  let main_v15 : IVec S_ 1 := andi main_v2 main_v5
  let main_v16 : IVec S_ 1 := andi main_v15 main_v8
  let main_v17 : IVec S_ 1 := andi main_v16 main_v11
  let main_v18 : IVec S_ 1 := andi main_v17 main_v14
  main_v18

def fn {F : FTy → Type} [FloatOps F] (main_arg0 : FVec F S4096x1024 .f32) (main_arg1 : FVec F S1024 .f32) (main_arg2 : FVec F S1024x5632 .f32) (main_arg3 : FVec F S2816x1024 .f32) (main_arg4 : FVec F S4096x1024 .f32) : IVec S_ 1 :=
  let main_v0 : FVec F S4096x1024 .f32 := Host.absf main_arg0
  let main_cst : FVec F S_ .f32 := constant S_ .f32 0xFF800000#32
  let main_v1 : FVec F S_ .f32 := (fun x v => Host.reduce FloatOps.maximumf x v reducesTo_S4096x1024_S_d0_1 h_S_) main_v0 main_cst
  let main_cst_0 : FVec F S_ .f32 := constant S_ .f32 0x7F800000#32
  let main_v2 : IVec S_ 1 := cmpf .olt main_v1 main_cst_0
  let main_v3 : FVec F S1024 .f32 := Host.absf main_arg1
  let main_cst_1 : FVec F S_ .f32 := constant S_ .f32 0xFF800000#32
  let main_v4 : FVec F S_ .f32 := (fun x v => Host.reduce FloatOps.maximumf x v reducesTo_S1024_S_d0 h_S_) main_v3 main_cst_1
  let main_cst_2 : FVec F S_ .f32 := constant S_ .f32 0x7F800000#32
  let main_v5 : IVec S_ 1 := cmpf .olt main_v4 main_cst_2
  let main_v6 : FVec F S1024x5632 .f32 := Host.absf main_arg2
  let main_cst_3 : FVec F S_ .f32 := constant S_ .f32 0xFF800000#32
  let main_v7 : FVec F S_ .f32 := (fun x v => Host.reduce FloatOps.maximumf x v reducesTo_S1024x5632_S_d0_1 h_S_) main_v6 main_cst_3
  let main_cst_4 : FVec F S_ .f32 := constant S_ .f32 0x7F800000#32
  let main_v8 : IVec S_ 1 := cmpf .olt main_v7 main_cst_4
  let main_v9 : FVec F S2816x1024 .f32 := Host.absf main_arg3
  let main_cst_5 : FVec F S_ .f32 := constant S_ .f32 0xFF800000#32
  let main_v10 : FVec F S_ .f32 := (fun x v => Host.reduce FloatOps.maximumf x v reducesTo_S2816x1024_S_d0_1 h_S_) main_v9 main_cst_5
  let main_cst_6 : FVec F S_ .f32 := constant S_ .f32 0x7F800000#32
  let main_v11 : IVec S_ 1 := cmpf .olt main_v10 main_cst_6
  let main_v12 : FVec F S4096x1024 .f32 := Host.absf main_arg4
  let main_cst_7 : FVec F S_ .f32 := constant S_ .f32 0xFF800000#32
  let main_v13 : FVec F S_ .f32 := (fun x v => Host.reduce FloatOps.maximumf x v reducesTo_S4096x1024_S_d0_1 h_S_) main_v12 main_cst_7
  let main_cst_8 : FVec F S_ .f32 := constant S_ .f32 0x7F800000#32
  fn_part1 (F := F) main_v2 main_v5 main_v8 main_v11 main_v13 main_cst_8
-- ==== Pre_dx_finite.lean ====
abbrev S4096x1024 : Shape := ⟨2, ![4096, 1024]⟩
abbrev S1024 : Shape := ⟨1, ![1024]⟩
abbrev S1024x5632 : Shape := ⟨2, ![1024, 5632]⟩
abbrev S2x4096x2816 : Shape := ⟨3, ![2, 4096, 2816]⟩
abbrev S_ : Shape := ⟨0, ![]⟩

class Facts : Prop where
  reducesTo_S4096x1024_S_d0_1 : S4096x1024.ReducesTo [0, 1] S_
  h_S_ : 0 < S_.numel
  reducesTo_S1024_S_d0 : S1024.ReducesTo [0] S_
  reducesTo_S1024x5632_S_d0_1 : S1024x5632.ReducesTo [0, 1] S_
  reducesTo_S2x4096x2816_S_d0_1_2 : S2x4096x2816.ReducesTo [0, 1, 2] S_

variable [Facts]

def fn {F : FTy → Type} [FloatOps F] (main_arg0 : FVec F S4096x1024 .f32) (main_arg1 : FVec F S1024 .f32) (main_arg2 : FVec F S1024x5632 .f32) (main_arg3 : FVec F S2x4096x2816 .f32) (main_arg4 : FVec F S4096x1024 .f32) : IVec S_ 1 :=
  let main_v0 : FVec F S4096x1024 .f32 := Host.absf main_arg0
  let main_cst : FVec F S_ .f32 := constant S_ .f32 0xFF800000#32
  let main_v1 : FVec F S_ .f32 := (fun x v => Host.reduce FloatOps.maximumf x v reducesTo_S4096x1024_S_d0_1 h_S_) main_v0 main_cst
  let main_cst_0 : FVec F S_ .f32 := constant S_ .f32 0x7F800000#32
  let main_v2 : IVec S_ 1 := cmpf .olt main_v1 main_cst_0
  let main_v3 : FVec F S1024 .f32 := Host.absf main_arg1
  let main_cst_1 : FVec F S_ .f32 := constant S_ .f32 0xFF800000#32
  let main_v4 : FVec F S_ .f32 := (fun x v => Host.reduce FloatOps.maximumf x v reducesTo_S1024_S_d0 h_S_) main_v3 main_cst_1
  let main_cst_2 : FVec F S_ .f32 := constant S_ .f32 0x7F800000#32
  let main_v5 : IVec S_ 1 := cmpf .olt main_v4 main_cst_2
  let main_v6 : FVec F S1024x5632 .f32 := Host.absf main_arg2
  let main_cst_3 : FVec F S_ .f32 := constant S_ .f32 0xFF800000#32
  let main_v7 : FVec F S_ .f32 := (fun x v => Host.reduce FloatOps.maximumf x v reducesTo_S1024x5632_S_d0_1 h_S_) main_v6 main_cst_3
  let main_cst_4 : FVec F S_ .f32 := constant S_ .f32 0x7F800000#32
  let main_v8 : IVec S_ 1 := cmpf .olt main_v7 main_cst_4
  let main_v9 : FVec F S2x4096x2816 .f32 := Host.absf main_arg3
  let main_cst_5 : FVec F S_ .f32 := constant S_ .f32 0xFF800000#32
  let main_v10 : FVec F S_ .f32 := (fun x v => Host.reduce FloatOps.maximumf x v reducesTo_S2x4096x2816_S_d0_1_2 h_S_) main_v9 main_cst_5
  let main_cst_6 : FVec F S_ .f32 := constant S_ .f32 0x7F800000#32
  let main_v11 : IVec S_ 1 := cmpf .olt main_v10 main_cst_6
  let main_v12 : IVec S_ 1 := andi main_v2 main_v5
  let main_v13 : IVec S_ 1 := andi main_v12 main_v8
  let main_v14 : IVec S_ 1 := andi main_v13 main_v11
  main_v14
-- ==== Pre_inputs_finite.lean ====
abbrev S4096x4096 : Shape := ⟨2, ![4096, 4096]⟩
abbrev S4096x32 : Shape := ⟨2, ![4096, 32]⟩
abbrev S32 : Shape := ⟨1, ![32]⟩
abbrev S4096x2048 : Shape := ⟨2, ![4096, 2048]⟩
abbrev S_ : Shape := ⟨0, ![]⟩

class Facts : Prop where
  reducesTo_S4096x4096_S_d0_1 : S4096x4096.ReducesTo [0, 1] S_
  h_S_ : 0 < S_.numel
  reducesTo_S4096x32_S_d0_1 : S4096x32.ReducesTo [0, 1] S_
  reducesTo_S32_S_d0 : S32.ReducesTo [0] S_
  reducesTo_S4096x2048_S_d0_1 : S4096x2048.ReducesTo [0, 1] S_

variable [Facts]

def fn {F : FTy → Type} [FloatOps F] (main_arg0 : FVec F S4096x4096 .f32) (main_arg1 : FVec F S4096x32 .f32) (main_arg2 : FVec F S32 .f32) (main_arg3 : FVec F S4096x2048 .f32) : IVec S_ 1 :=
  let main_v0 : FVec F S4096x4096 .f32 := Host.absf main_arg0
  let main_cst : FVec F S_ .f32 := constant S_ .f32 0xFF800000#32
  let main_v1 : FVec F S_ .f32 := (fun x v => Host.reduce FloatOps.maximumf x v reducesTo_S4096x4096_S_d0_1 h_S_) main_v0 main_cst
  let main_cst_0 : FVec F S_ .f32 := constant S_ .f32 0x7F800000#32
  let main_v2 : IVec S_ 1 := cmpf .olt main_v1 main_cst_0
  let main_v3 : FVec F S4096x32 .f32 := Host.absf main_arg1
  let main_cst_1 : FVec F S_ .f32 := constant S_ .f32 0xFF800000#32
  let main_v4 : FVec F S_ .f32 := (fun x v => Host.reduce FloatOps.maximumf x v reducesTo_S4096x32_S_d0_1 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  let main_v7 : FVec F S32 .f32 := Host.absf main_arg2
  let main_cst_3 : FVec F S_ .f32 := constant S_ .f32 0xFF800000#32
  let main_v8 : FVec F S_ .f32 := (fun x v => Host.reduce FloatOps.maximumf x v reducesTo_S32_S_d0 h_S_) main_v7 main_cst_3
  let main_cst_4 : FVec F S_ .f32 := constant S_ .f32 0x7F800000#32
  let main_v9 : IVec S_ 1 := cmpf .olt main_v8 main_cst_4
  let main_v10 : IVec S_ 1 := andi main_v6 main_v9
  let main_v11 : FVec F S4096x2048 .f32 := Host.absf main_arg3
  let main_cst_5 : FVec F S_ .f32 := constant S_ .f32 0xFF800000#32
  let main_v12 : FVec F S_ .f32 := (fun x v => Host.reduce FloatOps.maximumf x v reducesTo_S4096x2048_S_d0_1 h_S_) main_v11 main_cst_5
  let main_cst_6 : FVec F S_ .f32 := constant S_ .f32 0x7F800000#32
  let main_v13 : IVec S_ 1 := cmpf .olt main_v12 main_cst_6
  let main_v14 : IVec S_ 1 := andi main_v10 main_v13
  main_v14
-- ==== Pre_mix_dx_finite.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩

class Facts : Prop where
  reducesTo_S4096x1024_S_d0_1 : S4096x1024.ReducesTo [0, 1] S_
  h_S_ : 0 < S_.numel
  reducesTo_S1024_S_d0 : S1024.ReducesTo [0] S_
  reducesTo_S1024x3072_S_d0_1 : S1024x3072.ReducesTo [0, 1] S_
  reducesTo_S4096x3072_S_d0_1 : S4096x3072.ReducesTo [0, 1] S_

variable [Facts]

def fn {F : FTy → Type} [FloatOps F] (main_arg0 : FVec F S4096x1024 .f32) (main_arg1 : FVec F S1024 .f32) (main_arg2 : FVec F S1024x3072 .f32) (main_arg3 : FVec F S4096x3072 .f32) (main_arg4 : FVec F S4096x1024 .f32) : IVec S_ 1 :=
  let main_v0 : FVec F S4096x1024 .f32 := Host.absf main_arg0
  let main_cst : FVec F S_ .f32 := constant S_ .f32 0xFF800000#32
  let main_v1 : FVec F S_ .f32 := (fun x v => Host.reduce FloatOps.maximumf x v reducesTo_S4096x1024_S_d0_1 h_S_) main_v0 main_cst
  let main_cst_0 : FVec F S_ .f32 := constant S_ .f32 0x7F800000#32
  let main_v2 : IVec S_ 1 := cmpf .olt main_v1 main_cst_0
  let main_v3 : FVec F S1024 .f32 := Host.absf main_arg1
  let main_cst_1 : FVec F S_ .f32 := constant S_ .f32 0xFF800000#32
  let main_v4 : FVec F S_ .f32 := (fun x v => Host.reduce FloatOps.maximumf x v reducesTo_S1024_S_d0 h_S_) main_v3 main_cst_1
  let main_cst_2 : FVec F S_ .f32 := constant S_ .f32 0x7F800000#32
  let main_v5 : IVec S_ 1 := cmpf .olt main_v4 main_cst_2
  let main_v6 : FVec F S1024x3072 .f32 := Host.absf main_arg2
  let main_cst_3 : FVec F S_ .f32 := constant S_ .f32 0xFF800000#32
  let main_v7 : FVec F S_ .f32 := (fun x v => Host.reduce FloatOps.maximumf x v reducesTo_S1024x3072_S_d0_1 h_S_) main_v6 main_cst_3
  let main_cst_4 : FVec F S_ .f32 := constant S_ .f32 0x7F800000#32
  let main_v8 : IVec S_ 1 := cmpf .olt main_v7 main_cst_4
  let main_v9 : FVec F S4096x3072 .f32 := Host.absf main_arg3
  let main_cst_5 : FVec F S_ .f32 := constant S_ .f32 0xFF800000#32
  let main_v10 : FVec F S_ .f32 := (fun x v => Host.reduce FloatOps.maximumf x v reducesTo_S4096x3072_S_d0_1 h_S_) main_v9 main_cst_5
  let main_cst_6 : FVec F S_ .f32 := constant S_ .f32 0x7F800000#32
  let main_v11 : IVec S_ 1 := cmpf .olt main_v10 main_cst_6
  let main_v12 : IVec S_ 1 := andi main_v2 main_v5
  let main_v13 : IVec S_ 1 := andi main_v12 main_v8
  let main_v14 : IVec S_ 1 := andi main_v13 main_v11
  main_v14
-- ==== Pre_ssd_dx_finite.lean ====
abbrev S4096x1024 : Shape := ⟨2, ![4096, 1024]⟩
abbrev S1024 : Shape := ⟨1, ![1024]⟩
abbrev S1024x6176 : Shape := ⟨2, ![1024, 6176]⟩
abbrev S4096x6176 : Shape := ⟨2, ![4096, 6176]⟩
abbrev S_ : Shape := ⟨0, ![]⟩

class Facts : Prop where
  reducesTo_S4096x1024_S_d0_1 : S4096x1024.ReducesTo [0, 1] S_
  h_S_ : 0 < S_.numel
  reducesTo_S1024_S_d0 : S1024.ReducesTo [0] S_
  reducesTo_S1024x6176_S_d0_1 : S1024x6176.ReducesTo [0, 1] S_
  reducesTo_S4096x6176_S_d0_1 : S4096x6176.ReducesTo [0, 1] S_

variable [Facts]

def fn {F : FTy → Type} [FloatOps F] (main_arg0 : FVec F S4096x1024 .f32) (main_arg1 : FVec F S1024 .f32) (main_arg2 : FVec F S1024x6176 .f32) (main_arg3 : FVec F S4096x6176 .f32) (main_arg4 : FVec F S4096x1024 .f32) : IVec S_ 1 :=
  let main_v0 : FVec F S4096x1024 .f32 := Host.absf main_arg0
  let main_cst : FVec F S_ .f32 := constant S_ .f32 0xFF800000#32
  let main_v1 : FVec F S_ .f32 := (fun x v => Host.reduce FloatOps.maximumf x v reducesTo_S4096x1024_S_d0_1 h_S_) main_v0 main_cst
  let main_cst_0 : FVec F S_ .f32 := constant S_ .f32 0x7F800000#32
  let main_v2 : IVec S_ 1 := cmpf .olt main_v1 main_cst_0
  let main_v3 : FVec F S1024 .f32 := Host.absf main_arg1
  let main_cst_1 : FVec F S_ .f32 := constant S_ .f32 0xFF800000#32
  let main_v4 : FVec F S_ .f32 := (fun x v => Host.reduce FloatOps.maximumf x v reducesTo_S1024_S_d0 h_S_) main_v3 main_cst_1
  let main_cst_2 : FVec F S_ .f32 := constant S_ .f32 0x7F800000#32
  let main_v5 : IVec S_ 1 := cmpf .olt main_v4 main_cst_2
  let main_v6 : FVec F S1024x6176 .f32 := Host.absf main_arg2
  let main_cst_3 : FVec F S_ .f32 := constant S_ .f32 0xFF800000#32
  let main_v7 : FVec F S_ .f32 := (fun x v => Host.reduce FloatOps.maximumf x v reducesTo_S1024x6176_S_d0_1 h_S_) main_v6 main_cst_3
  let main_cst_4 : FVec F S_ .f32 := constant S_ .f32 0x7F800000#32
  let main_v8 : IVec S_ 1 := cmpf .olt main_v7 main_cst_4
  let main_v9 : FVec F S4096x6176 .f32 := Host.absf main_arg3
  let main_cst_5 : FVec F S_ .f32 := constant S_ .f32 0xFF800000#32
  let main_v10 : FVec F S_ .f32 := (fun x v => Host.reduce FloatOps.maximumf x v reducesTo_S4096x6176_S_d0_1 h_S_) main_v9 main_cst_5
  let main_cst_6 : FVec F S_ .f32 := constant S_ .f32 0x7F800000#32
  let main_v11 : IVec S_ 1 := cmpf .olt main_v10 main_cst_6
  let main_v12 : IVec S_ 1 := andi main_v2 main_v5
  let main_v13 : IVec S_ 1 := andi main_v12 main_v8
  let main_v14 : IVec S_ 1 := andi main_v13 main_v11
  main_v14
-- ==== Kernel.lean ====
abbrev S4096x4096 : Shape := ⟨2, ![4096, 4096]⟩
abbrev S4096x32 : Shape := ⟨2, ![4096, 32]⟩
abbrev S32 : Shape := ⟨1, ![32]⟩
abbrev S4096x2048 : Shape := ⟨2, ![4096, 2048]⟩
abbrev S_ : Shape := ⟨0, ![]⟩
abbrev S4096x8x4x64 : Shape := ⟨4, ![4096, 8, 4, 64]⟩
abbrev S4096x8x4 : Shape := ⟨3, ![4096, 8, 4]⟩
abbrev S8x4 : Shape := ⟨2, ![8, 4]⟩
abbrev S4096x1024 : Shape := ⟨2, ![4096, 1024]⟩
abbrev S4096x8x128 : Shape := ⟨3, ![4096, 8, 128]⟩
abbrev S1x8x4 : Shape := ⟨3, ![1, 8, 4]⟩
abbrev S31x8x4 : Shape := ⟨3, ![31, 8, 4]⟩
abbrev S32x8x4 : Shape := ⟨3, ![32, 8, 4]⟩
abbrev S4096 : Shape := ⟨1, ![4096]⟩
abbrev S1x4096 : Shape := ⟨2, ![1, 4096]⟩
abbrev S32x1 : Shape := ⟨2, ![32, 1]⟩
abbrev S32x4096 : Shape := ⟨2, ![32, 4096]⟩
abbrev S32x4096x1x1 : Shape := ⟨4, ![32, 4096, 1, 1]⟩
abbrev S32x1x8x4 : Shape := ⟨4, ![32, 1, 8, 4]⟩
abbrev S1x4096x8x4 : Shape := ⟨4, ![1, 4096, 8, 4]⟩
abbrev S32x4096x8x4 : Shape := ⟨4, ![32, 4096, 8, 4]⟩
abbrev S32x4096x8x4x1 : Shape := ⟨5, ![32, 4096, 8, 4, 1]⟩
abbrev S1x4096x8x4x64 : Shape := ⟨5, ![1, 4096, 8, 4, 64]⟩
abbrev S32x4096x8x4x64 : Shape := ⟨5, ![32, 4096, 8, 4, 64]⟩
abbrev S8x128x32x4x64 : Shape := ⟨5, ![8, 128, 32, 4, 64]⟩
abbrev S32x8x4x64x128 : Shape := ⟨5, ![32, 8, 4, 64, 128]⟩
abbrev S32x32x64x128 : Shape := ⟨4, ![32, 32, 64, 128]⟩
abbrev S4096x32x64 : Shape := ⟨3, ![4096, 32, 64]⟩
abbrev S32x4096x64 : Shape := ⟨3, ![32, 4096, 64]⟩
abbrev S8x4x4096 : Shape := ⟨3, ![8, 4, 4096]⟩
abbrev S8x8x4096 : Shape := ⟨3, ![8, 8, 4096]⟩
abbrev S8x4x1 : Shape := ⟨3, ![8, 4, 1]⟩
abbrev S8x8x1 : Shape := ⟨3, ![8, 8, 1]⟩
abbrev S8x8x128 : Shape := ⟨3, ![8, 8, 128]⟩
abbrev S8x128x64 : Shape := ⟨3, ![8, 128, 64]⟩
abbrev S128x256 : Shape := ⟨2, ![128, 256]⟩
abbrev S2x8x128 : Shape := ⟨3, ![2, 8, 128]⟩
abbrev S1x8x64x128 : Shape := ⟨4, ![1, 8, 64, 128]⟩
abbrev S8x64x128 : Shape := ⟨3, ![8, 64, 128]⟩
abbrev S128x128 : Shape := ⟨2, ![128, 128]⟩
abbrev S1x8x128 : Shape := ⟨3, ![1, 8, 128]⟩
abbrev S8x128 : Shape := ⟨2, ![8, 128]⟩
abbrev S1x128 : Shape := ⟨2, ![1, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1x128x64 : Shape := ⟨3, ![1, 128, 64]⟩
abbrev S128x64 : Shape := ⟨2, ![128, 64]⟩
abbrev S1x1x64x128 : Shape := ⟨4, ![1, 1, 64, 128]⟩
abbrev S64x128 : Shape := ⟨2, ![64, 128]⟩
abbrev S1x64x128 : Shape := ⟨3, ![1, 64, 128]⟩
abbrev S64 : Shape := ⟨1, ![64]⟩
abbrev S64x1 : Shape := ⟨2, ![64, 1]⟩
abbrev S8 : Shape := ⟨1, ![8]⟩
abbrev S8x1 : Shape := ⟨2, ![8, 1]⟩

abbrev nBuf : Space → Nat
  | .hbm => 91
  | .vmem => 28
  | .smem => 0
  | _ => 0

abbrev bufTy : (tb : Table) → Fin (tcTables nBuf tb) → BufTy
  | .hbm, ⟨0, _⟩ => ⟨S4096x4096, .f32⟩
  | .hbm, ⟨1, _⟩ => ⟨S4096x32, .f32⟩
  | .hbm, ⟨2, _⟩ => ⟨S32, .f32⟩
  | .hbm, ⟨3, _⟩ => ⟨S4096x2048, .f32⟩
  | .hbm, ⟨4, _⟩ => ⟨S_, .f32⟩
  | .hbm, ⟨5, _⟩ => ⟨S4096x32, .f32⟩
  | .hbm, ⟨6, _⟩ => ⟨S4096x32, .f32⟩
  | .hbm, ⟨7, _⟩ => ⟨S4096x32, .f32⟩
  | .hbm, ⟨8, _⟩ => ⟨S4096x32, .f32⟩
  | .hbm, ⟨9, _⟩ => ⟨S4096x32, .i1⟩
  | .hbm, ⟨10, _⟩ => ⟨S4096x32, .f32⟩
  | .hbm, ⟨11, _⟩ => ⟨S4096x32, .f32⟩
  | .hbm, ⟨12, _⟩ => ⟨S4096x32, .f32⟩
  | .hbm, ⟨13, _⟩ => ⟨S4096x32, .f32⟩
  | .hbm, ⟨14, _⟩ => ⟨S4096x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x2048, .f32⟩
  | .hbm, ⟨19, _⟩ => ⟨S4096x8x4x64, .f32⟩
  | .hbm, ⟨20, _⟩ => ⟨S4096x8x4, .f32⟩
  | .hbm, ⟨21, _⟩ => ⟨S32, .f32⟩
  | .hbm, ⟨22, _⟩ => ⟨S8x4, .f32⟩
  | .hbm, ⟨23, _⟩ => ⟨S8x4, .f32⟩
  | .hbm, ⟨24, _⟩ => ⟨S4096x1024, .f32⟩
  | .hbm, ⟨25, _⟩ => ⟨S4096x8x128, .f32⟩
  | .hbm, ⟨26, _⟩ => ⟨S1x8x4, .f32⟩
  | .hbm, ⟨27, _⟩ => ⟨S4096x8x4, .f32⟩
  | .hbm, ⟨28, _⟩ => ⟨S4096x8x4, .f32⟩
  | .hbm, ⟨29, _⟩ => ⟨S_, .f32⟩
  | .hbm, ⟨30, _⟩ => ⟨S_, .f32⟩
  | .hbm, ⟨31, _⟩ => ⟨S4096x8x4, .f32⟩
  | .hbm, ⟨32, _⟩ => ⟨S_, .f32⟩
  | .hbm, ⟨33, _⟩ => ⟨S1x8x4, .f32⟩
  | .hbm, ⟨34, _⟩ => ⟨S31x8x4, .f32⟩
  | .hbm, ⟨35, _⟩ => ⟨S32x8x4, .f32⟩
  | .hbm, ⟨36, _⟩ => ⟨S4096, .i32⟩
  | .hbm, ⟨37, _⟩ => ⟨S1x4096, .i32⟩
  | .hbm, ⟨38, _⟩ => ⟨S32, .i32⟩
  | .hbm, ⟨39, _⟩ => ⟨S32x1, .i32⟩
  | .hbm, ⟨40, _⟩ => ⟨S_, .i32⟩
  | .hbm, ⟨41, _⟩ => ⟨S32x1, .i32⟩
  | .hbm, ⟨42, _⟩ => ⟨S32x1, .i32⟩
  | .hbm, ⟨43, _⟩ => ⟨S32x4096, .i32⟩
  | .hbm, ⟨44, _⟩ => ⟨S32x4096, .i32⟩
  | .hbm, ⟨45, _⟩ => ⟨S32x4096, .i1⟩
  | .hbm, ⟨46, _⟩ => ⟨S32x4096x1x1, .i1⟩
  | .hbm, ⟨47, _⟩ => ⟨S32x1x8x4, .f32⟩
  | .hbm, ⟨48, _⟩ => ⟨S1x4096x8x4, .f32⟩
  | .hbm, ⟨49, _⟩ => ⟨S32x4096x8x4, .f32⟩
  | .hbm, ⟨50, _⟩ => ⟨S32x4096x8x4, .f32⟩
  | .hbm, ⟨51, _⟩ => ⟨S32x4096x8x4, .f32⟩
  | .hbm, ⟨52, _⟩ => ⟨S_, .f32⟩
  | .hbm, ⟨53, _⟩ => ⟨S_, .f32⟩
  | .hbm, ⟨54, _⟩ => ⟨S32x4096x8x4, .i1⟩
  | .hbm, ⟨55, _⟩ => ⟨S32x4096x8x4, .f32⟩
  | .hbm, ⟨56, _⟩ => ⟨S32x4096x8x4, .f32⟩
  | .hbm, ⟨57, _⟩ => ⟨S32x4096x8x4, .f32⟩
  | .hbm, ⟨58, _⟩ => ⟨S1x4096x8x4, .f32⟩
  | .hbm, ⟨59, _⟩ => ⟨S32x4096x8x4, .f32⟩
  | .hbm, ⟨60, _⟩ => ⟨S32x4096x8x4, .f32⟩
  | .hbm, ⟨61, _⟩ => ⟨S32x4096x8x4x1, .f32⟩
  | .hbm, ⟨62, _⟩ => ⟨S1x4096x8x4x64, .f32⟩
  | .hbm, ⟨63, _⟩ => ⟨S32x4096x8x4x64, .f32⟩
  | .hbm, ⟨64, _⟩ => ⟨S32x4096x8x4x64, .f32⟩
  | .hbm, ⟨65, _⟩ => ⟨S32x4096x8x4x64, .f32⟩
  | .hbm, ⟨66, _⟩ => ⟨S8x128x32x4x64, .f32⟩
  | .hbm, ⟨67, _⟩ => ⟨S32x8x4x64x128, .f32⟩
  | .hbm, ⟨68, _⟩ => ⟨S32x32x64x128, .f32⟩
  | .hbm, ⟨69, _⟩ => ⟨S4096x2048, .f32⟩
  | .hbm, ⟨70, _⟩ => ⟨S4096x32x64, .f32⟩
  | .hbm, ⟨71, _⟩ => ⟨S32x4096x64, .f32⟩
  | .hbm, ⟨72, _⟩ => ⟨S32x4096, .f32⟩
  | .hbm, ⟨73, _⟩ => ⟨S8x4x4096, .f32⟩
  | .hbm, ⟨74, _⟩ => ⟨S_, .i32⟩
  | .hbm, ⟨75, _⟩ => ⟨S_, .f32⟩
  | .hbm, ⟨76, _⟩ => ⟨S8x8x4096, .f32⟩
  | .hbm, ⟨77, _⟩ => ⟨S32, .f32⟩
  | .hbm, ⟨78, _⟩ => ⟨S8x4x1, .f32⟩
  | .hbm, ⟨79, _⟩ => ⟨S8x4x1, .f32⟩
  | .hbm, ⟨80, _⟩ => ⟨S_, .i32⟩
  | .hbm, ⟨81, _⟩ => ⟨S_, .f32⟩
  | .hbm, ⟨82, _⟩ => ⟨S8x8x1, .f32⟩
  | .hbm, ⟨83, _⟩ => ⟨S8x8x128, .f32⟩
  | .hbm, ⟨84, _⟩ => ⟨S4096x32x64, .f32⟩
  | .hbm, ⟨85, _⟩ => ⟨S32x4096x64, .f32⟩
  | .hbm, ⟨86, _⟩ => ⟨S32x4096x64, .f32⟩
  | .hbm, ⟨87, _⟩ => ⟨S4096x1024, .f32⟩
  | .hbm, ⟨88, _⟩ => ⟨S4096x1024, .f32⟩
  | .hbm, ⟨89, _⟩ => ⟨S8x8x4096, .f32⟩
  | .hbm, ⟨90, _⟩ => ⟨S8x8x128, .f32⟩
  | .local _ .vmem, ⟨0, _⟩ => ⟨S8x128x64, .f32⟩
  | .local _ .vmem, ⟨1, _⟩ => ⟨S8x128x64, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S2x8x128, .f32⟩
  | .local _ .vmem, ⟨7, _⟩ => ⟨S2x8x128, .f32⟩
  | .local _ .vmem, ⟨8, _⟩ => ⟨S2x8x128, .f32⟩
  | .local _ .vmem, ⟨9, _⟩ => ⟨S2x8x128, .f32⟩
  | .local _ .vmem, ⟨10, _⟩ => ⟨S1x8x64x128, .f32⟩
  | .local _ .vmem, ⟨11, _⟩ => ⟨S1x8x64x128, .f32⟩
  | .local _ .vmem, ⟨12, _⟩ => ⟨S8x128x64, .f32⟩
  | .local _ .vmem, ⟨13, _⟩ => ⟨S8x128x64, .f32⟩
  | .local _ .vmem, ⟨14, _⟩ => ⟨S8x128x64, .f32⟩
  | .local _ .vmem, ⟨15, _⟩ => ⟨S8x128x64, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S2x8x128, .f32⟩
  | .local _ .vmem, ⟨21, _⟩ => ⟨S2x8x128, .f32⟩
  | .local _ .vmem, ⟨22, _⟩ => ⟨S2x8x128, .f32⟩
  | .local _ .vmem, ⟨23, _⟩ => ⟨S2x8x128, .f32⟩
  | .local _ .vmem, ⟨24, _⟩ => ⟨S8x64x128, .f32⟩
  | .local _ .vmem, ⟨25, _⟩ => ⟨S2x8x128, .f32⟩
  | .local _ .vmem, ⟨26, _⟩ => ⟨S2x8x128, .f32⟩
  | .local _ .vmem, ⟨27, _⟩ => ⟨S2x8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_call0_cst : Ref sig .tc := ⟨.hbm, 29, rfl⟩
abbrev main_call1_call0_v0 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_0 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_1 : Ref sig .tc := ⟨.hbm, 74, rfl⟩
abbrev main_call3_v0 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_2 : Ref sig .tc := ⟨.hbm, 80, rfl⟩
abbrev main_call4_v0 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57_0 : Ref sig .tc := ⟨.hbm, 86, rfl⟩
abbrev main_v57_1 : Ref sig .tc := ⟨.hbm, 87, rfl⟩
abbrev main_v57_2 : Ref sig .tc := ⟨.hbm, 88, rfl⟩
abbrev main_v57_3 : Ref sig .tc := ⟨.hbm, 89, rfl⟩
abbrev main_v57_4 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c0_i32_339 : BitVec 32 := 0#32
  let v733 : BitVec 1 := Scalar.cmpi .eq arg1 c0_i32_339
  let v734 : BitVec 32 := Scalar.extui v733
  let c0_i32_341 : BitVec 32 := 0#32
  let v735 : BitVec 1 := Scalar.cmpi .ne v734 c0_i32_341
  v735

def k0_cond3 (i : grid0.Coords) : BitVec 1 :=
  let arg1 : BitVec 32 := BitVec.ofNat 32 (i 1).val
  let c0_i32_339 : BitVec 32 := 0#32
  let v733 : BitVec 1 := Scalar.cmpi .eq arg1 c0_i32_339
  let v_true : BitVec 1 := 1#1
  let v736 : BitVec 1 := Scalar.xori v733 v_true
  let v737 : BitVec 32 := Scalar.extui v736
  let c0_i32_343 : BitVec 32 := 0#32
  let v738 : BitVec 1 := Scalar.cmpi .ne v737 c0_i32_343
  v738

def k0_cond4 (i : grid0.Coords) : BitVec 1 :=
  let arg1 : BitVec 32 := BitVec.ofNat 32 (i 1).val
  let c0_i32_642 : BitVec 32 := 0#32
  let v1399 : BitVec 1 := Scalar.cmpi .eq arg1 c0_i32_642
  let v1400 : BitVec 32 := Scalar.extui v1399
  let c0_i32_644 : BitVec 32 := 0#32
  let v1401 : BitVec 1 := Scalar.cmpi .ne v1400 c0_i32_644
  v1401

def k0_cond5 (i : grid0.Coords) : BitVec 1 :=
  let arg1 : BitVec 32 := BitVec.ofNat 32 (i 1).val
  let c0_i32_642 : BitVec 32 := 0#32
  let v1399 : BitVec 1 := Scalar.cmpi .eq arg1 c0_i32_642
  let true_645 : BitVec 1 := 1#1
  let v1402 : BitVec 1 := Scalar.xori v1399 true_645
  let v1403 : BitVec 32 := Scalar.extui v1402
  let c0_i32_647 : BitVec 32 := 0#32
  let v1404 : BitVec 1 := Scalar.cmpi .ne v1403 c0_i32_647
  v1404

def k0_cond6 (i : grid0.Coords) : BitVec 1 :=
  let arg1 : BitVec 32 := BitVec.ofNat 32 (i 1).val
  let c31_i32 : BitVec 32 := 31#32
  let v1405 : BitVec 1 := Scalar.cmpi .eq arg1 c31_i32
  let v1406 : BitVec 32 := Scalar.extui v1405
  let c0_i32_648 : BitVec 32 := 0#32
  let v1407 : BitVec 1 := Scalar.cmpi .ne v1406 c0_i32_648
  v1407

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c8_i32 : BitVec 32 := 8#32
  let v1 : BitVec 32 := Scalar.addi c8_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c12_i32 : BitVec 32 := 12#32
  let v1 : BitVec 32 := Scalar.addi c12_i32 arg0
  let c0_i32 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_8 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_10 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, c0_i32.toNat, v0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S4096x4096 : Shape := ⟨2, ![4096, 4096]⟩
abbrev S4096x32 : Shape := ⟨2, ![4096, 32]⟩
abbrev S32 : Shape := ⟨1, ![32]⟩
abbrev S4096x2048 : Shape := ⟨2, ![4096, 2048]⟩
abbrev S4096x1024 : Shape := ⟨2, ![4096, 1024]⟩
abbrev S_ : Shape := ⟨0, ![]⟩
abbrev S4096x8x4 : Shape := ⟨3, ![4096, 8, 4]⟩
abbrev S8x4 : Shape := ⟨2, ![8, 4]⟩
abbrev S4096x8x4x64 : Shape := ⟨4, ![4096, 8, 4, 64]⟩
abbrev S4096x8x128 : Shape := ⟨3, ![4096, 8, 128]⟩
abbrev S1x8x4 : Shape := ⟨3, ![1, 8, 4]⟩
abbrev S4096x1x8x4 : Shape := ⟨4, ![4096, 1, 8, 4]⟩
abbrev S1x4096x8x4 : Shape := ⟨4, ![1, 4096, 8, 4]⟩
abbrev S4096x4096x8x4 : Shape := ⟨4, ![4096, 4096, 8, 4]⟩
abbrev S4096x4096x1x1 : Shape := ⟨4, ![4096, 4096, 1, 1]⟩
abbrev S8x4096x4096 : Shape := ⟨3, ![8, 4096, 4096]⟩
abbrev S4096x4096x8 : Shape := ⟨3, ![4096, 4096, 8]⟩
abbrev S4096x4096x8x1 : Shape := ⟨4, ![4096, 4096, 8, 1]⟩
abbrev S8x4x64x4096 : Shape := ⟨4, ![8, 4, 64, 4096]⟩
abbrev S8x4x4096x4096 : Shape := ⟨4, ![8, 4, 4096, 4096]⟩
abbrev S8x4096x128 : Shape := ⟨3, ![8, 4096, 128]⟩
abbrev S4096x32x64 : Shape := ⟨3, ![4096, 32, 64]⟩
abbrev S32x4096x64 : Shape := ⟨3, ![32, 4096, 64]⟩
abbrev S8x4x4096 : Shape := ⟨3, ![8, 4, 4096]⟩
abbrev S8x8x4096 : Shape := ⟨3, ![8, 8, 4096]⟩
abbrev S8x8 : Shape := ⟨2, ![8, 8]⟩
abbrev S8x8x1 : Shape := ⟨3, ![8, 8, 1]⟩
abbrev S8x8x128 : Shape := ⟨3, ![8, 8, 128]⟩

abbrev nBuf : Space → Nat
  | .hbm => 137
  | .vmem => 0
  | .smem => 0
  | _ => 0

abbrev hbmTy0_0 (i : Nat) : BufTy := match i % 128 with
  | 0 => ⟨S4096x4096, .f32⟩
  | 1 => ⟨S4096x32, .f32⟩
  | 2 => ⟨S32, .f32⟩
  | 3 => ⟨S4096x2048, .f32⟩
  | 4 => ⟨S4096x2048, .f32⟩
  | 5 => ⟨S4096x1024, .f32⟩
  | 6 => ⟨S4096x1024, .f32⟩
  | 7 => ⟨S_, .f32⟩
  | 8 => ⟨S4096x32, .f32⟩
  | 9 => ⟨S4096x32, .f32⟩
  | 10 => ⟨S4096x32, .f32⟩
  | 11 => ⟨S4096x32, .f32⟩
  | 12 => ⟨S4096x32, .i1⟩
  | 13 => ⟨S4096x32, .f32⟩
  | 14 => ⟨S4096x32, .f32⟩
  | 15 => ⟨S4096x32, .f32⟩
  | 16 => ⟨S4096x32, .f32⟩
  | 17 => ⟨S4096x32, .f32⟩
  | 18 => ⟨S4096x32, .f32⟩
  | 19 => ⟨S4096x32, .f32⟩
  | 20 => ⟨S4096x32, .f32⟩
  | 21 => ⟨S4096x8x4, .f32⟩
  | 22 => ⟨S32, .f32⟩
  | 23 => ⟨S8x4, .f32⟩
  | 24 => ⟨S8x4, .f32⟩
  | 25 => ⟨S4096x8x4x64, .f32⟩
  | 26 => ⟨S4096x8x128, .f32⟩
  | 27 => ⟨S4096x8x128, .f32⟩
  | 28 => ⟨S1x8x4, .f32⟩
  | 29 => ⟨S4096x8x4, .f32⟩
  | 30 => ⟨S4096x8x4, .f32⟩
  | 31 => ⟨S_, .f32⟩
  | 32 => ⟨S_, .f32⟩
  | 33 => ⟨S4096x8x4, .f32⟩
  | 34 => ⟨S4096x1x8x4, .f32⟩
  | 35 => ⟨S1x4096x8x4, .f32⟩
  | 36 => ⟨S4096x4096x8x4, .f32⟩
  | 37 => ⟨S4096x4096x8x4, .f32⟩
  | 38 => ⟨S4096x4096x8x4, .f32⟩
  | 39 => ⟨S_, .i1⟩
  | 40 => ⟨S4096x4096, .i1⟩
  | 41 => ⟨S4096x4096, .i32⟩
  | 42 => ⟨S_, .i32⟩
  | 43 => ⟨S4096x4096, .i32⟩
  | 44 => ⟨S4096x4096, .i32⟩
  | 45 => ⟨S4096x4096, .i32⟩
  | 46 => ⟨S4096x4096, .i1⟩
  | 47 => ⟨S_, .i1⟩
  | 48 => ⟨S4096x4096, .i1⟩
  | 49 => ⟨S4096x4096, .i1⟩
  | 50 => ⟨S4096x4096x1x1, .i1⟩
  | 51 => ⟨S_, .f32⟩
  | 52 => ⟨S_, .f32⟩
  | 53 => ⟨S4096x4096x8x4, .i1⟩
  | 54 => ⟨S4096x4096x8x4, .f32⟩
  | 55 => ⟨S4096x4096x8x4, .f32⟩
  | 56 => ⟨S_, .f32⟩
  | 57 => ⟨S4096x4096x8x4, .f32⟩
  | 58 => ⟨S4096x4096x8x4, .f32⟩
  | 59 => ⟨S8x4096x4096, .f32⟩
  | 60 => ⟨S4096x4096x8, .f32⟩
  | 61 => ⟨S4096x4096x8x1, .f32⟩
  | 62 => ⟨S4096x4096x8x4, .f32⟩
  | 63 => ⟨S4096x4096x8x4, .f32⟩
  | 64 => ⟨S1x4096x8x4, .f32⟩
  | 65 => ⟨S4096x4096x8x4, .f32⟩
  | 66 => ⟨S4096x4096x8x4, .f32⟩
  | 67 => ⟨S8x4x64x4096, .f32⟩
  | 68 => ⟨S4096x8x4x64, .f32⟩
  | 69 => ⟨S4096x8x4x64, .f32⟩
  | 70 => ⟨S8x4x64x4096, .f32⟩
  | 71 => ⟨S8x4x4096x4096, .f32⟩
  | 72 => ⟨S4096x4096x8x4, .f32⟩
  | 73 => ⟨S8x4x64x4096, .f32⟩
  | 74 => ⟨S4096x8x4x64, .f32⟩
  | 75 => ⟨S4096x4096x8x4, .f32⟩
  | 76 => ⟨S_, .f32⟩
  | 77 => ⟨S4096x8x4, .f32⟩
  | 78 => ⟨S1x4096x8x4, .f32⟩
  | 79 => ⟨S4096x4096x8x4, .f32⟩
  | 80 => ⟨S4096x4096x8x4, .f32⟩
  | 81 => ⟨S_, .f32⟩
  | 82 => ⟨S4096x8x4, .f32⟩
  | 83 => ⟨S4096x4096x8x4, .f32⟩
  | 84 => ⟨S4096x4096x8x4, .f32⟩
  | 85 => ⟨S4096x4096x8x4, .f32⟩
  | 86 => ⟨S_, .f32⟩
  | 87 => ⟨S4096x4096x8, .f32⟩
  | 88 => ⟨S4096x4096x8x1, .f32⟩
  | 89 => ⟨S_, .f32⟩
  | 90 => ⟨S4096x4096x8, .f32⟩
  | 91 => ⟨S8x4096x4096, .f32⟩
  | 92 => ⟨S8x4096x128, .f32⟩
  | 93 => ⟨S4096x8x128, .f32⟩
  | 94 => ⟨S8x4096x128, .f32⟩
  | 95 => ⟨S4096x8x128, .f32⟩
  | 96 => ⟨S4096x4096x8x4, .f32⟩
  | 97 => ⟨S_, .f32⟩
  | 98 => ⟨S4096x4096x8x4, .f32⟩
  | 99 => ⟨S4096x4096x8x4, .f32⟩
  | 100 => ⟨S_, .f32⟩
  | 101 => ⟨S4096x8x4, .f32⟩
  | 102 => ⟨S4096x1x8x4, .f32⟩
  | 103 => ⟨S4096x4096x8x4, .f32⟩
  | 104 => ⟨S_, .f32⟩
  | 105 => ⟨S4096x8x4, .f32⟩
  | 106 => ⟨S1x4096x8x4, .f32⟩
  | 107 => ⟨S_, .f32⟩
  | 108 => ⟨S4096x8x4, .f32⟩
  | 109 => ⟨S_, .f32⟩
  | 110 => ⟨S4096x8x4, .f32⟩
  | 111 => ⟨S4096x8x4, .f32⟩
  | 112 => ⟨S_, .f32⟩
  | 113 => ⟨S_, .f32⟩
  | 114 => ⟨S4096x8x4, .f32⟩
  | 115 => ⟨S4096x8x4, .f32⟩
  | 116 => ⟨S_, .f32⟩
  | 117 => ⟨S8x4, .f32⟩
  | 118 => ⟨S1x8x4, .f32⟩
  | 119 => ⟨S4096x8x4, .f32⟩
  | 120 => ⟨S4096x8x4, .f32⟩
  | 121 => ⟨S4096x8x4, .f32⟩
  | 122 => ⟨S_, .f32⟩
  | 123 => ⟨S8x4, .f32⟩
  | 124 => ⟨S4096x32x64, .f32⟩
  | 125 => ⟨S32x4096x64, .f32⟩
  | 126 => ⟨S4096x1024, .f32⟩
  | 127 => ⟨S4096x1024, .f32⟩
  | _ => ⟨S4096x4096, .f32⟩

abbrev hbmTy0_1 (i : Nat) : BufTy := match i % 128 with
  | 0 => ⟨S8x4x4096, .f32⟩
  | 1 => ⟨S_, .i32⟩
  | 2 => ⟨S_, .f32⟩
  | 3 => ⟨S8x8x4096, .f32⟩
  | 4 => ⟨S_, .i32⟩
  | 5 => ⟨S_, .f32⟩
  | 6 => ⟨S8x8, .f32⟩
  | 7 => ⟨S8x8x1, .f32⟩
  | 8 => ⟨S8x8x128, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call1_call0_cst : Ref sig .tc := ⟨.hbm, 31, rfl⟩
abbrev main_call1_call0_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_call2_v0 : Ref sig .tc := ⟨.hbm, 41, rfl⟩
abbrev main_call2_c : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_c_0 : Ref sig .tc := ⟨.hbm, 47, rfl⟩
abbrev main_call2_v5 : Ref sig .tc := ⟨.hbm, 48, rfl⟩
abbrev main_v21 : Ref sig .tc := ⟨.hbm, 49, rfl⟩
abbrev main_v22 : Ref sig .tc := ⟨.hbm, 50, rfl⟩
abbrev main_cst : Ref sig .tc := ⟨.hbm, 51, rfl⟩
abbrev main_call3_v0 : Ref sig .tc := ⟨.hbm, 52, rfl⟩
abbrev main_v23_1 : Ref sig .tc := ⟨.hbm, 53, rfl⟩
abbrev main_call3_v2 : Ref sig .tc := ⟨.hbm, 54, rfl⟩
abbrev main_v23_0 : Ref sig .tc := ⟨.hbm, 55, rfl⟩
abbrev main_call3_cst : Ref sig .tc := ⟨.hbm, 56, rfl⟩
abbrev main_v23_2 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_0 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_1 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_2 : Ref sig .tc := ⟨.hbm, 86, rfl⟩
abbrev main_v50 : Ref sig .tc := ⟨.hbm, 87, rfl⟩
abbrev main_v51 : Ref sig .tc := ⟨.hbm, 88, rfl⟩
abbrev main_cst_3 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_call4_cst : Ref sig .tc := ⟨.hbm, 97, rfl⟩
abbrev main_call4_v0 : Ref sig .tc := ⟨.hbm, 98, rfl⟩
abbrev main_v59 : Ref sig .tc := ⟨.hbm, 99, rfl⟩
abbrev main_cst_4 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_cst_5 : Ref sig .tc := ⟨.hbm, 104, rfl⟩
abbrev main_v63 : Ref sig .tc := ⟨.hbm, 105, rfl⟩
abbrev main_v64 : Ref sig .tc := ⟨.hbm, 106, rfl⟩
abbrev main_cst_6 : Ref sig .tc := ⟨.hbm, 107, rfl⟩
abbrev main_v65 : Ref sig .tc := ⟨.hbm, 108, rfl⟩
abbrev main_cst_7 : Ref sig .tc := ⟨.hbm, 109, rfl⟩
abbrev main_v66 : Ref sig .tc := ⟨.hbm, 110, rfl⟩
abbrev main_v67 : Ref sig .tc := ⟨.hbm, 111, rfl⟩
abbrev main_call5_call0_cst : Ref sig .tc := ⟨.hbm, 112, rfl⟩
abbrev main_call5_call0_v0 : Ref sig .tc := ⟨.hbm, 113, rfl⟩
abbrev main_v68 : Ref sig .tc := ⟨.hbm, 114, rfl⟩
abbrev main_v69 : Ref sig .tc := ⟨.hbm, 115, rfl⟩
abbrev main_cst_8 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_cst_9 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_c_10 : Ref sig .tc := ⟨.hbm, 129, rfl⟩
abbrev main_call6_v0 : Ref sig .tc := ⟨.hbm, 130, rfl⟩
abbrev main_v81 : Ref sig .tc := ⟨.hbm, 131, rfl⟩
abbrev main_c_11 : Ref sig .tc := ⟨.hbm, 132, rfl⟩
abbrev main_call7_v0 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x5632 : Shape := ⟨2, ![1024, 5632]⟩
abbrev S2x4096x2816 : Shape := ⟨3, ![2, 4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2x1024x2816 : Shape := ⟨3, ![2, 1024, 2816]⟩
abbrev S2048x512 : Shape := ⟨2, ![2048, 512]⟩
abbrev S2x2048x1408 : Shape := ⟨3, ![2, 2048, 1408]⟩
abbrev S2x512x1408 : Shape := ⟨3, ![2, 512, 1408]⟩
abbrev S1x2048x1408 : Shape := ⟨3, ![1, 2048, 1408]⟩
abbrev S2048x1408 : Shape := ⟨2, ![2048, 1408]⟩
abbrev S512x1408 : Shape := ⟨2, ![512, 1408]⟩
abbrev S1x512x1408 : Shape := ⟨3, ![1, 512, 1408]⟩

abbrev nBuf : Space → Nat
  | .hbm => 23
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2x4096x2816, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S2x4096x2816, .bf16⟩
  | .hbm, ⟨22, _⟩ => ⟨S2x1024x2816, .bf16⟩
  | .local _ .vmem, ⟨0, _⟩ => ⟨S2048x512, .bf16⟩
  | .local _ .vmem, ⟨1, _⟩ => ⟨S2048x512, .bf16⟩
  | .local _ .vmem, ⟨2, _⟩ => ⟨S2x2048x1408, .bf16⟩
  | .local _ .vmem, ⟨3, _⟩ => ⟨S2x2048x1408, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v25 : BitVec 1 := Scalar.cmpi .eq arg2 c1_i32
  let v26 : BitVec 32 := Scalar.extui v25
  let c0_i32_22 : BitVec 32 := 0#32
  let v27 : BitVec 1 := Scalar.cmpi .ne v26 c0_i32_22
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S1024 : Shape := ⟨1, ![1024]⟩
abbrev S1024x5632 : Shape := ⟨2, ![1024, 5632]⟩
abbrev S2x4096x2816 : Shape := ⟨3, ![2, 4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S1x4096x2816 : Shape := ⟨3, ![1, 4096, 2816]⟩
abbrev S4096x2816 : Shape := ⟨2, ![4096, 2816]⟩
abbrev S5632x1024 : Shape := ⟨2, ![5632, 1024]⟩
abbrev S1024x2x2816 : Shape := ⟨3, ![1024, 2, 2816]⟩
abbrev S2x1024x2816 : Shape := ⟨3, ![2, 1024, 2816]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2x4096x2816, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S1x4096x2816, .f32⟩
  | .hbm, ⟨22, _⟩ => ⟨S4096x2816, .f32⟩
  | .hbm, ⟨23, _⟩ => ⟨S1x4096x2816, .f32⟩
  | .hbm, ⟨24, _⟩ => ⟨S4096x2816, .f32⟩
  | .hbm, ⟨25, _⟩ => ⟨S4096x5632, .f32⟩
  | .hbm, ⟨26, _⟩ => ⟨S5632x1024, .f32⟩
  | .hbm, ⟨27, _⟩ => ⟨S1024x5632, .f32⟩
  | .hbm, ⟨28, _⟩ => ⟨S1024x2x2816, .f32⟩
  | .hbm, ⟨29, _⟩ => ⟨S2x1024x2816, .f32⟩
  | .hbm, ⟨30, _⟩ => ⟨S2x1024x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 36
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .bf16⟩
  | .hbm, ⟨35, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1024x2816 : Shape := ⟨2, ![1024, 2816]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S1024x2816, .f32⟩
  | .hbm, ⟨42, _⟩ => ⟨S2816x1024, .f32⟩
  | .hbm, ⟨43, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S1024x5632 : Shape := ⟨2, ![1024, 5632]⟩
abbrev S2x4096x2816 : Shape := ⟨3, ![2, 4096, 2816]⟩
abbrev S1x1024 : Shape := ⟨2, ![1, 1024]⟩
abbrev S1024x2x2816 : Shape := ⟨3, ![1024, 2, 2816]⟩
abbrev S2x1024x2816 : Shape := ⟨3, ![2, 1024, 2816]⟩
abbrev S2x512x2816 : Shape := ⟨3, ![2, 512, 2816]⟩
abbrev S512x1024 : Shape := ⟨2, ![512, 1024]⟩
abbrev S1x512x2816 : Shape := ⟨3, ![1, 512, 2816]⟩
abbrev S512x2816 : Shape := ⟨2, ![512, 2816]⟩
abbrev S1x1024x2816 : Shape := ⟨3, ![1, 1024, 2816]⟩
abbrev S1024x2816 : Shape := ⟨2, ![1024, 2816]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2x4096x2816, .f32⟩
  | .hbm, ⟨4, _⟩ => ⟨S4096x1024, .f32⟩
  | .hbm, ⟨5, _⟩ => ⟨S1x1024, .f32⟩
  | .hbm, ⟨6, _⟩ => ⟨S2x4096x2816, .bf16⟩
  | .hbm, ⟨7, _⟩ => ⟨S1024x2x2816, .f32⟩
  | .hbm, ⟨8, _⟩ => ⟨S2x1024x2816, .f32⟩
  | .hbm, ⟨9, _⟩ => ⟨S2x1024x2816, .bf16⟩
  | .hbm, ⟨10, _⟩ => ⟨S4096x1024, .f32⟩
  | .hbm, ⟨11, _⟩ => ⟨S1x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S2x1024x2816, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![1, 8, 1], ![false, false, false]⟩

def k0_cond1 (i : grid0.Coords) : BitVec 1 :=
  let arg1 : BitVec 32 := BitVec.ofNat 32 (i 1).val
  let c0_i32 : BitVec 32 := 0#32
  let v42 : BitVec 1 := Scalar.cmpi .eq arg1 c0_i32
  let v43 : BitVec 32 := Scalar.extui v42
  let c0_i32_25 : BitVec 32 := 0#32
  let v44 : BitVec 1 := Scalar.cmpi .ne v43 c0_i32_25
  v44

def k0_cond2 (i : grid0.Coords) : BitVec 1 :=
  let arg1 : BitVec 32 := BitVec.ofNat 32 (i 1).val
  let c0_i32 : BitVec 32 := 0#32
  let v42 : BitVec 1 := Scalar.cmpi .eq arg1 c0_i32
  let v_true : BitVec 1 := 1#1
  let v45 : BitVec 1 := Scalar.xori v42 v_true
  let v46 : BitVec 32 := Scalar.extui v45
  let c0_i32_26 : BitVec 32 := 0#32
  let v47 : BitVec 1 := Scalar.cmpi .ne v46 c0_i32_26
  v47

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]
-- ==== Reference4Ideal.lean ====
abbrev S4096x1024 : Shape := ⟨2, ![4096, 1024]⟩
abbrev S1024 : Shape := ⟨1, ![1024]⟩
abbrev S1024x5632 : Shape := ⟨2, ![1024, 5632]⟩
abbrev S2x4096x2816 : Shape := ⟨3, ![2, 4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S1x4096x2816 : Shape := ⟨3, ![1, 4096, 2816]⟩
abbrev S4096x2816 : Shape := ⟨2, ![4096, 2816]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2x4096x2816, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S1x4096x2816, .f32⟩
  | .hbm, ⟨27, _⟩ => ⟨S4096x2816, .f32⟩
  | .hbm, ⟨28, _⟩ => ⟨S1x4096x2816, .f32⟩
  | .hbm, ⟨29, _⟩ => ⟨S4096x2816, .f32⟩
  | .hbm, ⟨30, _⟩ => ⟨S4096x5632, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2x2816 : Shape := ⟨3, ![4096, 2, 2816]⟩
abbrev S2x4096x2816 : Shape := ⟨3, ![2, 4096, 2816]⟩
abbrev S512x1024 : Shape := ⟨2, ![512, 1024]⟩
abbrev S1408x1024 : Shape := ⟨2, ![1408, 1024]⟩
abbrev S2x512x1408 : Shape := ⟨3, ![2, 512, 1408]⟩
abbrev S384x1024 : Shape := ⟨2, ![384, 1024]⟩
abbrev S512x384 : Shape := ⟨2, ![512, 384]⟩
abbrev S256x1024 : Shape := ⟨2, ![256, 1024]⟩
abbrev S512x256 : Shape := ⟨2, ![512, 256]⟩
abbrev S2x512x384 : Shape := ⟨3, ![2, 512, 384]⟩
abbrev S1x512x384 : Shape := ⟨3, ![1, 512, 384]⟩
abbrev S2x512x256 : Shape := ⟨3, ![2, 512, 256]⟩
abbrev S1x512x256 : Shape := ⟨3, ![1, 512, 256]⟩

abbrev nBuf : Space → Nat
  | .hbm => 27
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2x2816, .f32⟩
  | .hbm, ⟨23, _⟩ => ⟨S2x4096x2816, .f32⟩
  | .hbm, ⟨24, _⟩ => ⟨S2x4096x2816, .bf16⟩
  | .hbm, ⟨25, _⟩ => ⟨S2816x1024, .bf16⟩
  | .hbm, ⟨26, _⟩ => ⟨S2x4096x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S4096x2x2816 : Shape := ⟨3, ![4096, 2, 2816]⟩
abbrev S2x4096x2816 : Shape := ⟨3, ![2, 4096, 2816]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x5632, .f32⟩
  | .hbm, ⟨53, _⟩ => ⟨S4096x2x2816, .f32⟩
  | .hbm, ⟨54, _⟩ => ⟨S2x4096x2816, .f32⟩
  | .hbm, ⟨55, _⟩ => ⟨S2x4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v16_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v16_1 : Ref sig .tc := ⟨.hbm, 35, rfl⟩
abbrev main_v16_0 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩

abbrev nD : Nat := 1
abbrev τ : Topo := Topo.v7x

variable {F : FTy → Type} [FloatOps F]
-- ==== Kernel6.lean ====
abbrev S4096x1024 : Shape := ⟨2, ![4096, 1024]⟩
abbrev S1024 : Shape := ⟨1, ![1024]⟩
abbrev S1024x5632 : Shape := ⟨2, ![1024, 5632]⟩
abbrev S1024x2x2816 : Shape := ⟨3, ![1024, 2, 2816]⟩
abbrev S2x1024x2816 : Shape := ⟨3, ![2, 1024, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2x4096x2816 : Shape := ⟨3, ![2, 4096, 2816]⟩
abbrev S4096x2816 : Shape := ⟨2, ![4096, 2816]⟩
abbrev S512x1024 : Shape := ⟨2, ![512, 1024]⟩
abbrev S2x1024x1408 : Shape := ⟨3, ![2, 1024, 1408]⟩
abbrev S2x512x1408 : Shape := ⟨3, ![2, 512, 1408]⟩
abbrev S512x1408 : Shape := ⟨2, ![512, 1408]⟩
abbrev S1x1024x1408 : Shape := ⟨3, ![1, 1024, 1408]⟩
abbrev S1024x1408 : Shape := ⟨2, ![1024, 1408]⟩
abbrev S1x512x1408 : Shape := ⟨3, ![1, 512, 1408]⟩

abbrev nBuf : Space → Nat
  | .hbm => 25
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S1024x2x2816, .f32⟩
  | .hbm, ⟨4, _⟩ => ⟨S2x1024x2816, .f32⟩
  | .hbm, ⟨5, _⟩ => ⟨S2x1024x2816, .bf16⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S2x4096x2816, .bf16⟩
  | .hbm, ⟨24, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2x1024x1408, .bf16⟩
  | .local _ .vmem, ⟨3, _⟩ => ⟨S2x1024x1408, .bf16⟩
  | .local _ .vmem, ⟨4, _⟩ => ⟨S2x512x1408, .bf16⟩
  | .local _ .vmem, ⟨5, _⟩ => ⟨S2x512x1408, .bf16⟩
  | .local _ .vmem, ⟨6, _⟩ => ⟨S512x1408, .bf16⟩
  | .local _ .vmem, ⟨7, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x1024 : Shape := ⟨2, ![4096, 1024]⟩
abbrev S1024 : Shape := ⟨1, ![1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S4096x2x2816 : Shape := ⟨3, ![4096, 2, 2816]⟩
abbrev S2x4096x2816 : Shape := ⟨3, ![2, 4096, 2816]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x5632, .f32⟩
  | .hbm, ⟨20, _⟩ => ⟨S4096x2816, .f32⟩
  | .hbm, ⟨21, _⟩ => ⟨S4096x2816, .f32⟩
  | .hbm, ⟨22, _⟩ => ⟨S4096x2x2816, .f32⟩
  | .hbm, ⟨23, _⟩ => ⟨S2x4096x2816, .f32⟩
  | .hbm, ⟨24, _⟩ => ⟨S2x4096x2816, .bf16⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S512x2816 : Shape := ⟨2, ![512, 2816]⟩
abbrev S512x1024 : Shape := ⟨2, ![512, 1024]⟩

abbrev nBuf : Space → Nat
  | .hbm => 36
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .bf16⟩
  | .hbm, ⟨34, _⟩ => ⟨S2816x1024, .bf16⟩
  | .hbm, ⟨35, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Kernel8.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x3072, .f32⟩
  | .hbm, ⟨4, _⟩ => ⟨S4096x1024, .f32⟩
  | .hbm, ⟨5, _⟩ => ⟨S4096x3072, .bf16⟩
  | .hbm, ⟨6, _⟩ => ⟨S1024x3072, .bf16⟩
  | .hbm, ⟨7, _⟩ => ⟨S1x1024, .f32⟩
  | .hbm, ⟨8, _⟩ => ⟨S4096x1024, .f32⟩
  | .hbm, ⟨9, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![1, 8, 1], ![false, false, false]⟩

def k0_cond1 (i : grid0.Coords) : BitVec 1 :=
  let arg1 : BitVec 32 := BitVec.ofNat 32 (i 1).val
  let c0_i32 : BitVec 32 := 0#32
  let v36 : BitVec 1 := Scalar.cmpi .eq arg1 c0_i32
  let v37 : BitVec 32 := Scalar.extui v36
  let c0_i32_17 : BitVec 32 := 0#32
  let v38 : BitVec 1 := Scalar.cmpi .ne v37 c0_i32_17
  v38

def k0_cond2 (i : grid0.Coords) : BitVec 1 :=
  let arg1 : BitVec 32 := BitVec.ofNat 32 (i 1).val
  let c0_i32 : BitVec 32 := 0#32
  let v36 : BitVec 1 := Scalar.cmpi .eq arg1 c0_i32
  let v_true : BitVec 1 := 1#1
  let v39 : BitVec 1 := Scalar.xori v36 v_true
  let v40 : BitVec 32 := Scalar.extui v39
  let c0_i32_18 : BitVec 32 := 0#32
  let v41 : BitVec 1 := Scalar.cmpi .ne v40 c0_i32_18
  v41

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]
-- ==== Reference8Ideal.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x3072, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3072, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel9.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2048x1024 : Shape := ⟨2, ![2048, 1024]⟩
abbrev S1024x1024 : Shape := ⟨2, ![1024, 1024]⟩

abbrev nBuf : Space → Nat
  | .hbm => 23
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x3072, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x3072, .bf16⟩
  | .hbm, ⟨22, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S3072x1024 : Shape := ⟨2, ![3072, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x3072, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x3072, .f32⟩
  | .hbm, ⟨21, _⟩ => ⟨S3072x1024, .f32⟩
  | .hbm, ⟨22, _⟩ => ⟨S1024x3072, .f32⟩
  | .hbm, ⟨23, _⟩ => ⟨S1024x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel10.lean ====
abbrev S4096x1024 : Shape := ⟨2, ![4096, 1024]⟩
abbrev S1024 : Shape := ⟨1, ![1024]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3072 : Shape := ⟨2, ![4096, 3072]⟩
abbrev S1024x1024 : Shape := ⟨2, ![1024, 1024]⟩

abbrev nBuf : Space → Nat
  | .hbm => 22
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S1024x3072, .bf16⟩
  | .hbm, ⟨21, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024 : Shape := ⟨1, ![1024]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3072 : Shape := ⟨2, ![4096, 3072]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x3072, .f32⟩
  | .hbm, ⟨20, _⟩ => ⟨S4096x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024x1024, .bf16⟩
  | .hbm, ⟨4, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4096x1024 : Shape := ⟨2, ![4096, 1024]⟩
abbrev S1024 : Shape := ⟨1, ![1024]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3072 : Shape := ⟨2, ![4096, 3072]⟩
abbrev S1024x1024 : Shape := ⟨2, ![1024, 1024]⟩

abbrev nBuf : Space → Nat
  | .hbm => 22
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S1024x3072, .bf16⟩
  | .hbm, ⟨21, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024 : Shape := ⟨1, ![1024]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3072 : Shape := ⟨2, ![4096, 3072]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x3072, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024x1024, .bf16⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel16.lean ====
abbrev S4096x1024 : Shape := ⟨2, ![4096, 1024]⟩
abbrev S1024 : Shape := ⟨1, ![1024]⟩
abbrev S1024x6176 : Shape := ⟨2, ![1024, 6176]⟩
abbrev S4096x6176 : Shape := ⟨2, ![4096, 6176]⟩
abbrev S_ : Shape := ⟨0, ![]⟩
abbrev S4096x6272 : Shape := ⟨2, ![4096, 6272]⟩
abbrev S1024x6272 : Shape := ⟨2, ![1024, 6272]⟩
abbrev S1x1024 : Shape := ⟨2, ![1, 1024]⟩
abbrev S256x6272 : Shape := ⟨2, ![256, 6272]⟩
abbrev S256x1024 : Shape := ⟨2, ![256, 1024]⟩
abbrev S256 : Shape := ⟨1, ![256]⟩
abbrev S256x1 : Shape := ⟨2, ![256, 1]⟩

abbrev nBuf : Space → Nat
  | .hbm => 15
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6176, .f32⟩
  | .hbm, ⟨3, _⟩ => ⟨S4096x6176, .f32⟩
  | .hbm, ⟨4, _⟩ => ⟨S4096x1024, .f32⟩
  | .hbm, ⟨5, _⟩ => ⟨S_, .i32⟩
  | .hbm, ⟨6, _⟩ => ⟨S_, .f32⟩
  | .hbm, ⟨7, _⟩ => ⟨S4096x6272, .f32⟩
  | .hbm, ⟨8, _⟩ => ⟨S_, .i32⟩
  | .hbm, ⟨9, _⟩ => ⟨S_, .f32⟩
  | .hbm, ⟨10, _⟩ => ⟨S1024x6272, .f32⟩
  | .hbm, ⟨11, _⟩ => ⟨S1024x6272, .bf16⟩
  | .hbm, ⟨12, _⟩ => ⟨S1x1024, .f32⟩
  | .hbm, ⟨13, _⟩ => ⟨S4096x1024, .f32⟩
  | .hbm, ⟨14, _⟩ => ⟨S1x1024, .f32⟩
  | .local _ .vmem, ⟨0, _⟩ => ⟨S256x6272, .f32⟩
  | .local _ .vmem, ⟨1, _⟩ => ⟨S256x6272, .f32⟩
  | .local _ .vmem, ⟨2, _⟩ => ⟨S1024x6272, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![1, 16, 1], ![false, false, false]⟩

def k0_cond1 (i : grid0.Coords) : BitVec 1 :=
  let arg1 : BitVec 32 := BitVec.ofNat 32 (i 1).val
  let c0_i32 : BitVec 32 := 0#32
  let v37 : BitVec 1 := Scalar.cmpi .eq arg1 c0_i32
  let v38 : BitVec 32 := Scalar.extui v37
  let c0_i32_17 : BitVec 32 := 0#32
  let v39 : BitVec 1 := Scalar.cmpi .ne v38 c0_i32_17
  v39

def k0_cond2 (i : grid0.Coords) : BitVec 1 :=
  let arg1 : BitVec 32 := BitVec.ofNat 32 (i 1).val
  let c0_i32 : BitVec 32 := 0#32
  let v37 : BitVec 1 := Scalar.cmpi .eq arg1 c0_i32
  let v_true : BitVec 1 := 1#1
  let v40 : BitVec 1 := Scalar.xori v37 v_true
  let v41 : BitVec 32 := Scalar.extui v40
  let c0_i32_18 : BitVec 32 := 0#32
  let v42 : BitVec 1 := Scalar.cmpi .ne v41 c0_i32_18
  v42

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S256x6272 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x6272 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]
-- ==== Reference16Ideal.lean ====
abbrev S4096x1024 : Shape := ⟨2, ![4096, 1024]⟩
abbrev S1024 : Shape := ⟨1, ![1024]⟩
abbrev S1024x6176 : Shape := ⟨2, ![1024, 6176]⟩
abbrev S4096x6176 : Shape := ⟨2, ![4096, 6176]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6176, .f32⟩
  | .hbm, ⟨3, _⟩ => ⟨S4096x6176, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x6176, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel17.lean ====
abbrev S4096x1024 : Shape := ⟨2, ![4096, 1024]⟩
abbrev S1024 : Shape := ⟨1, ![1024]⟩
abbrev S1024x6176 : Shape := ⟨2, ![1024, 6176]⟩
abbrev S4096x6176 : Shape := ⟨2, ![4096, 6176]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x6272 : Shape := ⟨2, ![4096, 6272]⟩
abbrev S1024x6272 : Shape := ⟨2, ![1024, 6272]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 25
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6176, .f32⟩
  | .hbm, ⟨3, _⟩ => ⟨S4096x6176, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S_, .i32⟩
  | .hbm, ⟨22, _⟩ => ⟨S_, .f32⟩
  | .hbm, ⟨23, _⟩ => ⟨S4096x6272, .f32⟩
  | .hbm, ⟨24, _⟩ => ⟨S1024x6272, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .f32⟩
  | .local _ .vmem, ⟨3, _⟩ => ⟨S2048x896, .f32⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 1, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S1024 : Shape := ⟨1, ![1024]⟩
abbrev S1024x6176 : Shape := ⟨2, ![1024, 6176]⟩
abbrev S4096x6176 : Shape := ⟨2, ![4096, 6176]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S6176x1024 : Shape := ⟨2, ![6176, 1024]⟩
abbrev S1024x6272 : Shape := ⟨2, ![1024, 6272]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6176, .f32⟩
  | .hbm, ⟨3, _⟩ => ⟨S4096x6176, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x6176, .f32⟩
  | .hbm, ⟨21, _⟩ => ⟨S6176x1024, .f32⟩
  | .hbm, ⟨22, _⟩ => ⟨S1024x6176, .f32⟩
  | .hbm, ⟨23, _⟩ => ⟨S_, .i32⟩
  | .hbm, ⟨24, _⟩ => ⟨S_, .f32⟩
  | .hbm, ⟨25, _⟩ => ⟨S1024x6272, .f32⟩
  | .hbm, ⟨26, _⟩ => ⟨S1024x6272, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel18.lean ====
abbrev S4096x1024 : Shape := ⟨2, ![4096, 1024]⟩
abbrev S1024 : Shape := ⟨1, ![1024]⟩
abbrev S1024x6176 : Shape := ⟨2, ![1024, 6176]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x6272 : Shape := ⟨2, ![1024, 6272]⟩
abbrev S4096x6272 : Shape := ⟨2, ![4096, 6272]⟩
abbrev S1024x1024 : Shape := ⟨2, ![1024, 1024]⟩
abbrev S1024x896 : Shape := ⟨2, ![1024, 896]⟩

abbrev nBuf : Space → Nat
  | .hbm => 25
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6176, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S_, .i32⟩
  | .hbm, ⟨21, _⟩ => ⟨S_, .f32⟩
  | .hbm, ⟨22, _⟩ => ⟨S1024x6272, .f32⟩
  | .hbm, ⟨23, _⟩ => ⟨S1024x6272, .bf16⟩
  | .hbm, ⟨24, _⟩ => ⟨S4096x6272, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x1024 : Shape := ⟨2, ![4096, 1024]⟩
abbrev S1024 : Shape := ⟨1, ![1024]⟩
abbrev S1024x6176 : Shape := ⟨2, ![1024, 6176]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x6176 : Shape := ⟨2, ![4096, 6176]⟩
abbrev S4096x6272 : Shape := ⟨2, ![4096, 6272]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6176, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x6176, .f32⟩
  | .hbm, ⟨20, _⟩ => ⟨S_, .i32⟩
  | .hbm, ⟨21, _⟩ => ⟨S_, .f32⟩
  | .hbm, ⟨22, _⟩ => ⟨S4096x6272, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Kernel19.lean ====
abbrev S4096x1024 : Shape := ⟨2, ![4096, 1024]⟩
abbrev S4096x2048 : Shape := ⟨2, ![4096, 2048]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S2048x1024, .f32⟩
  | .hbm, ⟨3, _⟩ => ⟨S4096x2048, .bf16⟩
  | .hbm, ⟨4, _⟩ => ⟨S2048x1024, .bf16⟩
  | .hbm, ⟨5, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference19Ideal.lean ====
abbrev S4096x1024 : Shape := ⟨2, ![4096, 1024]⟩
abbrev S4096x2048 : Shape := ⟨2, ![4096, 2048]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S2048x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel20.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S2048x1024, .bf16⟩
  | .hbm, ⟨4, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x1024, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel21.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x2048, .bf16⟩
  | .hbm, ⟨4, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S4096x1024, .f32⟩
  | .hbm, ⟨3, _⟩ => ⟨S4096x1024, .f32⟩
  | .hbm, ⟨4, _⟩ => ⟨S1024x2048, .f32⟩
  | .hbm, ⟨5, _⟩ => ⟨S2048x1024, .f32⟩
  | .hbm, ⟨6, _⟩ => ⟨S2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel22.lean ====
abbrev S4096x3072 : Shape := ⟨2, ![4096, 3072]⟩
abbrev S3x1024 : Shape := ⟨2, ![3, 1024]⟩
abbrev S4096x1024 : Shape := ⟨2, ![4096, 1024]⟩
abbrev S8x1024 : Shape := ⟨2, ![8, 1024]⟩
abbrev S4096x128 : Shape := ⟨2, ![4096, 128]⟩
abbrev S3x128 : Shape := ⟨2, ![3, 128]⟩
abbrev S8x128 : Shape := ⟨2, ![8, 128]⟩
abbrev S1x128 : Shape := ⟨2, ![1, 128]⟩
abbrev S128 : Shape := ⟨1, ![128]⟩

abbrev nBuf : Space → Nat
  | .hbm => 7
  | .vmem => 18
  | .smem => 0
  | _ => 0

abbrev bufTy : (tb : Table) → Fin (tcTables nBuf tb) → BufTy
  | .hbm, ⟨0, _⟩ => ⟨S4096x3072, .f32⟩
  | .hbm, ⟨1, _⟩ => ⟨S3x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S8x1024, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S3x128, .f32⟩
  | .local _ .vmem, ⟨7, _⟩ => ⟨S3x128, .f32⟩
  | .local _ .vmem, ⟨8, _⟩ => ⟨S4096x128, .f32⟩
  | .local _ .vmem, ⟨9, _⟩ => ⟨S4096x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S8x128, .f32⟩
  | .local _ .vmem, ⟨17, _⟩ => ⟨S8x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference22Ideal.lean ====
abbrev S4096x3072 : Shape := ⟨2, ![4096, 3072]⟩
abbrev S3x1024 : Shape := ⟨2, ![3, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S3x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S2x1024, .f32⟩
  | .hbm, ⟨9, _⟩ => ⟨S4098x1024, .f32⟩
  | .hbm, ⟨10, _⟩ => ⟨S_, .f32⟩
  | .hbm, ⟨11, _⟩ => ⟨S2x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S_, .f32⟩
  | .hbm, ⟨39, _⟩ => ⟨S4098x1024, .f32⟩
  | .hbm, ⟨40, _⟩ => ⟨S_, .f32⟩
  | .hbm, ⟨41, _⟩ => ⟨S3x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S4098x1024, .f32⟩
  | .hbm, ⟨50, _⟩ => ⟨S4098x1024, .f32⟩
  | .hbm, ⟨51, _⟩ => ⟨S_, .f32⟩
  | .hbm, ⟨52, _⟩ => ⟨S3x1024, .f32⟩
  | .hbm, ⟨53, _⟩ => ⟨S3x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S4098x1024, .f32⟩
  | .hbm, ⟨62, _⟩ => ⟨S4098x1024, .f32⟩
  | .hbm, ⟨63, _⟩ => ⟨S_, .f32⟩
  | .hbm, ⟨64, _⟩ => ⟨S3x1024, .f32⟩
  | .hbm, ⟨65, _⟩ => ⟨S3x1024, .f32⟩
  | .hbm, ⟨66, _⟩ => ⟨S2x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x3072, .f32⟩
  | .hbm, ⟨71, _⟩ => ⟨S4096x3072, .bf16⟩
  | .hbm, ⟨72, _⟩ => ⟨S4096x1024, .bf16⟩
  | .hbm, ⟨73, _⟩ => ⟨S4096x1024, .bf16⟩
  | .hbm, ⟨74, _⟩ => ⟨S4096x1024, .bf16⟩
  | .hbm, ⟨75, _⟩ => ⟨S_, .i32⟩
  | .hbm, ⟨76, _⟩ => ⟨S_, .f32⟩
  | .hbm, ⟨77, _⟩ => ⟨S8x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_cst_9 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_c : Ref sig .tc := ⟨.hbm, 75, rfl⟩
abbrev main_call0_v0 : Ref sig .tc := ⟨.hbm, 76, rfl⟩
abbrev main_v60 : Ref sig .tc := ⟨.hbm, 77, rfl⟩

abbrev nD : Nat := 1
abbrev τ : Topo := Topo.v7x

variable {F : FTy → Type} [FloatOps F]
-- ==== Kernel23.lean ====
abbrev S4096x3072 : Shape := ⟨2, ![4096, 3072]⟩
abbrev S3x1024 : Shape := ⟨2, ![3, 1024]⟩
abbrev S4096x1024 : Shape := ⟨2, ![4096, 1024]⟩
abbrev S4096x128 : Shape := ⟨2, ![4096, 128]⟩
abbrev S3x128 : Shape := ⟨2, ![3, 128]⟩
abbrev S1x128 : Shape := ⟨2, ![1, 128]⟩

abbrev nBuf : Space → Nat
  | .hbm => 3
  | .vmem => 10
  | .smem => 0
  | _ => 0

abbrev bufTy : (tb : Table) → Fin (tcTables nBuf tb) → BufTy
  | .hbm, ⟨0, _⟩ => ⟨S4096x3072, .f32⟩
  | .hbm, ⟨1, _⟩ => ⟨S3x1024, .f32⟩
  | .hbm, ⟨2, _⟩ => ⟨S4096x1024, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S3x128, .f32⟩
  | .local _ .vmem, ⟨7, _⟩ => ⟨S3x128, .f32⟩
  | .local _ .vmem, ⟨8, _⟩ => ⟨S4096x128, .bf16⟩
  | .local _ .vmem, ⟨9, _⟩ => ⟨S4096x128, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference23Ideal.lean ====
abbrev S4096x3072 : Shape := ⟨2, ![4096, 3072]⟩
abbrev S3x1024 : Shape := ⟨2, ![3, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S3x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S2x1024, .f32⟩
  | .hbm, ⟨8, _⟩ => ⟨S4098x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== Kernel24.lean ====
abbrev S4x4096x704 : Shape := ⟨3, ![4, 4096, 704]⟩
abbrev S4096x704 : Shape := ⟨2, ![4096, 704]⟩
abbrev S4x256x704 : Shape := ⟨3, ![4, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S4x4096x704, .bf16⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .local _ .vmem, ⟨0, _⟩ => ⟨S4x256x704, .bf16⟩
  | .local _ .vmem, ⟨1, _⟩ => ⟨S4x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference24Ideal.lean ====
abbrev S4x4096x704 : Shape := ⟨3, ![4, 4096, 704]⟩
abbrev S4096x704 : Shape := ⟨2, ![4096, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4x4096x704, .f32⟩
  | .hbm, ⟨5, _⟩ => ⟨S_, .f32⟩
  | .hbm, ⟨6, _⟩ => ⟨S4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S_, .f32⟩
  | .hbm, ⟨11, _⟩ => ⟨S4096x704, .f32⟩
  | .hbm, ⟨12, _⟩ => ⟨S4096x704, .f32⟩
  | .hbm, ⟨13, _⟩ => ⟨S4096x704, .f32⟩
  | .hbm, ⟨14, _⟩ => ⟨S_, .f32⟩
  | .hbm, ⟨15, _⟩ => ⟨S4096x704, .f32⟩
  | .hbm, ⟨16, _⟩ => ⟨S4096x704, .f32⟩
  | .hbm, ⟨17, _⟩ => ⟨S4096x704, .f32⟩
  | .hbm, ⟨18, _⟩ => ⟨S_, .f32⟩
  | .hbm, ⟨19, _⟩ => ⟨S4096x704, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S_, .f32⟩
  | .hbm, ⟨26, _⟩ => ⟨S4096x704, .f32⟩
  | .hbm, ⟨27, _⟩ => ⟨S4096x704, .f32⟩
  | .hbm, ⟨28, _⟩ => ⟨S4096x704, .f32⟩
  | .hbm, ⟨29, _⟩ => ⟨S_, .f32⟩
  | .hbm, ⟨30, _⟩ => ⟨S4096x704, .f32⟩
  | .hbm, ⟨31, _⟩ => ⟨S4096x704, .f32⟩
  | .hbm, ⟨32, _⟩ => ⟨S4096x704, .f32⟩
  | .hbm, ⟨33, _⟩ => ⟨S_, .f32⟩
  | .hbm, ⟨34, _⟩ => ⟨S4096x704, .f32⟩
  | .hbm, ⟨35, _⟩ => ⟨S4096x704, .f32⟩
  | .hbm, ⟨36, _⟩ => ⟨S4096x704, .f32⟩
  | .hbm, ⟨37, _⟩ => ⟨S_, .f32⟩
  | .hbm, ⟨38, _⟩ => ⟨S4096x704, .f32⟩
  | .hbm, ⟨39, _⟩ => ⟨S4096x704, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Scan.lean ====
/-
  The mathematics of one head's scan gradient, over the real numbers.

  A head has step sizes `τ`, log-decays `δ`, inputs `x`, an incoming gradient `y`, and the vectors `B`, `C` of its group,
  all indexed by the position in the sequence. The head's output is `o t = ∑ s ≤ t, ⟨C t, B s⟩ · exp (a t - a s) · τ s · x s`
  with `a` the running sum of `δ`. The plain gradient sums over all positions; the chunked one works on `Q` positions
  from `b` to `b + Q`, given `past` (what the positions before the chunk left in the state) and `future` (what the
  positions after the chunk send back to it). This module states both and proves them equal.
-/
module

public import Mathlib.Analysis.SpecialFunctions.Exp
public import Mathlib.Algebra.BigOperators.Intervals

@[expose] public section

noncomputable section

namespace Scan

open Finset

/-- The sum of the log-decays of the positions before `n`. -/
def cum (δ : ℕ → ℝ) (n : ℕ) : ℝ := ∑ j ∈ range n, δ j

/-- `cum` from `b` on is `cum` at `b` plus the sum over the positions from `b`. -/
theorem cum_add (δ : ℕ → ℝ) (b n : ℕ) : cum δ (b + n) = cum δ b + ∑ j ∈ range n, δ (b + j) := by
  unfold cum; rw [sum_range_add]

variable {P N : ℕ}

/-- One head's data: its step sizes, log-decays, inputs, incoming gradient and the two vectors of its group. -/
structure Head (P N : ℕ) where
  τ : ℕ → ℝ
  δ : ℕ → ℝ
  x : ℕ → Fin P → ℝ
  y : ℕ → Fin P → ℝ
  B : ℕ → Fin N → ℝ
  C : ℕ → Fin N → ℝ

variable (h : Head P N)

namespace Head

/-- `⟨C t, B s⟩`. -/
def cb (t s : ℕ) : ℝ := ∑ n, h.C t n * h.B s n
/-- `⟨y t, x s⟩`, the gradient with respect to the weight of position `s` in the output at `t`. -/
def dW (t s : ℕ) : ℝ := ∑ p, h.y t p * h.x s p
/-- The decay from position `s` to position `t`. -/
def L (t s : ℕ) : ℝ := Real.exp (cum h.δ (t + 1) - cum h.δ (s + 1))
/-- The gradient with respect to the exponent of the decay from `s` to `t`. -/
def D (t s : ℕ) : ℝ := h.dW t s * h.cb t s * h.L t s * h.τ s

/-- What positions before `b` leave in the state: `∑ s < b, exp (a (b-1) - a s) · τ s · x s ⊗ B s`. -/
def past (b : ℕ) (p : Fin P) (n : Fin N) : ℝ :=
  ∑ s ∈ range b, Real.exp (cum h.δ b - cum h.δ (s + 1)) * h.τ s * h.x s p * h.B s n
/-- What positions from `e` on, up to `M`, send back to the state: `∑ e ≤ t < M, exp (a t - a (e-1)) · y t ⊗ C t`. -/
def future (M e : ℕ) (p : Fin P) (n : Fin N) : ℝ :=
  ∑ t ∈ Ico e M, Real.exp (cum h.δ (t + 1) - cum h.δ e) * h.y t p * h.C t n

end Head

/-- A sum over the positions from `b + j` on is the chunk's part and the part after the chunk. -/
theorem sum_from (f : ℕ → ℝ) {b Q M j : ℕ} (hM : b + Q ≤ M) :
    ∑ t ∈ range M, (if b + j ≤ t then f t else 0)
      = ∑ i ∈ range Q, (if j ≤ i then f (b + i) else 0) + ∑ t ∈ Ico (b + Q) M, (if b + j ≤ t then f t else 0) := by
  rw [range_eq_Ico, ← sum_Ico_consecutive _ (Nat.zero_le (b + Q)) hM, ← range_eq_Ico, sum_range_add]
  congr 1
  rw [sum_eq_zero (s := range b) fun t ht => if_neg (by have := mem_range.mp ht; omega), zero_add]
  exact sum_congr rfl fun i _ => by simp

/-- A sum over the positions up to `b + i` is the part before the chunk and the chunk's part. -/
theorem sum_upto (f : ℕ → ℝ) {b Q M i : ℕ} (hi : i < Q) (hM : b + Q ≤ M) :
    ∑ s ∈ range M, (if s ≤ b + i then f s else 0)
      = ∑ s ∈ range b, f s + ∑ j ∈ range Q, (if j ≤ i then f (b + j) else 0) := by
  rw [range_eq_Ico, ← sum_Ico_consecutive _ (Nat.zero_le (b + Q)) hM, ← range_eq_Ico, sum_range_add,
    sum_eq_zero (s := Ico (b + Q) M) fun s hs => if_neg (by have := (mem_Ico.mp hs).1; omega), add_zero]
  congr 1
  · exact sum_congr rfl fun s hs => if_pos (by have := mem_range.mp hs; omega)
  · exact sum_congr rfl fun j _ => by simp

theorem sum_after (f : ℕ → ℝ) {b Q M j : ℕ} (hj : j < Q) :
    ∑ t ∈ Ico (b + Q) M, (if b + j ≤ t then f t else 0) = ∑ t ∈ Ico (b + Q) M, f t :=
  sum_congr rfl fun t ht => if_pos (by have := (mem_Ico.mp ht).1; omega)

namespace Head

/-! ### The chunk's numbers -/

/-- The running sum of the log-decays inside the chunk from `b`. -/
def lam (b i : ℕ) : ℝ := ∑ j ∈ range (i + 1), h.δ (b + j)

theorem lam_eq (b i : ℕ) : h.lam b i = cum h.δ (b + i + 1) - cum h.δ b := by
  rw [lam, show b + i + 1 = b + (i + 1) from rfl, cum_add]; ring

/-- The decay between two positions of one chunk. -/
theorem exp_lam_sub (b i j : ℕ) : Real.exp (h.lam b i - h.lam b j) = h.L (b + i) (b + j) := by
  rw [L, lam_eq, lam_eq]; congr 1; ring

theorem exp_lam (b i : ℕ) : Real.exp (h.lam b i) = Real.exp (cum h.δ (b + i + 1) - cum h.δ b) := by rw [lam_eq]

/-- The decay to the end of a chunk of `Q` positions. -/
theorem exp_last_sub (b Q j : ℕ) (hQ : 0 < Q) :
    Real.exp (h.lam b (Q - 1) - h.lam b j) = Real.exp (cum h.δ (b + Q) - cum h.δ (b + j + 1)) := by
  rw [lam_eq, lam_eq, show b + (Q - 1) + 1 = b + Q by omega]; congr 1; ring

theorem exp_last (b Q : ℕ) (hQ : 0 < Q) :
    Real.exp (h.lam b (Q - 1)) = Real.exp (cum h.δ (b + Q) - cum h.δ b) := by
  rw [lam_eq, show b + (Q - 1) + 1 = b + Q by omega]

/-- With log-decays at most zero, the running sum decreases. -/
theorem lam_anti (hδ : ∀ t, h.δ t ≤ 0) (b : ℕ) {i j : ℕ} (hij : j ≤ i) : h.lam b i - h.lam b j ≤ 0 := by
  have : h.lam b i ≤ h.lam b j := by
    unfold lam
    rw [← sum_range_add_sum_Ico _ (show j + 1 ≤ i + 1 by omega)]
    have : ∑ k ∈ Ico (j + 1) (i + 1), h.δ (b + k) ≤ 0 := sum_nonpos fun k _ => hδ _
    linarith
  linarith

/-! ### The gradient's parts: what the chunk adds, what comes from outside -/

/-- `∑ n, B s n · future p n`, the gradient that the positions after the chunk send to the input at `s`. -/
theorem future_B (M e s : ℕ) (p : Fin P) :
    ∑ n, h.B s n * h.future M e p n = ∑ t ∈ Ico e M, Real.exp (cum h.δ (t + 1) - cum h.δ e) * h.cb t s * h.y t p := by
  simp only [future, mul_sum]
  rw [sum_comm]
  refine sum_congr rfl fun t _ => ?_
  rw [cb, mul_sum, sum_mul]
  exact sum_congr rfl fun n _ => by ring

/-- `∑ p, x s p · future p n`. -/
theorem future_x (M e s : ℕ) (n : Fin N) :
    ∑ p, h.x s p * h.future M e p n = ∑ t ∈ Ico e M, Real.exp (cum h.δ (t + 1) - cum h.δ e) * h.dW t s * h.C t n := by
  simp only [future, mul_sum]
  rw [sum_comm]
  refine sum_congr rfl fun t _ => ?_
  rw [dW, mul_sum, sum_mul]
  exact sum_congr rfl fun p _ => by ring

/-- `∑ n, C t n · past p n`. -/
theorem past_C (b t : ℕ) (p : Fin P) :
    ∑ n, h.C t n * h.past b p n = ∑ s ∈ range b, Real.exp (cum h.δ b - cum h.δ (s + 1)) * h.τ s * h.cb t s * h.x s p := by
  simp only [past, mul_sum]
  rw [sum_comm]
  refine sum_congr rfl fun s _ => ?_
  rw [cb, mul_sum, sum_mul]
  exact sum_congr rfl fun n _ => by ring

/-- `∑ p, y t p · past p n`. -/
theorem past_y (b t : ℕ) (n : Fin N) :
    ∑ p, h.y t p * h.past b p n = ∑ s ∈ range b, Real.exp (cum h.δ b - cum h.δ (s + 1)) * h.τ s * h.dW t s * h.B s n := by
  simp only [past, mul_sum]
  rw [sum_comm]
  refine sum_congr rfl fun s _ => ?_
  rw [dW, mul_sum, sum_mul]
  exact sum_congr rfl fun p _ => by ring

theorem exp_join (δ : ℕ → ℝ) (e s t : ℕ) :
    Real.exp (cum δ e - cum δ s) * Real.exp (cum δ t - cum δ e) = Real.exp (cum δ t - cum δ s) := by
  rw [← Real.exp_add]; congr 1; ring

/-- The gradient of the input. -/
theorem dx_eq {M b Q j : ℕ} (hj : j < Q) (hM : b + Q ≤ M) (p : Fin P) :
    ∑ i ∈ range Q, (if j ≤ i then h.cb (b + i) (b + j) * h.L (b + i) (b + j) * h.τ (b + j) * h.y (b + i) p else 0)
      + Real.exp (h.lam b (Q - 1) - h.lam b j) * h.τ (b + j) * ∑ n, h.B (b + j) n * h.future M (b + Q) p n
    = ∑ t ∈ range M, (if b + j ≤ t then h.cb t (b + j) * h.L t (b + j) * h.τ (b + j) * h.y t p else 0) := by
  rw [sum_from _ hM, sum_after _ hj, h.exp_last_sub b Q j (by omega), future_B, mul_sum]
  congr 1
  refine sum_congr rfl fun t _ => ?_
  rw [L, ← exp_join h.δ (b + Q) (b + j + 1) (t + 1)]; ring

/-- The state's gradient, one chunk earlier. -/
theorem future_step {M b Q : ℕ} (hQ : 0 < Q) (hM : b + Q ≤ M) (p : Fin P) (n : Fin N) :
    Real.exp (h.lam b (Q - 1)) * h.future M (b + Q) p n
      + ∑ i ∈ range Q, h.y (b + i) p * Real.exp (h.lam b i) * h.C (b + i) n = h.future M b p n := by
  rw [h.exp_last b Q hQ]
  simp only [future]
  rw [← sum_Ico_consecutive _ (Nat.le_add_right b Q) hM, add_comm, mul_sum, sum_Ico_eq_sum_range _ b (b + Q),
    show b + Q - b = Q by omega]
  congr 1
  · exact sum_congr rfl fun i _ => by rw [h.exp_lam]; ring
  · refine sum_congr rfl fun t _ => ?_
    rw [← exp_join h.δ (b + Q) b (t + 1)]; ring

/-- The chunk's row sum of `D`: the positions before the chunk through the state, the chunk's own through the matrix. -/
theorem row_eq {M b Q i : ℕ} (hi : i < Q) (hM : b + Q ≤ M) :
    ∑ j ∈ range Q, (if j ≤ i then h.D (b + i) (b + j) else 0)
      + ∑ p, h.y (b + i) p * ((∑ n, h.C (b + i) n * h.past b p n) * Real.exp (h.lam b i))
    = ∑ s ∈ range M, (if s ≤ b + i then h.D (b + i) s else 0) := by
  rw [sum_upto _ hi hM, add_comm]
  congr 1
  simp only [past_C, sum_mul, mul_sum]
  rw [sum_comm]
  refine sum_congr rfl fun s _ => ?_
  rw [D, L, ← exp_join h.δ b (s + 1) (b + i + 1), h.exp_lam, dW]
  simp only [sum_mul]
  exact sum_congr rfl fun p _ => by ring

/-- What the positions after the chunk add to the column sum of `D` at `b + j`. -/
theorem after_eq {M b Q j : ℕ} (hj : j < Q) :
    Real.exp (h.lam b (Q - 1) - h.lam b j) * h.τ (b + j)
        * ∑ p, h.x (b + j) p * ∑ n, h.B (b + j) n * h.future M (b + Q) p n
      = ∑ t ∈ Ico (b + Q) M, h.D t (b + j) := by
  rw [h.exp_last_sub b Q j (by omega)]
  simp only [future_B, mul_sum]
  rw [sum_comm]
  refine sum_congr rfl fun t _ => ?_
  rw [D, L, ← exp_join h.δ (b + Q) (b + j + 1) (t + 1), dW]
  simp only [sum_mul]
  exact sum_congr rfl fun p _ => by ring

/-- The same without the step size. -/
theorem after_eq' {M b Q j : ℕ} (hj : j < Q) :
    Real.exp (h.lam b (Q - 1) - h.lam b j)
        * ∑ p, h.x (b + j) p * ∑ n, h.B (b + j) n * h.future M (b + Q) p n
      = ∑ t ∈ Ico (b + Q) M, h.dW t (b + j) * h.cb t (b + j) * h.L t (b + j) := by
  rw [h.exp_last_sub b Q j (by omega)]
  simp only [future_B, mul_sum]
  rw [sum_comm]
  refine sum_congr rfl fun t _ => ?_
  rw [L, ← exp_join h.δ (b + Q) (b + j + 1) (t + 1), dW]
  simp only [sum_mul]
  exact sum_congr rfl fun p _ => by ring

/-- What the positions after the chunk and those before it share: `D` summed over both. -/
theorem across_eq (M b e : ℕ) :
    Real.exp (cum h.δ e - cum h.δ b) * ∑ p, ∑ n, h.future M e p n * h.past b p n
      = ∑ t ∈ Ico e M, ∑ s ∈ range b, h.D t s := by
  have key : ∀ p, ∑ n, h.future M e p n * h.past b p n
      = ∑ t ∈ Ico e M, Real.exp (cum h.δ (t + 1) - cum h.δ e) * (h.y t p * ∑ n, h.C t n * h.past b p n) := by
    intro p
    simp only [future, sum_mul, mul_sum]
    rw [sum_comm]
    exact sum_congr rfl fun t _ => sum_congr rfl fun n _ => by ring
  simp only [key, past_C, mul_sum]
  rw [sum_comm]
  refine sum_congr rfl fun t _ => ?_
  rw [sum_comm]
  refine sum_congr rfl fun s _ => ?_
  rw [D, L, show Real.exp (cum h.δ (t + 1) - cum h.δ (s + 1)) = Real.exp (cum h.δ e - cum h.δ b)
      * (Real.exp (cum h.δ (t + 1) - cum h.δ e) * Real.exp (cum h.δ b - cum h.δ (s + 1))) by
    rw [← Real.exp_add, ← Real.exp_add]; congr 1; ring, dW]
  simp only [sum_mul]
  exact sum_congr rfl fun p _ => by ring

/-! ### The gradient of the running sum of the log-decays -/

/-- The gradient with respect to the running sum at `t`, all positions together. -/
def dA (M t : ℕ) : ℝ :=
  ∑ s ∈ range M, (if s ≤ t then h.D t s else 0) - ∑ u ∈ range M, (if t ≤ u then h.D u t else 0)

/-- `D` summed over the pairs that span `e`. -/
def span (M e : ℕ) : ℝ := ∑ t ∈ Ico e M, ∑ s ∈ range e, h.D t s

/-- The gradients from `e` on add up to what spans `e`: a pair inside cancels. -/
theorem sum_dA {M e : ℕ} (he : e ≤ M) : ∑ t ∈ Ico e M, h.dA M t = h.span M e := by
  have hrow : ∀ t ∈ Ico e M, ∑ s ∈ range M, (if s ≤ t then h.D t s else 0)
      = ∑ s ∈ range e, h.D t s + ∑ s ∈ Ico e M, (if s ≤ t then h.D t s else 0) := by
    intro t ht
    rw [range_eq_Ico, ← sum_Ico_consecutive _ (Nat.zero_le e) he, ← range_eq_Ico]
    congr 1
    exact sum_congr rfl fun s hs => if_pos (by have := mem_range.mp hs; have := (mem_Ico.mp ht).1; omega)
  have hcol : ∀ t ∈ Ico e M, ∑ u ∈ range M, (if t ≤ u then h.D u t else 0)
      = ∑ u ∈ Ico e M, (if t ≤ u then h.D u t else 0) := by
    intro t ht
    rw [range_eq_Ico, ← sum_Ico_consecutive _ (Nat.zero_le e) he, ← range_eq_Ico,
      sum_eq_zero (s := range e) fun u hu => if_neg (by have := mem_range.mp hu; have := (mem_Ico.mp ht).1; omega), zero_add]
  simp only [dA, span]
  rw [sum_sub_distrib, sum_congr rfl hrow, sum_congr rfl hcol, sum_add_distrib,
    sum_comm (s := Ico e M) (t := Ico e M) (f := fun t s => if s ≤ t then h.D t s else 0)]
  ring

/-- The chunk's gradient of its running sum at `b + i`, as the chunk computes it, is `dA`, and at the chunk's last
    position also carries what spans the chunk's end. -/
theorem dlam_eq {M b Q i : ℕ} (hi : i < Q) (hM : b + Q ≤ M) :
    (∑ j ∈ range Q, (if j ≤ i then h.D (b + i) (b + j) else 0)
      + ∑ p, h.y (b + i) p * ((∑ n, h.C (b + i) n * h.past b p n) * Real.exp (h.lam b i))
      - Real.exp (h.lam b (Q - 1) - h.lam b i) * h.τ (b + i)
        * ∑ p, h.x (b + i) p * ∑ n, h.B (b + i) n * h.future M (b + Q) p n)
      - ∑ u ∈ range Q, (if i ≤ u then h.D (b + u) (b + i) else 0)
    = h.dA M (b + i) := by
  rw [h.row_eq hi hM, h.after_eq hi, dA, sum_from (fun t => h.D t (b + i)) hM, sum_after _ hi]
  ring

/-- What spans the chunk's end, as the chunk computes it. -/
theorem last_eq {M b Q : ℕ} (hQ : 0 < Q) :
    ∑ j ∈ range Q, Real.exp (h.lam b (Q - 1) - h.lam b j) * h.τ (b + j)
        * ∑ p, h.x (b + j) p * ∑ n, h.B (b + j) n * h.future M (b + Q) p n
      + Real.exp (h.lam b (Q - 1)) * ∑ p, ∑ n, h.future M (b + Q) p n * h.past b p n
    = h.span M (b + Q) := by
  rw [sum_congr rfl fun j hj => h.after_eq (M := M) (b := b) (mem_range.mp hj), h.exp_last b Q hQ, h.across_eq M b (b + Q),
    sum_comm, ← sum_add_distrib, span]
  exact sum_congr rfl fun t _ => by rw [sum_range_add, add_comm]

/-- Summed from a position of the chunk to the chunk's end, with what spans the end added at the last position, the
    chunk's gradients are the gradients summed to the end of the sequence. -/
theorem suffix_eq {M b Q i : ℕ} (hi : i < Q) (hM : b + Q ≤ M) :
    ∑ k ∈ range Q, (if i ≤ k then h.dA M (b + k) + (if k = Q - 1 then h.span M (b + Q) else 0) else 0)
      = ∑ t ∈ range M, (if b + i ≤ t then h.dA M t else 0) := by
  have hsplit : ∀ k ∈ range Q, (if i ≤ k then h.dA M (b + k) + (if k = Q - 1 then h.span M (b + Q) else 0) else 0)
      = (if i ≤ k then h.dA M (b + k) else 0) + (if k = Q - 1 then h.span M (b + Q) else 0) := by
    intro k hk
    have := mem_range.mp hk
    by_cases h1 : i ≤ k
    · simp [h1]
    · have : k ≠ Q - 1 := by omega
      simp [h1, this]
  rw [sum_congr rfl hsplit, sum_add_distrib, sum_ite_eq' (range Q) (Q - 1) fun _ => h.span M (b + Q),
    if_pos (mem_range.mpr (by omega)), sum_from (h.dA M) hM, sum_after _ hi, ← h.sum_dA hM]

/-! ### The gradients of the step size and of the group's vectors -/

/-- The gradient of the step size at `b + j`, but for what comes through the log-decay. -/
theorem dtau_eq {M b Q j : ℕ} (hj : j < Q) (hM : b + Q ≤ M) :
    ∑ i ∈ range Q, (if j ≤ i then h.dW (b + i) (b + j) * h.cb (b + i) (b + j) * h.L (b + i) (b + j) else 0)
      + Real.exp (h.lam b (Q - 1) - h.lam b j)
        * ∑ p, h.x (b + j) p * ∑ n, h.B (b + j) n * h.future M (b + Q) p n
    = ∑ t ∈ range M, (if b + j ≤ t then h.dW t (b + j) * h.cb t (b + j) * h.L t (b + j) else 0) := by
  rw [h.after_eq' hj, sum_from (fun t => h.dW t (b + j) * h.cb t (b + j) * h.L t (b + j)) hM, sum_after _ hj]

/-- One head's part of the gradient of `C`. -/
theorem dC_eq {M b Q i : ℕ} (hi : i < Q) (hM : b + Q ≤ M) (n : Fin N) :
    ∑ j ∈ range Q, (if j ≤ i then h.dW (b + i) (b + j) * h.L (b + i) (b + j) * h.τ (b + j) * h.B (b + j) n else 0)
      + Real.exp (h.lam b i) * ∑ p, h.y (b + i) p * h.past b p n
    = ∑ s ∈ range M, (if s ≤ b + i then h.dW (b + i) s * h.L (b + i) s * h.τ s * h.B s n else 0) := by
  rw [sum_upto (fun s => h.dW (b + i) s * h.L (b + i) s * h.τ s * h.B s n) hi hM, add_comm, past_y, mul_sum]
  congr 1
  refine sum_congr rfl fun s _ => ?_
  rw [L, ← exp_join h.δ b (s + 1) (b + i + 1), h.exp_lam]; ring

/-- One head's part of the gradient of `B`. -/
theorem dB_eq {M b Q j : ℕ} (hj : j < Q) (hM : b + Q ≤ M) (n : Fin N) :
    ∑ i ∈ range Q, (if j ≤ i then h.dW (b + i) (b + j) * h.L (b + i) (b + j) * h.τ (b + j) * h.C (b + i) n else 0)
      + ∑ p, h.x (b + j) p * (Real.exp (h.lam b (Q - 1) - h.lam b j) * h.τ (b + j)) * h.future M (b + Q) p n
    = ∑ t ∈ range M, (if b + j ≤ t then h.dW t (b + j) * h.L t (b + j) * h.τ (b + j) * h.C t n else 0) := by
  rw [sum_from (fun t => h.dW t (b + j) * h.L t (b + j) * h.τ (b + j) * h.C t n) hM, sum_after _ hj]
  congr 1
  have : ∑ p, h.x (b + j) p * (Real.exp (h.lam b (Q - 1) - h.lam b j) * h.τ (b + j)) * h.future M (b + Q) p n
      = Real.exp (h.lam b (Q - 1) - h.lam b j) * h.τ (b + j) * ∑ p, h.x (b + j) p * h.future M (b + Q) p n := by
    rw [mul_sum]; exact sum_congr rfl fun p _ => by ring
  rw [this, future_x, h.exp_last_sub b Q j (by omega), mul_sum]
  refine sum_congr rfl fun t _ => ?_
  rw [L, ← exp_join h.δ (b + Q) (b + j + 1) (t + 1)]; ring

end Head

end Scan

end
-- ==== Proof.Common.lean ====
/-
  What both programs read: the four arguments as real numbers, the head of the scan they describe, and the few
  host operations (running sum along the sequence, padding, softplus) read at an index.
-/
module

public import proofs.«01_k».proof.Proof.Scan
public import Idealize.ShloMosaic.PureOps.Ideal.Laws
public import Idealize.ShloMosaic.Lib.ValueIdx
public import Idealize.ShloMosaic.Lib.WordCmp

@[expose] public section

noncomputable section

namespace Ssd

open Finset Idealize.ShloMosaic Idealize.ShloMosaic.ValueIdx Scan

/-- `log (1 + exp z)`, written the way that does not overflow. -/
def softplus (z : ℝ) : ℝ := max z 0 + Real.log (1 + Real.exp (-|z|))

theorem softplus_nonneg (z : ℝ) : 0 ≤ softplus z :=
  add_nonneg (le_max_right _ _) (Real.log_nonneg (by have := Real.exp_pos (-|z|); linarith))

/-- The arguments as real numbers, by row and column. -/
structure Data where
  act : ℕ → ℕ → ℝ
  raw : ℕ → ℕ → ℝ
  alog : ℕ → ℝ
  dy : ℕ → ℕ → ℝ

namespace Data
variable (d : Data)

/-- The step size of head `h` at position `t`. -/
def dt (h t : ℕ) : ℝ := softplus (d.raw t h)
/-- The decay rate of head `h`. -/
def a (h : ℕ) : ℝ := -Real.exp (d.alog h)

theorem a_nonpos (h : ℕ) : d.a h ≤ 0 := neg_nonpos.mpr (Real.exp_pos _).le

/-- Head `r` of group `g`: 64 columns of the input, the 128 columns of the group's `B` and `C`. -/
def head (g r : ℕ) : Head 64 128 where
  τ t := d.dt (4 * g + r) t
  δ t := d.dt (4 * g + r) t * d.a (4 * g + r)
  x t p := d.act t (64 * (4 * g + r) + p.val)
  y t p := d.dy t (64 * (4 * g + r) + p.val)
  B t n := d.act t (2048 + 128 * g + n.val)
  C t n := d.act t (3072 + 128 * g + n.val)

theorem head_δ_nonpos (g r t : ℕ) : (d.head g r).δ t ≤ 0 :=
  mul_nonpos_of_nonneg_of_nonpos (softplus_nonneg _) (d.a_nonpos _)

end Data

/-- A finite sum of real numbers, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

theorem coe_ite (p : Prop) [Decidable p] (x y : ℝ) :
    (if p then (x : EReal) else (y : EReal)) = ((if p then x else y : ℝ) : EReal) := by split_ifs <;> rfl

theorem coe_max (x y : ℝ) : max (x : EReal) (y : EReal) = ((max x y : ℝ) : EReal) :=
  (Monotone.map_max (f := Real.toEReal) EReal.coe_strictMono.monotone).symm

theorem coe_min (x y : ℝ) : min (x : EReal) (y : EReal) = ((min x y : ℝ) : EReal) :=
  (Monotone.map_min (f := Real.toEReal) EReal.coe_strictMono.monotone).symm

/-- A choice by a decided bit. -/
theorem select_ofBool {α : Type} (p : Prop) [Decidable p] (x y : α) :
    Scalar.select (BitVec.ofBool (decide p)) x y = if p then x else y := by
  by_cases h : p <;> simp [h, Scalar.select]

/-- A choice by "not below" of two small numbers. -/
theorem select_sge {α : Type} {a b : ℕ} (ha : a < 2 ^ 31) (hb : b < 2 ^ 31) (x y : α) :
    Scalar.select (IntOp.cmpi .sge (BitVec.ofNat 32 a) (BitVec.ofNat 32 b)) x y = if b ≤ a then x else y := by
  rw [WordCmp.cmpi_sge_ofNat ha hb, select_ofBool]

theorem ofBits_ninf : Ideal.ofBits .f32 0xFF800000#32 = ⊥ := by simp [Ideal.ofBits, Ideal.ieee]

/-- The exponential of a masked exponent is the masked exponential. -/
theorem exp_mask (p : Prop) [Decidable p] (x : ℝ) :
    Ideal.exp (if p then (x : EReal) else ⊥) = ((if p then Real.exp x else 0 : ℝ) : EReal) := by
  split_ifs <;> simp

/-- Softplus as the host writes it. -/
theorem softplus_host (z : ℝ) :
    Scalar.select (Ideal.cmp .une ((z : EReal) - 0) ((z : EReal) - 0)) ((z : EReal) + 0)
        (max (z : EReal) 0 + Ideal.log1p (Ideal.exp (-(max ((z : EReal) - 0) (-((z : EReal) - 0))))))
      = (softplus z : EReal) := by
  have h : max (z : EReal) (-(z : EReal)) = ((|z| : ℝ) : EReal) := by
    rw [← EReal.coe_neg, coe_max]; rfl
  rw [Ideal.cmp]
  simp only [ne_eq, not_true_eq_false, sub_zero]
  rw [select_ofBool, if_neg (by simp), h, ← EReal.coe_neg, Ideal.exp_coe, Ideal.log1p, ← EReal.coe_one, ← EReal.coe_add,
    Ideal.log_coe, if_neg (by have := Real.exp_pos (-|z|); linarith), ← EReal.coe_zero, coe_max, ← EReal.coe_add]
  rfl

/-- The four arguments hold the data. -/
structure Reads (d : Data) (x0 : (⟨2, ![4096, 4096]⟩ : Shape).Idx → EReal) (x1 : (⟨2, ![4096, 32]⟩ : Shape).Idx → EReal)
    (x2 : (⟨1, ![32]⟩ : Shape).Idx → EReal) (x3 : (⟨2, ![4096, 2048]⟩ : Shape).Idx → EReal) : Prop where
  act : ∀ i, x0 i = (d.act (i 0).val (i 1).val : EReal)
  raw : ∀ i, x1 i = (d.raw (i 0).val (i 1).val : EReal)
  alog : ∀ i, x2 i = (d.alog (i 0).val : EReal)
  dy : ∀ i, x3 i = (d.dy (i 0).val (i 1).val : EReal)

/-- A folded sum is the start plus the sum. -/
theorem foldl_add {α M : Type*} [AddCommMonoid M] (l : List α) (f : α → M) (v : M) :
    l.foldl (fun r n => r + f n) v = v + (l.map f).sum := by
  induction l generalizing v with
  | nil => simp
  | cons a l ih => rw [List.foldl_cons, ih, List.map_cons, List.sum_cons, add_assoc]

/-- A running window sum over a `4096 × 8 × 4` array along its first axis, from initial value `0`: the sum over the
    window's positions of the element there, or `0` outside. -/
theorem windowSum (lo hi : Fin 3 → ℕ) (hlo : lo 1 = 0) (hlo' : lo 2 = 0)
    (h : (⟨3, ![4096, 8, 4]⟩ : Shape).ReduceWindows ![4096, 1, 1] ![1, 1, 1] lo hi ⟨3, ![4096, 8, 4]⟩)
    (x : (⟨3, ![4096, 8, 4]⟩ : Shape).Idx → EReal) (j : (⟨3, ![4096, 8, 4]⟩ : Shape).Idx) :
    Ideal.hostReduceWindowAdd ![4096, 1, 1] ![1, 1, 1] lo hi h x 0 j
      = ∑ k : Fin 4096, if hk : lo 0 ≤ (j 0).val + k.val ∧ (j 0).val + k.val - lo 0 < 4096 then
          x (ix3 ⟨(j 0).val + k.val - lo 0, hk.2⟩ (j 1) (j 2)) else 0 := by
  unfold Ideal.hostReduceWindowAdd Host.reduceWindow
  simp only []
  rw [foldl_add, zero_add]
  rw [← Fin.sum_univ_def]
  refine (Equiv.sum_comp (Shape.rowMajor (⟨3, ![4096, 1, 1]⟩ : Shape)).symm (fun w : (⟨3, ![4096, 1, 1]⟩ : Shape).Idx =>
    if hin : ∀ a : Fin 3, lo a ≤ (j a).val * (![1, 1, 1] : Fin 3 → ℕ) a + (w a).val ∧
      (j a).val * (![1, 1, 1] : Fin 3 → ℕ) a + (w a).val - lo a < (![4096, 8, 4] : Fin 3 → ℕ) a
    then x (fun a => ⟨(j a).val * (![1, 1, 1] : Fin 3 → ℕ) a + (w a).val - lo a, (hin a).2⟩) else 0)).trans ?_
  let e : Fin 4096 ≃ (⟨3, ![4096, 1, 1]⟩ : Shape).Idx :=
    { toFun := fun k => ix3 k 0 0
      invFun := fun w => w 0
      left_inv := fun _ => rfl
      right_inv := fun w => by
        rw [eq_ix3 w]
        exact congrArg₂ (ix3 (w 0)) (Subsingleton.elim _ _) (Subsingleton.elim _ _) }
  rw [← Equiv.sum_comp e]
  refine sum_congr rfl fun k _ => ?_
  have h1 : (j 1).val < 8 := (j 1).isLt
  have h2 : (j 2).val < 4 := (j 2).isLt
  by_cases hk : lo 0 ≤ (j 0).val + k.val ∧ (j 0).val + k.val - lo 0 < 4096
  · rw [dif_pos hk, dif_pos (fun a => by
      match a with
      | ⟨0, _⟩ => show _ ≤ (j 0).val * 1 + k.val ∧ (j 0).val * 1 + k.val - lo 0 < 4096; rw [mul_one]; exact hk
      | ⟨1, _⟩ => show lo 1 ≤ (j 1).val * 1 + 0 ∧ (j 1).val * 1 + 0 - lo 1 < 8; omega
      | ⟨2, _⟩ => show lo 2 ≤ (j 2).val * 1 + 0 ∧ (j 2).val * 1 + 0 - lo 2 < 4; omega)]
    refine congrArg x (funext fun a => Fin.ext ?_)
    match a with
    | ⟨0, _⟩ => show (j 0).val * 1 + k.val - lo 0 = (j 0).val + k.val - lo 0; rw [mul_one]
    | ⟨1, _⟩ => show (j 1).val * 1 + 0 - lo 1 = (j 1).val; omega
    | ⟨2, _⟩ => show (j 2).val * 1 + 0 - lo 2 = (j 2).val; omega
  · rw [dif_neg hk, dif_neg (fun hin => hk (by have := hin 0; change lo 0 ≤ (j 0).val * 1 + k.val ∧ (j 0).val * 1 + k.val - lo 0 < 4096 at this; rwa [mul_one] at this))]

/-- A window of length `M + 1` ending at `n` holds the terms up to `n`. -/
theorem window_lo (M n : ℕ) (hn : n < M + 1) (f : ℕ → ℝ) :
    ∑ k ∈ range (M + 1), (if M ≤ n + k then f (n + k - M) else 0) = cum f (n + 1) := by
  rw [show M + 1 = (M - n) + (n + 1) by omega, sum_range_add, sum_eq_zero, zero_add, cum]
  · refine sum_congr rfl fun k _ => ?_
    rw [if_pos (by omega)]; congr 1; omega
  · intro k hk; have := mem_range.mp hk; rw [if_neg (by omega)]

/-- A window of length `M` starting at `n` holds the terms from `n` on. -/
theorem window_hi (M n : ℕ) (hn : n < M) (f : ℕ → ℝ) :
    ∑ k ∈ range M, (if n + k < M then f (n + k) else 0) = ∑ t ∈ range M, (if n ≤ t then f t else 0) := by
  have l : ∑ k ∈ range M, (if n + k < M then f (n + k) else 0) = ∑ k ∈ range (M - n), f (n + k) := by
    rw [← sum_range_add_sum_Ico _ (show M - n ≤ M by omega),
      sum_eq_zero (s := Ico (M - n) M) fun k hk => if_neg (by have := (mem_Ico.mp hk).1; omega), add_zero]
    exact sum_congr rfl fun k hk => if_pos (by have := mem_range.mp hk; omega)
  have r : ∑ t ∈ range M, (if n ≤ t then f t else 0) = ∑ k ∈ range (M - n), f (n + k) := by
    rw [← sum_range_add_sum_Ico _ (show n ≤ M by omega),
      sum_eq_zero (s := range n) fun k hk => if_neg (by have := mem_range.mp hk; omega), zero_add,
      sum_Ico_eq_sum_range]
    exact sum_congr rfl fun k _ => if_pos (by omega)
  exact l.trans r.symm

/-- The running sum along the sequence of an array of real numbers. -/
theorem cumsum_apply (lo hi : Fin 3 → ℕ) (h0 : lo 0 = 4095) (h1 : lo 1 = 0) (h2 : lo 2 = 0)
    (h : (⟨3, ![4096, 8, 4]⟩ : Shape).ReduceWindows ![4096, 1, 1] ![1, 1, 1] lo hi ⟨3, ![4096, 8, 4]⟩)
    (x : (⟨3, ![4096, 8, 4]⟩ : Shape).Idx → EReal) (f : ℕ → ℕ → ℕ → ℝ)
    (hx : ∀ i, x i = (f (i 0).val (i 1).val (i 2).val : EReal)) (j : (⟨3, ![4096, 8, 4]⟩ : Shape).Idx) :
    Ideal.hostReduceWindowAdd ![4096, 1, 1] ![1, 1, 1] lo hi h x 0 j
      = ((cum (fun t => f t (j 1).val (j 2).val) ((j 0).val + 1) : ℝ) : EReal) := by
  rw [windowSum lo hi h1 h2]
  have hj : (j 0).val < 4096 := (j 0).isLt
  simp only [hx, h0]
  have e : ∀ k : Fin 4096, (if hk : 4095 ≤ (j 0).val + k.val ∧ (j 0).val + k.val - 4095 < 4096 then
      ((f ((j 0).val + k.val - 4095) (j 1).val (j 2).val : ℝ) : EReal) else 0)
      = ((if 4095 ≤ (j 0).val + k.val then f ((j 0).val + k.val - 4095) (j 1).val (j 2).val else 0 : ℝ) : EReal) := by
    intro k
    have := k.isLt
    by_cases hk : 4095 ≤ (j 0).val + k.val
    · rw [dif_pos ⟨hk, by omega⟩, if_pos hk]
    · rw [dif_neg (fun h => hk h.1), if_neg hk]; rfl
  rw [show (∑ k : Fin 4096, _) = ∑ k : Fin 4096, _ from sum_congr rfl fun k _ => e k, ← coe_sum]
  congr 1
  rw [← Finset.sum_range (fun k => if 4095 ≤ (j 0).val + k then f ((j 0).val + k - 4095) (j 1).val (j 2).val else 0)]
  exact window_lo _ _ hj (fun t => f t (j 1).val (j 2).val)

/-- The running sum from the end. -/
theorem revcumsum_apply (lo hi : Fin 3 → ℕ) (h0 : lo 0 = 0) (h1 : lo 1 = 0) (h2 : lo 2 = 0)
    (h : (⟨3, ![4096, 8, 4]⟩ : Shape).ReduceWindows ![4096, 1, 1] ![1, 1, 1] lo hi ⟨3, ![4096, 8, 4]⟩)
    (x : (⟨3, ![4096, 8, 4]⟩ : Shape).Idx → EReal) (f : ℕ → ℕ → ℕ → ℝ)
    (hx : ∀ i, x i = (f (i 0).val (i 1).val (i 2).val : EReal)) (j : (⟨3, ![4096, 8, 4]⟩ : Shape).Idx) :
    Ideal.hostReduceWindowAdd ![4096, 1, 1] ![1, 1, 1] lo hi h x 0 j
      = ((∑ t ∈ range 4096, (if (j 0).val ≤ t then f t (j 1).val (j 2).val else 0) : ℝ) : EReal) := by
  rw [windowSum lo hi h1 h2]
  have hj : (j 0).val < 4096 := (j 0).isLt
  simp only [hx, h0]
  have e : ∀ k : Fin 4096, (if hk : 0 ≤ (j 0).val + k.val ∧ (j 0).val + k.val - 0 < 4096 then
      ((f ((j 0).val + k.val - 0) (j 1).val (j 2).val : ℝ) : EReal) else 0)
      = ((if (j 0).val + k.val < 4096 then f ((j 0).val + k.val) (j 1).val (j 2).val else 0 : ℝ) : EReal) := by
    intro k
    by_cases hk : (j 0).val + k.val < 4096
    · rw [dif_pos ⟨by omega, by omega⟩, if_pos hk]; rfl
    · rw [dif_neg (fun h => hk (by omega)), if_neg hk]; rfl
  rw [show (∑ k : Fin 4096, _) = ∑ k : Fin 4096, _ from sum_congr rfl fun k _ => e k, ← coe_sum]
  refine congrArg Real.toEReal ?_
  rw [← Finset.sum_range (fun k => if (j 0).val + k < 4096 then f ((j 0).val + k) (j 1).val (j 2).val else 0)]
  exact window_hi 4096 (j 0).val hj (fun t => f t (j 1).val (j 2).val)

end Ssd
-- ==== Proof.Finite.lean ====
/-
  The precondition read: every entry of the four arguments is a real number.
-/
module

public import proofs.«01_k».proof.Pre_inputs_finite
public import proofs.«01_k».proof.Proof.Common
public import Idealize.ShloMosaic.Lib.ReduceAll
public import Idealize.ShloMosaic.Lib.Pointwise

@[expose] public section

set_option maxRecDepth 16384

noncomputable section

namespace Ssd

open Idealize.ShloMosaic Cert.Pre_inputs_finite

theorem foldl_max {ι : Type} (f : ι → EReal) : ∀ (l : List ι) (b : EReal), l.foldl (fun r n => max r (f n)) b < ⊤ → ∀ n ∈ l, f n < ⊤
  | [], _, _, _, hn => nomatch hn
  | a :: l, b, h, n, hn => by
    have hb : ∀ (l : List ι) (b : EReal), l.foldl (fun r n => max r (f n)) b < ⊤ → b < ⊤ := fun l => by
      induction l with
      | nil => exact fun b h => h
      | cons a l ih => exact fun b h => lt_of_le_of_lt (le_max_left _ _) (ih _ h)
    rcases List.mem_cons.mp hn with e | e
    · exact e ▸ lt_of_le_of_lt (le_max_right _ _) (hb _ _ h)
    · exact foldl_max f l _ h n e

/-- An array whose greatest magnitude is below infinity holds real numbers. -/
theorem real_of_max {s u : Shape} {axes : List (Fin s.rank)} {t : Shape} [Subsingleton t.Idx] (x : FVec Ideal s .f32)
    (b : u.Idx → Ideal .f32) (hr : s.ReducesTo axes t) (hu : 0 < u.numel) (j : t.Idx)
    (h : Host.reduce FloatOps.maximumf (Host.absf x) b hr hu j < (⊤ : EReal)) (i : s.Idx) : x i = ((x i : EReal).toReal : EReal) := by
  rw [Host.reduce_eq_foldl] at h
  have hi : max (x i : EReal) (-(x i : EReal)) < ⊤ := by
    refine foldl_max (fun n => max (x n : EReal) (-(x n : EReal))) _ _ h i ?_
    rw [List.mem_filter]
    exact ⟨List.mem_map.2 ⟨s.rowMajor i, List.mem_finRange _, Equiv.symm_apply_apply _ _⟩, by simp [Subsingleton.elim (hr.drop i) j]⟩
  rw [max_lt_iff] at hi
  refine (EReal.coe_toReal hi.1.ne fun e => ?_).symm
  rw [e] at hi
  exact absurd hi.2 (by simp)

theorem ofBits_infinity : Ideal.ofBits .f32 0x7F800000#32 = ⊤ := by simp [Ideal.ofBits, Ideal.ieee]

theorem and_one {a b : BitVec 1} (h : IntOp.andi a b = 1#1) : a = 1#1 ∧ b = 1#1 := IntOp.andi_eq_one.1 h

/-- A number compared below infinity is below it. -/
theorem below_infinity {a : EReal} (h : Ideal.cmp .olt a (Ideal.ofBits .f32 0x7F800000#32) = 1#1) : a < ⊤ := by
  rw [ofBits_infinity] at h
  unfold Ideal.cmp at h
  by_contra hn
  simp [hn] at h

theorem below {s : Shape} {y : FVec Ideal s .f32} {j : s.Idx} (h : cmpf .olt y (constant s .f32 0x7F800000#32) j = 1#1) :
    y j < (⊤ : EReal) := below_infinity h

/-- The real numbers that four arrays of finite entries hold. -/
def dataOf (x0 : (⟨2, ![4096, 4096]⟩ : Shape).Idx → EReal) (x1 : (⟨2, ![4096, 32]⟩ : Shape).Idx → EReal)
    (x2 : (⟨1, ![32]⟩ : Shape).Idx → EReal) (x3 : (⟨2, ![4096, 2048]⟩ : Shape).Idx → EReal) : Data where
  act i j := if h : i < 4096 ∧ j < 4096 then (x0 (ix2 (⟨i, h.1⟩ : Fin 4096) (⟨j, h.2⟩ : Fin 4096))).toReal else 0
  raw i j := if h : i < 4096 ∧ j < 32 then (x1 (ix2 (⟨i, h.1⟩ : Fin 4096) (⟨j, h.2⟩ : Fin 32))).toReal else 0
  alog i := if h : i < 32 then (x2 (ix1 (⟨i, h⟩ : Fin 32))).toReal else 0
  dy i j := if h : i < 4096 ∧ j < 2048 then (x3 (ix2 (⟨i, h.1⟩ : Fin 4096) (⟨j, h.2⟩ : Fin 2048))).toReal else 0

/-- Equal arrays hold the same real numbers. -/
theorem Reads.congr {d : Data} {x0 y0 : (⟨2, ![4096, 4096]⟩ : Shape).Idx → EReal} {x1 y1 : (⟨2, ![4096, 32]⟩ : Shape).Idx → EReal}
    {x2 y2 : (⟨1, ![32]⟩ : Shape).Idx → EReal} {x3 y3 : (⟨2, ![4096, 2048]⟩ : Shape).Idx → EReal} (h : Reads d x0 x1 x2 x3)
    (e0 : y0 = x0) (e1 : y1 = x1) (e2 : y2 = x2) (e3 : y3 = x3) : Reads d y0 y1 y2 y3 := by
  subst e0 e1 e2 e3
  exact h

instance : Subsingleton S_.Idx := inferInstanceAs (Subsingleton (∀ _ : Fin 0, _))

variable [Facts]

/-- Under the precondition the four arguments hold real numbers. -/
theorem reads_of_finite (x0 : FVec Ideal S4096x4096 .f32) (x1 : FVec Ideal S4096x32 .f32) (x2 : FVec Ideal S32 .f32)
    (x3 : FVec Ideal S4096x2048 .f32) (h : fn (F := Ideal) x0 x1 x2 x3 = fun _ => 1#1) :
    Reads (dataOf x0 x1 x2 x3) x0 x1 x2 x3 := by
  have h' := congrFun h ix0
  dsimp only [fn] at h'
  obtain ⟨h012, h3⟩ := and_one h'
  obtain ⟨h01, h2⟩ := and_one h012
  obtain ⟨h0, h1⟩ := and_one h01
  refine ⟨fun i => ?_, fun i => ?_, fun i => ?_, fun i => ?_⟩
  · have a0 : (i 0).val < 4096 := (i 0).isLt
    have a1 : (i 1).val < 4096 := (i 1).isLt
    have e : (dataOf x0 x1 x2 x3).act (i 0).val (i 1).val = (x0 (ix2 (⟨(i 0).val, a0⟩ : Fin 4096) (⟨(i 1).val, a1⟩ : Fin 4096))).toReal :=
      dif_pos ⟨a0, a1⟩
    rw [e]
    exact (real_of_max x0 _ _ _ ix0 (below h0) i).trans (congrArg (fun j => (EReal.toReal (x0 j) : EReal)) (eq_ix2 i))
  · have a0 : (i 0).val < 4096 := (i 0).isLt
    have a1 : (i 1).val < 32 := (i 1).isLt
    have e : (dataOf x0 x1 x2 x3).raw (i 0).val (i 1).val = (x1 (ix2 (⟨(i 0).val, a0⟩ : Fin 4096) (⟨(i 1).val, a1⟩ : Fin 32))).toReal :=
      dif_pos ⟨a0, a1⟩
    rw [e]
    exact (real_of_max x1 _ _ _ ix0 (below h1) i).trans (congrArg (fun j => (EReal.toReal (x1 j) : EReal)) (eq_ix2 i))
  · have a0 : (i 0).val < 32 := (i 0).isLt
    have e : (dataOf x0 x1 x2 x3).alog (i 0).val = (x2 (ix1 (⟨(i 0).val, a0⟩ : Fin 32))).toReal := dif_pos a0
    rw [e]
    exact (real_of_max x2 _ _ _ ix0 (below h2) i).trans (congrArg (fun j => (EReal.toReal (x2 j) : EReal)) (eq_ix1 i))
  · have a0 : (i 0).val < 4096 := (i 0).isLt
    have a1 : (i 1).val < 2048 := (i 1).isLt
    have e : (dataOf x0 x1 x2 x3).dy (i 0).val (i 1).val = (x3 (ix2 (⟨(i 0).val, a0⟩ : Fin 4096) (⟨(i 1).val, a1⟩ : Fin 2048))).toReal :=
      dif_pos ⟨a0, a1⟩
    rw [e]
    exact (real_of_max x3 _ _ _ ix0 (below h3) i).trans (congrArg (fun j => (EReal.toReal (x3 j) : EReal)) (eq_ix2 i))

end Ssd
-- ==== Proof.Host.lean ====
/-
  What the kernel program's host lines hand to the call: the sequences of the heads, and the state before each chunk.
-/
module

public import proofs.«01_k».proof.Proof.Common
public import proofs.«01_k».proof.Proof.Gen.KernelIdeal.Frame
public import Idealize.ShloMosaic.Lib.Pointwise
public import Idealize.ShloMosaic.Lib.StableHlo.ReadAt

@[expose] public section

noncomputable section

namespace Ssd.Host

open Finset Idealize.ShloMosaic Idealize.ShloMosaic.TcCoe Scan
open Cert.KernelIdeal Cert.KernelIdeal.Gen

/-- An array of extended reals of a shape. -/
abbrev Arr (s : Shape) : Type := FVec Ideal s .f32

/-- A zero in every entry. -/
def zeros : Arr S4096x32 := broadcastInDim S4096x32 ![] bcast_S_S4096x32 (constant S_ .f32 0x00000000#32)

/-- The step sizes, position by head. -/
def dts (x1 : Arr S4096x32) : Arr S4096x32 :=
  select (cmpf .une (subf x1 zeros) (subf x1 zeros)) (addf x1 zeros)
    (addf (maximumf x1 zeros) (Host.log1p (Host.exp (Host.negf (Host.absf (subf x1 zeros))))))

/-- The step sizes, the heads split in groups. -/
def dts3 (x1 : Arr S4096x32) : Arr S4096x8x4 := shapeCast S4096x8x4 (dts x1) shapeCasts_S4096x32_S4096x8x4

/-- The decay rates. -/
def rates (x2 : Arr S32) : Arr S8x4 := Host.negf (shapeCast S8x4 (Host.exp x2) shapeCasts_S32_S8x4)

/-- Step size times decay rate. -/
def rateDt (x1 : Arr S4096x32) (x2 : Arr S32) : Arr S4096x8x4 :=
  mulf (dts3 x1) (broadcastInDim S4096x8x4 ![0, 1, 2] bcast_S1x8x4_S4096x8x4_0_1_2
    (broadcastInDim S1x8x4 ![1, 2] bcast_S8x4_S1x8x4_1_2 (rates x2)))

/-- The running sums of those. -/
def cums (x1 : Arr S4096x32) (x2 : Arr S32) : Arr S4096x8x4 :=
  Host.reduceWindowAdd ![4096, 1, 1] ![1, 1, 1] ![4095, 0, 0] ![0, 0, 0] (rateDt x1 x2)
    (broadcastInDim S_ ![] bcast_S_S_ (constant S_ .f32 0x00000000#32))
    reduceWindows_S4096x8x4_S4096x8x4_w4096s1p4095_0_w1s1p0_0_w1s1p0_0 h_S_

/-- The running sum before each chunk. -/
def starts (x1 : Arr S4096x32) (x2 : Arr S32) : Arr S32x8x4 :=
  concatenate S32x8x4 0 [⟨S1x8x4, broadcastInDim S1x8x4 ![] bcast_S_S1x8x4 (constant S_ .f32 0x00000000#32)⟩,
    ⟨S31x8x4, Host.slice S31x8x4 ![127, 0, 0] ![128, 1, 1] (cums x1 x2) slicesBy_S4096x8x4_S31x8x4_127s128_0s1_0s1⟩]
    concatenates_S1x8x4_S31x8x4_S32x8x4_d0

/-- Whether a position lies before a chunk. -/
def before : IVec S32x4096 1 :=
  cmpi .slt
    (broadcastInDim S32x4096 ![0, 1] bcast_S1x4096_S32x4096_0_1
      (broadcastInDim S1x4096 ![1] bcast_S4096_S1x4096_1 (iotaInDim S4096 32 0)))
    (broadcastInDim S32x4096 ![0, 1] bcast_S32x1_S32x4096_0_1
      (muli (broadcastInDim S32x1 ![] bcast_S_S32x1 (constantI S_ 32 128#32))
        (broadcastInDim S32x1 ![0] bcast_S32_S32x1_0 (iotaInDim S32 32 0))))

/-- The decay from a position to the start of a later chunk. -/
def decays (x1 : Arr S4096x32) (x2 : Arr S32) : Arr S32x4096x8x4 :=
  Host.exp (select
    (broadcastInDim S32x4096x8x4 ![0, 1, 2, 3] bcast_S32x4096x1x1_S32x4096x8x4_0_1_2_3
      (broadcastInDim S32x4096x1x1 ![0, 1] bcast_S32x4096_S32x4096x1x1_0_1 before))
    (subf
      (broadcastInDim S32x4096x8x4 ![0, 1, 2, 3] bcast_S32x1x8x4_S32x4096x8x4_0_1_2_3
        (broadcastInDim S32x1x8x4 ![0, 2, 3] bcast_S32x8x4_S32x1x8x4_0_2_3 (starts x1 x2)))
      (broadcastInDim S32x4096x8x4 ![0, 1, 2, 3] bcast_S1x4096x8x4_S32x4096x8x4_0_1_2_3
        (broadcastInDim S1x4096x8x4 ![1, 2, 3] bcast_S4096x8x4_S1x4096x8x4_1_2_3 (cums x1 x2))))
    (broadcastInDim S32x4096x8x4 ![] bcast_S_S32x4096x8x4 (constant S_ .f32 0xFF800000#32)))

/-- The inputs, the heads split in groups. -/
def xs (x0 : Arr S4096x4096) : Arr S4096x8x4x64 :=
  shapeCast S4096x8x4x64 (extractStridedSlice S4096x2048 ![0, 0] x0 slices_S4096x4096_S4096x2048_0_0)
    shapeCasts_S4096x2048_S4096x8x4x64

/-- The keys. -/
def keys (x0 : Arr S4096x4096) : Arr S4096x8x128 :=
  shapeCast S4096x8x128 (extractStridedSlice S4096x1024 ![0, 2048] x0 slices_S4096x4096_S4096x1024_0_2048)
    shapeCasts_S4096x1024_S4096x8x128

/-- The inputs weighted by step size and decay. -/
def weighted (x0 : Arr S4096x4096) (x1 : Arr S4096x32) (x2 : Arr S32) : Arr S32x4096x8x4x64 :=
  mulf
    (broadcastInDim S32x4096x8x4x64 ![0, 1, 2, 3, 4] bcast_S32x4096x8x4x1_S32x4096x8x4x64_0_1_2_3_4
      (broadcastInDim S32x4096x8x4x1 ![0, 1, 2, 3] bcast_S32x4096x8x4_S32x4096x8x4x1_0_1_2_3
        (mulf (decays x1 x2)
          (broadcastInDim S32x4096x8x4 ![0, 1, 2, 3] bcast_S1x4096x8x4_S32x4096x8x4_0_1_2_3
            (broadcastInDim S1x4096x8x4 ![1, 2, 3] bcast_S4096x8x4_S1x4096x8x4_1_2_3 (dts3 x1))))))
    (broadcastInDim S32x4096x8x4x64 ![0, 1, 2, 3, 4] bcast_S1x4096x8x4x64_S32x4096x8x4x64_0_1_2_3_4
      (broadcastInDim S1x4096x8x4x64 ![1, 2, 3, 4] bcast_S4096x8x4x64_S1x4096x8x4x64_1_2_3_4 (xs x0)))

/-- The states, in the order in which the product leaves them. -/
def sums (x0 : Arr S4096x4096) (x1 : Arr S4096x32) (x2 : Arr S32) : Arr S8x128x32x4x64 :=
  Host.dotGeneral dot_S4096x8x128_S32x4096x8x4x64_S8x128x32x4x64_0_1_2_034_1_2 none (keys x0) (weighted x0 x1 x2)

/-- The state before each chunk. -/
def states (x0 : Arr S4096x4096) (x1 : Arr S4096x32) (x2 : Arr S32) : Arr S32x32x64x128 :=
  shapeCast S32x32x64x128 (transpose S32x8x4x64x128 [2, 0, 3, 4, 1] (sums x0 x1 x2)
    transposes_S8x128x32x4x64_S32x8x4x64x128_2_0_3_4_1) shapeCasts_S32x8x4x64x128_S32x32x64x128

/-- The inputs, head by head. -/
def xHeads (x0 : Arr S4096x4096) : Arr S32x4096x64 :=
  transpose S32x4096x64 [1, 0, 2] (shapeCast S4096x32x64
    (extractStridedSlice S4096x2048 ![0, 0] x0 slices_S4096x4096_S4096x2048_0_0) shapeCasts_S4096x2048_S4096x32x64)
    transposes_S4096x32x64_S32x4096x64_1_0_2

/-- The gradient of the output, head by head. -/
def yHeads (x3 : Arr S4096x2048) : Arr S32x4096x64 :=
  transpose S32x4096x64 [1, 0, 2] (shapeCast S4096x32x64 x3 shapeCasts_S4096x2048_S4096x32x64)
    transposes_S4096x32x64_S32x4096x64_1_0_2

/-- The step sizes, group by head by position, four empty heads added to each group. -/
def dtRows (x1 : Arr S4096x32) : Arr S8x8x4096 :=
  pad S8x8x4096 ![0, 0, 0] ![0, 4, 0] ![0, 0, 0]
    (shapeCast S8x4x4096 (transpose S32x4096 [1, 0] (dts x1) transposes_S4096x32_S32x4096_1_0) shapeCasts_S32x4096_S8x4x4096)
    (sitofp .f32 (constantI S_ 32 0#32)) pads_S8x4x4096_S8x8x4096_000_040_000 h_S_

/-- The decay rates, repeated along a chunk, four empty heads added to each group. -/
def rateRows (x2 : Arr S32) : Arr S8x8x128 :=
  broadcastInDim S8x8x128 ![0, 1, 2] bcast_S8x8x1_S8x8x128_0_1_2
    (pad S8x8x1 ![0, 0, 0] ![0, 4, 0] ![0, 0, 0]
      (Host.negf (shapeCast S8x4x1 (Host.exp x2) shapeCasts_S32_S8x4x1))
      (sitofp .f32 (constantI S_ 32 0#32)) pads_S8x4x1_S8x8x1_000_040_000 h_S_)

section Entry

variable (m : (ℓ : Loc nD τ sig) → Buf (Elt Ideal) ℓ) (c : Dev nD)

theorem V_x : V m c main_v46 = xHeads (m (c, Proc.tc.devRef main_arg0)) := by
  simp only [V, hostOps0, hostOps0_1, hostOps0_2, hostOps0_3, hostOps0_4, hostOps0_5, hostOps0_6, hostOps0_7, hostOps0_8,
    hostOps0_9, List.flatten_cons, List.flatten_nil, List.cons_append, List.nil_append, List.append_nil]
  after_reads_simp
  try simp -implicitDefEqProofs only [StableHlo.TRef.toBuf, StableHlo.TRef.ofBuf, cast_cast, cast_eq]
  clean_types
  rfl

theorem V_y : V m c main_v56 = yHeads (m (c, Proc.tc.devRef main_arg3)) := by
  simp only [V, hostOps0, hostOps0_1, hostOps0_2, hostOps0_3, hostOps0_4, hostOps0_5, hostOps0_6, hostOps0_7, hostOps0_8,
    hostOps0_9, List.flatten_cons, List.flatten_nil, List.cons_append, List.nil_append, List.append_nil]
  after_reads_simp
  try simp -implicitDefEqProofs only [StableHlo.TRef.toBuf, StableHlo.TRef.ofBuf, cast_cast, cast_eq]
  clean_types
  rfl

theorem V_dt : V m c main_v49 = dtRows (m (c, Proc.tc.devRef main_arg1)) := by
  simp only [V, hostOps0, hostOps0_1, hostOps0_2, hostOps0_3, hostOps0_4, hostOps0_5, hostOps0_6, hostOps0_7, hostOps0_8,
    hostOps0_9, List.flatten_cons, List.flatten_nil, List.cons_append, List.nil_append, List.append_nil]
  after_reads_simp
  try simp -implicitDefEqProofs only [StableHlo.TRef.toBuf, StableHlo.TRef.ofBuf, cast_cast, cast_eq]
  clean_types
  rfl

theorem V_rate : V m c main_v54 = rateRows (m (c, Proc.tc.devRef main_arg2)) := by
  simp only [V, hostOps0, hostOps0_1, hostOps0_2, hostOps0_3, hostOps0_4, hostOps0_5, hostOps0_6, hostOps0_7, hostOps0_8,
    hostOps0_9, List.flatten_cons, List.flatten_nil, List.cons_append, List.nil_append, List.append_nil]
  after_reads_simp
  try simp -implicitDefEqProofs only [StableHlo.TRef.toBuf, StableHlo.TRef.ofBuf, cast_cast, cast_eq]
  clean_types
  rfl

theorem V_states : V m c main_v43 = states (m (c, Proc.tc.devRef main_arg0)) (m (c, Proc.tc.devRef main_arg1))
    (m (c, Proc.tc.devRef main_arg2)) := by
  simp only [V, hostOps0, hostOps0_1, hostOps0_2, hostOps0_3, hostOps0_4, hostOps0_5, hostOps0_6, hostOps0_7, hostOps0_8,
    hostOps0_9, List.flatten_cons, List.flatten_nil, List.cons_append, List.nil_append, List.append_nil]
  after_reads_simp [StableHlo.readPieces]
  try simp -implicitDefEqProofs only [StableHlo.TRef.toBuf, StableHlo.TRef.ofBuf, cast_cast, cast_eq]
  clean_types
  rfl

end Entry

end Ssd.Host
-- ==== Proof.HostVal.lean ====
/-
  What the kernel program's host lines hand to the call, as real numbers.
-/
module

public import proofs.«01_k».proof.Proof.Host

@[expose] public section

noncomputable section

namespace Ssd.Host

open Finset Idealize.ShloMosaic Idealize.ShloMosaic.TcCoe Scan
open Cert.KernelIdeal Cert.KernelIdeal.Gen

variable {d : Data} {x0 : Arr S4096x4096} {x1 : Arr S4096x32} {x2 : Arr S32} {x3 : Arr S4096x2048}

/-- The step sizes. -/
theorem dts_apply (h : Reads d x0 x1 x2 x3) (t : Fin 4096) (k : Fin 32) : dts x1 (ix2 t k) = (d.dt k.val t.val : EReal) := by
  unfold dts zeros
  pointwise
  simp only [h.raw]
  refine Eq.trans ?_ (softplus_host (d.raw t.val k.val))
  rw [Ideal.cmp, select_ofBool]
  simp only [sub_zero, add_zero]
  rfl

/-- The step sizes, split in groups. -/
theorem dts3_apply (h : Reads d x0 x1 x2 x3) (t : Fin 4096) (g : Fin 8) (r : Fin 4) :
    dts3 x1 (ix3 t g r) = ((d.head g.val r.val).τ t.val : EReal) := by
  unfold dts3
  pointwise
  exact (dts_apply h _ _).trans (congrArg (fun k : ℕ => ((d.dt k t.val : ℝ) : EReal)) (by simp only []; omega))

/-- The decay rates. -/
theorem rates_apply (h : Reads d x0 x1 x2 x3) (g : Fin 8) (r : Fin 4) :
    rates x2 (ix2 g r) = (d.a (4 * g.val + r.val) : EReal) := by
  unfold rates
  pointwise
  rw [h.alog, Ideal.exp_coe, ← EReal.coe_neg]
  show ((-Real.exp (d.alog (g.val * 4 + r.val)) : ℝ) : EReal) = _
  rw [show g.val * 4 + r.val = 4 * g.val + r.val by omega]
  rfl

/-- Step size times decay rate. -/
theorem rateDt_apply (h : Reads d x0 x1 x2 x3) (t : Fin 4096) (g : Fin 8) (r : Fin 4) :
    rateDt x1 x2 (ix3 t g r) = ((d.head g.val r.val).δ t.val : EReal) := by
  unfold rateDt
  pointwise
  rw [dts3_apply h, rates_apply h, ← EReal.coe_mul]
  rfl

/-- The running sums. -/
theorem cums_apply (h : Reads d x0 x1 x2 x3) (t : Fin 4096) (g : Fin 8) (r : Fin 4) :
    cums x1 x2 (ix3 t g r) = (cum (d.head g.val r.val).δ (t.val + 1) : EReal) := by
  unfold cums Host.reduceWindowAdd
  rw [Ideal.hostReduceWindowAdd_def]
  have e : broadcastInDim S_ ![] bcast_S_S_ (constant (F := Ideal) S_ .f32 0x00000000#32) (Shape.Idx.first h_S_) = 0 :=
    Ideal.ofBits_zero_f32
  rw [e]
  refine (cumsum_apply _ _ rfl rfl rfl _ _ (fun t g r => (d.head g r).δ t) (fun j => ?_) (ix3 t g r)).trans rfl
  rw [eq_ix3 j]
  exact rateDt_apply h (j 0) (j 1) (j 2)

/-- The running sum before each chunk. -/
theorem starts_apply (h : Reads d x0 x1 x2 x3) (k : Fin 32) (g : Fin 8) (r : Fin 4) :
    starts x1 x2 (ix3 k g r) = ((cum (d.head g.val r.val).δ (128 * k.val) : ℝ) : EReal) := by
  unfold starts
  pointwise
  by_cases hk : k.val < 1
  · rw [dif_pos hk, show 128 * k.val = 0 by omega]
    simp [cum]
  · rw [dif_neg hk, cums_apply h]
    show (cum _ (127 + 128 * (k.val - 1) + 1) : EReal) = _
    rw [show 127 + 128 * (k.val - 1) + 1 = 128 * k.val by omega]

/-- Whether a position lies before a chunk. -/
theorem before_apply (k : Fin 32) (t : Fin 4096) : before (ix2 k t) = BitVec.ofBool (decide (t.val < 128 * k.val)) := by
  unfold before
  pointwise
  have hk := k.isLt
  have ht := t.isLt
  rw [show IntOp.muli (128#32) (BitVec.ofNat 32 k.val) = BitVec.ofNat 32 (128 * k.val) from (BitVec.ofNat_mul ..).symm,
    WordCmp.cmpi_slt_ofNat (by omega) (by omega)]

/-- The decay from a position to the start of a later chunk. -/
theorem decays_apply (h : Reads d x0 x1 x2 x3) (k : Fin 32) (t : Fin 4096) (g : Fin 8) (r : Fin 4) :
    decays x1 x2 (ix4 k t g r) = ((if t.val < 128 * k.val then Real.exp (cum (d.head g.val r.val).δ (128 * k.val)
      - cum (d.head g.val r.val).δ (t.val + 1)) else 0 : ℝ) : EReal) := by
  unfold decays
  pointwise
  rw [before_apply, starts_apply h, cums_apply h, ofBits_ninf, select_ofBool, ← EReal.coe_sub]
  exact exp_mask _ _

/-- The inputs. -/
theorem xs_apply (h : Reads d x0 x1 x2 x3) (t : Fin 4096) (g : Fin 8) (r : Fin 4) (p : Fin 64) :
    xs x0 (ix4 t g r p) = ((d.head g.val r.val).x t.val p : EReal) := by
  unfold xs
  pointwise
  rw [h.act]
  refine congrArg Real.toEReal (congrArg (d.act t.val) ?_)
  show (_ : ℕ) = 64 * (4 * g.val + r.val) + p.val
  simp only [ix2]
  omega

/-- The keys. -/
theorem keys_apply (h : Reads d x0 x1 x2 x3) (t : Fin 4096) (g : Fin 8) (r : ℕ) (k : Fin 128) :
    keys x0 (ix3 t g k) = ((d.head g.val r).B t.val k : EReal) := by
  unfold keys
  pointwise
  rw [h.act]
  refine congrArg Real.toEReal (congrArg (d.act t.val) ?_)
  show (_ : ℕ) = 2048 + 128 * g.val + k.val
  simp only [ix2]
  omega

/-- The weighted inputs. -/
theorem weighted_apply (h : Reads d x0 x1 x2 x3) (k : Fin 32) (t : Fin 4096) (g : Fin 8) (r : Fin 4) (p : Fin 64) :
    weighted x0 x1 x2 (ix5 k t g r p) = ((if t.val < 128 * k.val then Real.exp (cum (d.head g.val r.val).δ (128 * k.val)
      - cum (d.head g.val r.val).δ (t.val + 1)) * (d.head g.val r.val).τ t.val * (d.head g.val r.val).x t.val p else 0 : ℝ)
      : EReal) := by
  unfold weighted
  pointwise
  rw [decays_apply h, dts3_apply h, xs_apply h, ← EReal.coe_mul, ← EReal.coe_mul]
  refine congrArg Real.toEReal ?_
  split_ifs
  · rfl
  · rw [zero_mul, zero_mul]

/-- The state before each chunk. -/
theorem states_apply (h : Reads d x0 x1 x2 x3) (k : Fin 32) (n : Fin 32) (p : Fin 64) (q : Fin 128) :
    states x0 x1 x2 (ix4 k n p q) = ((d.head (n.val / 4) (n.val % 4)).past (128 * k.val) p q : EReal) := by
  unfold states sums
  pointwise
  simp only [keys_apply h _ _ (n.val % 4), weighted_apply h, ← EReal.coe_mul, ← coe_sum]
  refine congrArg Real.toEReal ?_
  rw [Head.past, Fin.sum_univ_eq_sum_range (fun s => (d.head (n.val / 4) (n.val % 4)).B s q *
    if s < 128 * k.val then Real.exp (cum (d.head (n.val / 4) (n.val % 4)).δ (128 * k.val)
      - cum (d.head (n.val / 4) (n.val % 4)).δ (s + 1)) * (d.head (n.val / 4) (n.val % 4)).τ s
        * (d.head (n.val / 4) (n.val % 4)).x s p else 0)]
  have hk := k.isLt
  refine (sum_subset (range_subset_range.mpr (show 128 * k.val ≤ 4096 by omega)) fun s _ hs => ?_).symm.trans
    (sum_congr rfl fun s hs => ?_)
  · rw [if_neg fun hs' => hs (mem_range.mpr hs'), mul_zero]
  · rw [if_pos (mem_range.mp hs), mul_comm]

/-- The inputs of each head. -/
theorem xHeads_apply (h : Reads d x0 x1 x2 x3) (n : Fin 32) (t : Fin 4096) (p : Fin 64) :
    xHeads x0 (ix3 n t p) = ((d.head (n.val / 4) (n.val % 4)).x t.val p : EReal) := by
  unfold xHeads
  pointwise
  rw [h.act]
  refine congrArg Real.toEReal (congrArg (d.act t.val) ?_)
  show n.val * 64 + p.val = 64 * (4 * (n.val / 4) + n.val % 4) + p.val
  omega

/-- The gradient of the output of each head. -/
theorem yHeads_apply (h : Reads d x0 x1 x2 x3) (n : Fin 32) (t : Fin 4096) (p : Fin 64) :
    yHeads x3 (ix3 n t p) = ((d.head (n.val / 4) (n.val % 4)).y t.val p : EReal) := by
  unfold yHeads
  pointwise
  rw [h.dy]
  refine congrArg Real.toEReal (congrArg (d.dy t.val) ?_)
  show n.val * 64 + p.val = 64 * (4 * (n.val / 4) + n.val % 4) + p.val
  omega

theorem sitofp_zero : (FloatOps.sitofp FTy.f32 0#32 : Ideal .f32) = ((0 : ℝ) : EReal) := by
  show (((0#32 : BitVec 32).toInt : ℝ) : EReal) = _
  simp

/-- The rows of step sizes. -/
theorem dtRows_apply (h : Reads d x0 x1 x2 x3) (g : Fin 8) (r : Fin 8) (t : Fin 4096) :
    dtRows x1 (ix3 g r t) = ((if r.val < 4 then d.dt (4 * g.val + r.val) t.val else 0 : ℝ) : EReal) := by
  unfold dtRows
  pointwise
  by_cases hr : r.val < 4
  · rw [dif_pos hr, if_pos hr]
    exact (dts_apply h _ _).trans (congrArg (fun k : ℕ => ((d.dt k t.val : ℝ) : EReal)) (by simp only []; omega))
  · rw [dif_neg hr, if_neg hr, sitofp_zero]

/-- The rows of decay rates. -/
theorem rateRows_apply (h : Reads d x0 x1 x2 x3) (g : Fin 8) (r : Fin 8) (i : Fin 128) :
    rateRows x2 (ix3 g r i) = ((if r.val < 4 then d.a (4 * g.val + r.val) else 0 : ℝ) : EReal) := by
  unfold rateRows
  pointwise
  by_cases hr : r.val < 4
  · rw [dif_pos hr, if_pos hr, h.alog, Ideal.exp_coe, ← EReal.coe_neg]
    show ((-Real.exp (d.alog (g.val * 4 + r.val)) : ℝ) : EReal) = _
    rw [show g.val * 4 + r.val = 4 * g.val + r.val by omega]
    rfl
  · rw [dif_neg hr, if_neg hr, sitofp_zero]

end Ssd.Host
-- ==== Proof.Body.lean ====
/-
  One grid point of the kernel, head by head: what the body computes from the blocks of one head, as functions of the
  values it loads. The eight heads of a point (two groups of four) all compute the same functions.
-/
module

public import proofs.«01_k».proof.Proof.Gen.KernelIdeal.Skeleton

@[expose] public section

noncomputable section

namespace Ssd.Body

open Idealize.ShloMosaic Idealize.ShloMosaic.TcCoe Cert.KernelIdeal Cert.KernelIdeal.Gen

variable {F : FTy → Type} [FloatOps F]

/-- What the body loads for one head: values, output gradients, the state before the chunk, the state's gradient after
    it, the running sum of the log-decays, the step sizes, and the two projections of the head's group. -/
structure HeadIn (F : FTy → Type) where
  x : Vec F S1x128x64 .f32
  dy : Vec F S1x128x64 .f32
  h : Vec F S1x1x64x128 .f32
  dh : Vec F S1x64x128 .f32
  lam : Vec F S1x128 .f32
  dt : Vec F S1x128 .f32
  b : Vec F S128x128 .f32
  c : Vec F S128x128 .f32

def rowI : IVec S128x128 32 := iota .tc S128x128 32 [0] iota_S128x128_d0_w32
def colI : IVec S128x128 32 := iota .tc S128x128 32 [1] iota_S128x128_d1_w32
def eye : IVec S128x128 1 := cmpi .eq rowI colI
def lastLane : IVec S1x128 1 :=
  cmpi .eq (extractStridedSlice S1x128 ![0, 0] colI slices_S128x128_o0_0_S1x128) (broadcast S1x128 127#32)

/-- A row turned into a column, through the diagonal. -/
def toCol (v : FVec F S1x128 .f32) : FVec F S128x1 .f32 :=
  shapeCast S128x1 (multiReduction .add [1] S128 (select eye
    (broadcastTo S128x128 (shapeCast S1x128 v shapeCasts_S1x128_S1x128) broadcasts_S1x128_S128x128)
    (broadcast S128x128 (Scalar.ofBits .f32 0x00000000#32 : F .f32))) 0x00000000#32 reduces_S128x128_S128 (.inl rfl) rfl)
    shapeCasts_S128_S128x1

/-- A column turned into a row, through the diagonal. -/
def toRow (v : FVec F S128x1 .f32) : FVec F S1x128 .f32 :=
  shapeCast S1x128 (multiReduction .add [0] S128 (select eye
    (broadcastTo S128x128 (shapeCast S128x1 v shapeCasts_S128x1_S128x1) broadcasts_S128x1_S128x128)
    (broadcast S128x128 (Scalar.ofBits .f32 0x00000000#32 : F .f32))) 0x00000000#32 reduces_S128x128_S128_2 (.inl rfl) rfl)
    shapeCasts_S128_S1x128

def rowSum (v : FVec F S128x128 .f32) : FVec F S128x1 .f32 :=
  shapeCast S128x1 (multiReduction .add [1] S128 v 0x00000000#32 reduces_S128x128_S128 (.inl rfl) rfl) shapeCasts_S128_S128x1
def rowSum64 (v : FVec F S128x64 .f32) : FVec F S128x1 .f32 :=
  shapeCast S128x1 (multiReduction .add [1] S128 v 0x00000000#32 reduces_S128x64_S128 (.inl rfl) rfl) shapeCasts_S128_S128x1
def colSum (v : FVec F S128x128 .f32) : FVec F S1x128 .f32 :=
  shapeCast S1x128 (multiReduction .add [0] S128 v 0x00000000#32 reduces_S128x128_S128_2 (.inl rfl) rfl) shapeCasts_S128_S1x128

/-- The lower triangle of `exp (lam i - lam j)`. -/
def decay (lam : FVec F S1x128 .f32) : FVec F S128x128 .f32 :=
  select (cmpi .sge rowI colI)
    (exp (minimumf (subf (broadcastTo S128x128 (toCol lam) broadcasts_S128x1_S128x128)
      (broadcastTo S128x128 lam broadcasts_S1x128_S128x128)) (broadcast S128x128 (Scalar.ofBits .f32 0x00000000#32 : F .f32))))
    (broadcast S128x128 (Scalar.ofBits .f32 0x00000000#32 : F .f32))

/-- The last entry of a row. -/
def lastOf (lam : FVec F S1x128 .f32) : FVec F S1x1 .f32 :=
  shapeCast S1x1 (multiReduction .add [1] S1 (select lastLane lam
    (broadcast S1x128 (Scalar.ofBits .f32 0x00000000#32 : F .f32))) 0x00000000#32 reduces_S1x128_S1 (.inl rfl) rfl) shapeCasts_S1_S1x1

def z128 : FVec F S128x128 .f32 := constant S128x128 .f32 0x00000000#32
def bz128 : FVec F S128x128 .f32 := broadcast S128x128 (Scalar.ofBits .f32 0x00000000#32 : F .f32)
def z64 : FVec F S128x64 .f32 := constant S128x64 .f32 0x00000000#32

/-- The products of the group's two projections. -/
def gram (b c : FVec F S128x128 .f32) : FVec F S128x128 .f32 :=
  matmul dot_S128x128_S128x128_S128x128_1_1_0_0_n_n none (truncf .bf16 c bitsLt_bf16_f32) (truncf .bf16 b bitsLt_bf16_f32) z128

namespace HeadIn
variable (H : HeadIn F)

def x2 : FVec F S128x64 .f32 := shapeCast S128x64 H.x shapeCasts_S1x128x64_S128x64
def dy2 : FVec F S128x64 .f32 := shapeCast S128x64 H.dy shapeCasts_S1x128x64_S128x64
def h2 : FVec F S64x128 .f32 := shapeCast S64x128 H.h shapeCasts_S1x1x64x128_S64x128
def dh2 : FVec F S64x128 .f32 := shapeCast S64x128 H.dh shapeCasts_S1x64x128_S64x128
def xb : FVec F S128x64 .bf16 := truncf .bf16 H.x2 bitsLt_bf16_f32
def dyb : FVec F S128x64 .bf16 := truncf .bf16 H.dy2 bitsLt_bf16_f32
def hb : FVec F S64x128 .bf16 := truncf .bf16 H.h2 bitsLt_bf16_f32
def dhb : FVec F S64x128 .bf16 := truncf .bf16 H.dh2 bitsLt_bf16_f32
def bb : FVec F S128x128 .bf16 := truncf .bf16 H.b bitsLt_bf16_f32
def cb : FVec F S128x128 .bf16 := truncf .bf16 H.c bitsLt_bf16_f32
def dt1 : FVec F S1x128 .f32 := shapeCast S1x128 H.dt shapeCasts_S1x128_S1x128
def dtRow : FVec F S128x128 .f32 := broadcastTo S128x128 H.dt1 broadcasts_S1x128_S128x128

/-- `exp lam`, as a column. -/
def expL : FVec F S128x1 .f32 := exp (toCol H.lam)
/-- `exp (lam last)`. -/
def expLast : FVec F S1x1 .f32 := exp (lastOf H.lam)
/-- `exp (lam last - lam)`, as a column. -/
def toEnd : FVec F S128x1 .f32 := exp (subf (broadcastTo S128x1 (lastOf H.lam) broadcasts_S1x1_S128x1) (toCol H.lam))
def toEndDt : FVec F S128x1 .f32 := mulf H.toEnd (toCol H.dt1)
/-- The products of the output gradients with the values. -/
def dW : FVec F S128x128 .f32 := matmul dot_S128x64_S128x64_S128x128_1_1_0_0_n_n none H.dyb H.xb z128
/-- The state's gradient met by the first projection. -/
def bdh : FVec F S128x64 .f32 := matmul dot_S128x128_S64x128_S128x64_1_1_0_0_n_n none H.bb H.dhb z64

/-- The gradient of the values. -/
def dx : FVec F S1x128x64 .f32 :=
  shapeCast S1x128x64 (addf
    (matmul dot_S128x128_S128x64_S128x64_0_0_1_1_n_n none
      (truncf .bf16 (mulf (mulf (gram H.b H.c) (decay H.lam)) H.dtRow) bitsLt_bf16_f32) H.dyb z64)
    (mulf (broadcastTo S128x64 H.toEndDt broadcasts_S128x1_S128x64) H.bdh)) shapeCasts_S128x64_S1x128x64

/-- The head's part of the gradient of the group's products. -/
def dg : FVec F S128x128 .f32 := mulf (mulf H.dW (decay H.lam)) H.dtRow

def q : FVec F S128x128 .f32 := mulf (mulf H.dW (gram H.b H.c)) (decay H.lam)
def p : FVec F S128x128 .f32 := mulf H.q H.dtRow
def qc : FVec F S128x1 .f32 := rowSum64 (mulf H.x2 H.bdh)
def yoff : FVec F S128x64 .f32 :=
  mulf (matmul dot_S128x128_S64x128_S128x64_1_1_0_0_n_n none H.cb H.hb z64) (broadcastTo S128x64 H.expL broadcasts_S128x1_S128x64)

/-- The gradient of `lam` through its rows, as a column. -/
def dlamC : FVec F S128x1 .f32 :=
  subf (addf (rowSum H.p) (rowSum64 (mulf H.dy2 H.yoff))) (mulf H.toEndDt H.qc)

/-- The gradient of the last entry of `lam`. -/
def dLast : FVec F S1x1 .f32 :=
  addf (shapeCast S1x1 (multiReduction .add [0] S1 (mulf H.toEndDt H.qc) 0x00000000#32 reduces_S128x1_S1 (.inl rfl) rfl) shapeCasts_S1_S1x1)
    (mulf H.expLast (shapeCast S1x1 (multiReduction .add [0] S1 (shapeCast S64x1
      (multiReduction .add [1] S64 (mulf H.dh2 H.h2) 0x00000000#32 reduces_S64x128_S64 (.inl rfl) rfl) shapeCasts_S64_S64x1)
      0x00000000#32 reduces_S64x1_S1 (.inl rfl) rfl) shapeCasts_S1_S1x1))

/-- The gradient of `lam`, as a row. -/
def dlam : FVec F S1x128 .f32 :=
  shapeCast S1x128 (addf (subf (toRow H.dlamC) (colSum H.p))
    (select lastLane (broadcastTo S1x128 (shapeCast S1x1 H.dLast shapeCasts_S1x1_S1x1) broadcasts_S1x1_S1x128)
      (broadcast S1x128 (Scalar.ofBits .f32 0x00000000#32 : F .f32)))) shapeCasts_S1x128_S1x128

/-- The direct part of the gradient of the step sizes, as a row. -/
def ddt : FVec F S1x128 .f32 :=
  shapeCast S1x128 (addf (colSum H.q) (toRow (mulf H.toEnd H.qc))) shapeCasts_S1x128_S1x128

/-- The head's part of the gradient of the second projection through the state. -/
def dc : FVec F S128x128 .f32 :=
  mulf (broadcastTo S128x128 H.expL broadcasts_S128x1_S128x128)
    (matmul dot_S128x64_S64x128_S128x128_1_0_0_1_n_n none H.dyb H.hb z128)

/-- The head's part of the gradient of the first projection through the state. -/
def db : FVec F S128x128 .f32 :=
  matmul dot_S128x64_S64x128_S128x128_1_0_0_1_n_n none
    (truncf .bf16 (mulf H.x2 (broadcastTo S128x64 H.toEndDt broadcasts_S128x1_S128x64)) bitsLt_bf16_f32) H.dhb z128

/-- The gradient of the state before the chunk. -/
def dhNew : FVec F S1x64x128 .f32 :=
  shapeCast S1x64x128 (addf (mulf (broadcastTo S64x128 H.expLast broadcasts_S1x1_S64x128) H.dh2)
    (matmul dot_S128x64_S128x128_S64x128_0_0_1_1_n_n none
      (truncf .bf16 (mulf H.dy2 (broadcastTo S128x64 H.expL broadcasts_S128x1_S128x64)) bitsLt_bf16_f32) H.cb
      (constant S64x128 .f32 0x00000000#32))) shapeCasts_S64x128_S1x64x128

end HeadIn

/-- A product with a matrix of zeros and ones, the first factor split in three parts. -/
def splitDot (v : FVec F S8x128 .f32) (m : IVec S128x128 1) : FVec F S8x128 .f32 :=
  addf (addf
    (matmul dot_S8x128_S128x128_S8x128_1_0_0_1_n_n none (truncf .bf16 v bitsLt_bf16_f32)
      (truncf .bf16 (sitofp .f32 (extui 32 m natLt_1_32)) bitsLt_bf16_f32) (constant S8x128 .f32 0x00000000#32))
    (matmul dot_S8x128_S128x128_S8x128_1_0_0_1_n_n none
      (truncf .bf16 (subf v (extf .f32 (truncf .bf16 v bitsLt_bf16_f32) bitsLt_bf16_f32)) bitsLt_bf16_f32)
      (truncf .bf16 (sitofp .f32 (extui 32 m natLt_1_32)) bitsLt_bf16_f32) (constant S8x128 .f32 0x00000000#32)))
    (matmul dot_S8x128_S128x128_S8x128_1_0_0_1_n_n none
      (truncf .bf16 (subf (subf v (extf .f32 (truncf .bf16 v bitsLt_bf16_f32) bitsLt_bf16_f32))
        (extf .f32 (truncf .bf16 (subf v (extf .f32 (truncf .bf16 v bitsLt_bf16_f32) bitsLt_bf16_f32)) bitsLt_bf16_f32) bitsLt_bf16_f32)) bitsLt_bf16_f32)
      (truncf .bf16 (sitofp .f32 (extui 32 m natLt_1_32)) bitsLt_bf16_f32) (constant S8x128 .f32 0x00000000#32))

/-- The running sum of the log-decays over the chunk, for the rows of one group. -/
def lamOut (dt a : FVec F S1x8x128 .f32) : FVec F S1x8x128 .f32 :=
  shapeCast S1x8x128 (splitDot (mulf (shapeCast S8x128 dt shapeCasts_S1x8x128_S8x128) (shapeCast S8x128 a shapeCasts_S1x8x128_S8x128))
    (cmpi .sle rowI colI)) shapeCasts_S8x128_S1x8x128

/-- The gradient of the log-decays: the sums of `dlam` to the end of the chunk. -/
def dA (dlam : FVec F S1x8x128 .f32) : FVec F S8x128 .f32 :=
  splitDot (shapeCast S8x128 dlam shapeCasts_S1x8x128_S8x128) (cmpi .sge rowI colI)

/-- The gradient of the step sizes. -/
def ddtOut (dlam ddt a : FVec F S1x8x128 .f32) : FVec F S1x8x128 .f32 :=
  shapeCast S1x8x128 (addf (shapeCast S8x128 ddt shapeCasts_S1x8x128_S8x128)
    (mulf (dA dlam) (shapeCast S8x128 a shapeCasts_S1x8x128_S8x128))) shapeCasts_S8x128_S1x8x128

/-- What a point adds to the gradient of the decay rates. -/
def daPart (dlam dt : FVec F S1x8x128 .f32) : FVec F S8x128 .f32 :=
  mulf (dA dlam) (shapeCast S8x128 dt shapeCasts_S1x8x128_S8x128)

end Ssd.Body
-- ==== Proof.Val.lean ====
/-
  One head of one grid point over the extended reals: each function of `Body` read at an index as a real number.
-/
module

public import proofs.«01_k».proof.Proof.Body
public import proofs.«01_k».proof.Proof.Common
public import Idealize.ShloMosaic.Lib.Pointwise

@[expose] public section

set_option maxRecDepth 16384

noncomputable section

namespace Ssd.Body

open Finset Idealize.ShloMosaic Cert.KernelIdeal Cert.KernelIdeal.Gen Scan

theorem select_eq {α : Type} {n : ℕ} (i x : Fin n) (hn : n < 2 ^ 31) (u w : α) :
    Scalar.select (IntOp.cmpi .eq (BitVec.ofNat 32 i.val) (BitVec.ofNat 32 x.val)) u w = if i = x then u else w := by
  rw [WordCmp.cmpi_eq_ofNat (by omega) (by omega), select_ofBool]
  exact if_congr (by rw [Fin.ext_iff]) rfl rfl

theorem sel_sge {α : Type} (i x : Fin 128) (u w : α) :
    Scalar.select (IntOp.cmpi .sge (BitVec.ofNat 32 i.val) (BitVec.ofNat 32 x.val)) u w = if x.val ≤ i.val then u else w :=
  select_sge (by omega) (by omega) u w

theorem toCol_apply (v : FVec Ideal S1x128 .f32) (i : Fin 128) (j : Fin 1) : toCol v (ix2 i j) = v (ix2 0 i) := by
  unfold toCol eye rowI colI
  pointwise
  simp only [select_eq _ _ (show 128 < 2 ^ 31 by norm_num)]
  exact (sum_ite_eq univ i fun x => v (ix2 0 x)).trans (if_pos (mem_univ _))

theorem toRow_apply (v : FVec Ideal S128x1 .f32) (j : Fin 1) (i : Fin 128) : toRow v (ix2 j i) = v (ix2 i 0) := by
  unfold toRow eye rowI colI
  pointwise
  simp only [select_eq _ _ (show 128 < 2 ^ 31 by norm_num)]
  exact (sum_ite_eq' univ i fun x => v (ix2 x 0)).trans (if_pos (mem_univ _))

theorem sel_last {α : Type} (x : Fin 128) (u w : α) :
    Scalar.select (IntOp.cmpi .eq (BitVec.ofNat 32 x.val) 127#32) u w = if x = 127 then u else w :=
  select_eq x (127 : Fin 128) (by norm_num) u w

theorem lastOf_apply (v : FVec Ideal S1x128 .f32) (i j : Fin 1) : lastOf v (ix2 i j) = v (ix2 0 127) := by
  unfold lastOf lastLane colI
  pointwise
  simp only [sel_last]
  exact (sum_ite_eq' univ (127 : Fin 128) fun x => v (ix2 0 x)).trans (if_pos (mem_univ _))

theorem gram_apply (b c : FVec Ideal S128x128 .f32) (i j : Fin 128) :
    gram b c (ix2 i j) = ∑ x, c (ix2 i x) * b (ix2 j x) := by
  unfold gram z128
  pointwise

theorem decay_apply (v : FVec Ideal S1x128 .f32) (i j : Fin 128) :
    decay v (ix2 i j) = if j.val ≤ i.val then Ideal.exp (min (v (ix2 0 i) - v (ix2 0 j)) 0) else 0 := by
  unfold decay rowI colI
  pointwise
  simp only [toCol_apply, sel_sge]

/-- A head's inputs are the real numbers of `M` at the chunk from `s`. -/
structure HeadIn.Is (H : HeadIn Ideal) (M : Head 64 128) (s : ℕ) : Prop where
  x : ∀ (z : Fin 1) (i : Fin 128) (p : Fin 64), H.x (ix3 z i p) = (M.x (s + i) p : EReal)
  dy : ∀ (z : Fin 1) (i : Fin 128) (p : Fin 64), H.dy (ix3 z i p) = (M.y (s + i) p : EReal)
  h : ∀ (z w : Fin 1) (p : Fin 64) (n : Fin 128), H.h (ix4 z w p n) = (M.past s p n : EReal)
  dh : ∀ (z : Fin 1) (p : Fin 64) (n : Fin 128), H.dh (ix3 z p n) = (M.future 4096 (s + 128) p n : EReal)
  lam : ∀ (z : Fin 1) (i : Fin 128), H.lam (ix2 z i) = (M.lam s i : EReal)
  dt : ∀ (z : Fin 1) (i : Fin 128), H.dt (ix2 z i) = (M.τ (s + i) : EReal)
  b : ∀ (i n : Fin 128), H.b (ix2 i n) = (M.B (s + i) n : EReal)
  c : ∀ (i n : Fin 128), H.c (ix2 i n) = (M.C (s + i) n : EReal)
  neg : ∀ t, M.δ t ≤ 0
  le : s + 128 ≤ 4096

namespace HeadIn.Is
variable {H : HeadIn Ideal} {M : Head 64 128} {s : ℕ} (hH : H.Is M s)
include hH

theorem gram_eq (i j : Fin 128) : gram (F := Ideal) H.b H.c (ix2 i j) = (M.cb (s + i) (s + j) : EReal) := by
  rw [gram_apply]
  simp only [hH.b, hH.c, ← EReal.coe_mul, ← coe_sum, Head.cb]

theorem decay_eq (i j : Fin 128) : decay (F := Ideal) H.lam (ix2 i j) = ((if j.val ≤ i.val then M.L (s + i) (s + j) else 0 : ℝ) : EReal) := by
  rw [decay_apply]
  split_ifs with h
  · rw [hH.lam, hH.lam, ← EReal.coe_sub, ← EReal.coe_zero, coe_min, min_eq_left (M.lam_anti hH.neg s h), Ideal.exp_coe,
      M.exp_lam_sub]
  · rfl

theorem expL_eq (i : Fin 128) (j : Fin 1) : H.expL (ix2 i j) = (Real.exp (M.lam s i) : EReal) := by
  unfold HeadIn.expL
  pointwise
  simp only [toCol_apply, hH.lam, Ideal.exp_coe]

theorem expLast_eq (i j : Fin 1) : H.expLast (ix2 i j) = (Real.exp (M.lam s (128 - 1)) : EReal) := by
  unfold HeadIn.expLast
  pointwise
  simp only [lastOf_apply, hH.lam, Ideal.exp_coe]
  rfl

theorem toEnd_eq (i : Fin 128) (j : Fin 1) : H.toEnd (ix2 i j) = (Real.exp (M.lam s (128 - 1) - M.lam s i) : EReal) := by
  unfold HeadIn.toEnd
  pointwise
  simp only [lastOf_apply, toCol_apply, hH.lam, ← EReal.coe_sub, Ideal.exp_coe]
  rfl

theorem toEndDt_eq (i : Fin 128) (j : Fin 1) :
    H.toEndDt (ix2 i j) = ((Real.exp (M.lam s (128 - 1) - M.lam s i) * M.τ (s + i) : ℝ) : EReal) := by
  unfold HeadIn.toEndDt HeadIn.dt1
  pointwise
  simp only [toCol_apply]
  pointwise
  simp only [hH.toEnd_eq, hH.dt, ← EReal.coe_mul]

theorem dtRow_eq (i j : Fin 128) : H.dtRow (ix2 i j) = (M.τ (s + j) : EReal) := by
  unfold HeadIn.dtRow HeadIn.dt1
  pointwise
  simp only [hH.dt]

theorem dW_eq (i j : Fin 128) : H.dW (ix2 i j) = (M.dW (s + i) (s + j) : EReal) := by
  unfold HeadIn.dW HeadIn.dyb HeadIn.xb HeadIn.dy2 HeadIn.x2 z128
  pointwise
  simp only [hH.dy, hH.x, ← EReal.coe_mul, ← coe_sum, Head.dW]

theorem bdh_eq (i : Fin 128) (p : Fin 64) :
    H.bdh (ix2 i p) = ((∑ n, M.B (s + i) n * M.future 4096 (s + 128) p n : ℝ) : EReal) := by
  unfold HeadIn.bdh HeadIn.bb HeadIn.dhb HeadIn.dh2 z64
  pointwise
  simp only [hH.b, hH.dh, ← EReal.coe_mul, ← coe_sum]

/-- The gradient of the values. -/
theorem dx_eq (z : Fin 1) (j : Fin 128) (p : Fin 64) : H.dx (ix3 z j p) = ((∑ t ∈ range 4096,
    (if s + j.val ≤ t then M.cb t (s + j) * M.L t (s + j) * M.τ (s + j) * M.y t p else 0) : ℝ) : EReal) := by
  rw [← M.dx_eq j.isLt hH.le]
  unfold HeadIn.dx HeadIn.dyb HeadIn.dy2 z64
  pointwise
  simp only [hH.gram_eq, hH.decay_eq, hH.dtRow_eq, hH.dy, hH.toEndDt_eq, hH.bdh_eq, ← EReal.coe_mul, ← coe_sum, ← EReal.coe_add]
  refine congrArg Real.toEReal (congrArg₂ (· + ·) ?_ rfl)
  rw [Finset.sum_range]
  exact sum_congr rfl fun i _ => by split_ifs <;> ring

theorem dhNew_eq (z : Fin 1) (p : Fin 64) (n : Fin 128) : H.dhNew (ix3 z p n) = (M.future 4096 s p n : EReal) := by
  rw [← M.future_step (Q := 128) (by norm_num) hH.le]
  unfold HeadIn.dhNew HeadIn.cb HeadIn.dy2 HeadIn.dh2
  pointwise
  simp only [hH.expLast_eq, hH.dh, hH.dy, hH.expL_eq, hH.c, ← EReal.coe_mul, ← coe_sum, ← EReal.coe_add]
  rw [Finset.sum_range]

theorem q_eq (i j : Fin 128) : H.q (ix2 i j) = ((if j.val ≤ i.val then
    M.dW (s + i) (s + j) * M.cb (s + i) (s + j) * M.L (s + i) (s + j) else 0 : ℝ) : EReal) := by
  unfold HeadIn.q
  pointwise
  simp only [hH.dW_eq, hH.gram_eq, hH.decay_eq, ← EReal.coe_mul]
  split_ifs <;> simp

theorem p_eq (i j : Fin 128) : H.p (ix2 i j) = ((if j.val ≤ i.val then M.D (s + i) (s + j) else 0 : ℝ) : EReal) := by
  unfold HeadIn.p
  pointwise
  simp only [hH.q_eq, hH.dtRow_eq, ← EReal.coe_mul]
  split_ifs <;> simp [Head.D]

theorem dg_eq (i j : Fin 128) : H.dg (ix2 i j) = ((if j.val ≤ i.val then
    M.dW (s + i) (s + j) * M.L (s + i) (s + j) * M.τ (s + j) else 0 : ℝ) : EReal) := by
  unfold HeadIn.dg
  pointwise
  simp only [hH.dW_eq, hH.decay_eq, hH.dtRow_eq, ← EReal.coe_mul]
  split_ifs <;> simp

/-- What meets the state's gradient at position `i`: `∑ p, x p * ∑ n, B n * future p n`. -/
theorem qc_eq (i : Fin 128) (j : Fin 1) : H.qc (ix2 i j)
    = ((∑ p, M.x (s + i) p * ∑ n, M.B (s + i) n * M.future 4096 (s + 128) p n : ℝ) : EReal) := by
  unfold HeadIn.qc rowSum64 HeadIn.x2
  pointwise
  simp only [hH.x, hH.bdh_eq, ← EReal.coe_mul, ← coe_sum]

theorem yoff_eq (i : Fin 128) (p : Fin 64) : H.yoff (ix2 i p)
    = (((∑ n, M.C (s + i) n * M.past s p n) * Real.exp (M.lam s i) : ℝ) : EReal) := by
  unfold HeadIn.yoff HeadIn.cb HeadIn.hb HeadIn.h2 z64
  pointwise
  simp only [hH.c, hH.h, hH.expL_eq, ← EReal.coe_mul, ← coe_sum]

theorem dlamC_eq (i : Fin 128) (j : Fin 1) : H.dlamC (ix2 i j)
    = ((∑ j ∈ range 128, (if j ≤ i.val then M.D (s + i) (s + j) else 0)
      + ∑ p, M.y (s + i) p * ((∑ n, M.C (s + i) n * M.past s p n) * Real.exp (M.lam s i))
      - Real.exp (M.lam s (128 - 1) - M.lam s i) * M.τ (s + i)
        * ∑ p, M.x (s + i) p * ∑ n, M.B (s + i) n * M.future 4096 (s + 128) p n : ℝ) : EReal) := by
  unfold HeadIn.dlamC rowSum rowSum64 HeadIn.dy2
  pointwise
  simp only [hH.p_eq, hH.dy, hH.yoff_eq, hH.toEndDt_eq, hH.qc_eq, ← EReal.coe_mul, ← coe_sum, ← EReal.coe_add, ← EReal.coe_sub]
  rw [Finset.sum_range]

theorem dLast_eq (i j : Fin 1) : H.dLast (ix2 i j) = (M.span 4096 (s + 128) : EReal) := by
  rw [← M.last_eq (b := s) (by norm_num : 0 < 128)]
  unfold HeadIn.dLast HeadIn.dh2 HeadIn.h2
  pointwise
  simp only [hH.h, hH.dh, hH.expLast_eq, hH.toEndDt_eq, hH.qc_eq, ← EReal.coe_mul, ← coe_sum, ← EReal.coe_add]
  rw [Finset.sum_range]

/-- The gradient of the running sum, the last position's with what comes from the state. -/
theorem dlam_eq (z : Fin 1) (i : Fin 128) : H.dlam (ix2 z i)
    = ((M.dA 4096 (s + i) + (if i.val = 128 - 1 then M.span 4096 (s + 128) else 0) : ℝ) : EReal) := by
  rw [← M.dlam_eq i.isLt hH.le]
  unfold HeadIn.dlam lastLane colI colSum
  pointwise
  simp only [sel_last, toRow_apply, hH.dlamC_eq, hH.p_eq, hH.dLast_eq, ← coe_sum, ← EReal.coe_sub, ← EReal.coe_zero, coe_ite, ← EReal.coe_add]
  refine congrArg Real.toEReal (congrArg₂ (· + ·) (congrArg₂ (· - ·) rfl ?_) ?_)
  · rw [Finset.sum_range]
  · exact if_congr Fin.ext_iff rfl rfl

/-- The direct part of the gradient of the step sizes. -/
theorem ddt_eq (z : Fin 1) (j : Fin 128) : H.ddt (ix2 z j) = ((∑ t ∈ range 4096,
    (if s + j.val ≤ t then M.dW t (s + j) * M.cb t (s + j) * M.L t (s + j) else 0) : ℝ) : EReal) := by
  rw [← M.dtau_eq j.isLt hH.le]
  unfold HeadIn.ddt colSum
  pointwise
  simp only [toRow_apply]
  pointwise
  simp only [hH.q_eq, hH.toEnd_eq, hH.qc_eq, ← EReal.coe_mul, ← coe_sum, ← EReal.coe_add]
  rw [Finset.sum_range]

theorem dc_eq (i n : Fin 128) : H.dc (ix2 i n)
    = ((Real.exp (M.lam s i) * ∑ p, M.y (s + i) p * M.past s p n : ℝ) : EReal) := by
  unfold HeadIn.dc HeadIn.dyb HeadIn.hb HeadIn.dy2 HeadIn.h2 z128
  pointwise
  simp only [hH.expL_eq, hH.dy, hH.h, ← EReal.coe_mul, ← coe_sum]

theorem db_eq (j n : Fin 128) : H.db (ix2 j n)
    = ((∑ p, M.x (s + j) p * (Real.exp (M.lam s (128 - 1) - M.lam s j) * M.τ (s + j)) * M.future 4096 (s + 128) p n : ℝ) : EReal) := by
  unfold HeadIn.db HeadIn.dhb HeadIn.x2 HeadIn.dh2 z128
  pointwise
  simp only [hH.toEndDt_eq, hH.x, hH.dh, ← EReal.coe_mul, ← coe_sum]

end HeadIn.Is
end Ssd.Body
-- ==== Proof.Loads.lean ====
/-
  The loads and stores of one grid point: the blocks of a head, the rows of the small scratch arrays, and the lists of
  stores a point makes into each of its results, as the frame's runs list them (last store first).
-/
module

public import proofs.«01_k».proof.Proof.Body
public import proofs.«01_k».proof.Proof.Gen.KernelIdeal.Frame

@[expose] public section

noncomputable section

namespace Ssd.Body

open Idealize.ShloMosaic Idealize.ShloMosaic.TcCoe Cert.KernelIdeal Cert.KernelIdeal.Gen

variable {F : FTy → Type} [FloatOps F]

theorem inbX (n : Fin 8) : ∀ a, (![n.val, 0, 0] : Fin 3 → ℕ) a + S1x128x64.size a ≤ S8x128x64.size a := by
  revert n; decide
theorem inbD (n : Fin 8) : ∀ a, (![n.val, 0, 0] : Fin 3 → ℕ) a + S1x64x128.size a ≤ S8x64x128.size a := by
  revert n; decide
theorem inbH (n : Fin 8) : ∀ a, (![0, n.val, 0, 0] : Fin 4 → ℕ) a + S1x1x64x128.size a ≤ S1x8x64x128.size a := by
  revert n; decide
theorem inbG (g : Fin 2) : ∀ a, (![g.val, 0, 0] : Fin 3 → ℕ) a + S1x8x128.size a ≤ S2x8x128.size a := by
  revert g; decide
theorem inbR (r : Fin 8) : ∀ a, (![r.val, 0] : Fin 2 → ℕ) a + S1x128.size a ≤ S8x128.size a := by
  revert r; decide
theorem inbB (g : Fin 2) : ∀ a, (![0, 128 * g.val] : Fin 2 → ℕ) a + S128x128.size a ≤ S128x256.size a := by
  revert g; decide

/-- The group of a head, and its row in the group's block. -/
def grp (n : Fin 8) : Fin 2 := ⟨n.val / 4, by omega⟩
def row (n : Fin 8) : Fin 8 := ⟨n.val % 4, by omega⟩

def rectX (n : Fin 8) : Rect S8x128x64 := Rect.unit ![n.val, 0, 0] S1x128x64.size (inbX n)
def rectD (n : Fin 8) : Rect S8x64x128 := Rect.unit ![n.val, 0, 0] S1x64x128.size (inbD n)
def rectH (n : Fin 8) : Rect S1x8x64x128 := Rect.unit ![0, n.val, 0, 0] S1x1x64x128.size (inbH n)
def rectG (g : Fin 2) : Rect S2x8x128 := Rect.unit ![g.val, 0, 0] S1x8x128.size (inbG g)
def rectB (g : Fin 2) : Rect S128x256 := Rect.unit ![0, 128 * g.val] S128x128.size (inbB g)

/-- The row of a head inside its group's block. -/
def rectR (r : Fin 8) : Rect S1x8x128 :=
  (Rect.unit (s := S8x128) ![r.val, 0] S1x128.size (inbR r)).consLift ![1, 8, 128] (by decide) (by decide)

def rectRow (n : Fin 8) : Rect S2x8x128 := (rectG (grp n)).within (rectR (row n)) (fun _ => rfl)
def loadRow (n : Fin 8) : LoadRect S2x8x128 := (rectG (grp n)).withinL (rectR (row n)).toLoadRect (fun _ => rfl)

theorem numelRow (n : Fin 8) : S1x128.numel = (loadRow n).shape.numel := rfl
theorem numelRow' (n : Fin 8) : (rectRow n).shape.numel = S1x128.numel := rfl

/-- A row laid where it is stored. -/
def rowPiece (n : Fin 8) (w : FVec F S1x128 .f32) : View.Piece (Elt F) S2x8x128 .f32 :=
  ⟨rectRow n, fun y => w (Shape.reshapeEquiv (numelRow' n) y)⟩

/-- A row read from a block of rows. -/
def ofRow (n : Fin 8) (v : (loadRow n).shape.Idx → Elt F .f32) : FVec F S1x128 .f32 :=
  fun x => v (Shape.reshapeEquiv (numelRow n) x)

section
variable {arg2 arg8 : Memref sig .tc .vmem S8x128x64 .f32} {arg3 arg4 : Memref sig .tc .vmem S128x256 .f32}
  {arg5 arg6 : Memref sig .tc .vmem S2x8x128 .f32} {arg7 : Memref sig .tc .vmem S1x8x64x128 .f32}
  (harg2 : arg2.IsWhole) (harg3 : arg3.IsWhole) (harg4 : arg4.IsWhole) (harg5 : arg5.IsWhole) (harg6 : arg6.IsWhole)
  (harg7 : arg7.IsWhole) (harg8 : arg8.IsWhole) (arg15 : Memref sig .tc .vmem S2x8x128 .f32)
  (x0 : Vec F S8x128x64 .f32) (x1 x2 : Vec F S128x256 .f32) (x3 x4 : Vec F S2x8x128 .f32) (x5 : Vec F S1x8x64x128 .f32)
  (x6 : Vec F S8x128x64 .f32) (dh : Fin 8 → Vec F S1x64x128 .f32)

/-- The block of a group's rows. -/
def ldG (g : Fin 2) : FVec F S1x8x128 .f32 := View.readAt (Elt F) arg5.view (rectG g).toLoadRect (harg5.unread x3)

/-- The stores that leave the running sums of the log-decays. -/
def lamPieces : List (View.Piece (Elt F) S2x8x128 .f32) :=
  [⟨rectG 1, lamOut (ldG harg5 x3 1) (ldG harg6 x4 1)⟩, ⟨rectG 0, lamOut (ldG harg5 x3 0) (ldG harg6 x4 0)⟩]

/-- What the body loads for head `n`. -/
def headAt (n : Fin 8) : HeadIn F where
  x := View.readAt (Elt F) arg2.view (rectX n).toLoadRect (harg2.unread x0)
  dy := View.readAt (Elt F) arg8.view (rectX n).toLoadRect (harg8.unread x6)
  h := View.readAt (Elt F) arg7.view (rectH n).toLoadRect (harg7.unread x5)
  dh := dh n
  lam := ofRow n (arg15.view.readCov (lamPieces harg5 harg6 x3 x4) (loadRow n))
  dt := ofRow n (View.readAt (Elt F) arg5.view (loadRow n) (harg5.unread x3))
  b := View.readAt (Elt F) arg3.view (rectB (grp n)).toLoadRect (harg3.unread x1)
  c := View.readAt (Elt F) arg4.view (rectB (grp n)).toLoadRect (harg4.unread x2)

end

/-- The state's gradient as head `n` loads it, carried from the point before. -/
def ldD {arg14 : Memref sig .tc .vmem S8x64x128 .f32} (harg14 : arg14.IsWhole) (xs0 : Vec F S8x64x128 .f32) (n : Fin 8) :
    Vec F S1x64x128 .f32 :=
  View.readAt (Elt F) arg14.view (rectD n).toLoadRect (harg14.unread xs0)

variable (H : Fin 8 → HeadIn F)

def dxPieces : List (View.Piece (Elt F) S8x128x64 .f32) :=
  [⟨rectX 7, (H 7).dx⟩, ⟨rectX 6, (H 6).dx⟩, ⟨rectX 5, (H 5).dx⟩, ⟨rectX 4, (H 4).dx⟩,
   ⟨rectX 3, (H 3).dx⟩, ⟨rectX 2, (H 2).dx⟩, ⟨rectX 1, (H 1).dx⟩, ⟨rectX 0, (H 0).dx⟩]

def dhPieces : List (View.Piece (Elt F) S8x64x128 .f32) :=
  [⟨rectD 7, (H 7).dhNew⟩, ⟨rectD 6, (H 6).dhNew⟩, ⟨rectD 5, (H 5).dhNew⟩, ⟨rectD 4, (H 4).dhNew⟩,
   ⟨rectD 3, (H 3).dhNew⟩, ⟨rectD 2, (H 2).dhNew⟩, ⟨rectD 1, (H 1).dhNew⟩, ⟨rectD 0, (H 0).dhNew⟩]

def z2 : FVec F S2x8x128 .f32 := broadcast S2x8x128 (Scalar.ofBits .f32 0x00000000#32 : F .f32)
def zeroPiece : View.Piece (Elt F) S2x8x128 .f32 :=
  ⟨Rect.unit ![0, 0, 0] S2x8x128.size inb_S2x8x128_S2x8x128_0_0_0, shapeCast S2x8x128 z2 shapeCasts_S2x8x128_S2x8x128⟩

/-- The rows stored when group 0, then group 1, has been through. -/
def rows0 (f : Fin 8 → FVec F S1x128 .f32) : List (View.Piece (Elt F) S2x8x128 .f32) :=
  [rowPiece 3 (f 3), rowPiece 2 (f 2), rowPiece 1 (f 1), rowPiece 0 (f 0), zeroPiece]
def rows1 (f : Fin 8 → FVec F S1x128 .f32) : List (View.Piece (Elt F) S2x8x128 .f32) :=
  rowPiece 7 (f 7) :: rowPiece 6 (f 6) :: rowPiece 5 (f 5) :: rowPiece 4 (f 4) :: rows0 f
def rowsOf (f : Fin 8 → FVec F S1x128 .f32) : Fin 2 → List (View.Piece (Elt F) S2x8x128 .f32)
  | 0 => rows0 f
  | 1 => rows1 f

section
variable (arg16 arg17 : Memref sig .tc .vmem S2x8x128 .f32)

/-- A group's rows of the gradient of the running sums, and of the step sizes, as read back. -/
def dlamG (g : Fin 2) : FVec F S1x8x128 .f32 := arg16.view.readCov (rowsOf (fun n => (H n).dlam) g) (rectG g).toLoadRect
def ddtG (g : Fin 2) : FVec F S1x8x128 .f32 := arg17.view.readCov (rowsOf (fun n => (H n).ddt) g) (rectG g).toLoadRect

variable {arg5 arg6 arg13 : Memref sig .tc .vmem S2x8x128 .f32} (harg5 : arg5.IsWhole) (harg6 : arg6.IsWhole) (harg13 : arg13.IsWhole)
  (x3 x4 xo11 : Vec F S2x8x128 .f32)

def ddtPieces : List (View.Piece (Elt F) S2x8x128 .f32) :=
  [⟨rectG 1, ddtOut (dlamG H arg16 1) (ddtG H arg17 1) (ldG harg6 x4 1)⟩,
   ⟨rectG 0, ddtOut (dlamG H arg16 0) (ddtG H arg17 0) (ldG harg6 x4 0)⟩]

/-- What a point adds to the gradient of the decay rates, group `g`. -/
def daG (g : Fin 2) : FVec F S8x128 .f32 := daPart (dlamG H arg16 g) (ldG harg5 x3 g)

def daPiecesA : List (View.Piece (Elt F) S2x8x128 .f32) :=
  [⟨rectG 1, shapeCast S1x8x128 (daG H arg16 harg5 x3 1) shapeCasts_S8x128_S1x8x128⟩,
   ⟨rectG 0, shapeCast S1x8x128 (daG H arg16 harg5 x3 0) shapeCasts_S8x128_S1x8x128⟩]

def daSum (g : Fin 2) : FVec F S1x8x128 .f32 :=
  shapeCast S1x8x128 (addf (shapeCast S8x128 (ldG harg13 xo11 g) shapeCasts_S1x8x128_S8x128) (daG H arg16 harg5 x3 g))
    shapeCasts_S8x128_S1x8x128

def daPiecesB : List (View.Piece (Elt F) S2x8x128 .f32) :=
  [⟨rectG 1, daSum H arg16 harg5 harg13 x3 xo11 1⟩, ⟨rectG 0, daSum H arg16 harg5 harg13 x3 xo11 0⟩]

/-- Every lane of a row replaced by the row's sum. -/
def laneSum (v : FVec F S1x8x128 .f32) : FVec F S1x8x128 .f32 :=
  shapeCast S1x8x128 (broadcastTo S8x128 (shapeCast S8x1 (shapeCast S8x1 (multiReduction .add [1] S8
    (shapeCast S8x128 v shapeCasts_S1x8x128_S8x128) 0x00000000#32 reduces_S8x128_S8 (.inl rfl) rfl) shapeCasts_S8_S8x1)
    shapeCasts_S8x1_S8x1) broadcasts_S8x1_S8x128) shapeCasts_S8x128_S1x8x128

def daPiecesC3 : List (View.Piece (Elt F) S2x8x128 .f32) :=
  ⟨rectG 0, laneSum (arg13.view.readCov (daPiecesB H arg16 harg5 harg13 x3 xo11) (rectG 0).toLoadRect)⟩ ::
    daPiecesB H arg16 harg5 harg13 x3 xo11
def daPiecesC : List (View.Piece (Elt F) S2x8x128 .f32) :=
  ⟨rectG 1, laneSum (arg13.view.readCov (daPiecesC3 H arg16 harg5 harg13 x3 xo11) (rectG 1).toLoadRect)⟩ ::
    daPiecesC3 H arg16 harg5 harg13 x3 xo11

end

def sum4 (f : Fin 8 → FVec F S128x128 .f32) : Fin 2 → FVec F S128x128 .f32
  | 0 => addf (addf (addf (addf bz128 (f 0)) (f 1)) (f 2)) (f 3)
  | 1 => addf (addf (addf (addf bz128 (f 4)) (f 5)) (f 6)) (f 7)

def head0 : Fin 2 → Fin 8
  | 0 => 0
  | 1 => 4

/-- The gradient of the second projection of a group. -/
def dcOut (g : Fin 2) : FVec F S128x128 .f32 :=
  addf (matmul dot_S128x128_S128x128_S128x128_1_0_0_1_n_n none
    (truncf .bf16 (sum4 (fun r => (H r).dg) g) bitsLt_bf16_f32) (H (head0 g)).bb z128) (sum4 (fun r => (H r).dc) g)

/-- The gradient of the first projection of a group. -/
def dbOut (g : Fin 2) : FVec F S128x128 .f32 :=
  addf (matmul dot_S128x128_S128x128_S128x128_0_0_1_1_n_n none
    (truncf .bf16 (sum4 (fun r => (H r).dg) g) bitsLt_bf16_f32) (H (head0 g)).cb z128) (sum4 (fun r => (H r).db) g)

def dbPieces : List (View.Piece (Elt F) S128x256 .f32) := [⟨rectB 1, dbOut H 1⟩, ⟨rectB 0, dbOut H 0⟩]
def dcPieces : List (View.Piece (Elt F) S128x256 .f32) := [⟨rectB 1, dcOut H 1⟩, ⟨rectB 0, dcOut H 0⟩]

/-- At the first point of a group pair the state's gradient is zeroed first, then each head loads and stores its part. -/
def zeroD : View.Piece (Elt F) S8x64x128 .f32 :=
  ⟨Rect.unit ![0, 0, 0] S8x64x128.size inb_S8x64x128_S8x64x128_0_0_0,
    shapeCast S8x64x128 (broadcast S8x64x128 (Scalar.ofBits .f32 0x00000000#32 : F .f32)) shapeCasts_S8x64x128_S8x64x128⟩

def storesA (arg14 : Memref sig .tc .vmem S8x64x128 .f32) (K : Vec F S1x64x128 .f32 → Fin 8 → HeadIn F) :
    (n : ℕ) → n ≤ 8 → List (View.Piece (Elt F) S8x64x128 .f32)
  | 0, _ => [zeroD]
  | n + 1, h => ⟨rectD ⟨n, h⟩, (K (arg14.view.readCov (storesA arg14 K n (Nat.le_of_succ_le h)) (rectD ⟨n, h⟩).toLoadRect) ⟨n, h⟩).dhNew⟩ ::
      storesA arg14 K n (Nat.le_of_succ_le h)

def ldDA (arg14 : Memref sig .tc .vmem S8x64x128 .f32) (K : Vec F S1x64x128 .f32 → Fin 8 → HeadIn F) (n : Fin 8) :
    Vec F S1x64x128 .f32 :=
  arg14.view.readCov (storesA arg14 K n.val n.isLt.le) (rectD n).toLoadRect

end Ssd.Body
-- ==== Proof.Rows.lean ====
/-
  Loads and stores read at an index: a block's rows, the blocks of a head, and the lists of stores a point makes.
-/
module

public import proofs.«01_k».proof.Proof.Val
public import proofs.«01_k».proof.Proof.Loads
public import Idealize.ShloMosaic.Lib.WholeRead

@[expose] public section

set_option maxRecDepth 16384

noncomputable section

namespace Ssd.Body

open Finset Idealize.ShloMosaic Cert.KernelIdeal Cert.KernelIdeal.Gen Scan

section
variable {F : FTy → Type} [FloatOps F]

/-- The row of a stored row, read at an index. -/
theorem reshape_row (n : Fin 8) (y : (rectRow n).shape.Idx) (i : Fin 128) (hi : (y 2).val = i.val) :
    Shape.reshapeEquiv (numelRow' n) y = ix2 0 i := by
  have h := fun a => (Rect.unit (s := S8x128) ![(row n).val, 0] S1x128.size (inbR (row n))).reshapeEquiv_consLift_succ
    ![1, 8, 128] (by decide) (by decide) y a
  funext a
  refine Fin.ext ((h a).symm.trans ?_)
  fin_cases a
  · have : (y 1).val < 1 := (y 1).isLt
    show (y 1).val = 0
    omega
  · exact hi

/-- Where a row is stored. -/
theorem emb_row (n : Fin 8) (y : (rectRow n).shape.Idx) (i : Fin 128) (hi : (y 2).val = i.val) :
    (rectRow n).emb y = ix3 (grp n) (row n) i := by
  have h0 : (y 0).val < 1 := (y 0).isLt
  have h1 : (y 1).val < 1 := (y 1).isLt
  funext a
  refine Fin.ext ((Rect.emb_apply _ _ _).trans ?_)
  fin_cases a
  · show (grp n).val + 0 + 1 * (y 0).val = (grp n).val
    omega
  · show 0 + (row n).val + 1 * (y 1).val = (row n).val
    omega
  · show 0 + 0 + 1 * (y 2).val = i.val
    omega

/-- Contents whose last store is a row: the row where it lies, the earlier stores elsewhere. -/
theorem canon_row (n : Fin 8) (w : FVec F S1x128 .f32) (L : List (View.Piece (Elt F) S2x8x128 .f32)) (g : Fin 2) (r : Fin 8)
    (i : Fin 128) : View.canon (rowPiece n w :: L) (ix3 g r i)
      = if g = grp n ∧ r = row n then w (ix2 0 i) else View.canon L (ix3 g r i) := by
  split_ifs with h
  · obtain ⟨rfl, rfl⟩ := h
    let y : (rectRow n).shape.Idx := (ix3 (0 : Fin 1) (0 : Fin 1) i : (⟨3, ![1, 1, 128]⟩ : Shape).Idx)
    rw [← emb_row n y i rfl]
    refine (View.canon_cons_emb (rectRow n) _ L y).trans ?_
    exact congrArg w (reshape_row n y i rfl)
  · refine View.canon_cons_of_not_mem _ L fun hm => h ?_
    obtain ⟨y, hy⟩ := (rectRow n).exists_idx_of_mem hm
    have e := (emb_row n y (y 2) rfl).symm.trans hy
    exact ⟨(congrFun e 0).symm, (congrFun e 1).symm⟩

theorem canon_zero (i : S2x8x128.Idx) : View.canon [zeroPiece (F := F)] i = Scalar.ofBits .f32 0x00000000#32 :=
  congrFun (View.canon_unit_zero (funext fun a => by fin_cases a <;> rfl) _ _) i

/-- A row of a stored group, its own or of the padding. -/
theorem rows_apply (f : Fin 8 → FVec F S1x128 .f32) (g : Fin 2) (r : Fin 8) (i : Fin 128) :
    View.canon (rowsOf f g) (ix3 g r i) = if h : r.val < 4 then f ⟨4 * g.val + r.val, by omega⟩ (ix2 0 i)
      else Scalar.ofBits .f32 0x00000000#32 := by
  have hz := canon_zero (F := F) (ix3 g r i)
  fin_cases g
  · show View.canon (rows0 f) _ = _
    simp only [rows0, canon_row, hz]
    fin_cases r <;> rfl
  · show View.canon (rows1 f) _ = _
    simp only [rows1, rows0, canon_row, hz]
    fin_cases r <;> rfl

/-- Where a group's block lies. -/
theorem idx_group (g : Fin 2) (z : Fin 1) (r : Fin 8) (i : Fin 128) :
    (rectG g).toLoadRect.idx (ix3 z r i : S1x8x128.Idx) = ix3 g r i := by
  funext a
  refine Fin.ext ?_
  fin_cases a
  · show g.val + 1 * z.val = g.val
    omega
  · show 0 + 1 * r.val = r.val
    omega
  · show 0 + 1 * i.val = i.val
    omega

theorem ldG_apply {m : Memref sig .tc .vmem S2x8x128 .f32} (h : m.IsWhole) (x : Vec F S2x8x128 .f32) (g : Fin 2) (z : Fin 1)
    (r : Fin 8) (i : Fin 128) : ldG h x g (ix3 z r i) = x (ix3 g r i) :=
  (h.readAt_unread x _ _).trans (congrArg x (idx_group g z r i))

theorem readCov_group (v : Memref sig .tc .vmem S2x8x128 .f32) (L : List (View.Piece (Elt F) S2x8x128 .f32)) (g : Fin 2) (z : Fin 1)
    (r : Fin 8) (i : Fin 128) : v.view.readCov L (rectG g).toLoadRect (ix3 z r i : S1x8x128.Idx) = View.canon L (ix3 g r i) := by
  rw [View.readCov_eq_canon']
  exact congrArg (View.canon L) (idx_group g z r i)

/-- A group's block stored last, or another's. -/
theorem canon_group (g' : Fin 2) (w : FVec F S1x8x128 .f32) (L : List (View.Piece (Elt F) S2x8x128 .f32)) (g : Fin 2) (r : Fin 8)
    (i : Fin 128) : View.canon ((⟨rectG g', w⟩ : View.Piece (Elt F) S2x8x128 .f32) :: L) (ix3 g r i)
      = if g = g' then w (ix3 0 r i) else View.canon L (ix3 g r i) := by
  split_ifs with h
  · subst h
    rw [← idx_group g 0 r i]
    exact View.canon_cons_emb (rectG g) w L _
  · refine View.canon_cons_of_not_mem _ L fun hm => h ?_
    have hm' : ix3 g r i ∈ (rectG g').set := hm
    rw [rectG, Rect.mem_set_unit] at hm'
    have := hm' 0
    exact Fin.ext (by
      have h1 : g'.val ≤ g.val := this.1
      have h2 : g.val < g'.val + 1 := this.2
      omega)

/-- A row read from a block of rows. -/
theorem idx_row (n : Fin 8) (z : Fin 1) (i : Fin 128) :
    (loadRow n).idx (Shape.reshapeEquiv (numelRow n) (ix2 z i : S1x128.Idx)) = ix3 (grp n) (row n) i := by
  let y : (loadRow n).shape.Idx := (ix3 (0 : Fin 1) (0 : Fin 1) i : (⟨3, ![1, 1, 128]⟩ : Shape).Idx)
  have e : Shape.reshapeEquiv (numelRow n) (ix2 z i : S1x128.Idx) = y := by
    rw [Subsingleton.elim z 0, ← reshape_row n y i rfl]
    exact (Shape.reshapeEquiv_reshapeEquiv _ _ y).trans (Shape.reshapeEquiv_self _ y)
  rw [e]
  exact emb_row n y i rfl

theorem ofRow_apply (n : Fin 8) (v : (loadRow n).shape.Idx → Elt F .f32) (X : S2x8x128.Idx → Elt F .f32)
    (hv : ∀ y, v y = X ((loadRow n).idx y)) (z : Fin 1) (i : Fin 128) : ofRow n v (ix2 z i) = X (ix3 (grp n) (row n) i) :=
  (hv _).trans (congrArg X (idx_row n z i))

end

/-! ### The small matrices of a group -/

theorem mask_eq (b : Prop) [Decidable b] : (FloatOps.sitofp .f32 (BitVec.setWidth 32 (BitVec.ofBool (decide b))) : Ideal .f32)
    = ((if b then 1 else 0 : ℝ) : EReal) := by
  show (((BitVec.setWidth 32 (BitVec.ofBool (decide b))).toInt : ℝ) : EReal) = _
  by_cases h : b <;> simp [h]

theorem splitDot_apply (v : FVec Ideal S8x128 .f32) (m : IVec S128x128 1) (p : Fin 128 → Fin 128 → Prop) [∀ x j, Decidable (p x j)]
    (hm : ∀ x j, m (ix2 x j) = BitVec.ofBool (decide (p x j)))
    (w : Fin 8 → Fin 128 → ℝ) (hv : ∀ r x, v (ix2 r x) = (w r x : EReal)) (r : Fin 8) (j : Fin 128) :
    splitDot v m (ix2 r j) = ((∑ x, if p x j then w r x else 0 : ℝ) : EReal) := by
  unfold splitDot
  pointwise
  simp only [hv, hm, mask_eq, ← EReal.coe_mul, ← EReal.coe_sub, ← EReal.coe_add, ← coe_sum]
  simp

/-- The positions up to `j`. -/
theorem mask_le (x j : Fin 128) : cmpi .sle rowI colI (ix2 x j) = BitVec.ofBool (decide (x.val ≤ j.val)) := by
  unfold rowI colI
  pointwise
  exact WordCmp.cmpi_sle_ofNat (by omega) (by omega)

/-- The positions from `j` on. -/
theorem mask_ge (x j : Fin 128) : cmpi .sge rowI colI (ix2 x j) = BitVec.ofBool (decide (j.val ≤ x.val)) := by
  unfold rowI colI
  pointwise
  exact WordCmp.cmpi_sge_ofNat (by omega) (by omega)

section
variable {dt a dlam ddt : FVec Ideal S1x8x128 .f32} {τ α f e : Fin 8 → Fin 128 → ℝ}
  (hτ : ∀ r i, dt (ix3 0 r i) = (τ r i : EReal)) (hα : ∀ r i, a (ix3 0 r i) = (α r i : EReal))
  (hf : ∀ r i, dlam (ix3 0 r i) = (f r i : EReal)) (he : ∀ r i, ddt (ix3 0 r i) = (e r i : EReal))

include hτ hα in
theorem lamOut_apply (z : Fin 1) (r : Fin 8) (i : Fin 128) :
    lamOut dt a (ix3 z r i) = ((∑ x : Fin 128, if x.val ≤ i.val then τ r x * α r x else 0 : ℝ) : EReal) := by
  unfold lamOut
  pointwise
  refine splitDot_apply _ _ _ mask_le (fun r x => τ r x * α r x) (fun r x => ?_) r i
  pointwise
  rw [hτ, hα, EReal.coe_mul]

include hf in
theorem dA_apply (r : Fin 8) (i : Fin 128) :
    dA dlam (ix2 r i) = ((∑ x : Fin 128, if i.val ≤ x.val then f r x else 0 : ℝ) : EReal) := by
  refine splitDot_apply _ _ _ mask_ge f (fun r x => ?_) r i
  pointwise
  exact hf r x

include hf he hα in
theorem ddtOut_apply (z : Fin 1) (r : Fin 8) (i : Fin 128) : ddtOut dlam ddt a (ix3 z r i)
    = ((e r i + (∑ x : Fin 128, if i.val ≤ x.val then f r x else 0) * α r i : ℝ) : EReal) := by
  unfold ddtOut
  pointwise
  rw [dA_apply hf, he, hα, EReal.coe_add, EReal.coe_mul]

include hf hτ in
theorem daPart_apply (r : Fin 8) (i : Fin 128) : daPart dlam dt (ix2 r i)
    = (((∑ x : Fin 128, if i.val ≤ x.val then f r x else 0) * τ r i : ℝ) : EReal) := by
  unfold daPart
  pointwise
  rw [dA_apply hf, hτ, EReal.coe_mul]

end

end Ssd.Body
-- ==== Proof.Point.lean ====
/-
  One grid point over the extended reals: from blocks holding the real numbers of eight heads at one chunk, what the
  point stores into each result.
-/
module

public import proofs.«01_k».proof.Proof.Rows

@[expose] public section

set_option maxRecDepth 16384

noncomputable section

namespace Ssd.Body

open Finset Idealize.ShloMosaic Cert.KernelIdeal Cert.KernelIdeal.Gen Scan

/-- Head `r` of group `g`. -/
def hd (g : Fin 2) (r : Fin 4) : Fin 8 := ⟨4 * g.val + r.val, by omega⟩

theorem grp_hd (g : Fin 2) (r : Fin 4) : grp (hd g r) = g := Fin.ext (by show (4 * g.val + r.val) / 4 = g.val; omega)
theorem row_hd (g : Fin 2) (r : Fin 4) : (row (hd g r)).val = r.val := by show (4 * g.val + r.val) % 4 = r.val; omega
theorem hd_grp_row (n : Fin 8) : hd (grp n) ⟨n.val % 4, by omega⟩ = n :=
  Fin.ext (by show 4 * (n.val / 4) + n.val % 4 = n.val; omega)

/-- The gradients of the log-decays from `t` on, added up: the gradient of position `t`'s log-decay itself. -/
def suf (M : Head 64 128) (t : ℕ) : ℝ := ∑ u ∈ range 4096, if t ≤ u then M.dA 4096 u else 0

/-- A column of a group's projection. -/
def colB (g : Fin 2) (k : Fin 128) : Fin 256 := ⟨128 * g.val + k.val, by omega⟩

/-- A point's blocks hold the real numbers of the heads `M` at the chunk from `s`; the rows of step sizes and of decay
    rates are `τ` and `α`. -/
structure Blocks (M : Fin 8 → Head 64 128) (s : ℕ) (τ α : Fin 2 → Fin 8 → Fin 128 → ℝ)
    (x0 : Vec Ideal S8x128x64 .f32) (x1 x2 : Vec Ideal S128x256 .f32) (x3 x4 : Vec Ideal S2x8x128 .f32)
    (x5 : Vec Ideal S1x8x64x128 .f32) (x6 : Vec Ideal S8x128x64 .f32) : Prop where
  e0 : ∀ (n : Fin 8) (i : Fin 128) (p : Fin 64), x0 (ix3 n i p) = ((M n).x (s + i) p : EReal)
  e1 : ∀ (n : Fin 8) (i k : Fin 128), x1 (ix2 i (colB (grp n) k)) = ((M n).B (s + i) k : EReal)
  e2 : ∀ (n : Fin 8) (i k : Fin 128), x2 (ix2 i (colB (grp n) k)) = ((M n).C (s + i) k : EReal)
  e3 : ∀ g r i, x3 (ix3 g r i) = (τ g r i : EReal)
  e4 : ∀ g r i, x4 (ix3 g r i) = (α g r i : EReal)
  e5 : ∀ (z : Fin 1) (n : Fin 8) (p : Fin 64) (k : Fin 128), x5 (ix4 z n p k) = ((M n).past s p k : EReal)
  e6 : ∀ (n : Fin 8) (i : Fin 128) (p : Fin 64), x6 (ix3 n i p) = ((M n).y (s + i) p : EReal)
  τ_eq : ∀ n i, τ (grp n) (row n) i = (M n).τ (s + i)
  δ_eq : ∀ n i, τ (grp n) (row n) i * α (grp n) (row n) i = (M n).δ (s + i)
  B_eq : ∀ n t, (M n).B t = (M (head0 (grp n))).B t
  C_eq : ∀ n t, (M n).C t = (M (head0 (grp n))).C t
  neg : ∀ n t, (M n).δ t ≤ 0
  le : s + 128 ≤ 4096

/-- Where head `n`'s blocks lie. -/
theorem idx_x (n : Fin 8) (z : Fin 1) (i : Fin 128) (p : Fin 64) :
    (rectX n).toLoadRect.idx (ix3 z i p : S1x128x64.Idx) = ix3 n i p := by
  funext a
  refine Fin.ext ?_
  fin_cases a
  · show n.val + 1 * z.val = n.val
    omega
  · show 0 + 1 * i.val = i.val
    omega
  · show 0 + 1 * p.val = p.val
    omega

theorem idx_d (n : Fin 8) (z : Fin 1) (i : Fin 64) (p : Fin 128) :
    (rectD n).toLoadRect.idx (ix3 z i p : S1x64x128.Idx) = ix3 n i p := by
  funext a
  refine Fin.ext ?_
  fin_cases a
  · show n.val + 1 * z.val = n.val
    omega
  · show 0 + 1 * i.val = i.val
    omega
  · show 0 + 1 * p.val = p.val
    omega

theorem idx_h (n : Fin 8) (z w : Fin 1) (p : Fin 64) (k : Fin 128) :
    (rectH n).toLoadRect.idx (ix4 z w p k : S1x1x64x128.Idx) = ix4 0 n p k := by
  funext a
  refine Fin.ext ?_
  fin_cases a
  · show 0 + 1 * z.val = 0
    omega
  · show n.val + 1 * w.val = n.val
    omega
  · show 0 + 1 * p.val = p.val
    omega
  · show 0 + 1 * k.val = k.val
    omega

theorem idx_b (g : Fin 2) (i k : Fin 128) : (rectB g).toLoadRect.idx (ix2 i k : S128x128.Idx) = ix2 i (colB g k) := by
  funext a
  refine Fin.ext ?_
  fin_cases a
  · show 0 + 1 * i.val = i.val
    omega
  · show 128 * g.val + 1 * k.val = 128 * g.val + k.val
    omega

/-- The running sum inside a chunk, over the chunk's 128 positions. -/
theorem lam_fin (M : Head 64 128) (s : ℕ) (i : Fin 128) : ∑ x : Fin 128, (if x.val ≤ i.val then M.δ (s + x) else 0) = M.lam s i := by
  rw [← Finset.sum_range (fun x => if x ≤ i.val then M.δ (s + x) else 0), Head.lam,
    ← sum_range_add_sum_Ico _ (show i.val + 1 ≤ 128 by omega),
    sum_eq_zero (s := Ico (i.val + 1) 128) fun x hx => if_neg (by have := (mem_Ico.mp hx).1; omega), add_zero]
  exact sum_congr rfl fun x hx => if_pos (by have := mem_range.mp hx; omega)

section
variable {arg2 arg8 : Memref sig .tc .vmem S8x128x64 .f32} {arg3 arg4 : Memref sig .tc .vmem S128x256 .f32}
  {arg5 arg6 : Memref sig .tc .vmem S2x8x128 .f32} {arg7 : Memref sig .tc .vmem S1x8x64x128 .f32}
  (harg2 : arg2.IsWhole) (harg3 : arg3.IsWhole) (harg4 : arg4.IsWhole) (harg5 : arg5.IsWhole) (harg6 : arg6.IsWhole)
  (harg7 : arg7.IsWhole) (harg8 : arg8.IsWhole) (arg15 : Memref sig .tc .vmem S2x8x128 .f32)
  {x0 : Vec Ideal S8x128x64 .f32} {x1 x2 : Vec Ideal S128x256 .f32} {x3 x4 : Vec Ideal S2x8x128 .f32}
  {x5 : Vec Ideal S1x8x64x128 .f32} {x6 : Vec Ideal S8x128x64 .f32} {dh : Fin 8 → Vec Ideal S1x64x128 .f32}
  {M : Fin 8 → Head 64 128} {s : ℕ} {τ α : Fin 2 → Fin 8 → Fin 128 → ℝ} (hb : Blocks M s τ α x0 x1 x2 x3 x4 x5 x6)
include hb

theorem lam_apply (g : Fin 2) (r : Fin 8) (i : Fin 128) : View.canon (lamPieces harg5 harg6 x3 x4) (ix3 g r i)
    = ((∑ x : Fin 128, if x.val ≤ i.val then τ g r x * α g r x else 0 : ℝ) : EReal) := by
  have h := fun g z => lamOut_apply (dt := ldG harg5 x3 g) (a := ldG harg6 x4 g) (τ := τ g) (α := α g)
    (fun r i => (ldG_apply harg5 x3 g 0 r i).trans (hb.e3 g r i)) (fun r i => (ldG_apply harg6 x4 g 0 r i).trans (hb.e4 g r i)) z r i
  rw [lamPieces, canon_group, canon_group, h, h]
  fin_cases g <;> rfl

/-- What the body loads for a head. -/
theorem headAt_is (n : Fin 8) (hdh : ∀ (z : Fin 1) (p : Fin 64) (k : Fin 128), dh n (ix3 z p k) = ((M n).future 4096 (s + 128) p k : EReal)) :
    (headAt harg2 harg3 harg4 harg5 harg6 harg7 harg8 arg15 x0 x1 x2 x3 x4 x5 x6 dh n).Is (M n) s where
  x z i p := (harg2.readAt_unread x0 _ _).trans ((congrArg x0 (idx_x n z i p)).trans (hb.e0 n i p))
  dy z i p := (harg8.readAt_unread x6 _ _).trans ((congrArg x6 (idx_x n z i p)).trans (hb.e6 n i p))
  h z w p k := (harg7.readAt_unread x5 _ _).trans ((congrArg x5 (idx_h n z w p k)).trans (hb.e5 0 n p k))
  dh := hdh
  lam z i := by
    refine (ofRow_apply n (arg15.view.readCov (lamPieces harg5 harg6 x3 x4) (loadRow n)) (View.canon (lamPieces harg5 harg6 x3 x4))
      (fun y => congrFun (View.readCov_eq_canon' _ _ _) y) z i).trans ?_
    rw [lam_apply harg5 harg6 hb, ← lam_fin]
    simp only [hb.δ_eq]
  dt z i := (ofRow_apply n _ x3 (fun y => harg5.readAt_unread x3 _ y) z i).trans ((hb.e3 _ _ i).trans (by rw [hb.τ_eq]))
  b i k := (harg3.readAt_unread x1 _ _).trans ((congrArg x1 (idx_b _ i k)).trans (hb.e1 n i k))
  c i k := (harg4.readAt_unread x2 _ _).trans ((congrArg x2 (idx_b _ i k)).trans (hb.e2 n i k))
  neg := hb.neg n
  le := hb.le

end

/-! ### The stores of a point -/

section
variable {F : FTy → Type} [FloatOps F]

theorem canon_x (m : Fin 8) (w : FVec F S1x128x64 .f32) (L : List (View.Piece (Elt F) S8x128x64 .f32)) (n : Fin 8) (i : Fin 128)
    (p : Fin 64) : View.canon ((⟨rectX m, w⟩ : View.Piece (Elt F) S8x128x64 .f32) :: L) (ix3 n i p)
      = if n = m then w (ix3 0 i p) else View.canon L (ix3 n i p) := by
  split_ifs with h
  · subst h
    rw [← idx_x n 0 i p]
    exact View.canon_cons_emb (rectX n) w L _
  · refine View.canon_cons_of_not_mem _ L fun hm => h ?_
    have hm' : ix3 n i p ∈ (rectX m).set := hm
    rw [rectX, Rect.mem_set_unit] at hm'
    have := hm' 0
    exact Fin.ext (by
      have h1 : m.val ≤ n.val := this.1
      have h2 : n.val < m.val + 1 := this.2
      omega)

theorem canon_d (m : Fin 8) (w : FVec F S1x64x128 .f32) (L : List (View.Piece (Elt F) S8x64x128 .f32)) (n : Fin 8) (i : Fin 64)
    (p : Fin 128) : View.canon ((⟨rectD m, w⟩ : View.Piece (Elt F) S8x64x128 .f32) :: L) (ix3 n i p)
      = if n = m then w (ix3 0 i p) else View.canon L (ix3 n i p) := by
  split_ifs with h
  · subst h
    rw [← idx_d n 0 i p]
    exact View.canon_cons_emb (rectD n) w L _
  · refine View.canon_cons_of_not_mem _ L fun hm => h ?_
    have hm' : ix3 n i p ∈ (rectD m).set := hm
    rw [rectD, Rect.mem_set_unit] at hm'
    have := hm' 0
    exact Fin.ext (by
      have h1 : m.val ≤ n.val := this.1
      have h2 : n.val < m.val + 1 := this.2
      omega)

theorem canon_b (m : Fin 2) (w : FVec F S128x128 .f32) (L : List (View.Piece (Elt F) S128x256 .f32)) (g : Fin 2) (i k : Fin 128) :
    View.canon ((⟨rectB m, w⟩ : View.Piece (Elt F) S128x256 .f32) :: L) (ix2 i (colB g k))
      = if g = m then w (ix2 i k) else View.canon L (ix2 i (colB g k)) := by
  split_ifs with h
  · subst h
    rw [← idx_b g i k]
    exact View.canon_cons_emb (rectB g) w L _
  · refine View.canon_cons_of_not_mem _ L fun hm => h ?_
    have hm' : ix2 i (colB g k) ∈ (rectB m).set := hm
    rw [rectB, Rect.mem_set_unit] at hm'
    have := hm' 1
    exact Fin.ext (by
      have h1 : 128 * m.val ≤ 128 * g.val + k.val := this.1
      have h2 : 128 * g.val + k.val < 128 * m.val + 128 := this.2
      omega)

variable (H : Fin 8 → HeadIn F)

theorem canon_dx (n : Fin 8) (i : Fin 128) (p : Fin 64) : View.canon (dxPieces H) (ix3 n i p) = (H n).dx (ix3 0 i p) := by
  simp only [dxPieces, canon_x]
  fin_cases n <;> rfl

theorem canon_dh (n : Fin 8) (i : Fin 64) (p : Fin 128) : View.canon (dhPieces H) (ix3 n i p) = (H n).dhNew (ix3 0 i p) := by
  simp only [dhPieces, canon_d]
  fin_cases n <;> rfl

theorem canon_db (g : Fin 2) (i k : Fin 128) : View.canon (dbPieces H) (ix2 i (colB g k)) = dbOut H g (ix2 i k) := by
  simp only [dbPieces, canon_b]
  fin_cases g <;> rfl

theorem canon_dc (g : Fin 2) (i k : Fin 128) : View.canon (dcPieces H) (ix2 i (colB g k)) = dcOut H g (ix2 i k) := by
  simp only [dcPieces, canon_b]
  fin_cases g <;> rfl

end

section
variable {H : Fin 8 → HeadIn Ideal} {M : Fin 8 → Head 64 128} {s : ℕ} (hH : ∀ n, (H n).Is (M n) s)
include hH

/-- The gradient of the values. -/
theorem dx_apply (n : Fin 8) (j : Fin 128) (p : Fin 64) : View.canon (dxPieces H) (ix3 n j p) = ((∑ t ∈ range 4096,
    (if s + j.val ≤ t then (M n).cb t (s + j) * (M n).L t (s + j) * (M n).τ (s + j) * (M n).y t p else 0) : ℝ) : EReal) :=
  (canon_dx H n j p).trans ((hH n).dx_eq 0 j p)

/-- The gradient of the state before the chunk. -/
theorem dh_apply (n : Fin 8) (p : Fin 64) (k : Fin 128) : View.canon (dhPieces H) (ix3 n p k) = ((M n).future 4096 s p k : EReal) :=
  (canon_dh H n p k).trans ((hH n).dhNew_eq 0 p k)

/-- A group's sum of its four heads. -/
theorem sum4_apply (f : Fin 8 → FVec Ideal S128x128 .f32) (w : Fin 8 → ℝ) (i k : Fin 128) (hf : ∀ n, f n (ix2 i k) = (w n : EReal))
    (g : Fin 2) : sum4 f g (ix2 i k) = ((∑ r : Fin 4, w (hd g r) : ℝ) : EReal) := by
  fin_cases g <;> unfold sum4 bz128 <;> pointwise <;>
    simp only [hf, zero_add, ← EReal.coe_add, Fin.sum_univ_four] <;> rfl

variable (hB : ∀ n t, (M n).B t = (M (head0 (grp n))).B t) (hC : ∀ n t, (M n).C t = (M (head0 (grp n))).C t)

include hB in
/-- The gradient of the second projection of a group. -/
theorem dc_apply (g : Fin 2) (i k : Fin 128) : dcOut H g (ix2 i k) = ((∑ r : Fin 4, ∑ t ∈ range 4096, (if t ≤ s + i.val then
    (M (hd g r)).dW (s + i) t * (M (hd g r)).L (s + i) t * (M (hd g r)).τ t * (M (hd g r)).B t k else 0) : ℝ) : EReal) := by
  have hg : ∀ r, (M (hd g r)).B = (M (head0 g)).B := fun r => funext fun t => by rw [hB, grp_hd]
  unfold dcOut HeadIn.bb z128
  pointwise
  simp only [fun x => sum4_apply hH (fun r => (H r).dg) _ i x fun n => (hH n).dg_eq i x,
    sum4_apply hH (fun r => (H r).dc) _ i k fun n => (hH n).dc_eq i k, (hH (head0 g)).b, ← EReal.coe_mul, ← coe_sum, ← EReal.coe_add]
  refine congrArg Real.toEReal ?_
  rw [sum_congr rfl fun r _ => ((M (hd g r)).dC_eq i.isLt (hH (hd g r)).le k).symm, sum_add_distrib]
  refine congrArg₂ (· + ·) ?_ rfl
  simp only [sum_mul]
  rw [sum_comm]
  refine sum_congr rfl fun r _ => ?_
  rw [Finset.sum_range]
  refine sum_congr rfl fun x _ => ?_
  rw [hg r]
  split_ifs <;> simp

include hC in
/-- The gradient of the first projection of a group. -/
theorem db_apply (g : Fin 2) (j k : Fin 128) : dbOut H g (ix2 j k) = ((∑ r : Fin 4, ∑ t ∈ range 4096, (if s + j.val ≤ t then
    (M (hd g r)).dW t (s + j) * (M (hd g r)).L t (s + j) * (M (hd g r)).τ (s + j) * (M (hd g r)).C t k else 0) : ℝ) : EReal) := by
  have hg : ∀ r, (M (hd g r)).C = (M (head0 g)).C := fun r => funext fun t => by rw [hC, grp_hd]
  unfold dbOut HeadIn.cb z128
  pointwise
  simp only [fun x => sum4_apply hH (fun r => (H r).dg) _ x j fun n => (hH n).dg_eq x j,
    sum4_apply hH (fun r => (H r).db) _ j k fun n => (hH n).db_eq j k, (hH (head0 g)).c, ← EReal.coe_mul, ← coe_sum, ← EReal.coe_add]
  refine congrArg Real.toEReal ?_
  rw [sum_congr rfl fun r _ => ((M (hd g r)).dB_eq j.isLt (hH (hd g r)).le k).symm, sum_add_distrib]
  refine congrArg₂ (· + ·) ?_ rfl
  simp only [sum_mul]
  rw [sum_comm]
  refine sum_congr rfl fun r _ => ?_
  rw [Finset.sum_range]
  refine sum_congr rfl fun x _ => ?_
  rw [hg r]
  split_ifs <;> simp

/-- The gradient of the running sums, as a group's rows hold it: zero in the padding. -/
theorem dlamG_apply (arg16 : Memref sig .tc .vmem S2x8x128 .f32) (g : Fin 2) (r : Fin 8) (i : Fin 128) : dlamG H arg16 g (ix3 0 r i)
    = ((if h : r.val < 4 then (M (hd g ⟨r, h⟩)).dA 4096 (s + i)
        + (if i.val = 128 - 1 then (M (hd g ⟨r, h⟩)).span 4096 (s + 128) else 0) else 0 : ℝ) : EReal) := by
  unfold dlamG
  rw [readCov_group, rows_apply]
  split_ifs with h h'
  · rw [(hH _).dlam_eq, if_pos h']; rfl
  · rw [(hH _).dlam_eq, if_neg h']; rfl
  · exact Ideal.ofBits_zero_f32

/-- The direct part of the gradient of the step sizes, as a group's rows hold it. -/
theorem ddtG_apply (arg17 : Memref sig .tc .vmem S2x8x128 .f32) (g : Fin 2) (r : Fin 8) (i : Fin 128) : ddtG H arg17 g (ix3 0 r i)
    = ((if h : r.val < 4 then ∑ t ∈ range 4096, (if s + i.val ≤ t then (M (hd g ⟨r, h⟩)).dW t (s + i)
        * (M (hd g ⟨r, h⟩)).cb t (s + i) * (M (hd g ⟨r, h⟩)).L t (s + i) else 0) else 0 : ℝ) : EReal) := by
  unfold ddtG
  rw [readCov_group, rows_apply]
  split_ifs with h
  · exact (hH _).ddt_eq 0 i
  · exact Ideal.ofBits_zero_f32

/-- The sums of a group's rows to the end of the chunk. -/
theorem suffix_apply (g : Fin 2) (r : Fin 8) (i : Fin 128) : (∑ x : Fin 128, if i.val ≤ x.val then
    (if h : r.val < 4 then (M (hd g ⟨r, h⟩)).dA 4096 (s + x)
        + (if x.val = 128 - 1 then (M (hd g ⟨r, h⟩)).span 4096 (s + 128) else 0) else 0) else 0)
      = if h : r.val < 4 then suf (M (hd g ⟨r, h⟩)) (s + i) else 0 := by
  split_ifs with h
  · rw [suf, ← Head.suffix_eq (h := M (hd g ⟨r, h⟩)) i.isLt (hH (hd g ⟨r, h⟩)).le, Finset.sum_range]
  · simp

section
variable {arg5 arg6 : Memref sig .tc .vmem S2x8x128 .f32} (harg5 : arg5.IsWhole) (harg6 : arg6.IsWhole)
  (arg16 arg17 : Memref sig .tc .vmem S2x8x128 .f32) {x3 x4 : Vec Ideal S2x8x128 .f32} {τ α : Fin 2 → Fin 8 → Fin 128 → ℝ}

/-- The gradient of the step sizes. -/
theorem ddt_apply (h4 : ∀ g r i, x4 (ix3 g r i) = (α g r i : EReal)) (g : Fin 2) (r : Fin 8) (i : Fin 128) :
    View.canon (ddtPieces H arg16 arg17 harg6 x4) (ix3 g r i) = ((if h : r.val < 4 then
      ∑ t ∈ range 4096, (if s + i.val ≤ t then (M (hd g ⟨r, h⟩)).dW t (s + i)
        * (M (hd g ⟨r, h⟩)).cb t (s + i) * (M (hd g ⟨r, h⟩)).L t (s + i) else 0)
      + suf (M (hd g ⟨r, h⟩)) (s + i) * α g r i else 0 : ℝ) : EReal) := by
  have hout : ∀ g z, ddtOut (dlamG H arg16 g) (ddtG H arg17 g) (ldG harg6 x4 g) (ix3 z r i) = _ := fun g z =>
    ddtOut_apply (fun r i => (ldG_apply harg6 x4 g 0 r i).trans (h4 g r i)) (dlamG_apply hH arg16 g) (ddtG_apply hH arg17 g) z r i
  rw [ddtPieces, canon_group, canon_group, hout, hout]
  simp only [suffix_apply hH]
  have e : ∀ g : Fin 2, (if h : r.val < 4 then ∑ t ∈ range 4096, (if s + i.val ≤ t then (M (hd g ⟨r, h⟩)).dW t (s + i)
      * (M (hd g ⟨r, h⟩)).cb t (s + i) * (M (hd g ⟨r, h⟩)).L t (s + i) else 0) else 0)
      + (if h : r.val < 4 then suf (M (hd g ⟨r, h⟩)) (s + i) else 0) * α g r i
    = if h : r.val < 4 then
      ∑ t ∈ range 4096, (if s + i.val ≤ t then (M (hd g ⟨r, h⟩)).dW t (s + i)
        * (M (hd g ⟨r, h⟩)).cb t (s + i) * (M (hd g ⟨r, h⟩)).L t (s + i) else 0)
      + suf (M (hd g ⟨r, h⟩)) (s + i) * α g r i else 0 := by
    intro g
    split_ifs <;> simp
  rw [e, e]
  fin_cases g <;> rfl

/-- What a point adds to the gradient of the decay rates. -/
theorem daG_apply (h3 : ∀ g r i, x3 (ix3 g r i) = (τ g r i : EReal)) (g : Fin 2) (r : Fin 8) (i : Fin 128) :
    daG H arg16 harg5 x3 g (ix2 r i)
      = ((if h : r.val < 4 then suf (M (hd g ⟨r, h⟩)) (s + i) * τ g r i else 0 : ℝ) : EReal) := by
  refine (daPart_apply (fun r i => (ldG_apply harg5 x3 g 0 r i).trans (h3 g r i)) (dlamG_apply hH arg16 g) r i).trans ?_
  rw [suffix_apply hH]
  split_ifs <;> simp

/-- What a point adds to the gradient of the decay rates, as a real number. -/
def daAdd (M : Fin 8 → Head 64 128) (τ : Fin 2 → Fin 8 → Fin 128 → ℝ) (s : ℕ) (g : Fin 2) (r : Fin 8) (i : Fin 128) : ℝ :=
  if h : r.val < 4 then suf (M (hd g ⟨r, h⟩)) (s + i) * τ g r i else 0

/-- The first point of a pair of groups stores its own part. -/
theorem daA_apply (h3 : ∀ g r i, x3 (ix3 g r i) = (τ g r i : EReal)) (g : Fin 2) (r : Fin 8) (i : Fin 128) :
    View.canon (daPiecesA H arg16 harg5 x3) (ix3 g r i) = (daAdd M τ s g r i : EReal) := by
  have hout : ∀ g, shapeCast S1x8x128 (daG H arg16 harg5 x3 g) shapeCasts_S8x128_S1x8x128 (ix3 0 r i) = (daAdd M τ s g r i : EReal) := by
    intro g
    pointwise
    exact daG_apply hH harg5 arg16 h3 g r i
  refine (canon_group 1 _ _ g r i).trans ?_
  fin_cases g
  · exact (if_neg (by decide)).trans ((canon_group 0 _ _ 0 r i).trans ((if_pos rfl).trans (hout 0)))
  · exact (if_pos rfl).trans (hout 1)

variable {arg13 : Memref sig .tc .vmem S2x8x128 .f32} (harg13 : arg13.IsWhole) {xo11 : Vec Ideal S2x8x128 .f32}
  {A : Fin 2 → Fin 8 → Fin 128 → ℝ}

/-- A later point adds its part. -/
theorem daB_apply (h3 : ∀ g r i, x3 (ix3 g r i) = (τ g r i : EReal)) (hA : ∀ g r i, xo11 (ix3 g r i) = (A g r i : EReal))
    (g : Fin 2) (r : Fin 8) (i : Fin 128) :
    View.canon (daPiecesB H arg16 harg5 harg13 x3 xo11) (ix3 g r i) = ((A g r i + daAdd M τ s g r i : ℝ) : EReal) := by
  have hout : ∀ g, daSum H arg16 harg5 harg13 x3 xo11 g (ix3 0 r i) = ((A g r i + daAdd M τ s g r i : ℝ) : EReal) := by
    intro g
    unfold daSum
    pointwise
    rw [EReal.coe_add]
    exact congrArg₂ (· + ·) ((ldG_apply harg13 xo11 g 0 r i).trans (hA g r i)) (daG_apply hH harg5 arg16 h3 g r i)
  rw [daPiecesB, canon_group, canon_group, hout, hout]
  fin_cases g <;> rfl

omit hH in
theorem laneSum_apply (v : FVec Ideal S1x8x128 .f32) (w : Fin 128 → ℝ) (z : Fin 1) (r : Fin 8) (i : Fin 128)
    (hv : ∀ j, v (ix3 0 r j) = (w j : EReal)) : laneSum v (ix3 z r i) = ((∑ j, w j : ℝ) : EReal) := by
  unfold laneSum
  pointwise
  rw [coe_sum]
  exact sum_congr rfl fun j _ => hv j

/-- The last point of a pair of groups adds its part and then the lanes of each row. -/
theorem daC_apply (h3 : ∀ g r i, x3 (ix3 g r i) = (τ g r i : EReal)) (hA : ∀ g r i, xo11 (ix3 g r i) = (A g r i : EReal))
    (g : Fin 2) (r : Fin 8) (i : Fin 128) :
    View.canon (daPiecesC H arg16 harg5 harg13 x3 xo11) (ix3 g r i) = ((∑ j, (A g r j + daAdd M τ s g r j) : ℝ) : EReal) := by
  have h0 : laneSum (F := Ideal) (arg13.view.readCov (daPiecesB H arg16 harg5 harg13 x3 xo11) (rectG 0).toLoadRect) (ix3 0 r i)
      = ((∑ j, (A 0 r j + daAdd M τ s 0 r j) : ℝ) : EReal) :=
    laneSum_apply _ _ _ _ _ fun j => (readCov_group _ _ 0 0 r j).trans (daB_apply hH harg5 arg16 harg13 h3 hA 0 r j)
  have h1 : laneSum (F := Ideal) (arg13.view.readCov (daPiecesC3 H arg16 harg5 harg13 x3 xo11) (rectG 1).toLoadRect) (ix3 0 r i)
      = ((∑ j, (A 1 r j + daAdd M τ s 1 r j) : ℝ) : EReal) :=
    laneSum_apply _ _ _ _ _ fun j => by
      rw [readCov_group, daPiecesC3, canon_group, if_neg (by decide)]
      exact daB_apply hH harg5 arg16 harg13 h3 hA 1 r j
  rw [daPiecesC, canon_group, h1, daPiecesC3, canon_group, h0]
  fin_cases g <;> rfl

end
end

/-! ### The first point of a pair of groups: the state's gradient starts at zero -/

theorem storesA_above (arg14 : Memref sig .tc .vmem S8x64x128 .f32) (K : Vec Ideal S1x64x128 .f32 → Fin 8 → HeadIn Ideal)
    (n : Fin 8) (p : Fin 64) (k : Fin 128) : ∀ (m : ℕ) (hm : m ≤ 8), m ≤ n.val →
      View.canon (storesA arg14 K m hm) (ix3 n p k) = 0
  | 0, _, _ => (congrFun (View.canon_unit_zero (funext fun a => by fin_cases a <;> rfl) _ _) _).trans Ideal.ofBits_zero_f32
  | m + 1, hm, h => by
    rw [storesA, canon_d, if_neg (fun e => by have := congrArg Fin.val e; simp only at this; omega)]
    exact storesA_above arg14 K n p k m _ (by omega)

theorem readCov_d (v : Memref sig .tc .vmem S8x64x128 .f32) (L : List (View.Piece (Elt Ideal) S8x64x128 .f32)) (n : Fin 8) (z : Fin 1)
    (p : Fin 64) (k : Fin 128) : v.view.readCov L (rectD n).toLoadRect (ix3 z p k : S1x64x128.Idx) = View.canon L (ix3 n p k) := by
  rw [View.readCov_eq_canon']
  exact congrArg (View.canon L) (idx_d n z p k)

theorem ldDA_apply (arg14 : Memref sig .tc .vmem S8x64x128 .f32) (K : Vec Ideal S1x64x128 .f32 → Fin 8 → HeadIn Ideal)
    (n : Fin 8) (z : Fin 1) (p : Fin 64) (k : Fin 128) : ldDA arg14 K n (ix3 z p k) = 0 :=
  (readCov_d arg14 _ n z p k).trans (storesA_above arg14 K n p k n.val _ le_rfl)

/-- After all eight heads, each head's part is what it stored. -/
theorem storesA_apply (arg14 : Memref sig .tc .vmem S8x64x128 .f32) (K : Vec Ideal S1x64x128 .f32 → Fin 8 → HeadIn Ideal)
    (n : Fin 8) (p : Fin 64) (k : Fin 128) : ∀ (m : ℕ) (hm : m ≤ 8), n.val < m →
      View.canon (storesA arg14 K m hm) (ix3 n p k) = (K (ldDA arg14 K n) n).dhNew (ix3 0 p k)
  | 0, _, h => absurd h (Nat.not_lt_zero _)
  | m + 1, hm, h => by
    rw [storesA, canon_d]
    by_cases e : n.val = m
    · subst e
      rw [if_pos (Fin.ext rfl)]
      rfl
    · rw [if_neg (fun e' => e (congrArg Fin.val e'))]
      exact storesA_apply arg14 K n p k m _ (by omega)

theorem future_end (M : Head 64 128) (p : Fin 64) (k : Fin 128) : M.future 4096 4096 p k = 0 := by
  simp [Head.future]

end Ssd.Body
-- ==== Proof.Input.lean ====
/-
  The blocks that a grid point is given hold the real numbers of its eight heads at its chunk.
-/
module

public import proofs.«01_k».proof.Proof.HostVal
public import proofs.«01_k».proof.Proof.Point
public import Idealize.ShloMosaic.Lib.Pipeline.ValueKit.Point

@[expose] public section

noncomputable section

namespace Ssd.Host

open Finset Idealize.ShloMosaic Idealize.ShloMosaic.TcCoe Scan Ssd.Body
open Cert.KernelIdeal Cert.KernelIdeal.Gen

/-- Where each window's block lies at each point. -/
theorem at0 : ∀ t : Fin cfg0.N, win0_0.index t = ![t.val / 32, 31 - t.val % 32, 0] :=
  (by decide +kernel : ∀ t : Fin grid0.N, win0_0.index t = ![t.val / 32, 31 - t.val % 32, 0])
theorem at1 : ∀ t : Fin cfg0.N, win0_1.index t = ![31 - t.val % 32, 8 + t.val / 32] :=
  (by decide +kernel : ∀ t : Fin grid0.N, win0_1.index t = ![31 - t.val % 32, 8 + t.val / 32])
theorem at2 : ∀ t : Fin cfg0.N, win0_2.index t = ![31 - t.val % 32, 12 + t.val / 32] :=
  (by decide +kernel : ∀ t : Fin grid0.N, win0_2.index t = ![31 - t.val % 32, 12 + t.val / 32])
theorem at3 : ∀ t : Fin cfg0.N, win0_3.index t = ![t.val / 32, 0, 31 - t.val % 32] :=
  (by decide +kernel : ∀ t : Fin grid0.N, win0_3.index t = ![t.val / 32, 0, 31 - t.val % 32])
theorem at4 : ∀ t : Fin cfg0.N, win0_4.index t = ![t.val / 32, 0, 0] :=
  (by decide +kernel : ∀ t : Fin grid0.N, win0_4.index t = ![t.val / 32, 0, 0])
theorem at5 : ∀ t : Fin cfg0.N, win0_5.index t = ![31 - t.val % 32, t.val / 32, 0, 0] :=
  (by decide +kernel : ∀ t : Fin grid0.N, win0_5.index t = ![31 - t.val % 32, t.val / 32, 0, 0])
theorem at6 : ∀ t : Fin cfg0.N, win0_6.index t = ![t.val / 32, 31 - t.val % 32, 0] :=
  (by decide +kernel : ∀ t : Fin grid0.N, win0_6.index t = ![t.val / 32, 31 - t.val % 32, 0])

theorem lt_N (t : Fin cfg0.N) : t.val < 128 := t.isLt

variable {d : Data} (m : (ℓ : Loc nD τ sig) → Buf (Elt Ideal) ℓ) (c : Dev nD) (t : Fin cfg0.N)

/-- The heads of a point. -/
def headsOf (d : Data) (t : ℕ) (n : Fin 8) : Head 64 128 := d.head (2 * (t / 32) + n.val / 4) (n.val % 4)
/-- The first position of a point's chunk. -/
def start (t : ℕ) : ℕ := 128 * (31 - t % 32)
/-- A point's rows of step sizes. -/
def dtAt (d : Data) (t : ℕ) (g : Fin 2) (r : Fin 8) (i : Fin 128) : ℝ :=
  if r.val < 4 then d.dt (4 * (2 * (t / 32) + g.val) + r.val) (start t + i.val) else 0
/-- A point's rows of decay rates. -/
def rateAt (d : Data) (t : ℕ) (g : Fin 2) (r : Fin 8) (_ : Fin 128) : ℝ :=
  if r.val < 4 then d.a (4 * (2 * (t / 32) + g.val) + r.val) else 0

theorem iblk0 (n : Fin 8) (i : Fin 128) (p : Fin 64) : iblk m c 0 t (ix3 n i p)
    = V m c main_v46 (ix3 (⟨8 * (t.val / 32) + n.val, by have := lt_N t; omega⟩ : Fin 32)
      (⟨start t.val + i.val, by unfold start; omega⟩ : Fin 4096) p) := by
  blk_simp [iblk, at0 t]
  unfold start
  congr 1
  blk_ext [at0 t]

theorem iblk1 (i : Fin 128) (k : Fin 256) : iblk m c 1 t (ix2 i k)
    = V m c main_arg0 (ix2 (⟨start t.val + i.val, by unfold start; omega⟩ : Fin 4096)
      (⟨2048 + 256 * (t.val / 32) + k.val, by have := lt_N t; omega⟩ : Fin 4096)) := by
  blk_simp [iblk, at1 t]
  unfold start
  congr 1
  blk_ext [at1 t]

theorem iblk2 (i : Fin 128) (k : Fin 256) : iblk m c 2 t (ix2 i k)
    = V m c main_arg0 (ix2 (⟨start t.val + i.val, by unfold start; omega⟩ : Fin 4096)
      (⟨3072 + 256 * (t.val / 32) + k.val, by have := lt_N t; omega⟩ : Fin 4096)) := by
  blk_simp [iblk, at2 t]
  unfold start
  congr 1
  blk_ext [at2 t]

theorem iblk3 (g : Fin 2) (r : Fin 8) (i : Fin 128) : iblk m c 3 t (ix3 g r i)
    = V m c main_v49 (ix3 (⟨2 * (t.val / 32) + g.val, by have := lt_N t; omega⟩ : Fin 8) r
      (⟨start t.val + i.val, by unfold start; omega⟩ : Fin 4096)) := by
  blk_simp [iblk, at3 t]
  unfold start
  congr 1
  blk_ext [at3 t]

theorem iblk4 (g : Fin 2) (r : Fin 8) (i : Fin 128) : iblk m c 4 t (ix3 g r i)
    = V m c main_v54 (ix3 (⟨2 * (t.val / 32) + g.val, by have := lt_N t; omega⟩ : Fin 8) r i) := by
  blk_simp [iblk, at4 t]
  congr 1
  blk_ext [at4 t]

theorem iblk5 (z : Fin 1) (n : Fin 8) (p : Fin 64) (k : Fin 128) : iblk m c 5 t (ix4 z n p k)
    = V m c main_v43 (ix4 (⟨31 - t.val % 32, by omega⟩ : Fin 32)
      (⟨8 * (t.val / 32) + n.val, by have := lt_N t; omega⟩ : Fin 32) p k) := by
  blk_simp [iblk, at5 t]
  congr 1
  blk_ext [at5 t]

theorem iblk6 (n : Fin 8) (i : Fin 128) (p : Fin 64) : iblk m c 6 t (ix3 n i p)
    = V m c main_v56 (ix3 (⟨8 * (t.val / 32) + n.val, by have := lt_N t; omega⟩ : Fin 32)
      (⟨start t.val + i.val, by unfold start; omega⟩ : Fin 4096) p) := by
  blk_simp [iblk, at6 t]
  unfold start
  congr 1
  blk_ext [at6 t]

/-- The head that a row of the arrays holds. -/
theorem head_row (q : ℕ) (n : Fin 8) : d.head ((8 * q + n.val) / 4) ((8 * q + n.val) % 4)
    = d.head (2 * q + n.val / 4) (n.val % 4) := by
  rw [show (8 * q + n.val) / 4 = 2 * q + n.val / 4 by omega, show (8 * q + n.val) % 4 = n.val % 4 by omega]

/-- A point's blocks hold its heads' real numbers. -/
theorem blocks (h : Reads d (m (c, Proc.tc.devRef main_arg0)) (m (c, Proc.tc.devRef main_arg1))
    (m (c, Proc.tc.devRef main_arg2)) (m (c, Proc.tc.devRef main_arg3))) :
    Blocks (headsOf d t.val) (start t.val) (dtAt d t.val) (rateAt d t.val) (iblk m c 0 t) (iblk m c 1 t) (iblk m c 2 t)
      (iblk m c 3 t) (iblk m c 4 t) (iblk m c 5 t) (iblk m c 6 t) where
  e0 n i p := by
    rw [iblk0, V_x, xHeads_apply h]
    exact congrArg (fun H : Head 64 128 => ((H.x (start t.val + i.val) p : ℝ) : EReal)) (head_row _ n)
  e1 n i k := by
    rw [iblk1, V_main_arg0]
    refine (h.act _).trans (congrArg (fun j : ℕ => ((d.act (start t.val + i.val) j : ℝ) : EReal)) ?_)
    show 2048 + 256 * (t.val / 32) + (128 * (n.val / 4) + k.val) = 2048 + 128 * (2 * (t.val / 32) + n.val / 4) + k.val
    omega
  e2 n i k := by
    rw [iblk2, V_main_arg0]
    refine (h.act _).trans (congrArg (fun j : ℕ => ((d.act (start t.val + i.val) j : ℝ) : EReal)) ?_)
    show 3072 + 256 * (t.val / 32) + (128 * (n.val / 4) + k.val) = 3072 + 128 * (2 * (t.val / 32) + n.val / 4) + k.val
    omega
  e3 g r i := by
    rw [iblk3, V_dt, dtRows_apply h]
    rfl
  e4 g r i := by
    rw [iblk4, V_rate, rateRows_apply h]
    rfl
  e5 z n p k := by
    rw [iblk5, V_states, states_apply h]
    exact congrArg (fun H : Head 64 128 => ((H.past (128 * (31 - t.val % 32)) p k : ℝ) : EReal)) (head_row _ n)
  e6 n i p := by
    rw [iblk6, V_y, yHeads_apply h]
    exact congrArg (fun H : Head 64 128 => ((H.y (start t.val + i.val) p : ℝ) : EReal)) (head_row _ n)
  τ_eq n i := by
    have hr : (row n).val < 4 := by show n.val % 4 < 4; omega
    rw [dtAt, if_pos hr]
    rfl
  δ_eq n i := by
    have hr : (row n).val < 4 := by show n.val % 4 < 4; omega
    rw [dtAt, rateAt, if_pos hr, if_pos hr]
    rfl
  B_eq n s := by
    have e : (head0 (grp n)).val / 4 = n.val / 4 := by fin_cases n <;> rfl
    exact congrArg (fun q : ℕ => fun k : Fin 128 => d.act s (2048 + 128 * (2 * (t.val / 32) + q) + k.val)) e.symm
  C_eq n s := by
    have e : (head0 (grp n)).val / 4 = n.val / 4 := by fin_cases n <;> rfl
    exact congrArg (fun q : ℕ => fun k : Fin 128 => d.act s (3072 + 128 * (2 * (t.val / 32) + q) + k.val)) e.symm
  neg n s := d.head_δ_nonpos _ _ s
  le := by unfold start; omega

end Ssd.Host
-- ==== Proof.StoresA.lean ====
/-
  The stores of a point of case A are the lists of `Loads`.
-/
module

public import proofs.«01_k».proof.Proof.Loads

@[expose] public section

set_option maxRecDepth 16384
set_option maxHeartbeats 4000000

noncomputable section

namespace Ssd.Body

open Idealize.ShloMosaic Idealize.ShloMosaic.TcCoe Cert.KernelIdeal Cert.KernelIdeal.Gen

variable {F : FTy → Type} [FloatOps F]

/-- What a head loads of the state's gradient: the stores of the heads before it, among all. -/
def prevD (arg14 : Memref sig .tc .vmem S8x64x128 .f32) (L : List (View.Piece (Elt F) S8x64x128 .f32)) (n : Fin 8) :
    Vec F S1x64x128 .f32 :=
  arg14.view.readCov (L.drop (8 - n.val)) (rectD n).toLoadRect

/-- A list of nine stores of which each is determined by the later part is `storesA`. -/
theorem drop_eq_storesA (arg14 : Memref sig .tc .vmem S8x64x128 .f32) (K : Vec F S1x64x128 .f32 → Fin 8 → HeadIn F)
    (L : List (View.Piece (Elt F) S8x64x128 .f32)) (h0 : L.drop 8 = [zeroD])
    (hs : ∀ n : Fin 8, L.drop (7 - n.val) = ⟨rectD n, (K (prevD arg14 L n) n).dhNew⟩ :: L.drop (8 - n.val)) :
    ∀ (n : ℕ) (h : n ≤ 8), L.drop (8 - n) = storesA arg14 K n h
  | 0, _ => h0
  | n + 1, h => by
    have ih := drop_eq_storesA arg14 K L h0 hs n (Nat.le_of_succ_le h)
    have e := hs ⟨n, h⟩
    rw [show 8 - (n + 1) = 7 - n by omega, storesA]
    refine e.trans ?_
    unfold prevD
    rw [ih]

section
variable
  (c : Dev nD) (i : grid0.Coords) (arg2 : Memref sig .tc .vmem S8x128x64 .f32) (harg2 : arg2.IsWhole) (arg3 : Memref
  sig .tc .vmem S128x256 .f32) (harg3 : arg3.IsWhole) (arg4 : Memref sig .tc .vmem S128x256 .f32) (harg4 :
  arg4.IsWhole) (arg5 : Memref sig .tc .vmem S2x8x128 .f32) (harg5 : arg5.IsWhole) (arg6 : Memref sig .tc .vmem
  S2x8x128 .f32) (harg6 : arg6.IsWhole) (arg7 : Memref sig .tc .vmem S1x8x64x128 .f32) (harg7 : arg7.IsWhole) (arg8 :
  Memref sig .tc .vmem S8x128x64 .f32) (harg8 : arg8.IsWhole) (arg9 : Memref sig .tc .vmem S8x128x64 .f32) (harg9 :
  arg9.IsWhole) (arg10 : Memref sig .tc .vmem S128x256 .f32) (harg10 : arg10.IsWhole) (arg11 : Memref sig .tc .vmem
  S128x256 .f32) (harg11 : arg11.IsWhole) (arg12 : Memref sig .tc .vmem S2x8x128 .f32) (harg12 : arg12.IsWhole) (arg13
  : Memref sig .tc .vmem S2x8x128 .f32) (harg13 : arg13.IsWhole) (arg14 : Memref sig .tc .vmem S8x64x128 .f32) (harg14
  : arg14.IsWhole) (arg15 : Memref sig .tc .vmem S2x8x128 .f32) (harg15 : arg15.IsWhole) (arg16 : Memref sig .tc .vmem
  S2x8x128 .f32) (harg16 : arg16.IsWhole) (arg17 : Memref sig .tc .vmem S2x8x128 .f32) (harg17 : arg17.IsWhole) (hc0 :
  cond0_0 i) (hc1 : cond0_1 i) (hc2 : ¬cond0_2 i) (hc3 : cond0_3 i) (hc4 : ¬cond0_4 i) (hc5 : ¬cond0_5 i) (x0 : Vec F
  S8x128x64 .f32) (x1 : Vec F S128x256 .f32) (x2 : Vec F S128x256 .f32) (x3 : Vec F S2x8x128 .f32) (x4 : Vec F
  S2x8x128 .f32) (x5 : Vec F S1x8x64x128 .f32) (x6 : Vec F S8x128x64 .f32)

/-- The oldest store into the state's gradient. -/
theorem dhFirst_A : ((kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).2.2.2.2.2.1).drop 8 = [zeroD] :=
  rfl

/-- The later stores into the state's gradient, one of each head. -/
theorem dhStep_A (n : Fin 8) : ((kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).2.2.2.2.2.1).drop (7 - n.val)
    = ⟨rectD n, (headAt harg2 harg3 harg4 harg5 harg6 harg7 harg8 arg15 x0 x1 x2 x3 x4 x5 x6 (fun _ => prevD arg14
        (kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).2.2.2.2.2.1 n) n).dhNew⟩ ::
      ((kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).2.2.2.2.2.1).drop (8 - n.val) :=
  match n with
  | 0 => rfl
  | 1 => rfl
  | 2 => rfl
  | 3 => rfl
  | 4 => rfl
  | 5 => rfl
  | 6 => rfl
  | 7 => rfl

/-- The stores into the state's gradient. -/
theorem dh_A :
    (kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).2.2.2.2.2.1 = storesA arg14 (fun v => headAt harg2 harg3 harg4 harg5 harg6 harg7 harg8 arg15 x0 x1 x2 x3 x4 x5 x6 fun _ => v) 8 le_rfl :=
  drop_eq_storesA arg14 (fun v => headAt harg2 harg3 harg4 harg5 harg6 harg7 harg8 arg15 x0 x1 x2 x3 x4 x5 x6 fun _ => v) _
    (dhFirst_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6)
    (dhStep_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6) 8 le_rfl

/-- What each head loads of the state's gradient. -/
theorem prevD_A : prevD arg14 (kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).2.2.2.2.2.1
      = ldDA arg14 fun v => headAt harg2 harg3 harg4 harg5 harg6 harg7 harg8 arg15 x0 x1 x2 x3 x4 x5 x6 fun _ => v :=
  funext fun n => congrArg (fun M => arg14.view.readCov M (rectD n).toLoadRect)
    (drop_eq_storesA arg14 (fun v => headAt harg2 harg3 harg4 harg5 harg6 harg7 harg8 arg15 x0 x1 x2 x3 x4 x5 x6 fun _ => v) _
      (dhFirst_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6)
      (dhStep_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6) n.val n.isLt.le)

/-- The stores into the gradient of the values, over the loads as they are made. -/
theorem dxRun_A :
    (kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).1 = dxPieces (headAt harg2 harg3 harg4 harg5 harg6 harg7 harg8 arg15 x0 x1 x2 x3 x4 x5 x6
    (prevD arg14 (kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).2.2.2.2.2.1)) :=
  rfl

/-- The stores into the gradient of the values. -/
theorem dx_A :
    (kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).1 = dxPieces (headAt harg2 harg3 harg4 harg5 harg6 harg7 harg8 arg15 x0 x1 x2 x3 x4 x5 x6
    (ldDA arg14 fun v => headAt harg2 harg3 harg4 harg5 harg6 harg7 harg8 arg15 x0 x1 x2 x3 x4 x5 x6 fun _ => v)) :=
  (dxRun_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).trans
    (congrArg (fun dh => dxPieces (headAt harg2 harg3 harg4 harg5 harg6 harg7 harg8 arg15 x0 x1 x2 x3 x4 x5 x6 dh))
      (prevD_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6))

/-- The stores into the gradient of the first projection, over the loads as they are made. -/
theorem dbRun_A :
    (kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).2.1 = dbPieces (headAt harg2 harg3 harg4 harg5 harg6 harg7 harg8 arg15 x0 x1 x2 x3 x4 x5 x6
    (prevD arg14 (kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).2.2.2.2.2.1)) :=
  rfl

/-- The stores into the gradient of the first projection. -/
theorem db_A :
    (kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).2.1 = dbPieces (headAt harg2 harg3 harg4 harg5 harg6 harg7 harg8 arg15 x0 x1 x2 x3 x4 x5 x6
    (ldDA arg14 fun v => headAt harg2 harg3 harg4 harg5 harg6 harg7 harg8 arg15 x0 x1 x2 x3 x4 x5 x6 fun _ => v)) :=
  (dbRun_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).trans
    (congrArg (fun dh => dbPieces (headAt harg2 harg3 harg4 harg5 harg6 harg7 harg8 arg15 x0 x1 x2 x3 x4 x5 x6 dh))
      (prevD_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6))

/-- The stores into the gradient of the second projection, over the loads as they are made. -/
theorem dcRun_A :
    (kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).2.2.1 = dcPieces (headAt harg2 harg3 harg4 harg5 harg6 harg7 harg8 arg15 x0 x1 x2 x3 x4 x5 x6
    (prevD arg14 (kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).2.2.2.2.2.1)) :=
  rfl

/-- The stores into the gradient of the second projection. -/
theorem dc_A :
    (kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).2.2.1 = dcPieces (headAt harg2 harg3 harg4 harg5 harg6 harg7 harg8 arg15 x0 x1 x2 x3 x4 x5 x6
    (ldDA arg14 fun v => headAt harg2 harg3 harg4 harg5 harg6 harg7 harg8 arg15 x0 x1 x2 x3 x4 x5 x6 fun _ => v)) :=
  (dcRun_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).trans
    (congrArg (fun dh => dcPieces (headAt harg2 harg3 harg4 harg5 harg6 harg7 harg8 arg15 x0 x1 x2 x3 x4 x5 x6 dh))
      (prevD_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6))

/-- The stores into the gradient of the step sizes, over the loads as they are made. -/
theorem ddtRun_A :
    (kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).2.2.2.1 = ddtPieces (headAt harg2 harg3 harg4 harg5 harg6 harg7 harg8 arg15 x0 x1 x2 x3 x4 x5 x6
    (prevD arg14 (kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).2.2.2.2.2.1)) arg16 arg17 harg6 x4 :=
  rfl

/-- The stores into the gradient of the step sizes. -/
theorem ddt_A :
    (kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).2.2.2.1 = ddtPieces (headAt harg2 harg3 harg4 harg5 harg6 harg7 harg8 arg15 x0 x1 x2 x3 x4 x5 x6
    (ldDA arg14 fun v => headAt harg2 harg3 harg4 harg5 harg6 harg7 harg8 arg15 x0 x1 x2 x3 x4 x5 x6 fun _ => v)) arg16 arg17 harg6 x4 :=
  (ddtRun_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).trans
    (congrArg (fun dh => ddtPieces (headAt harg2 harg3 harg4 harg5 harg6 harg7 harg8 arg15 x0 x1 x2 x3 x4 x5 x6 dh) arg16 arg17 harg6 x4)
      (prevD_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6))

/-- The stores into the gradient of the decay rates, over the loads as they are made. -/
theorem daRun_A :
    (kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).2.2.2.2.1 = daPiecesA (headAt harg2 harg3 harg4 harg5 harg6 harg7 harg8 arg15 x0 x1 x2 x3 x4 x5 x6
    (prevD arg14 (kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).2.2.2.2.2.1)) arg16 harg5 x3 :=
  rfl

/-- The stores into the gradient of the decay rates. -/
theorem da_A :
    (kernelRun0_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).2.2.2.2.1 = daPiecesA (headAt harg2 harg3 harg4 harg5 harg6 harg7 harg8 arg15 x0 x1 x2 x3 x4 x5 x6
    (ldDA arg14 fun v => headAt harg2 harg3 harg4 harg5 harg6 harg7 harg8 arg15 x0 x1 x2 x3 x4 x5 x6 fun _ => v)) arg16 harg5 x3 :=
  (daRun_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6).trans
    (congrArg (fun dh => daPiecesA (headAt harg2 harg3 harg4 harg5 harg6 harg7 harg8 arg15 x0 x1 x2 x3 x4 x5 x6 dh) arg16 harg5 x3)
      (prevD_A c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6))

end

end Ssd.Body
-- ==== Proof.StoresB.lean ====
/-
  The stores of a point of case B are the lists of `Loads`.
-/
module

public import proofs.«01_k».proof.Proof.Loads

@[expose] public section

set_option maxRecDepth 16384
set_option maxHeartbeats 4000000

noncomputable section

namespace Ssd.Body

open Idealize.ShloMosaic Idealize.ShloMosaic.TcCoe Cert.KernelIdeal Cert.KernelIdeal.Gen

variable {F : FTy → Type} [FloatOps F]

section
variable
  (c : Dev nD) (i : grid0.Coords) (arg2 : Memref sig .tc .vmem S8x128x64 .f32) (harg2 : arg2.IsWhole) (arg3 : Memref
  sig .tc .vmem S128x256 .f32) (harg3 : arg3.IsWhole) (arg4 : Memref sig .tc .vmem S128x256 .f32) (harg4 :
  arg4.IsWhole) (arg5 : Memref sig .tc .vmem S2x8x128 .f32) (harg5 : arg5.IsWhole) (arg6 : Memref sig .tc .vmem
  S2x8x128 .f32) (harg6 : arg6.IsWhole) (arg7 : Memref sig .tc .vmem S1x8x64x128 .f32) (harg7 : arg7.IsWhole) (arg8 :
  Memref sig .tc .vmem S8x128x64 .f32) (harg8 : arg8.IsWhole) (arg9 : Memref sig .tc .vmem S8x128x64 .f32) (harg9 :
  arg9.IsWhole) (arg10 : Memref sig .tc .vmem S128x256 .f32) (harg10 : arg10.IsWhole) (arg11 : Memref sig .tc .vmem
  S128x256 .f32) (harg11 : arg11.IsWhole) (arg12 : Memref sig .tc .vmem S2x8x128 .f32) (harg12 : arg12.IsWhole) (arg13
  : Memref sig .tc .vmem S2x8x128 .f32) (harg13 : arg13.IsWhole) (arg14 : Memref sig .tc .vmem S8x64x128 .f32) (harg14
  : arg14.IsWhole) (arg15 : Memref sig .tc .vmem S2x8x128 .f32) (harg15 : arg15.IsWhole) (arg16 : Memref sig .tc .vmem
  S2x8x128 .f32) (harg16 : arg16.IsWhole) (arg17 : Memref sig .tc .vmem S2x8x128 .f32) (harg17 : arg17.IsWhole) (hc0 :
  ¬cond0_0 i) (hc1 : ¬cond0_1 i) (hc2 : cond0_2 i) (hc3 : ¬cond0_3 i) (hc4 : cond0_4 i) (hc5 : ¬cond0_5 i) (x0 : Vec F
  S8x128x64 .f32) (x1 : Vec F S128x256 .f32) (x2 : Vec F S128x256 .f32) (x3 : Vec F S2x8x128 .f32) (x4 : Vec F
  S2x8x128 .f32) (x5 : Vec F S1x8x64x128 .f32) (x6 : Vec F S8x128x64 .f32) (xo11 : Vec F S2x8x128 .f32) (xs0 : Vec F
  S8x64x128 .f32)

/-- The stores into the gradient of the values. -/
theorem dx_B :
    (kernelRun0_B c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6 xo11 xs0).1 = dxPieces (headAt harg2 harg3 harg4 harg5 harg6 harg7 harg8 arg15 x0 x1
    x2 x3 x4 x5 x6 (ldD harg14 xs0)) :=
  rfl

/-- The stores into the gradient of the first projection. -/
theorem db_B :
    (kernelRun0_B c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6 xo11 xs0).2.1 = dbPieces (headAt harg2 harg3 harg4 harg5 harg6 harg7 harg8 arg15 x0
    x1 x2 x3 x4 x5 x6 (ldD harg14 xs0)) :=
  rfl

/-- The stores into the gradient of the second projection. -/
theorem dc_B :
    (kernelRun0_B c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6 xo11 xs0).2.2.1 = dcPieces (headAt harg2 harg3 harg4 harg5 harg6 harg7 harg8 arg15 x0
    x1 x2 x3 x4 x5 x6 (ldD harg14 xs0)) :=
  rfl

/-- The stores into the gradient of the step sizes. -/
theorem ddt_B :
    (kernelRun0_B c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6 xo11 xs0).2.2.2.1 = ddtPieces (headAt harg2 harg3 harg4 harg5 harg6 harg7 harg8 arg15
    x0 x1 x2 x3 x4 x5 x6 (ldD harg14 xs0)) arg16 arg17 harg6 x4 :=
  rfl

/-- The stores into the gradient of the decay rates. -/
theorem da_B :
    (kernelRun0_B c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6 xo11 xs0).2.2.2.2.1 = daPiecesB (headAt harg2 harg3 harg4 harg5 harg6 harg7 harg8
    arg15 x0 x1 x2 x3 x4 x5 x6 (ldD harg14 xs0)) arg16 harg5 harg13 x3 xo11 :=
  rfl

/-- The stores into the gradient of the state. -/
theorem dh_B :
    (kernelRun0_B c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6 xo11 xs0).2.2.2.2.2.1 = dhPieces (headAt harg2 harg3 harg4 harg5 harg6 harg7 harg8
    arg15 x0 x1 x2 x3 x4 x5 x6 (ldD harg14 xs0)) :=
  rfl

end

end Ssd.Body
-- ==== Proof.StoresC.lean ====
/-
  The stores of a point of case C are the lists of `Loads`.
-/
module

public import proofs.«01_k».proof.Proof.Loads

@[expose] public section

set_option maxRecDepth 16384
set_option maxHeartbeats 4000000

noncomputable section

namespace Ssd.Body

open Idealize.ShloMosaic Idealize.ShloMosaic.TcCoe Cert.KernelIdeal Cert.KernelIdeal.Gen

variable {F : FTy → Type} [FloatOps F]

/-- Two more stores, which replace each row by its sum. -/
def withSums (arg13 : Memref sig .tc .vmem S2x8x128 .f32) (L : List (View.Piece (Elt F) S2x8x128 .f32)) :
    List (View.Piece (Elt F) S2x8x128 .f32) :=
  ⟨rectG 1, laneSum (arg13.view.readCov (⟨rectG 0, laneSum (arg13.view.readCov L (rectG 0).toLoadRect)⟩ :: L)
      (rectG 1).toLoadRect)⟩ ::
    ⟨rectG 0, laneSum (arg13.view.readCov L (rectG 0).toLoadRect)⟩ :: L

section
variable
  (c : Dev nD) (i : grid0.Coords) (arg2 : Memref sig .tc .vmem S8x128x64 .f32) (harg2 : arg2.IsWhole) (arg3 : Memref
  sig .tc .vmem S128x256 .f32) (harg3 : arg3.IsWhole) (arg4 : Memref sig .tc .vmem S128x256 .f32) (harg4 :
  arg4.IsWhole) (arg5 : Memref sig .tc .vmem S2x8x128 .f32) (harg5 : arg5.IsWhole) (arg6 : Memref sig .tc .vmem
  S2x8x128 .f32) (harg6 : arg6.IsWhole) (arg7 : Memref sig .tc .vmem S1x8x64x128 .f32) (harg7 : arg7.IsWhole) (arg8 :
  Memref sig .tc .vmem S8x128x64 .f32) (harg8 : arg8.IsWhole) (arg9 : Memref sig .tc .vmem S8x128x64 .f32) (harg9 :
  arg9.IsWhole) (arg10 : Memref sig .tc .vmem S128x256 .f32) (harg10 : arg10.IsWhole) (arg11 : Memref sig .tc .vmem
  S128x256 .f32) (harg11 : arg11.IsWhole) (arg12 : Memref sig .tc .vmem S2x8x128 .f32) (harg12 : arg12.IsWhole) (arg13
  : Memref sig .tc .vmem S2x8x128 .f32) (harg13 : arg13.IsWhole) (arg14 : Memref sig .tc .vmem S8x64x128 .f32) (harg14
  : arg14.IsWhole) (arg15 : Memref sig .tc .vmem S2x8x128 .f32) (harg15 : arg15.IsWhole) (arg16 : Memref sig .tc .vmem
  S2x8x128 .f32) (harg16 : arg16.IsWhole) (arg17 : Memref sig .tc .vmem S2x8x128 .f32) (harg17 : arg17.IsWhole) (hc0 :
  ¬cond0_0 i) (hc1 : ¬cond0_1 i) (hc2 : cond0_2 i) (hc3 : ¬cond0_3 i) (hc4 : cond0_4 i) (hc5 : cond0_5 i) (x0 : Vec F
  S8x128x64 .f32) (x1 : Vec F S128x256 .f32) (x2 : Vec F S128x256 .f32) (x3 : Vec F S2x8x128 .f32) (x4 : Vec F
  S2x8x128 .f32) (x5 : Vec F S1x8x64x128 .f32) (x6 : Vec F S8x128x64 .f32) (xo11 : Vec F S2x8x128 .f32) (xs0 : Vec F
  S8x64x128 .f32)

/-- The stores into the gradient of the values. -/
theorem dx_C :
    (kernelRun0_C c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6 xo11 xs0).1 = dxPieces (headAt harg2 harg3 harg4 harg5 harg6 harg7 harg8 arg15 x0 x1
    x2 x3 x4 x5 x6 (ldD harg14 xs0)) :=
  rfl

/-- The stores into the gradient of the first projection. -/
theorem db_C :
    (kernelRun0_C c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6 xo11 xs0).2.1 = dbPieces (headAt harg2 harg3 harg4 harg5 harg6 harg7 harg8 arg15 x0
    x1 x2 x3 x4 x5 x6 (ldD harg14 xs0)) :=
  rfl

/-- The stores into the gradient of the second projection. -/
theorem dc_C :
    (kernelRun0_C c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6 xo11 xs0).2.2.1 = dcPieces (headAt harg2 harg3 harg4 harg5 harg6 harg7 harg8 arg15 x0
    x1 x2 x3 x4 x5 x6 (ldD harg14 xs0)) :=
  rfl

/-- The stores into the gradient of the step sizes. -/
theorem ddt_C :
    (kernelRun0_C c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6 xo11 xs0).2.2.2.1 = ddtPieces (headAt harg2 harg3 harg4 harg5 harg6 harg7 harg8 arg15
    x0 x1 x2 x3 x4 x5 x6 (ldD harg14 xs0)) arg16 arg17 harg6 x4 :=
  rfl

/-- The first stores into the gradient of the decay rates: the running sums. -/
theorem daFirst_C :
    (kernelRun0_C c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6 xo11 xs0).2.2.2.2.1.drop 2
      = daPiecesB (headAt harg2 harg3 harg4 harg5 harg6 harg7 harg8
    arg15 x0 x1 x2 x3 x4 x5 x6 (ldD harg14 xs0)) arg16 harg5 harg13 x3 xo11 :=
  rfl

/-- The last two stores replace each row by its sum. -/
theorem daLast_C :
    (kernelRun0_C c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6 xo11 xs0).2.2.2.2.1
      = withSums arg13 ((kernelRun0_C c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6 xo11 xs0).2.2.2.2.1.drop 2) :=
  rfl

/-- The stores into the gradient of the decay rates. -/
theorem da_C :
    (kernelRun0_C c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6 xo11 xs0).2.2.2.2.1
      = daPiecesC (headAt harg2 harg3 harg4 harg5 harg6 harg7 harg8
    arg15 x0 x1 x2 x3 x4 x5 x6 (ldD harg14 xs0)) arg16 harg5 harg13 x3 xo11 :=
  (daLast_C c i arg2 harg2 arg3 harg3 arg4 harg4 arg5 harg5 arg6 harg6 arg7 harg7 arg8 harg8 arg9 harg9 arg10 harg10 arg11 harg11
    arg12 harg12 arg13 harg13 arg14 harg14 arg15 harg15 arg16 harg16 arg17 harg17 hc0 hc1 hc2 hc3 hc4 hc5 x0 x1 x2 x3 x4 x5
    x6 xo11 xs0).trans (congrArg (withSums arg13) (daFirst_C c i arg2 harg2 arg3 harg3 arg4 harg4 arg5 harg5 arg6 harg6 arg7 harg7 arg8 harg8 arg9 harg9 arg10 harg10 arg11 harg11
    arg12 harg12 arg13 harg13 arg14 harg14 arg15 harg15 arg16 harg16 arg17 harg17 hc0 hc1 hc2 hc3 hc4 hc5 x0 x1 x2 x3 x4 x5
    x6 xo11 xs0))

/-- The stores into the gradient of the state. -/
theorem dh_C :
    (kernelRun0_C c i arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 hc0 hc1 hc2 hc3
    hc4 hc5 x0 x1 x2 x3 x4 x5 x6 xo11 xs0).2.2.2.2.2.1 = dhPieces (headAt harg2 harg3 harg4 harg5 harg6 harg7 harg8
    arg15 x0 x1 x2 x3 x4 x5 x6 (ldD harg14 xs0)) :=
  rfl

end

end Ssd.Body
-- ==== Proof.Steps.lean ====
/-
  What each grid point leaves in each result and in the carried state's gradient: the first point of a pair of groups,
  a middle one, the last one.
-/
module

public import proofs.«01_k».proof.Proof.StoresA
public import proofs.«01_k».proof.Proof.StoresB
public import proofs.«01_k».proof.Proof.StoresC

@[expose] public section

noncomputable section

namespace Ssd.Body

open Idealize.ShloMosaic Idealize.ShloMosaic.TcCoe Cert.KernelIdeal Cert.KernelIdeal.Gen

variable {F : FTy → Type} [FloatOps F] (m : (ℓ : Loc nD τ sig) → Buf (Elt F) ℓ)

/-- The point before. -/
def prev (c : Dev nD) (t : Fin cfg0.N) := outsAt0 m c (t.val - 1) (Nat.lt_of_le_of_lt (Nat.sub_le _ _) t.isLt)

/-- What the eight heads load at a point, from the state's gradient `dh`. -/
def heads (c : Dev nD) (t : Fin cfg0.N) (dh : Fin 8 → Vec F S1x64x128 .f32) : Fin 8 → HeadIn F :=
  headAt (hs0_0 t) (hs0_1 t) (hs0_2 t) (hs0_3 t) (hs0_4 t) (hs0_5 t) (hs0_6 t) scM0_1
    (iblk m c 0 t) (iblk m c 1 t) (iblk m c 2 t) (iblk m c 3 t) (iblk m c 4 t) (iblk m c 5 t) (iblk m c 6 t) dh

/-- The heads of a point that carries on from the point before. -/
def headsB (c : Dev nD) (t : Fin cfg0.N) : Fin 8 → HeadIn F :=
  heads m c t (ldD (Memref.isWhole_whole _ : (scM0_0 : Memref sig .tc .vmem S8x64x128 .f32).IsWhole) (prev m c t).2.2.2.2.2)

/-- Stores over anything read as their contents. -/
theorem read_canon {s : Shape} {e : EltTy} (v : View sig .tc .vmem s e) {L L' : List (View.Piece (Elt F) s e)} (h : L = L') :
    v.read (Elt F) (v.writes (Elt F) v.junk L) = View.canon L' := by
  rw [View.read_writes_junk_eq_canon, h]

/-- The heads of a first point: the state's gradient starts at zero. -/
def headsA (c : Dev nD) (t : Fin cfg0.N) (dh : Vec F S1x64x128 .f32) : Fin 8 → HeadIn F := heads m c t fun _ => dh

/-- A middle point. -/
theorem step_B (c : Dev nD) (t : Fin cfg0.N) (h0 : ¬t.val % 32 = 0) (h5 : ¬t.val % 32 = 31) :
    outsAt0 m c t.val t.isLt = (View.canon (dxPieces (headsB m c t)), View.canon (dbPieces (headsB m c t)),
      View.canon (dcPieces (headsB m c t)), View.canon (ddtPieces (headsB m c t) scM0_2 scM0_3 (hs0_4 t) (iblk m c 4 t)),
      View.canon (daPiecesB (headsB m c t) scM0_2 (hs0_3 t) (hs0_11 t) (iblk m c 3 t) (prev m c t).2.2.2.2.1),
      View.canon (dhPieces (headsB m c t))) := by
  rw [outsAt0_B m c t h0 h0 (by omega) h0 (by omega) h5]
  exact congrArg₂ Prod.mk (read_canon _ (dx_B ..)) (congrArg₂ Prod.mk (read_canon _ (db_B ..)) (congrArg₂ Prod.mk (read_canon _ (dc_B ..))
    (congrArg₂ Prod.mk (read_canon _ (ddt_B ..)) (congrArg₂ Prod.mk (read_canon _ (da_B ..)) (read_canon _ (dh_B ..))))))

/-- The last point. -/
theorem step_C (c : Dev nD) (t : Fin cfg0.N) (h5 : t.val % 32 = 31) :
    outsAt0 m c t.val t.isLt = (View.canon (dxPieces (headsB m c t)), View.canon (dbPieces (headsB m c t)),
      View.canon (dcPieces (headsB m c t)), View.canon (ddtPieces (headsB m c t) scM0_2 scM0_3 (hs0_4 t) (iblk m c 4 t)),
      View.canon (daPiecesC (headsB m c t) scM0_2 (hs0_3 t) (hs0_11 t) (iblk m c 3 t) (prev m c t).2.2.2.2.1),
      View.canon (dhPieces (headsB m c t))) := by
  rw [outsAt0_C m c t (by omega) (by omega) (by omega) (by omega) (by omega) h5]
  exact congrArg₂ Prod.mk (read_canon _ (dx_C ..)) (congrArg₂ Prod.mk (read_canon _ (db_C ..)) (congrArg₂ Prod.mk (read_canon _ (dc_C ..))
    (congrArg₂ Prod.mk (read_canon _ (ddt_C ..)) (congrArg₂ Prod.mk (read_canon _ (da_C ..)) (read_canon _ (dh_C ..))))))

/-- The heads of a first point, each with the zeros it loads. -/
def heads0 (c : Dev nD) (t : Fin cfg0.N) : Fin 8 → HeadIn F := heads m c t (ldDA scM0_0 (headsA m c t))

/-- The first point. -/
theorem step_A (c : Dev nD) (t : Fin cfg0.N) (h0 : t.val % 32 = 0) :
    outsAt0 m c t.val t.isLt = (View.canon (dxPieces (heads0 m c t)), View.canon (dbPieces (heads0 m c t)),
      View.canon (dcPieces (heads0 m c t)), View.canon (ddtPieces (heads0 m c t) scM0_2 scM0_3 (hs0_4 t) (iblk m c 4 t)),
      View.canon (daPiecesA (heads0 m c t) scM0_2 (hs0_3 t) (iblk m c 3 t)),
      View.canon (storesA scM0_0 (headsA m c t) 8 le_rfl)) := by
  rw [outsAt0_A m c t h0 h0 (by omega) h0 (by omega) (by omega)]
  exact congrArg₂ Prod.mk (read_canon _ (dx_A ..)) (congrArg₂ Prod.mk (read_canon _ (db_A ..)) (congrArg₂ Prod.mk (read_canon _ (dc_A ..))
    (congrArg₂ Prod.mk (read_canon _ (ddt_A ..)) (congrArg₂ Prod.mk (read_canon _ (da_A ..)) (read_canon _ (dh_A ..))))))

end Ssd.Body
-- ==== Proof.Points.lean ====
/-
  What the arrays of the results hold at each grid point, as real numbers: by induction over the points, whose carried
  state's gradient and sum of the decay rates' gradient come from the point before.
-/
module

public import proofs.«01_k».proof.Proof.Input
public import proofs.«01_k».proof.Proof.Steps

@[expose] public section

set_option maxRecDepth 16384

noncomputable section

namespace Ssd.Host

open Idealize.ShloMosaic Idealize.ShloMosaic.TcCoe Cert.KernelIdeal Cert.KernelIdeal.Gen Ssd.Body
open Finset (range sum_congr)

variable {d : Data} (m : (ℓ : Loc nD τ sig) → Buf (Elt Ideal) ℓ) (c : Dev nD)

/-- The sum of the decay rates' gradient that the points of a pair of groups have added, up to the point `t`. -/
def daRun (d : Data) (t : ℕ) (g : Fin 2) (r : Fin 8) (i : Fin 128) : ℝ :=
  ∑ u ∈ range (t % 32 + 1), daAdd (headsOf d t) (dtAt d (32 * (t / 32) + u)) (start (32 * (t / 32) + u)) g r i

/-- What the arrays of the results and the carried gradient hold after the point `t`: they come from heads holding the
    real numbers of the point. -/
structure After (d : Data) (t : Fin cfg0.N) (H : Fin 8 → HeadIn Ideal) : Prop where
  is : ∀ n, (H n).Is (headsOf d t.val n) (start t.val)
  dx : (outsAt0 m c t.val t.isLt).1 = View.canon (dxPieces H)
  db : (outsAt0 m c t.val t.isLt).2.1 = View.canon (dbPieces H)
  dc : (outsAt0 m c t.val t.isLt).2.2.1 = View.canon (dcPieces H)
  ddt : (outsAt0 m c t.val t.isLt).2.2.2.1 = View.canon (ddtPieces H scM0_2 scM0_3 (hs0_4 t) (iblk m c 4 t))
  da : ¬t.val % 32 = 31 → ∀ g r i, (outsAt0 m c t.val t.isLt).2.2.2.2.1 (ix3 g r i) = (daRun d t.val g r i : EReal)
  daEnd : t.val % 32 = 31 → ∀ g r i, (outsAt0 m c t.val t.isLt).2.2.2.2.1 (ix3 g r i) = ((∑ j, daRun d t.val g r j : ℝ) : EReal)
  dh : ∀ n p k, (outsAt0 m c t.val t.isLt).2.2.2.2.2 (ix3 n p k) = ((headsOf d t.val n).future 4096 (start t.val) p k : EReal)

/-- A first point's sum is its own part. -/
theorem daRun_first (t : ℕ) (h0 : t % 32 = 0) (g : Fin 2) (r : Fin 8) (i : Fin 128) :
    daRun d t g r i = daAdd (headsOf d t) (dtAt d t) (start t) g r i := by
  have e : 32 * (t / 32) = t := by omega
  rw [daRun, h0, Finset.sum_range_one, Nat.add_zero, e]

/-- A later point's sum is that of the point before and its own part. -/
theorem daRun_next (t : ℕ) (h0 : ¬t % 32 = 0) (g : Fin 2) (r : Fin 8) (i : Fin 128) :
    daRun d t g r i = daRun d (t - 1) g r i + daAdd (headsOf d t) (dtAt d t) (start t) g r i := by
  have e : (t - 1) / 32 = t / 32 := by omega
  have e' : (t - 1) % 32 + 1 = t % 32 := by omega
  have e'' : 32 * (t / 32) + t % 32 = t := by omega
  have eh : headsOf d (t - 1) = headsOf d t := by unfold headsOf; rw [e]
  rw [daRun, daRun, e, e', eh, Finset.sum_range_succ, e'']

variable (h : Reads d (m (c, Proc.tc.devRef main_arg0)) (m (c, Proc.tc.devRef main_arg1))
  (m (c, Proc.tc.devRef main_arg2)) (m (c, Proc.tc.devRef main_arg3)))
include h

/-- The heads a point loads hold the real numbers of the point where the carried gradient does. -/
theorem heads_is (t : Fin cfg0.N) (dh : Fin 8 → Vec Ideal S1x64x128 .f32) (n : Fin 8)
    (hdh : ∀ (z : Fin 1) (p : Fin 64) (k : Fin 128), dh n (ix3 z p k) = ((headsOf d t.val n).future 4096 (start t.val + 128) p k : EReal)) :
    (heads m c t dh n).Is (headsOf d t.val n) (start t.val) :=
  headAt_is _ _ _ _ _ _ _ _ (blocks m c t h) n hdh

/-- A first point. -/
theorem after_first (t : Fin cfg0.N) (h0 : t.val % 32 = 0) : After m c d t (heads0 m c t) := by
  have hs : start t.val + 128 = 4096 := by unfold start; omega
  have hz : ∀ (n : Fin 8) (z : Fin 1) (p : Fin 64) (k : Fin 128), ldDA scM0_0 (headsA m c t) n (ix3 z p k)
      = ((headsOf d t.val n).future 4096 (start t.val + 128) p k : EReal) := fun n z p k => by
    rw [ldDA_apply, hs, future_end]; rfl
  have hI : ∀ n, (heads0 m c t n).Is (headsOf d t.val n) (start t.val) := fun n => heads_is m c h t _ n (hz n)
  have e := step_A m c t h0
  have hb := blocks m c t h
  refine ⟨hI, congrArg (·.1) e, congrArg (·.2.1) e, congrArg (·.2.2.1) e, congrArg (·.2.2.2.1) e, fun _ g r i => ?_,
    fun h5 => absurd h5 (by omega), fun n p k => ?_⟩
  · refine (congrFun (congrArg (·.2.2.2.2.1) e) (ix3 g r i)).trans ?_
    simp only [daRun_first _ h0]
    exact daA_apply hI (hs0_3 t) scM0_2 hb.e3 g r i
  · rw [e]
    dsimp only
    have e1 := storesA_apply scM0_0 (headsA m c t) n p k 8 le_rfl n.isLt
    have e2 := (heads_is m c h t (fun _ => ldDA scM0_0 (headsA m c t) n) n (hz n)).dhNew_eq 0 p k
    exact e1.trans e2

/-- A point after another of the same pair of groups: what carries over. -/
theorem headsB_is (t : Fin cfg0.N) (h0 : ¬t.val % 32 = 0)
    (ih : ∀ n p k, (prev m c t).2.2.2.2.2 (ix3 n p k) = ((headsOf d (t.val - 1) n).future 4096 (start (t.val - 1)) p k : EReal))
    (n : Fin 8) : (headsB m c t n).Is (headsOf d t.val n) (start t.val) := by
  have e : (t.val - 1) / 32 = t.val / 32 := by omega
  have eh : headsOf d (t.val - 1) = headsOf d t.val := by unfold headsOf; rw [e]
  have es : start (t.val - 1) = start t.val + 128 := by unfold start; omega
  refine heads_is m c h t _ n fun z p k => ?_
  refine (Memref.IsWhole.readAt_unread _ (prev m c t).2.2.2.2.2 _ _).trans ((congrArg (prev m c t).2.2.2.2.2 (idx_d n z p k)).trans ?_)
  rw [ih, eh, es]

/-- A middle point. -/
theorem after_middle (t : Fin cfg0.N) (h0 : ¬t.val % 32 = 0) (h5 : ¬t.val % 32 = 31)
    (hI : ∀ n, (headsB m c t n).Is (headsOf d t.val n) (start t.val))
    (hA : ∀ g r i, (prev m c t).2.2.2.2.1 (ix3 g r i) = (daRun d (t.val - 1) g r i : EReal)) : After m c d t (headsB m c t) := by
  have hb := blocks m c t h
  have e := step_B m c t h0 h5
  refine ⟨hI, congrArg (·.1) e, congrArg (·.2.1) e, congrArg (·.2.2.1) e, congrArg (·.2.2.2.1) e, fun _ g r i => ?_,
    fun hn => absurd hn h5, fun n p k => ?_⟩
  · refine (congrFun (congrArg (·.2.2.2.2.1) e) (ix3 g r i)).trans ?_
    simp only [daRun_next _ h0]
    exact daB_apply hI (hs0_3 t) scM0_2 (hs0_11 t) hb.e3 hA g r i
  · exact (congrFun (congrArg (·.2.2.2.2.2) e) (ix3 n p k)).trans (dh_apply hI n p k)

/-- A last point. -/
theorem after_last (t : Fin cfg0.N) (h5 : t.val % 32 = 31)
    (hI : ∀ n, (headsB m c t n).Is (headsOf d t.val n) (start t.val))
    (hA : ∀ g r i, (prev m c t).2.2.2.2.1 (ix3 g r i) = (daRun d (t.val - 1) g r i : EReal)) : After m c d t (headsB m c t) := by
  have hb := blocks m c t h
  have e := step_C m c t h5
  refine ⟨hI, congrArg (·.1) e, congrArg (·.2.1) e, congrArg (·.2.2.1) e, congrArg (·.2.2.2.1) e, fun hn => absurd h5 hn,
    fun _ g r i => ?_, fun n p k => ?_⟩
  · refine (congrFun (congrArg (·.2.2.2.2.1) e) (ix3 g r i)).trans ?_
    simp only [daRun_next t.val (by omega)]
    exact daC_apply hI (hs0_3 t) scM0_2 (hs0_11 t) hb.e3 hA g r i
  · exact (congrFun (congrArg (·.2.2.2.2.2) e) (ix3 n p k)).trans (dh_apply hI n p k)

/-- Every point. -/
theorem after (t : Fin cfg0.N) : ∃ H, After m c d t H := by
  obtain ⟨t, ht⟩ := t
  induction t using Nat.strong_induction_on with
  | _ t ih =>
    by_cases h0 : t % 32 = 0
    · exact ⟨_, after_first m c h ⟨t, ht⟩ h0⟩
    obtain ⟨H', h'⟩ := ih (t - 1) (by omega) (by omega)
    have hI : ∀ n, (headsB m c ⟨t, ht⟩ n).Is (headsOf d t n) (start t) := headsB_is m c h ⟨t, ht⟩ h0 h'.dh
    have hA : ∀ g r i, (prev m c ⟨t, ht⟩).2.2.2.2.1 (ix3 g r i) = (daRun d (t - 1) g r i : EReal) :=
      h'.da (by show ¬(t - 1) % 32 = 31; omega)
    by_cases h5 : t % 32 = 31
    · exact ⟨_, after_last m c h ⟨t, ht⟩ h5 hI hA⟩
    · exact ⟨_, after_middle m c h ⟨t, ht⟩ h0 h5 hI hA⟩

end Ssd.Host
-- ==== Proof.RefValue.lean ====
/-
  What the reference's arrays hold, over the real numbers: each operation of the printed program read at an index, down to
  the five results as sums over the whole sequence.
-/
module

public import proofs.«01_k».proof.Proof.Common
public import proofs.«01_k».proof.Proof.Gen.ReferenceIdeal.Read

@[expose] public section

noncomputable section

namespace Ssd.Ref

open Finset Idealize.ShloMosaic Idealize.ShloMosaic.ValueIdx Scan
open Cert.ReferenceIdeal Cert.ReferenceIdeal.Gen Cert.ReferenceIdeal.Read

/-- An array of extended reals of a shape. -/
abbrev Arr (s : Shape) : Type := (⟨s, EltTy.f32⟩ : BufTy).Contents (Elt Ideal)

variable {d : Data} {x0 : Arr S4096x4096} {x1 : Arr S4096x32} {x2 : Arr S32} {x3 : Arr S4096x2048}

/-- The step size. -/
theorem dt3 (h : Reads d x0 x1 x2 x3) (i : S4096x32.Idx) : val_main_v3 x1 i = (d.dt (i 1).val (i 0).val : EReal) := by
  simp only [val_main_v3_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v2_apply, val_main_call0_v0_apply,
    val_main_call0_v5_apply, val_main_call0_cst_apply, Ideal.ofBits_def, Ideal.ofBits_zero_f32, h.raw]
  exact softplus_host _

theorem dt4 (h : Reads d x0 x1 x2 x3) (i : S4096x8x4.Idx) :
    val_main_v4 x1 i = ((d.head (i 1).val (i 2).val).τ (i 0).val : EReal) := by
  rw [val_main_v4_apply, dt3 h]
  have h1 : (i 1).val < 8 := (i 1).isLt
  have h2 : (i 2).val < 4 := (i 2).isLt
  have e0 : (idx_main_v4 i 0).val = (i 0).val := by
    show (((i 0).val * 8 + (i 1).val) * 4 + (i 2).val) / 32 = _; omega
  have e1 : (idx_main_v4 i 1).val = 4 * (i 1).val + (i 2).val := by
    show (((i 0).val * 8 + (i 1).val) * 4 + (i 2).val) % 32 = _; omega
  rw [e0, e1]; rfl

/-- The decay rate. -/
theorem a7 (h : Reads d x0 x1 x2 x3) (i : S8x4.Idx) :
    val_main_v7 x2 i = (d.a (4 * (i 0).val + (i 1).val) : EReal) := by
  rw [val_main_v7_apply, val_main_v6_apply, val_main_v5_apply, h.alog]
  have e0 : (idx_main_v6 i 0).val = 4 * (i 0).val + (i 1).val := by
    show (i 0).val * 4 + (i 1).val = _; omega
  rw [e0]; rfl

theorem d13 (h : Reads d x0 x1 x2 x3) (i : S4096x8x4.Idx) :
    val_main_v13 x1 x2 i = ((d.head (i 1).val (i 2).val).δ (i 0).val : EReal) := by
  rw [val_main_v13_apply, dt4 h, val_main_v12_apply, val_main_v11_apply, a7 h]; rfl

theorem cum14 (h : Reads d x0 x1 x2 x3) (i : S4096x8x4.Idx) :
    val_main_v14 x1 x2 i = (cum (d.head (i 1).val (i 2).val).δ ((i 0).val + 1) : EReal) := by
  unfold val_main_v14 Host.reduceWindowAdd
  rw [Ideal.hostReduceWindowAdd_def]
  have e : val_main_call1_call0_v0 (F := Ideal) (Shape.Idx.first h_S_) = 0 := by
    rw [val_main_call1_call0_v0_apply, val_main_call1_call0_cst_apply]; exact Ideal.ofBits_zero_f32
  rw [e]
  exact cumsum_apply _ _ rfl rfl rfl _ _ (fun t g r => (d.head g r).δ t) (fun j => d13 h j) i

theorem mask21 {α : Type} (i : S4096x4096.Idx) (x y : α) :
    Scalar.select (val_main_v21 (F := Ideal) i) x y = if (i 1).val ≤ (i 0).val then x else y := by
  have h0 : (i 0).val < 4096 := (i 0).isLt
  have h1 : (i 1).val < 4096 := (i 1).isLt
  simp only [val_main_v21_apply, val_main_call2_v4_apply, val_main_call2_v2_apply, val_main_call2_v0_apply,
    val_main_call2_v1_apply, val_main_call2_c_apply, val_main_call2_v3_apply, val_main_v20_apply, val_main_c_apply,
    val_main_call2_v5_apply, val_main_call2_c_0_apply]
  rw [show IntOp.addi (BitVec.ofNat 32 (i 0).val) 0#32 = BitVec.ofNat 32 (i 0).val from BitVec.add_zero _,
    select_sge (by omega) (by omega)]
  split_ifs <;> simp [Scalar.select]

/-- The decay between two positions, zero above the diagonal. -/
theorem decay24 (h : Reads d x0 x1 x2 x3) (i : S4096x4096x8x4.Idx) :
    val_main_v24 x1 x2 i
      = ((if (i 1).val ≤ (i 0).val then (d.head (i 2).val (i 3).val).L (i 0).val (i 1).val else 0 : ℝ) : EReal) := by
  rw [val_main_v24_apply, val_main_v23_0_apply, val_main_v23_1_apply, val_main_v22_apply, mask21, val_main_v19_apply,
    val_main_v17_apply, val_main_v18_apply, val_main_v15_apply, val_main_v16_apply, cum14 h, cum14 h,
    val_main_call3_v2_apply]
  have e : val_main_call3_v0 (F := Ideal) (idx_main_call3_v2 i) = (⊥ : EReal) := ofBits_ninf
  rw [e, Ideal.subf_def, ← EReal.coe_sub, Ideal.hostUnary_exp_def]
  exact exp_mask _ _

theorem b9 (h : Reads d x0 x1 x2 x3) (i : S4096x8x128.Idx) :
    val_main_v9 x0 i = (d.act (i 0).val (2048 + 128 * (i 1).val + (i 2).val) : EReal) := by
  rw [val_main_v9_apply, val_main_v1_apply, h.act]
  have h1 : (i 1).val < 8 := (i 1).isLt
  have h2 : (i 2).val < 128 := (i 2).isLt
  have e0 : (idx_main_v1 (idx_main_v9 i) 0).val = (i 0).val := by
    show (((i 0).val * 8 + (i 1).val) * 128 + (i 2).val) / 1024 = _; omega
  have e1 : (idx_main_v1 (idx_main_v9 i) 1).val = 2048 + 128 * (i 1).val + (i 2).val := by
    show 2048 + (((i 0).val * 8 + (i 1).val) * 128 + (i 2).val) % 1024 = _; omega
  rw [e0, e1]

theorem c10 (h : Reads d x0 x1 x2 x3) (i : S4096x8x128.Idx) :
    val_main_v10 x0 i = (d.act (i 0).val (3072 + 128 * (i 1).val + (i 2).val) : EReal) := by
  rw [val_main_v10_apply, val_main_v2_apply, h.act]
  have h1 : (i 1).val < 8 := (i 1).isLt
  have h2 : (i 2).val < 128 := (i 2).isLt
  have e0 : (idx_main_v2 (idx_main_v10 i) 0).val = (i 0).val := by
    show (((i 0).val * 8 + (i 1).val) * 128 + (i 2).val) / 1024 = _; omega
  have e1 : (idx_main_v2 (idx_main_v10 i) 1).val = 3072 + 128 * (i 1).val + (i 2).val := by
    show 3072 + (((i 0).val * 8 + (i 1).val) * 128 + (i 2).val) % 1024 = _; omega
  rw [e0, e1]

theorem x8 (h : Reads d x0 x1 x2 x3) (i : S4096x8x4x64.Idx) :
    val_main_v8 x0 i = ((d.head (i 1).val (i 2).val).x (i 0).val (i 3) : EReal) := by
  rw [val_main_v8_apply, val_main_v0_apply, h.act]
  have h1 : (i 1).val < 8 := (i 1).isLt
  have h2 : (i 2).val < 4 := (i 2).isLt
  have h3 : (i 3).val < 64 := (i 3).isLt
  have e0 : (idx_main_v0 (idx_main_v8 i) 0).val = (i 0).val := by
    show ((((i 0).val * 8 + (i 1).val) * 4 + (i 2).val) * 64 + (i 3).val) / 2048 = _; omega
  have e1 : (idx_main_v0 (idx_main_v8 i) 1).val = 64 * (4 * (i 1).val + (i 2).val) + (i 3).val := by
    show ((((i 0).val * 8 + (i 1).val) * 4 + (i 2).val) * 64 + (i 3).val) % 2048 = _; omega
  rw [e0, e1]; rfl

theorem y35 (h : Reads d x0 x1 x2 x3) (i : S4096x8x4x64.Idx) :
    val_main_v35 x3 i = ((d.head (i 1).val (i 2).val).y (i 0).val (i 3) : EReal) := by
  rw [val_main_v35_apply, h.dy]
  have h1 : (i 1).val < 8 := (i 1).isLt
  have h2 : (i 2).val < 4 := (i 2).isLt
  have h3 : (i 3).val < 64 := (i 3).isLt
  have e0 : (idx_main_v35 i 0).val = (i 0).val := by
    show ((((i 0).val * 8 + (i 1).val) * 4 + (i 2).val) * 64 + (i 3).val) / 2048 = _; omega
  have e1 : (idx_main_v35 i 1).val = 64 * (4 * (i 1).val + (i 2).val) + (i 3).val := by
    show ((((i 0).val * 8 + (i 1).val) * 4 + (i 2).val) * 64 + (i 3).val) % 2048 = _; omega
  rw [e0, e1]; rfl

/-- The product `⟨C t, B s⟩`. -/
theorem cb28 (h : Reads d x0 x1 x2 x3) (i : S4096x4096x8x4.Idx) :
    val_main_v28 x0 i = ((d.head (i 2).val (i 3).val).cb (i 0).val (i 1).val : EReal) := by
  rw [val_main_v28_apply, val_main_v27_apply, val_main_v26_apply, val_main_v25_apply, Head.cb, coe_sum]
  refine sum_congr rfl fun k _ => ?_
  rw [b9 h, c10 h, mul_comm, EReal.coe_mul]; rfl

/-- The gradient of a weight. -/
theorem dW38 (h : Reads d x0 x1 x2 x3) (i : S4096x4096x8x4.Idx) :
    val_main_v38 x0 x3 i = ((d.head (i 2).val (i 3).val).dW (i 0).val (i 1).val : EReal) := by
  rw [val_main_v38_apply, val_main_v37_apply, Head.dW, coe_sum]
  refine sum_congr rfl fun k _ => ?_
  rw [val_main_v36_apply, y35 h, x8 h, EReal.coe_mul]; rfl

theorem dt31 (h : Reads d x0 x1 x2 x3) (i : S4096x4096x8x4.Idx) :
    val_main_v31 x1 i = ((d.head (i 2).val (i 3).val).τ (i 1).val : EReal) := by
  rw [val_main_v31_apply, val_main_v30_apply, dt4 h]

theorem dt44 (h : Reads d x0 x1 x2 x3) (i : S4096x4096x8x4.Idx) :
    val_main_v44 x1 i = ((d.head (i 2).val (i 3).val).τ (i 1).val : EReal) := dt31 h i

/-- The gradient of the input. -/
theorem dx77 (h : Reads d x0 x1 x2 x3) (i : S32x4096x64.Idx) :
    val_main_v77 x0 x1 x2 x3 i
      = ((∑ t ∈ range 4096, (if (i 1).val ≤ t then
          (d.head ((i 0).val / 4) ((i 0).val % 4)).cb t (i 1).val * (d.head ((i 0).val / 4) ((i 0).val % 4)).L t (i 1).val
            * (d.head ((i 0).val / 4) ((i 0).val % 4)).τ (i 1).val * (d.head ((i 0).val / 4) ((i 0).val % 4)).y t (i 2)
          else 0) : ℝ) : EReal) := by
  have h0 : (i 0).val < 32 := (i 0).isLt
  have h2 : (i 2).val < 64 := (i 2).isLt
  let j : S4096x8x4x64.Idx := ix4 (i 1) ⟨(i 0).val / 4, by omega⟩ ⟨(i 0).val % 4, by omega⟩ (i 2)
  have e : idx_main_v76 (idx_main_v77 i) = j := funext fun a => Fin.ext (by
    match a with
    | ⟨0, _⟩ => show (((i 1).val * 32 + (i 0).val) * 64 + (i 2).val) / 2048 = (i 1).val; omega
    | ⟨1, _⟩ => show (((i 1).val * 32 + (i 0).val) * 64 + (i 2).val) / 256 % 8 = (i 0).val / 4; omega
    | ⟨2, _⟩ => show (((i 1).val * 32 + (i 0).val) * 64 + (i 2).val) / 64 % 4 = (i 0).val % 4; omega
    | ⟨3, _⟩ => show (((i 1).val * 32 + (i 0).val) * 64 + (i 2).val) % 64 = (i 2).val; omega)
  rw [val_main_v77_apply, val_main_v76_apply, e, val_main_v40_apply, val_main_v39_apply, Finset.sum_range, coe_sum]
  refine sum_congr rfl fun k _ => ?_
  rw [val_main_v36_apply, y35 h, val_main_v32_apply, val_main_v29_apply, cb28 h, decay24 h, dt31 h, Ideal.mulf_def,
    Ideal.mulf_def, ← EReal.coe_mul, ← EReal.coe_mul, ← EReal.coe_mul]
  refine congrArg Real.toEReal ?_
  show (d.head ((i 0).val / 4) ((i 0).val % 4)).y k.val (i 2) * (_ * (if (i 1).val ≤ k.val then _ else 0) * _) = _
  split_ifs
  · show _ * ((d.head ((i 0).val / 4) ((i 0).val % 4)).cb k.val (i 1).val * (d.head ((i 0).val / 4) ((i 0).val % 4)).L k.val (i 1).val
      * (d.head ((i 0).val / 4) ((i 0).val % 4)).τ (i 1).val) = _
    ring
  · rw [mul_zero, zero_mul, mul_zero]

/-- The gradient of a weight times the step size and the decay, summed over the heads of the group. -/
theorem dcb53 (h : Reads d x0 x1 x2 x3) (i : S8x4096x4096.Idx) :
    val_main_v53 x0 x1 x2 x3 i
      = ((∑ r ∈ range 4, (if (i 1).val ≤ (i 2).val then (d.head (i 0).val r).dW (i 2).val (i 1).val
          * (d.head (i 0).val r).L (i 2).val (i 1).val * (d.head (i 0).val r).τ (i 1).val else 0) : ℝ) : EReal) := by
  rw [val_main_v53_apply, val_main_v52_apply, val_main_cst_3_apply, Ideal.ofBits_def, Ideal.ofBits_zero_f32, zero_add,
    Fin.sum_univ_one]
  have h0 : (i 0).val < 8 := (i 0).isLt
  have h1 : (i 1).val < 4096 := (i 1).isLt
  have h2 : (i 2).val < 4096 := (i 2).isLt
  let j : S4096x4096x8.Idx := ix3 (i 2) (i 1) (i 0)
  have e : idx_main_v51 (idx_main_v52 (idx_main_v53 i) 0) = j := funext fun a => Fin.ext (by
    match a with
    | ⟨0, _⟩ => show ((((i 2).val * 4096 + (i 1).val) * 8 + (i 0).val) * 1 + 0) / 32768 = (i 2).val; omega
    | ⟨1, _⟩ => show ((((i 2).val * 4096 + (i 1).val) * 8 + (i 0).val) * 1 + 0) / 8 % 4096 = (i 1).val; omega
    | ⟨2, _⟩ => show ((((i 2).val * 4096 + (i 1).val) * 8 + (i 0).val) * 1 + 0) % 8 = (i 0).val; omega)
  rw [val_main_v51_apply, e, val_main_v50_apply, val_main_cst_2_apply, Ideal.ofBits_def, Ideal.ofBits_zero_f32, zero_add,
    Finset.sum_range, coe_sum]
  refine sum_congr rfl fun r _ => ?_
  rw [val_main_v49_apply, val_main_v45_apply, dW38 h, dt44 h, decay24 h, Ideal.mulf_def, Ideal.mulf_def,
    ← EReal.coe_mul, ← EReal.coe_mul]
  refine congrArg Real.toEReal ?_
  show (d.head (i 0).val r.val).dW (i 2).val (i 1).val * (d.head (i 0).val r.val).τ (i 1).val
    * (if (i 1).val ≤ (i 2).val then (d.head (i 0).val r.val).L (i 2).val (i 1).val else 0) = _
  split_ifs
  · ring
  · rw [mul_zero]

/-- The gradient of `C`. -/
theorem dC79 (h : Reads d x0 x1 x2 x3) (i : S4096x1024.Idx) :
    val_main_v79 x0 x1 x2 x3 i
      = ((∑ r ∈ range 4, ∑ s ∈ range 4096, (if s ≤ (i 0).val then
          (d.head ((i 1).val / 128) r).dW (i 0).val s * (d.head ((i 1).val / 128) r).L (i 0).val s
            * (d.head ((i 1).val / 128) r).τ s * (d.head ((i 1).val / 128) r).B s ⟨(i 1).val % 128, Nat.mod_lt _ (by norm_num)⟩
          else 0) : ℝ) : EReal) := by
  have h0 : (i 0).val < 4096 := (i 0).isLt
  have h1 : (i 1).val < 1024 := (i 1).isLt
  let j : S4096x8x128.Idx := ix3 (i 0) ⟨(i 1).val / 128, by omega⟩ ⟨(i 1).val % 128, by omega⟩
  have e : idx_main_v79 i = j := funext fun a => Fin.ext (by
    match a with
    | ⟨0, _⟩ => show ((i 0).val * 1024 + (i 1).val) / 1024 = (i 0).val; omega
    | ⟨1, _⟩ => show ((i 0).val * 1024 + (i 1).val) / 128 % 8 = (i 1).val / 128; omega
    | ⟨2, _⟩ => show ((i 0).val * 1024 + (i 1).val) % 128 = (i 1).val % 128; omega)
  rw [val_main_v79_apply, e, val_main_v55_apply, val_main_v54_apply, sum_comm, Finset.sum_range, coe_sum]
  refine sum_congr rfl fun k _ => ?_
  rw [dcb53 h, b9 h, ← EReal.coe_mul, sum_mul]
  refine congrArg Real.toEReal (sum_congr rfl fun r _ => ?_)
  show (if k.val ≤ (i 0).val then _ else 0) * _ = _
  split_ifs
  · rfl
  · rw [zero_mul]

/-- The gradient of `B`. -/
theorem dB78 (h : Reads d x0 x1 x2 x3) (i : S4096x1024.Idx) :
    val_main_v78 x0 x1 x2 x3 i
      = ((∑ r ∈ range 4, ∑ t ∈ range 4096, (if (i 0).val ≤ t then
          (d.head ((i 1).val / 128) r).dW t (i 0).val * (d.head ((i 1).val / 128) r).L t (i 0).val
            * (d.head ((i 1).val / 128) r).τ (i 0).val
            * (d.head ((i 1).val / 128) r).C t ⟨(i 1).val % 128, Nat.mod_lt _ (by norm_num)⟩
          else 0) : ℝ) : EReal) := by
  have h0 : (i 0).val < 4096 := (i 0).isLt
  have h1 : (i 1).val < 1024 := (i 1).isLt
  let j : S4096x8x128.Idx := ix3 (i 0) ⟨(i 1).val / 128, by omega⟩ ⟨(i 1).val % 128, by omega⟩
  have e : idx_main_v78 i = j := funext fun a => Fin.ext (by
    match a with
    | ⟨0, _⟩ => show ((i 0).val * 1024 + (i 1).val) / 1024 = (i 0).val; omega
    | ⟨1, _⟩ => show ((i 0).val * 1024 + (i 1).val) / 128 % 8 = (i 1).val / 128; omega
    | ⟨2, _⟩ => show ((i 0).val * 1024 + (i 1).val) % 128 = (i 1).val % 128; omega)
  rw [val_main_v78_apply, e, val_main_v57_apply, val_main_v56_apply, sum_comm, Finset.sum_range, coe_sum]
  refine sum_congr rfl fun k _ => ?_
  rw [dcb53 h, c10 h, ← EReal.coe_mul, sum_mul]
  refine congrArg Real.toEReal (sum_congr rfl fun r _ => ?_)
  show (if (i 0).val ≤ k.val then _ else 0) * _ = _
  split_ifs
  · rfl
  · rw [zero_mul]

/-- The part of a step size's gradient that does not go through the decay. -/
theorem dt46 (h : Reads d x0 x1 x2 x3) (i : S4096x8x4.Idx) :
    val_main_v46 x0 x1 x2 x3 i
      = ((∑ t ∈ range 4096, (if (i 0).val ≤ t then (d.head (i 1).val (i 2).val).dW t (i 0).val
          * (d.head (i 1).val (i 2).val).cb t (i 0).val * (d.head (i 1).val (i 2).val).L t (i 0).val else 0) : ℝ) : EReal) := by
  rw [val_main_v46_apply, val_main_cst_1_apply, Ideal.ofBits_def, Ideal.ofBits_zero_f32, zero_add, Fin.sum_univ_one]
  have h0 : (i 0).val < 4096 := (i 0).isLt
  have h1 : (i 1).val < 8 := (i 1).isLt
  have h2 : (i 2).val < 4 := (i 2).isLt
  have e : idx_main_v43 (idx_main_v46 i 0) = i := funext fun a => Fin.ext (by
    match a with
    | ⟨0, _⟩ => show (((0 * 4096 + (i 0).val) * 8 + (i 1).val) * 4 + (i 2).val) / 32 = (i 0).val; omega
    | ⟨1, _⟩ => show (((0 * 4096 + (i 0).val) * 8 + (i 1).val) * 4 + (i 2).val) / 4 % 8 = (i 1).val; omega
    | ⟨2, _⟩ => show (((0 * 4096 + (i 0).val) * 8 + (i 1).val) * 4 + (i 2).val) % 4 = (i 2).val; omega)
  rw [val_main_v43_apply, e, val_main_v42_apply, val_main_cst_0_apply, Ideal.ofBits_def, Ideal.ofBits_zero_f32, zero_add,
    Finset.sum_range, coe_sum]
  refine sum_congr rfl fun k _ => ?_
  rw [val_main_v41_apply, val_main_v29_apply, cb28 h, decay24 h, dW38 h, Ideal.mulf_def, Ideal.mulf_def,
    ← EReal.coe_mul, ← EReal.coe_mul]
  refine congrArg Real.toEReal ?_
  show (d.head (i 1).val (i 2).val).cb k.val (i 0).val
    * (if (i 0).val ≤ k.val then (d.head (i 1).val (i 2).val).L k.val (i 0).val else 0)
    * (d.head (i 1).val (i 2).val).dW k.val (i 0).val = _
  split_ifs
  · ring
  · rw [mul_zero, zero_mul]

/-- The gradient of the exponent of a decay. -/
theorem D59 (h : Reads d x0 x1 x2 x3) (i : S4096x4096x8x4.Idx) :
    val_main_v59 x0 x1 x2 x3 i
      = ((if (i 1).val ≤ (i 0).val then (d.head (i 2).val (i 3).val).D (i 0).val (i 1).val else 0 : ℝ) : EReal) := by
  rw [val_main_v59_apply, val_main_v23_1_apply, val_main_v22_apply, mask21, val_main_v58_apply, val_main_v48_apply,
    val_main_v45_apply, val_main_v47_apply, val_main_call4_v0_apply, val_main_call4_cst_apply, Ideal.ofBits_def,
    Ideal.ofBits_zero_f32, dW38 h, dt44 h, decay24 h]
  have e : val_main_v27 x0 (idx_main_v47 i) = ((d.head (i 2).val (i 3).val).cb (i 0).val (i 1).val : EReal) := cb28 h i
  rw [e, Ideal.mulf_def, Ideal.mulf_def, Ideal.mulf_def, ← EReal.coe_mul, ← EReal.coe_mul, ← EReal.coe_mul,
    ← EReal.coe_zero, coe_ite]
  refine congrArg Real.toEReal ?_
  show (if (i 1).val ≤ (i 0).val then _ else (0 : ℝ)) = _
  split_ifs
  · rw [Head.D]; ring
  · rfl

/-- The gradient of the running sum of the log-decays. -/
theorem dA67 (h : Reads d x0 x1 x2 x3) (i : S4096x8x4.Idx) :
    val_main_v67 x0 x1 x2 x3 i = ((d.head (i 1).val (i 2).val).dA 4096 (i 0).val : EReal) := by
  have h0 : (i 0).val < 4096 := (i 0).isLt
  have h1 : (i 1).val < 8 := (i 1).isLt
  have h2 : (i 2).val < 4 := (i 2).isLt
  have e1 : idx_main_v64 (idx_main_v65 i 0) = i := funext fun a => Fin.ext (by
    match a with
    | ⟨0, _⟩ => show (((0 * 4096 + (i 0).val) * 8 + (i 1).val) * 4 + (i 2).val) / 32 = (i 0).val; omega
    | ⟨1, _⟩ => show (((0 * 4096 + (i 0).val) * 8 + (i 1).val) * 4 + (i 2).val) / 4 % 8 = (i 1).val; omega
    | ⟨2, _⟩ => show (((0 * 4096 + (i 0).val) * 8 + (i 1).val) * 4 + (i 2).val) % 4 = (i 2).val; omega)
  have e2 : idx_main_v61 (idx_main_v66 i 0) = i := funext fun a => Fin.ext (by
    match a with
    | ⟨0, _⟩ => show ((((i 0).val * 1 + 0) * 8 + (i 1).val) * 4 + (i 2).val) / 32 = (i 0).val; omega
    | ⟨1, _⟩ => show ((((i 0).val * 1 + 0) * 8 + (i 1).val) * 4 + (i 2).val) / 4 % 8 = (i 1).val; omega
    | ⟨2, _⟩ => show ((((i 0).val * 1 + 0) * 8 + (i 1).val) * 4 + (i 2).val) % 4 = (i 2).val; omega)
  rw [val_main_v67_apply, val_main_v65_apply, val_main_v66_apply, val_main_cst_6_apply, val_main_cst_7_apply,
    Ideal.ofBits_def, Ideal.ofBits_zero_f32, zero_add, zero_add, Fin.sum_univ_one, Fin.sum_univ_one,
    val_main_v64_apply, val_main_v61_apply, e1, e2, val_main_v63_apply, val_main_v60_apply, val_main_cst_5_apply,
    val_main_cst_4_apply, Ideal.ofBits_def, Ideal.ofBits_zero_f32, zero_add, zero_add, Ideal.addf_def]
  have s1 : ∑ k : Fin 4096, val_main_v62 x0 x1 x2 x3 (idx_main_v63 i k)
      = ((-∑ u ∈ range 4096, (if (i 0).val ≤ u then (d.head (i 1).val (i 2).val).D u (i 0).val else 0) : ℝ) : EReal) := by
    rw [← sum_neg_distrib, Finset.sum_range, coe_sum]
    refine sum_congr rfl fun k _ => ?_
    rw [val_main_v62_apply, D59 h, EReal.coe_neg]; rfl
  have s2 : ∑ k : Fin 4096, val_main_v59 x0 x1 x2 x3 (idx_main_v60 i k)
      = ((∑ s ∈ range 4096, (if s ≤ (i 0).val then (d.head (i 1).val (i 2).val).D (i 0).val s else 0) : ℝ) : EReal) := by
    rw [Finset.sum_range, coe_sum]
    exact sum_congr rfl fun k _ => D59 h _
  rw [s1, s2, ← EReal.coe_add, Head.dA, neg_add_eq_sub]

/-- The gradient of a log-decay: the gradients of the running sums from its position on. -/
theorem dd68 (h : Reads d x0 x1 x2 x3) (i : S4096x8x4.Idx) :
    val_main_v68 x0 x1 x2 x3 i
      = ((∑ t ∈ range 4096, (if (i 0).val ≤ t then (d.head (i 1).val (i 2).val).dA 4096 t else 0) : ℝ) : EReal) := by
  unfold val_main_v68 Host.reduceWindowAdd
  rw [Ideal.hostReduceWindowAdd_def]
  have e : val_main_call5_call0_v0 (F := Ideal) (Shape.Idx.first h_S_) = 0 := by
    rw [val_main_call5_call0_v0_apply, val_main_call5_call0_cst_apply]; exact Ideal.ofBits_zero_f32
  rw [e]
  exact revcumsum_apply _ _ rfl rfl rfl _ _ (fun t g r => (d.head g r).dA 4096 t) (fun j => dA67 h j) i

/-- A step size's gradient. -/
def ddt (d : Data) (g r t : ℕ) : ℝ :=
  ∑ u ∈ range 4096, (if t ≤ u then (d.head g r).dW u t * (d.head g r).cb u t * (d.head g r).L u t else 0)
    + (∑ u ∈ range 4096, (if t ≤ u then (d.head g r).dA 4096 u else 0)) * d.a (4 * g + r)

/-- A decay rate's gradient. -/
def da (d : Data) (g r : ℕ) : ℝ :=
  ∑ t ∈ range 4096, (d.head g r).τ t * ∑ u ∈ range 4096, (if t ≤ u then (d.head g r).dA 4096 u else 0)

theorem ddt74 (h : Reads d x0 x1 x2 x3) (i : S4096x8x4.Idx) :
    val_main_v74 x0 x1 x2 x3 i = (ddt d (i 1).val (i 2).val (i 0).val : EReal) := by
  rw [val_main_v74_apply, dt46 h, val_main_v73_apply, dd68 h, val_main_v72_apply, val_main_v11_apply, a7 h,
    Ideal.mulf_def, Ideal.addf_def, ← EReal.coe_mul, ← EReal.coe_add]
  rfl

theorem ddt81 (h : Reads d x0 x1 x2 x3) (i : S8x8x4096.Idx) :
    val_main_v81 x0 x1 x2 x3 i
      = ((if (i 1).val < 4 then ddt d (i 0).val (i 1).val (i 2).val else 0 : ℝ) : EReal) := by
  unfold val_main_v81 pad
  have h0 : (i 0).val < 8 := (i 0).isLt
  have h2 : (i 2).val < 4096 := (i 2).isLt
  by_cases h1 : (i 1).val < 4
  · rw [dif_pos (fun a => by
      match a with
      | ⟨0, _⟩ => show 0 ≤ (i 0).val ∧ ((i 0).val - 0) % (0 + 1) = 0 ∧ ((i 0).val - 0) / (0 + 1) < 8; omega
      | ⟨1, _⟩ => show 0 ≤ (i 1).val ∧ ((i 1).val - 0) % (0 + 1) = 0 ∧ ((i 1).val - 0) / (0 + 1) < 4; omega
      | ⟨2, _⟩ => show 0 ≤ (i 2).val ∧ ((i 2).val - 0) % (0 + 1) = 0 ∧ ((i 2).val - 0) / (0 + 1) < 4096; omega),
      if_pos h1, val_main_v80_apply, ddt74 h]
    have e : ∀ n : ℕ, (n - 0) / (0 + 1) = n := fun n => by omega
    show ((ddt d (((i 0).val - 0) / (0 + 1)) (((i 1).val - 0) / (0 + 1)) (((i 2).val - 0) / (0 + 1)) : ℝ) : EReal) = _
    rw [e, e, e]
  · rw [dif_neg (fun hin => h1 (by
      have := (hin 1).2.2
      change ((i 1).val - 0) / (0 + 1) < 4 at this
      omega)), if_neg h1]
    rw [val_main_call6_v0_apply, val_main_c_10_apply]
    show (((0#32 : BitVec 32).toInt : ℝ) : EReal) = _
    simp

theorem da75 (h : Reads d x0 x1 x2 x3) (i : S8x4.Idx) :
    val_main_v75 x0 x1 x2 x3 i = (da d (i 0).val (i 1).val : EReal) := by
  have h0 : (i 0).val < 8 := (i 0).isLt
  have h1 : (i 1).val < 4 := (i 1).isLt
  have e : idx_main_v71 (idx_main_v75 i 0) = i := funext fun a => Fin.ext (by
    match a with
    | ⟨0, _⟩ => show ((0 * 8 + (i 0).val) * 4 + (i 1).val) / 4 = (i 0).val; omega
    | ⟨1, _⟩ => show ((0 * 8 + (i 0).val) * 4 + (i 1).val) % 4 = (i 1).val; omega)
  rw [val_main_v75_apply, val_main_cst_9_apply, Ideal.ofBits_def, Ideal.ofBits_zero_f32, zero_add, Fin.sum_univ_one,
    val_main_v71_apply, e, val_main_v70_apply, val_main_cst_8_apply, Ideal.ofBits_def, Ideal.ofBits_zero_f32, zero_add,
    da, Finset.sum_range, coe_sum]
  refine sum_congr rfl fun k _ => ?_
  rw [val_main_v69_apply, dt4 h, dd68 h, Ideal.mulf_def, ← EReal.coe_mul]

theorem da84 (h : Reads d x0 x1 x2 x3) (i : S8x8x128.Idx) :
    val_main_v84 x0 x1 x2 x3 i = ((if (i 1).val < 4 then da d (i 0).val (i 1).val else 0 : ℝ) : EReal) := by
  rw [val_main_v84_apply, val_main_v83_apply]
  unfold val_main_v82 pad
  have h0 : (i 0).val < 8 := (i 0).isLt
  by_cases h1 : (i 1).val < 4
  · rw [dif_pos (fun a => by
      match a with
      | ⟨0, _⟩ => show 0 ≤ (i 0).val ∧ ((i 0).val - 0) % (0 + 1) = 0 ∧ ((i 0).val - 0) / (0 + 1) < 8; omega
      | ⟨1, _⟩ => show 0 ≤ (i 1).val ∧ ((i 1).val - 0) % (0 + 1) = 0 ∧ ((i 1).val - 0) / (0 + 1) < 4; omega),
      if_pos h1, da75 h]
    have e : ∀ n : ℕ, (n - 0) / (0 + 1) = n := fun n => by omega
    show ((da d (((i 0).val - 0) / (0 + 1)) (((i 1).val - 0) / (0 + 1)) : ℝ) : EReal) = _
    rw [e, e]
  · rw [dif_neg (fun hin => h1 (by
      have := (hin 1).2.2
      change ((i 1).val - 0) / (0 + 1) < 4 at this
      omega)), if_neg h1]
    rw [val_main_call7_v0_apply, val_main_c_11_apply]
    show (((0#32 : BitVec 32).toInt : ℝ) : EReal) = _
    simp

end Ssd.Ref
-- ==== Proof.Outputs.lean ====
/-
  The arrays of the results after the whole grid, as real numbers at every index.
-/
module

public import proofs.«01_k».proof.Proof.Points
public import proofs.«01_k».proof.Proof.RefValue

@[expose] public section

set_option maxRecDepth 16384

noncomputable section

namespace Ssd.Host

open Idealize.ShloMosaic Idealize.ShloMosaic.TcCoe Cert.KernelIdeal Cert.KernelIdeal.Gen Ssd.Body
open Finset (range sum_congr)

/-- The gradient of the values of row `k` at position `s`. -/
def dxAt (d : Data) (k s : ℕ) (p : Fin 64) : ℝ := ∑ t ∈ range 4096, (if s ≤ t then
  (d.head (k / 4) (k % 4)).cb t s * (d.head (k / 4) (k % 4)).L t s * (d.head (k / 4) (k % 4)).τ s * (d.head (k / 4) (k % 4)).y t p else 0)

/-- The gradient of the first projection at position `s` and column `q`. -/
def dBAt (d : Data) (s q : ℕ) : ℝ := ∑ r ∈ range 4, ∑ t ∈ range 4096, (if s ≤ t then
  (d.head (q / 128) r).dW t s * (d.head (q / 128) r).L t s * (d.head (q / 128) r).τ s
    * (d.head (q / 128) r).C t ⟨q % 128, Nat.mod_lt _ (by norm_num)⟩ else 0)

/-- The gradient of the second projection at position `s` and column `q`. -/
def dCAt (d : Data) (s q : ℕ) : ℝ := ∑ r ∈ range 4, ∑ t ∈ range 4096, (if t ≤ s then
  (d.head (q / 128) r).dW s t * (d.head (q / 128) r).L s t * (d.head (q / 128) r).τ t
    * (d.head (q / 128) r).B t ⟨q % 128, Nat.mod_lt _ (by norm_num)⟩ else 0)

/-- The five results as arrays. -/
def G7 (d : Data) (i : S32x4096x64.Idx) : EReal := ((dxAt d (i 0).val (i 1).val (i 2) : ℝ) : EReal)
def G8 (d : Data) (i : S4096x1024.Idx) : EReal := ((dBAt d (i 0).val (i 1).val : ℝ) : EReal)
def G9 (d : Data) (i : S4096x1024.Idx) : EReal := ((dCAt d (i 0).val (i 1).val : ℝ) : EReal)
def G10 (d : Data) (i : S8x8x4096.Idx) : EReal :=
  ((if (i 1).val < 4 then Ref.ddt d (i 0).val (i 1).val (i 2).val else 0 : ℝ) : EReal)
def G11 (d : Data) (i : S8x8x128.Idx) : EReal := ((if (i 1).val < 4 then Ref.da d (i 0).val (i 1).val else 0 : ℝ) : EReal)

/-- Where each result's block lies at each point. -/
theorem at7 : ∀ t : Fin cfg0.N, win0_7.index t = ![t.val / 32, 31 - t.val % 32, 0] :=
  (by decide +kernel : ∀ t : Fin grid0.N, win0_7.index t = ![t.val / 32, 31 - t.val % 32, 0])
theorem at8 : ∀ t : Fin cfg0.N, win0_8.index t = ![31 - t.val % 32, t.val / 32] :=
  (by decide +kernel : ∀ t : Fin grid0.N, win0_8.index t = ![31 - t.val % 32, t.val / 32])
theorem at9 : ∀ t : Fin cfg0.N, win0_9.index t = ![31 - t.val % 32, t.val / 32] :=
  (by decide +kernel : ∀ t : Fin grid0.N, win0_9.index t = ![31 - t.val % 32, t.val / 32])
theorem at10 : ∀ t : Fin cfg0.N, win0_10.index t = ![t.val / 32, 0, 31 - t.val % 32] :=
  (by decide +kernel : ∀ t : Fin grid0.N, win0_10.index t = ![t.val / 32, 0, 31 - t.val % 32])
theorem at11 : ∀ t : Fin cfg0.N, win0_11.index t = ![t.val / 32, 0, 0] :=
  (by decide +kernel : ∀ t : Fin grid0.N, win0_11.index t = ![t.val / 32, 0, 0])
/-- The decay rates' gradient is written back at the last point of a pair of groups. -/
theorem flush11 : ∀ t : Fin cfg0.N, (cfg0.win 11).flush t = true → t.val % 32 = 31 :=
  (by decide +kernel : ∀ t : Fin grid0.N, win0_11.flush t = true → t.val % 32 = 31)

theorem headsOf_hd (d : Data) (t : ℕ) (g : Fin 2) (r : Fin 4) : headsOf d t (hd g r) = d.head (2 * (t / 32) + g.val) r.val := by
  have e1 : (hd g r).val / 4 = g.val := by show (4 * g.val + r.val) / 4 = _; omega
  have e2 : (hd g r).val % 4 = r.val := by show (4 * g.val + r.val) % 4 = _; omega
  rw [headsOf, e1, e2]

/-- Every column of a pair of groups is a column of one of them. -/
theorem exists_colB (q : Fin 256) : ∃ g k, q = colB g k :=
  ⟨⟨q.val / 128, by omega⟩, ⟨q.val % 128, by omega⟩, Fin.ext (by show q.val = 128 * (q.val / 128) + q.val % 128; omega)⟩

variable {d : Data} (m : (ℓ : Loc nD τ sig) → Buf (Elt Ideal) ℓ) (c : Dev nD)
variable (h : Reads d (m (c, Proc.tc.devRef main_arg0)) (m (c, Proc.tc.devRef main_arg1))
  (m (c, Proc.tc.devRef main_arg2)) (m (c, Proc.tc.devRef main_arg3)))
include h

/-- The gradient of the values. -/
theorem final7 : (dats m 0 c).arrAt 7 cfg0.N = G7 d := by
  refine (dats m 0 c).arrAt_eq_of_covers 7 _ (by decide +kernel) fun t hf y => ?_
  blk_simp
  obtain ⟨H, hA⟩ := after m c h t
  obtain ⟨n, j, p, rfl⟩ : ∃ (n : Fin 8) (j : Fin 128) (p : Fin 64), y = ix3 n j p := ⟨y 0, y 1, y 2, eq_ix3 y⟩
  have e : (win0_7.blk t).view.emb (ix3 n j p) = ix3 (⟨8 * (t.val / 32) + n.val, by have := lt_N t; omega⟩ : Fin 32)
      (⟨start t.val + j.val, by unfold start; omega⟩ : Fin 4096) p := by
    unfold start
    blk_ext [at7 t]
  have e1 : (8 * (t.val / 32) + n.val) / 4 = 2 * (t.val / 32) + n.val / 4 := by omega
  have e2 : (8 * (t.val / 32) + n.val) % 4 = n.val % 4 := by omega
  rw [after0_7, hA.dx, e]
  refine (dx_apply hA.is n j p).trans (congrArg Real.toEReal ?_)
  show _ = dxAt d (8 * (t.val / 32) + n.val) (start t.val + j.val) p
  rw [dxAt, e1, e2]
  rfl

/-- The gradient of the first projections. -/
theorem final8 : (dats m 0 c).arrAt 8 cfg0.N = G8 d := by
  refine (dats m 0 c).arrAt_eq_of_covers 8 _ (by decide +kernel) fun t hf y => ?_
  blk_simp
  obtain ⟨H, hA⟩ := after m c h t
  obtain ⟨j, q, rfl⟩ : ∃ (j : Fin 128) (q : Fin 256), y = ix2 j q := ⟨y 0, y 1, eq_ix2 y⟩
  obtain ⟨g, k, rfl⟩ := exists_colB q
  have e : (win0_8.blk t).view.emb (ix2 j (colB g k)) = ix2 (⟨start t.val + j.val, by unfold start; omega⟩ : Fin 4096)
      (⟨256 * (t.val / 32) + (128 * g.val + k.val), by have := lt_N t; omega⟩ : Fin 1024) := by
    unfold start colB
    blk_ext [at8 t]
  have e1 : (256 * (t.val / 32) + (128 * g.val + k.val)) / 128 = 2 * (t.val / 32) + g.val := by omega
  have e2 : (⟨(256 * (t.val / 32) + (128 * g.val + k.val)) % 128, Nat.mod_lt _ (by norm_num)⟩ : Fin 128) = k := Fin.ext (by
    show (256 * (t.val / 32) + (128 * g.val + k.val)) % 128 = k.val; omega)
  rw [after0_8, hA.db, e]
  refine (canon_db H g j k).trans ((db_apply hA.is (blocks m c t h).C_eq g j k).trans (congrArg Real.toEReal ?_))
  show _ = dBAt d (start t.val + j.val) (256 * (t.val / 32) + (128 * g.val + k.val))
  rw [dBAt, e2, e1, Finset.sum_range]
  simp only [headsOf_hd]

/-- The gradient of the second projections. -/
theorem final9 : (dats m 0 c).arrAt 9 cfg0.N = G9 d := by
  refine (dats m 0 c).arrAt_eq_of_covers 9 _ (by decide +kernel) fun t hf y => ?_
  blk_simp
  obtain ⟨H, hA⟩ := after m c h t
  obtain ⟨j, q, rfl⟩ : ∃ (j : Fin 128) (q : Fin 256), y = ix2 j q := ⟨y 0, y 1, eq_ix2 y⟩
  obtain ⟨g, k, rfl⟩ := exists_colB q
  have e : (win0_9.blk t).view.emb (ix2 j (colB g k)) = ix2 (⟨start t.val + j.val, by unfold start; omega⟩ : Fin 4096)
      (⟨256 * (t.val / 32) + (128 * g.val + k.val), by have := lt_N t; omega⟩ : Fin 1024) := by
    unfold start colB
    blk_ext [at9 t]
  have e1 : (256 * (t.val / 32) + (128 * g.val + k.val)) / 128 = 2 * (t.val / 32) + g.val := by omega
  have e2 : (⟨(256 * (t.val / 32) + (128 * g.val + k.val)) % 128, Nat.mod_lt _ (by norm_num)⟩ : Fin 128) = k := Fin.ext (by
    show (256 * (t.val / 32) + (128 * g.val + k.val)) % 128 = k.val; omega)
  rw [after0_9, hA.dc, e]
  refine (canon_dc H g j k).trans ((dc_apply hA.is (blocks m c t h).B_eq g j k).trans (congrArg Real.toEReal ?_))
  show _ = dCAt d (start t.val + j.val) (256 * (t.val / 32) + (128 * g.val + k.val))
  rw [dCAt, e2, e1, Finset.sum_range]
  simp only [headsOf_hd]

/-- The gradient of the step sizes. -/
theorem final10 : (dats m 0 c).arrAt 10 cfg0.N = G10 d := by
  refine (dats m 0 c).arrAt_eq_of_covers 10 _ (by decide +kernel) fun t hf y => ?_
  blk_simp
  obtain ⟨H, hA⟩ := after m c h t
  obtain ⟨g, r, i, rfl⟩ : ∃ (g : Fin 2) (r : Fin 8) (i : Fin 128), y = ix3 g r i := ⟨y 0, y 1, y 2, eq_ix3 y⟩
  have e : (win0_10.blk t).view.emb (ix3 g r i) = ix3 (⟨2 * (t.val / 32) + g.val, by have := lt_N t; omega⟩ : Fin 8) r
      (⟨start t.val + i.val, by unfold start; omega⟩ : Fin 4096) := by
    unfold start
    blk_ext [at10 t]
  rw [after0_10, hA.ddt, e]
  refine (ddt_apply hA.is _ _ _ (blocks m c t h).e4 g r i).trans (congrArg Real.toEReal ?_)
  show _ = if r.val < 4 then Ref.ddt d (2 * (t.val / 32) + g.val) r.val (start t.val + i.val) else 0
  split_ifs with hr
  · rw [headsOf_hd, rateAt, if_pos hr]
    rfl
  · rfl

omit h in
/-- A sum over blocks of 128, last block first. -/
theorem sum_blocks (f : ℕ → ℝ) : ∀ n, ∑ j : Fin 128, ∑ u ∈ range n, f (128 * (n - 1 - u) + j.val) = ∑ t ∈ range (128 * n), f t := by
  intro n
  have e : ∀ j : Fin 128, ∑ u ∈ range n, f (128 * (n - 1 - u) + j.val) = ∑ u ∈ range n, f (128 * u + j.val) := fun j =>
    Finset.sum_range_reflect (fun u => f (128 * u + j.val)) n
  rw [sum_congr rfl fun j _ => e j, ← Finset.sum_range fun j => ∑ u ∈ range n, f (128 * u + j), Finset.sum_comm]
  induction n with
  | zero => simp
  | succ n ih =>
    rw [Finset.sum_range_succ, ih fun j => Finset.sum_range_reflect (fun u => f (128 * u + j.val)) n, Nat.mul_succ, Finset.sum_range_add]

omit h in
/-- What the points of a pair of groups add together is the decay rate's gradient. -/
theorem daRun_sum (t : ℕ) (h5 : t % 32 = 31) (g : Fin 2) (r : Fin 8) :
    ∑ j, daRun d t g r j = if r.val < 4 then Ref.da d (2 * (t / 32) + g.val) r.val else 0 := by
  unfold daRun daAdd
  split_ifs with hr
  · rw [h5, Ref.da, show 4096 = 128 * (31 + 1) from rfl, ← sum_blocks]
    refine sum_congr rfl fun j _ => sum_congr rfl fun u hu => ?_
    have hu' : u < 32 := Finset.mem_range.mp hu
    have e1 : (32 * (t / 32) + u) / 32 = t / 32 := by omega
    have e2 : start (32 * (t / 32) + u) = 128 * (31 - u) := by unfold start; omega
    rw [dtAt, if_pos hr, e1, e2, headsOf_hd, mul_comm]
    rfl
  · simp

/-- The gradient of the decay rates. -/
theorem final11 : (dats m 0 c).arrAt 11 cfg0.N = G11 d := by
  refine (dats m 0 c).arrAt_eq_of_covers 11 _ (by decide +kernel) fun t hf y => ?_
  have h5 := flush11 t hf
  blk_simp
  obtain ⟨H, hA⟩ := after m c h t
  obtain ⟨g, r, i, rfl⟩ : ∃ (g : Fin 2) (r : Fin 8) (i : Fin 128), y = ix3 g r i := ⟨y 0, y 1, y 2, eq_ix3 y⟩
  have e : (win0_11.blk t).view.emb (ix3 g r i) = ix3 (⟨2 * (t.val / 32) + g.val, by have := lt_N t; omega⟩ : Fin 8) r i := by
    blk_ext [at11 t]
  rw [after0_11, e]
  refine (hA.daEnd h5 g r i).trans (congrArg Real.toEReal ?_)
  show _ = if r.val < 4 then Ref.da d (2 * (t.val / 32) + g.val) r.val else 0
  exact daRun_sum t.val h5 g r

end Ssd.Host
-- ==== Proof.Finals.lean ====
/-
  The two programs' results are the same arrays.
-/
module

public import proofs.«01_k».proof.Proof.Outputs
public import proofs.«01_k».proof.Proof.Gen.KernelIdeal.Value
public import proofs.«01_k».proof.Proof.Gen.ReferenceIdeal.Run
public import proofs.«01_k».proof.Proof.Gen.ReferenceIdeal.Read

@[expose] public section

noncomputable section

namespace Ssd

open Idealize.ShloMosaic Idealize.ShloMosaic.TcCoe Ssd.Host Cert.ReferenceIdeal Cert.ReferenceIdeal.Gen Cert.ReferenceIdeal.Value Cert.ReferenceIdeal.Read

variable {d : Data} (m : (ℓ : Loc nD τ sig) → Buf (Elt Ideal) ℓ) (c : Dev nD)
variable (h : Reads d (m ((c.tc : Thread nD τ).loc main_arg0)) (m ((c.tc : Thread nD τ).loc main_arg1))
  (m ((c.tc : Thread nD τ).loc main_arg2)) (m ((c.tc : Thread nD τ).loc main_arg3)))
include h

/-- The reference's five results as real numbers. -/
theorem ref0 : res_main_v77 m c = G7 d := (val_main_v77_eq m c).trans (funext fun i => Ref.dx77 h i)
theorem ref1 : res_main_v78 m c = G8 d := (val_main_v78_eq m c).trans (funext fun i => Ref.dB78 h i)
theorem ref2 : res_main_v79 m c = G9 d := (val_main_v79_eq m c).trans (funext fun i => Ref.dC79 h i)
theorem ref3 : res_main_v81 m c = G10 d := (val_main_v81_eq m c).trans (funext fun i => Ref.ddt81 h i)
theorem ref4 : res_main_v84 m c = G11 d := (val_main_v84_eq m c).trans (funext fun i => Ref.da84 h i)

end Ssd
-- ==== Proof.Parts.lean ====
/-
  A buffer filled part by part, and read part by part, at an index.
-/
module

public import Idealize.ShloMosaic.Lib.Pipeline.ValueKit.Point
public import Idealize.ShloMosaic.Lib.Pipeline.ValueKit.Acc
public import Idealize.ShloMosaic.Lib.Pipeline.ValueKit.Tiles
public import Mathlib.Data.EReal.Operations

@[expose] public section

noncomputable section

namespace Ffn

open Idealize.ShloMosaic

variable {Val : EltTy → Type} {S : Shape} {e : EltTy} [∀ e, Nonempty (Val e)]

/-- Where a part's index lies in the whole. -/
theorem emb_unit {off size : Fin S.rank → ℕ} (inb : ∀ a, off a + size a ≤ S.size a) (y : S.Idx)
    (z : (Rect.unit off size inb).shape.Idx) (h : ∀ a, (y a).val = off a + (z a).val) : (Rect.unit off size inb).emb z = y :=
  funext fun a => Fin.ext ((Rect.idx_unit_val off size inb z a).trans (h a).symm)

/-- The last store, read at an index it wrote. -/
theorem canon_hit {off size : Fin S.rank → ℕ} (inb : ∀ a, off a + size a ≤ S.size a)
    (w : (Rect.unit off size inb).shape.Idx → Val e) (L : List (View.Piece Val S e)) (y : S.Idx)
    (z : (Rect.unit off size inb).shape.Idx) (h : ∀ a, (y a).val = off a + (z a).val) :
    View.canon ((⟨Rect.unit off size inb, w⟩ : View.Piece Val S e) :: L) y = w z := by
  rw [← emb_unit inb y z h]
  exact View.canon_cons_emb (Rect.unit off size inb) w L z

/-- At an index that the last store did not write, the stores before are read. -/
theorem canon_miss {off size : Fin S.rank → ℕ} (inb : ∀ a, off a + size a ≤ S.size a)
    (w : (Rect.unit off size inb).shape.Idx → Val e) (L : List (View.Piece Val S e)) (y : S.Idx) (a : Fin S.rank)
    (h : (y a).val < off a ∨ off a + size a ≤ (y a).val) :
    View.canon ((⟨Rect.unit off size inb, w⟩ : View.Piece Val S e) :: L) y = View.canon L y := by
  refine View.canon_cons_of_not_mem _ L fun hm => ?_
  have hm' : y ∈ (Rect.unit off size inb).set := hm
  rw [Rect.mem_set_unit] at hm'
  have := hm' a
  omega

/-- A load of a part of what was stored. -/
theorem readCov_part {sig : RefSig} {κ : Kind} {sp : Space} (v : View sig κ sp S e) (L : List (View.Piece Val S e))
    {off size : Fin S.rank → ℕ} (inb : ∀ a, off a + size a ≤ S.size a) (y : S.Idx)
    (z : (Rect.unit off size inb).shape.Idx) (h : ∀ a, (y a).val = off a + (z a).val) :
    v.readCov L (Rect.unit off size inb).toLoadRect z = View.canon L y := by
  rw [View.readCov_eq_canon', ← emb_unit inb y z h]
  rfl

/-- A load of a part of a block. -/
theorem ld_part (x : S.Idx → Val e) {off size : Fin S.rank → ℕ} (inb : ∀ a, off a + size a ≤ S.size a) (y : S.Idx)
    (z : (Rect.unit off size inb).shape.Idx) (h : ∀ a, (y a).val = off a + (z a).val) :
    View.ld x (Rect.unit off size inb) z = x y := by
  rw [← emb_unit inb y z h]
  rfl

/-- A sum over all positions is the sum over the first half and the sum over the second. -/
theorem sum_halves (f : Fin 4096 → EReal) :
    ∑ k, f k = ∑ k : Fin 2048, f ⟨k.val, by omega⟩ + ∑ k : Fin 2048, f ⟨2048 + k.val, by omega⟩ :=
  Fin.sum_univ_add (a := 2048) (b := 2048) f

/-- A column of one half, among the columns of both. -/
def col (s : Fin 2) (j : Fin 2816) : Fin 5632 := ⟨2816 * s.val + j.val, by omega⟩

/-- One half, as the programs write it. -/
def half : EReal := Ideal.ofBits .f32 0x3F000000#32

theorem half_eq : half = ((1 / 2 : ℝ) : EReal) := by
  rw [half]
  simp [Ideal.ofBits, Ideal.ieee]
  rw [← EReal.coe_mul]
  norm_num

/-- Half of a sum is the sum of the halves, for any extended reals. -/
theorem half_add (x y : EReal) : half * (x + y) = half * x + half * y := by
  rw [half_eq]
  exact EReal.left_distrib_of_nonneg_of_ne_top (by norm_num) (EReal.coe_ne_top _) x y

theorem half_sum {ι : Type} (s : Finset ι) (f : ι → EReal) : half * ∑ i ∈ s, f i = ∑ i ∈ s, half * f i := by
  classical
  induction s using Finset.induction_on with
  | empty => simp
  | insert a s h ih => rw [Finset.sum_insert h, Finset.sum_insert h, half_add, ih]

end Ffn
-- ==== Proof.Dwgu.lean ====
/-
  The gradient of the gate and up weights: what a grid point's blocks hold and what it leaves.
-/
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.StableHlo.ReadAt
public import Idealize.ShloMosaic.Lib.Pipeline.ReadBack
public import proofs.«01_k».proof.Proof.Parts

@[expose] public section

noncomputable section

namespace Ffn.Dwgu

open Finset Idealize.ShloMosaic Idealize.ShloMosaic.TcCoe
open Cert.Kernel2Ideal Cert.Kernel2Ideal.Gen

/-- Where each window's block lies at each point. -/
theorem at0 : ∀ t : Fin cfg0.N, win0_0.index t = ![t.val % 2, t.val / 2 % 2] :=
  (by decide +kernel : ∀ t : Fin grid0.N, win0_0.index t = ![t.val % 2, t.val / 2 % 2])
theorem at1 : ∀ t : Fin cfg0.N, win0_1.index t = ![0, t.val % 2, t.val / 4] :=
  (by decide +kernel : ∀ t : Fin grid0.N, win0_1.index t = ![0, t.val % 2, t.val / 4])
theorem at2 : ∀ t : Fin cfg0.N, win0_2.index t = ![0, t.val / 2 % 2, t.val / 4] :=
  (by decide +kernel : ∀ t : Fin grid0.N, win0_2.index t = ![0, t.val / 2 % 2, t.val / 4])

theorem lt_N (t : Fin cfg0.N) : t.val < 8 := t.isLt

/-- Adding a product of two blocks to a first half of the accumulator. -/
theorem pay4_apply (x : FVec Ideal S2048x512 .bf16) (y : FVec Ideal S1x2048x1408 .bf16) (z : FVec Ideal S1x512x1408 .f32)
    (s : Fin 1) (i : Fin 512) (j : Fin 1408) :
    k0_pay4 x y z (ix3 s i j) = z (ix3 0 i j) + ∑ k : Fin 2048, x (ix2 k i) * y (ix3 0 k j) := by
  unfold k0_pay4
  pointwise

theorem pay5_apply (x : FVec Ideal S2048x512 .bf16) (y : FVec Ideal S1x2048x1408 .bf16) (z : FVec Ideal S1x512x1408 .f32)
    (s : Fin 1) (i : Fin 512) (j : Fin 1408) :
    k0_pay5 x y z (ix3 s i j) = z (ix3 0 i j) + ∑ k : Fin 2048, x (ix2 k i) * y (ix3 0 k j) := by
  unfold k0_pay5
  pointwise

theorem pay1_apply (z : FVec Ideal S1x512x1408 .f32) (s : Fin 1) (i : Fin 512) (j : Fin 1408) :
    k0_pay1 (F := Ideal) z (ix3 s i j) = z (ix3 0 i j) := by
  unfold k0_pay1
  pointwise

theorem pay2_apply (z : FVec Ideal S1x512x1408 .f32) (s : Fin 1) (i : Fin 512) (j : Fin 1408) :
    k0_pay2 (F := Ideal) z (ix3 s i j) = z (ix3 0 i j) := by
  unfold k0_pay2
  pointwise

variable (m : (ℓ : Loc nD τ sig) → Buf (Elt Ideal) ℓ) (c : Dev nD) (t : Fin cfg0.N)

/-- A point's block of the normalized inputs and its block of the gradients. -/
def blkH : FVec Ideal S2048x512 .bf16 := iblk m c 0 t
def blkG : FVec Ideal S2x2048x1408 .bf16 := iblk m c 1 t

/-- The product of a point's two blocks. -/
def part (s : Fin 2) (i : Fin 512) (j : Fin 1408) : EReal := ∑ k : Fin 2048, blkH m c t (ix2 k i) * blkG m c t (ix3 s k j)

theorem zero_apply (s : Fin 2) (i : Fin 512) (j : Fin 1408) : k0_pay3 (F := Ideal) (ix3 s i j) = 0 := by
  unfold k0_pay3
  pointwise

/-- The first of two points leaves in the accumulator the product of its blocks. -/
theorem outs_A (h : t.val % 2 = 0) (s : Fin 2) (i : Fin 512) (j : Fin 1408) :
    (outsAt0 m c t.val t.isLt).2 (ix3 s i j) = part m c t s i j := by
  rw [outsAt0_A m c t h (by omega)]
  frame_out
  revert s
  rw [Fin.forall_fin_two]
  constructor
  · rw [canon_miss _ _ _ _ 0 (.inl Nat.zero_lt_one), canon_hit _ _ _ _ (ix3 0 i j) (fun a => by fin_cases a <;> simp)]
    rw [pay4_apply, readCov_part _ _ _ (ix3 0 i j) _ (fun a => by fin_cases a <;> simp),
      canon_hit _ _ _ _ (ix3 0 i j) (fun a => by fin_cases a <;> simp), zero_apply, zero_add]
    refine Finset.sum_congr rfl fun k _ => ?_
    rw [ld_part _ _ (ix3 0 k j) _ (fun a => by fin_cases a <;> simp)]
    rfl
  · rw [canon_hit _ _ _ _ (ix3 0 i j) (fun a => by fin_cases a <;> simp)]
    rw [pay5_apply, readCov_part _ _ _ (ix3 1 i j) _ (fun a => by fin_cases a <;> simp), canon_miss _ _ _ _ 0 (.inr le_rfl),
      canon_hit _ _ _ _ (ix3 1 i j) (fun a => by fin_cases a <;> simp), zero_apply, zero_add]
    refine Finset.sum_congr rfl fun k _ => ?_
    rw [ld_part _ _ (ix3 1 k j) _ (fun a => by fin_cases a <;> simp)]
    rfl

/-- The second of two points adds the product of its blocks and stores the sum. -/
theorem outs_B (h : t.val % 2 = 1) (s : Fin 2) (i : Fin 512) (j : Fin 1408) :
    (outsAt0 m c t.val t.isLt).1 (ix3 s i j)
      = (outsAt0 m c (t.val - 1) (Nat.lt_of_le_of_lt (Nat.sub_le _ _) t.isLt)).2 (ix3 s i j) + part m c t s i j := by
  rw [outsAt0_B m c t (by omega) h]
  frame_out
  simp only [read_unread_whole]
  revert s
  rw [Fin.forall_fin_two]
  constructor
  · rw [canon_miss _ _ _ _ 0 (.inl Nat.zero_lt_one), canon_hit _ _ _ _ (ix3 0 i j) (fun a => by fin_cases a <;> simp)]
    rw [pay1_apply, readCov_part _ _ _ (ix3 0 i j) _ (fun a => by fin_cases a <;> simp), canon_miss _ _ _ _ 0 (.inl Nat.zero_lt_one),
      canon_hit _ _ _ _ (ix3 0 i j) (fun a => by fin_cases a <;> simp), pay4_apply,
      ld_part _ _ (ix3 0 i j) _ (fun a => by fin_cases a <;> simp)]
    refine congrArg _ (Finset.sum_congr rfl fun k _ => ?_)
    rw [ld_part _ _ (ix3 0 k j) _ (fun a => by fin_cases a <;> simp)]
    rfl
  · rw [canon_hit _ _ _ _ (ix3 0 i j) (fun a => by fin_cases a <;> simp)]
    rw [pay2_apply, readCov_part _ _ _ (ix3 1 i j) _ (fun a => by fin_cases a <;> simp),
      canon_hit _ _ _ _ (ix3 0 i j) (fun a => by fin_cases a <;> simp), pay5_apply,
      ld_part _ _ (ix3 1 i j) _ (fun a => by fin_cases a <;> simp)]
    refine congrArg _ (Finset.sum_congr rfl fun k _ => ?_)
    rw [ld_part _ _ (ix3 1 k j) _ (fun a => by fin_cases a <;> simp)]
    rfl

theorem blkH_apply (k : Fin 2048) (i : Fin 512) : blkH m c t (ix2 k i)
    = V m c main_v13 (ix2 (⟨2048 * (t.val % 2) + k.val, by omega⟩ : Fin 4096)
      (⟨512 * (t.val / 2 % 2) + i.val, by omega⟩ : Fin 1024)) := by
  unfold blkH
  blk_simp [iblk, at0 t]
  congr 1
  blk_ext [at0 t]

theorem blkG_apply (s : Fin 2) (k : Fin 2048) (j : Fin 1408) : blkG m c t (ix3 s k j)
    = V m c main_v14 (ix3 s (⟨2048 * (t.val % 2) + k.val, by omega⟩ : Fin 4096)
      (⟨1408 * (t.val / 4) + j.val, by have := lt_N t; omega⟩ : Fin 2816)) := by
  unfold blkG
  blk_simp [iblk, at1 t]
  congr 1
  blk_ext [at1 t]

/-- What the host hands to the call: the normalized inputs and the gradients. -/
theorem V_h : V m c main_v13 = Cert.Reference2Ideal.Read.val_main_v12 (F := Ideal) (m (c, Proc.tc.devRef main_arg0)) (m (c, Proc.tc.devRef main_arg1)) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  rfl

theorem V_g : V m c main_v14 = m (c, Proc.tc.devRef main_arg3) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  rfl

/-- The gradient of the weights, half by half: over all positions, input times gradient. -/
def grad (h : FVec Ideal S4096x1024 .f32) (g : FVec Ideal S2x4096x2816 .f32) (y : S2x1024x2816.Idx) : EReal :=
  ∑ k : Fin 4096, h (ix2 k (y 1)) * g (ix3 (y 0) k (y 2))

/-- The kernel's result. -/
theorem final : (dats m 0 c).arrAt 2 cfg0.N = grad
    (Cert.Reference2Ideal.Read.val_main_v12 (F := Ideal) (m (c, Proc.tc.devRef main_arg0)) (m (c, Proc.tc.devRef main_arg1)))
    (m (c, Proc.tc.devRef main_arg3)) := by
  refine (dats m 0 c).arrAt_eq_of_covers 2 _ (by decide +kernel) fun t hf y => ?_
  have ht := (flush0_2 t).mp hf
  blk_simp
  obtain ⟨s, i, j, rfl⟩ : ∃ (s : Fin 2) (i : Fin 512) (j : Fin 1408), y = ix3 s i j := ⟨y 0, y 1, y 2, eq_ix3 y⟩
  have e : (win0_2.blk t).view.emb (ix3 s i j) = ix3 s (⟨512 * (t.val / 2 % 2) + i.val, by omega⟩ : Fin 1024)
      (⟨1408 * (t.val / 4) + j.val, by have := lt_N t; omega⟩ : Fin 2816) := by
    blk_ext [at2 t]
  have hp : (t.val - 1) % 2 = 0 := by omega
  rw [after0_2, e]
  refine (outs_B m c t ht s i j).trans ?_
  rw [outs_A m c ⟨t.val - 1, Nat.lt_of_le_of_lt (Nat.sub_le _ _) t.isLt⟩ hp s i j]
  unfold part grad
  rw [sum_halves]
  refine congrArg₂ (· + ·) (Finset.sum_congr rfl fun k _ => ?_) (Finset.sum_congr rfl fun k _ => ?_)
  · rw [blkH_apply, blkG_apply, V_h, V_g]
    refine congrArg₂ (· * ·) (congrArg _ ?_) (congrArg _ ?_)
    · exact congrArg₂ ix2 (Fin.ext (by simp [hp])) (Fin.ext (by simp; omega))
    · exact congrArg₂ (ix3 s) (Fin.ext (by simp [hp])) (Fin.ext (by simp; omega))
  · rw [blkH_apply, blkG_apply, V_h, V_g]
    refine congrArg₂ (· * ·) (congrArg _ ?_) (congrArg _ ?_)
    · exact congrArg₂ ix2 (Fin.ext (by simp [ht])) rfl
    · exact congrArg₂ (ix3 s) (Fin.ext (by simp [ht])) rfl

open Cert.Reference2Ideal.Read in
/-- The reference's result. -/
theorem ref (x0 : FVec Ideal S4096x1024 .f32) (x1 : FVec Ideal S1024 .f32) (x3 : FVec Ideal S2x4096x2816 .f32) :
    val_main_v23 (F := Ideal) x0 x1 x3 = grad (val_main_v12 (F := Ideal) x0 x1) x3 := by
  funext y
  obtain ⟨s, i, j, rfl⟩ : ∃ (s : Fin 2) (i : Fin 1024) (j : Fin 2816), y = ix3 s i j := ⟨y 0, y 1, y 2, eq_ix3 y⟩
  refine (val_main_v22_apply (F := Ideal) x0 x1 x3 _).trans ?_
  rw [val_main_v21_apply, val_main_v20_apply, val_main_v19_apply]
  unfold grad
  refine Finset.sum_congr rfl fun k _ => ?_
  rw [mul_comm]
  refine congrArg₂ (· * ·) (congrArg _ ?_) ?_
  · refine (eq_ix2 _).trans (congrArg₂ ix2 rfl (Fin.ext ?_))
    show ((i.val * 2 + s.val) * 2816 + j.val) / 5632 = i.val
    omega
  · have e : lidx_main_v19 (idx_main_v20 (idx_main_v21 (idx_main_v22 (ix3 s i j)))) k
        = ix2 k (⟨s.val * 2816 + j.val, by omega⟩ : Fin 5632) := by
      refine (eq_ix2 _).trans (congrArg₂ ix2 rfl (Fin.ext ?_))
      show ((i.val * 2 + s.val) * 2816 + j.val) % 5632 = s.val * 2816 + j.val
      omega
    rw [e]
    clear e
    unfold val_main_v18 val_main_v15 val_main_v17 val_main_v14 val_main_v16
    revert s
    rw [Fin.forall_fin_two]
    constructor
    · pointwise
    · pointwise

end Ffn.Dwgu
-- ==== Proof.Dwd.lean ====
/-
  The gradient of the down weights: what a grid point's blocks hold, what it leaves, the result of the call and the
  reference's.
-/
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.StableHlo.ReadAt
public import Idealize.ShloMosaic.Lib.Pipeline.ReadBack
public import proofs.«01_k».proof.Proof.Parts

@[expose] public section

noncomputable section

namespace Ffn.Dwd

open Finset Idealize.ShloMosaic Idealize.ShloMosaic.TcCoe
open Cert.Kernel3Ideal Cert.Kernel3Ideal.Gen

/-- Where each window's block lies at each point. -/
theorem at0 : ∀ t : Fin cfg0.N, win0_0.index t = ![t.val % 2, t.val / 2] :=
  (by decide +kernel : ∀ t : Fin grid0.N, win0_0.index t = ![t.val % 2, t.val / 2])
theorem at1 : ∀ t : Fin cfg0.N, win0_1.index t = ![t.val % 2, 0] :=
  (by decide +kernel : ∀ t : Fin grid0.N, win0_1.index t = ![t.val % 2, 0])
theorem at2 : ∀ t : Fin cfg0.N, win0_2.index t = ![t.val / 2, 0] :=
  (by decide +kernel : ∀ t : Fin grid0.N, win0_2.index t = ![t.val / 2, 0])

theorem lt_N (t : Fin cfg0.N) : t.val < 4 := t.isLt

theorem zero_apply (i : Fin 1408) (j : Fin 1024) : k0_pay1 (F := Ideal) (ix2 i j) = 0 := by
  unfold k0_pay1
  pointwise

/-- Adding a product of two blocks to the accumulator. -/
theorem add_apply (x : FVec Ideal S2048x1408 .bf16) (y : FVec Ideal S2048x1024 .f32) (z : FVec Ideal S1408x1024 .f32)
    (i : Fin 1408) (j : Fin 1024) : k0_pay2 x y z (ix2 i j) = z (ix2 i j) + ∑ k : Fin 2048, x (ix2 k i) * y (ix2 k j) := by
  unfold k0_pay2
  pointwise

/-- The stored result is half of the accumulator. -/
theorem out_apply (z : FVec Ideal S1408x1024 .f32) (i : Fin 1408) (j : Fin 1024) :
    k0_pay3 (F := Ideal) z (ix2 i j) = half * z (ix2 i j) := by
  unfold k0_pay3
  pointwise
  rfl

variable (m : (ℓ : Loc nD τ sig) → Buf (Elt Ideal) ℓ) (c : Dev nD) (t : Fin cfg0.N)

/-- A point's block of the activations and its block of the gradients. -/
def blkA : FVec Ideal S2048x1408 .bf16 := iblk m c 0 t
def blkG : FVec Ideal S2048x1024 .f32 := iblk m c 1 t

/-- The product of a point's two blocks. -/
def part (i : Fin 1408) (j : Fin 1024) : EReal := ∑ k : Fin 2048, blkA m c t (ix2 k i) * blkG m c t (ix2 k j)

/-- The first of two points leaves in the accumulator the product of its blocks. -/
theorem outs_A (h : t.val % 2 = 0) (i : Fin 1408) (j : Fin 1024) :
    (outsAt0 m c t.val t.isLt).2 (ix2 i j) = part m c t i j := by
  rw [outsAt0_A m c t h (by omega)]
  frame_out
  refine (add_apply _ _ _ i j).trans ?_
  rw [zero_apply, zero_add]
  rfl

/-- The second of two points adds the product of its blocks and stores half of the sum. -/
theorem outs_B (h : t.val % 2 = 1) (i : Fin 1408) (j : Fin 1024) :
    (outsAt0 m c t.val t.isLt).1 (ix2 i j)
      = half * ((outsAt0 m c (t.val - 1) (Nat.lt_of_le_of_lt (Nat.sub_le _ _) t.isLt)).2 (ix2 i j) + part m c t i j) := by
  rw [outsAt0_B m c t (by omega) h]
  frame_out
  simp only [read_unread_whole]
  exact (out_apply _ i j).trans (congrArg _ (add_apply _ _ _ i j))

theorem blkA_apply (k : Fin 2048) (i : Fin 1408) : blkA m c t (ix2 k i)
    = V m c main_v18 (ix2 (⟨2048 * (t.val % 2) + k.val, by omega⟩ : Fin 4096)
      (⟨1408 * (t.val / 2) + i.val, by have := lt_N t; omega⟩ : Fin 2816)) := by
  unfold blkA
  blk_simp [iblk, at0 t]
  congr 1
  blk_ext [at0 t]

theorem blkG_apply (k : Fin 2048) (j : Fin 1024) : blkG m c t (ix2 k j)
    = V m c main_arg4 (ix2 (⟨2048 * (t.val % 2) + k.val, by omega⟩ : Fin 4096) j) := by
  unfold blkG
  blk_simp [iblk, at1 t]
  congr 1
  blk_ext [at1 t]

/-- What the host hands to the call: the activations. -/
theorem V_a : V m c main_v18 = Cert.Reference3Ideal.Read.val_main_v17 (F := Ideal) (m (c, Proc.tc.devRef main_arg0))
    (m (c, Proc.tc.devRef main_arg1)) (m (c, Proc.tc.devRef main_arg2)) := by
  simp only [V, hostOps0, hostOps0_1, hostOps0_2, List.flatten_cons, List.flatten_nil, List.cons_append, List.nil_append, List.append_nil]
  after_reads_simp
  try simp -implicitDefEqProofs only [StableHlo.TRef.toBuf, StableHlo.TRef.ofBuf, cast_cast, cast_eq]
  clean_types
  rfl

theorem V_g : V m c main_arg4 = m (c, Proc.tc.devRef main_arg4) := by
  simp only [V, hostOps0, hostOps0_1, hostOps0_2, List.flatten_cons, List.flatten_nil, List.cons_append, List.nil_append, List.append_nil]
  after_reads_simp

/-- The gradient of the weights: over all positions, activation times half of the gradient. -/
def grad (a : FVec Ideal S4096x2816 .f32) (g : FVec Ideal S4096x1024 .f32) (y : S2816x1024.Idx) : EReal :=
  ∑ k : Fin 4096, half * (a (ix2 k (y 0)) * g (ix2 k (y 1)))

/-- The kernel's result. -/
theorem final : (dats m 0 c).arrAt 2 cfg0.N = grad
    (Cert.Reference3Ideal.Read.val_main_v17 (F := Ideal) (m (c, Proc.tc.devRef main_arg0)) (m (c, Proc.tc.devRef main_arg1))
      (m (c, Proc.tc.devRef main_arg2))) (m (c, Proc.tc.devRef main_arg4)) := by
  refine (dats m 0 c).arrAt_eq_of_covers 2 _ (by decide +kernel) fun t hf y => ?_
  have ht := (flush0_2 t).mp hf
  blk_simp
  obtain ⟨i, j, rfl⟩ : ∃ (i : Fin 1408) (j : Fin 1024), y = ix2 i j := ⟨y 0, y 1, eq_ix2 y⟩
  have e : (win0_2.blk t).view.emb (ix2 i j) = ix2 (⟨1408 * (t.val / 2) + i.val, by have := lt_N t; omega⟩ : Fin 2816) j := by
    blk_ext [at2 t]
  have hp : (t.val - 1) % 2 = 0 := by omega
  rw [after0_2, e]
  refine (outs_B m c t ht i j).trans ?_
  rw [outs_A m c ⟨t.val - 1, Nat.lt_of_le_of_lt (Nat.sub_le _ _) t.isLt⟩ hp i j]
  unfold part grad
  rw [sum_halves, half_add, half_sum, half_sum]
  refine congrArg₂ (· + ·) (Finset.sum_congr rfl fun k _ => congrArg _ ?_) (Finset.sum_congr rfl fun k _ => congrArg _ ?_)
  · rw [blkA_apply, blkG_apply, V_a, V_g]
    refine congrArg₂ (· * ·) (congrArg _ ?_) (congrArg _ ?_)
    · exact congrArg₂ ix2 (Fin.ext (by simp [hp])) (Fin.ext (by simp; omega))
    · exact congrArg₂ ix2 (Fin.ext (by simp [hp])) rfl
  · rw [blkA_apply, blkG_apply, V_a, V_g]
    refine congrArg₂ (· * ·) (congrArg _ ?_) (congrArg _ ?_)
    · exact congrArg₂ ix2 (Fin.ext (by simp [ht])) rfl
    · exact congrArg₂ ix2 (Fin.ext (by simp [ht])) rfl

open Cert.Reference3Ideal.Read in
/-- The reference's result. -/
theorem ref (x0 : FVec Ideal S4096x1024 .f32) (x1 : FVec Ideal S1024 .f32) (x2 : FVec Ideal S1024x5632 .f32)
    (x4 : FVec Ideal S4096x1024 .f32) :
    val_main_v25 (F := Ideal) x0 x1 x2 x4 = grad (val_main_v17 (F := Ideal) x0 x1 x2) x4 := by
  funext y
  obtain ⟨i, j, rfl⟩ : ∃ (i : Fin 2816) (j : Fin 1024), y = ix2 i j := ⟨y 0, y 1, eq_ix2 y⟩
  refine (val_main_v24_apply (F := Ideal) x0 x1 x2 x4 _).trans ?_
  rw [val_main_v23_apply]
  unfold grad
  refine Finset.sum_congr rfl fun k _ => ?_
  rw [val_main_v22_apply, val_main_v21_apply, val_main_cst_3_apply]
  show half * x4 _ * _ = _
  rw [mul_assoc, mul_comm (x4 _)]
  refine congrArg _ (congrArg₂ (· * ·) (congrArg _ ?_) (congrArg _ ?_))
  · exact eq_ix2 _
  · exact eq_ix2 _

end Ffn.Dwd
-- ==== Proof.Down.lean ====
/-
  The layer's result: what a grid point's blocks hold, what it leaves, the result of the call and the reference's.
-/
module

public import proofs.«01_k».proof.Proof.Gen.Kernel7Ideal.Value
public import proofs.«01_k».proof.Proof.Gen.Reference7Ideal.Run
public import proofs.«01_k».proof.Proof.Gen.Reference7Ideal.Read
public import Idealize.ShloMosaic.Lib.Pointwise
public import Idealize.ShloMosaic.Lib.StableHlo.ReadAt
public import Idealize.ShloMosaic.Lib.Pipeline.ReadBack
public import proofs.«01_k».proof.Proof.Parts

@[expose] public section

noncomputable section

namespace Ffn.Down

open Finset Idealize.ShloMosaic Idealize.ShloMosaic.TcCoe
open Cert.Kernel7Ideal Cert.Kernel7Ideal.Gen

/-- Where each window's block lies at each point. -/
theorem at0 : ∀ t : Fin cfg0.N, win0_0.index t = ![t.val, 0] :=
  (by decide +kernel : ∀ t : Fin grid0.N, win0_0.index t = ![t.val, 0])
theorem at1 : ∀ t : Fin cfg0.N, win0_1.index t = ![0, 0] :=
  (by decide +kernel : ∀ t : Fin grid0.N, win0_1.index t = ![0, 0])
theorem at2 : ∀ t : Fin cfg0.N, win0_2.index t = ![t.val, 0] :=
  (by decide +kernel : ∀ t : Fin grid0.N, win0_2.index t = ![t.val, 0])
theorem at3 : ∀ t : Fin cfg0.N, win0_3.index t = ![t.val, 0] :=
  (by decide +kernel : ∀ t : Fin grid0.N, win0_3.index t = ![t.val, 0])

theorem lt_N (t : Fin cfg0.N) : t.val < 8 := t.isLt

/-- What is stored: the input and half of the product. -/
theorem out_apply (a : FVec Ideal S512x2816 .bf16) (w : FVec Ideal S2816x1024 .bf16) (x : FVec Ideal S512x1024 .f32)
    (i : Fin 512) (j : Fin 1024) :
    k0_pay1 a w x (ix2 i j) = x (ix2 i j) + half * ∑ k : Fin 2816, a (ix2 i k) * w (ix2 k j) := by
  unfold k0_pay1
  pointwise
  rfl

variable (m : (ℓ : Loc nD τ sig) → Buf (Elt Ideal) ℓ) (c : Dev nD) (t : Fin cfg0.N)

/-- A point's block of the activations, the weights, and its block of the input. -/
def blkA : FVec Ideal S512x2816 .bf16 := iblk m c 0 t
def blkW : FVec Ideal S2816x1024 .bf16 := iblk m c 1 t
def blkX : FVec Ideal S512x1024 .f32 := iblk m c 2 t

/-- What a point stores. -/
theorem outs (i : Fin 512) (j : Fin 1024) : (dats m 0 c).after 3 t (ix2 i j)
    = blkX m c t (ix2 i j) + half * ∑ k : Fin 2816, blkA m c t (ix2 i k) * blkW m c t (ix2 k j) := by
  rw [after0_3]
  unfold out0_3
  refine (canon_hit _ _ _ _ (ix2 i j) fun a => by fin_cases a <;> simp).trans ?_
  refine (out_apply _ _ _ i j).trans ?_
  refine congrArg₂ (· + ·) (ld_part _ _ _ _ fun a => by fin_cases a <;> simp)
    (congrArg _ (Finset.sum_congr rfl fun k _ => congrArg₂ (· * ·) ?_ ?_))
  · exact ld_part _ _ _ _ fun a => by fin_cases a <;> simp
  · exact ld_part _ _ _ _ fun a => by fin_cases a <;> simp

theorem blkA_apply (i : Fin 512) (k : Fin 2816) : blkA m c t (ix2 i k)
    = V m c main_v18 (ix2 (⟨512 * t.val + i.val, by have := lt_N t; omega⟩ : Fin 4096) k) := by
  unfold blkA
  blk_simp [iblk, at0 t]
  congr 1
  blk_ext [at0 t]

theorem blkW_apply (k : Fin 2816) (j : Fin 1024) : blkW m c t (ix2 k j) = V m c main_v19 (ix2 k j) := by
  unfold blkW
  blk_simp [iblk, at1 t]
  congr 1
  blk_ext [at1 t]

theorem blkX_apply (i : Fin 512) (j : Fin 1024) : blkX m c t (ix2 i j)
    = V m c main_arg0 (ix2 (⟨512 * t.val + i.val, by have := lt_N t; omega⟩ : Fin 4096) j) := by
  unfold blkX
  blk_simp [iblk, at2 t]
  congr 1
  blk_ext [at2 t]

/-- What the host hands to the call: the activations and the weights. -/
theorem V_a : V m c main_v18 = Cert.Reference7Ideal.Read.val_main_v17 (F := Ideal) (m (c, Proc.tc.devRef main_arg0))
    (m (c, Proc.tc.devRef main_arg1)) (m (c, Proc.tc.devRef main_arg2)) := by
  simp only [V, hostOps0, hostOps0_1, hostOps0_2, List.flatten_cons, List.flatten_nil, List.cons_append, List.nil_append, List.append_nil]
  after_reads_simp
  try simp -implicitDefEqProofs only [StableHlo.TRef.toBuf, StableHlo.TRef.ofBuf, cast_cast, cast_eq]
  clean_types
  rfl

theorem V_w : V m c main_v19 = (m (c, Proc.tc.devRef main_arg3) : FVec Ideal S2816x1024 .f32) := by
  simp only [V, hostOps0, hostOps0_1, hostOps0_2, List.flatten_cons, List.flatten_nil, List.cons_append, List.nil_append, List.append_nil]
  after_reads_simp
  try simp -implicitDefEqProofs only [StableHlo.TRef.toBuf, StableHlo.TRef.ofBuf, cast_cast, cast_eq]
  clean_types
  rfl

/-- The layer's result: the input and half of the product of activations and weights. -/
def layer (x : FVec Ideal S4096x1024 .f32) (a : FVec Ideal S4096x2816 .f32) (w : FVec Ideal S2816x1024 .f32)
    (y : S4096x1024.Idx) : EReal :=
  x (ix2 (y 0) (y 1)) + half * ∑ k : Fin 2816, a (ix2 (y 0) k) * w (ix2 k (y 1))

/-- The kernel's result. -/
theorem final : (dats m 0 c).arrAt 3 cfg0.N = layer (m (c, Proc.tc.devRef main_arg0))
    (Cert.Reference7Ideal.Read.val_main_v17 (F := Ideal) (m (c, Proc.tc.devRef main_arg0)) (m (c, Proc.tc.devRef main_arg1))
      (m (c, Proc.tc.devRef main_arg2))) (m (c, Proc.tc.devRef main_arg3)) := by
  refine (dats m 0 c).arrAt_eq_of_covers 3 _ (by decide +kernel) fun t _ y => ?_
  blk_simp
  obtain ⟨i, j, rfl⟩ : ∃ (i : Fin 512) (j : Fin 1024), y = ix2 i j := ⟨y 0, y 1, eq_ix2 y⟩
  have e : (win0_3.blk t).view.emb (ix2 i j) = ix2 (⟨512 * t.val + i.val, by have := lt_N t; omega⟩ : Fin 4096) j := by
    blk_ext [at3 t]
  rw [e]
  refine (outs m c t i j).trans ?_
  unfold layer
  rw [blkX_apply, V_main_arg0]
  refine congrArg₂ (· + ·) rfl (congrArg _ (Finset.sum_congr rfl fun k _ => ?_))
  rw [blkA_apply, blkW_apply, V_a, V_w]
  rfl

open Cert.Reference7Ideal.Read in
/-- The reference's result. -/
theorem ref (x0 : FVec Ideal S4096x1024 .f32) (x1 : FVec Ideal S1024 .f32) (x2 : FVec Ideal S1024x5632 .f32)
    (x3 : FVec Ideal S2816x1024 .f32) :
    val_main_v21 (F := Ideal) x0 x1 x2 x3 = layer x0 (val_main_v17 (F := Ideal) x0 x1 x2) x3 := by
  funext y
  obtain ⟨i, j, rfl⟩ : ∃ (i : Fin 4096) (j : Fin 1024), y = ix2 i j := ⟨y 0, y 1, eq_ix2 y⟩
  rw [val_main_v21_apply, val_main_v20_apply, val_main_v19_apply, val_main_cst_2_apply, val_main_v18_apply]
  unfold layer
  refine congrArg₂ (· + ·) rfl (congrArg₂ (· * ·) rfl (Finset.sum_congr rfl fun k _ => ?_))
  exact congrArg₂ (· * ·) (congrArg _ (eq_ix2 _)) (congrArg _ (eq_ix2 _))

end Ffn.Down
-- ==== Proof.Up.lean ====
/-
  The two halves of the product with the up weights and the activation: what a grid point's blocks hold, what it leaves,
  the results of the call and the reference's.
-/
module

public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.StableHlo.ReadAt
public import Idealize.ShloMosaic.Lib.Pipeline.ReadBack
public import proofs.«01_k».proof.Proof.Parts

@[expose] public section

noncomputable section

namespace Ffn.Up

open Finset Idealize.ShloMosaic Idealize.ShloMosaic.TcCoe
open Cert.Kernel6Ideal Cert.Kernel6Ideal.Gen

/-- Where each window's block lies at each point. -/
theorem at0 : ∀ t : Fin cfg0.N, win0_0.index t = ![t.val % 8, 0] :=
  (by decide +kernel : ∀ t : Fin grid0.N, win0_0.index t = ![t.val % 8, 0])
theorem at1 : ∀ t : Fin cfg0.N, win0_1.index t = ![0, 0, t.val / 8] :=
  (by decide +kernel : ∀ t : Fin grid0.N, win0_1.index t = ![0, 0, t.val / 8])
theorem at2 : ∀ t : Fin cfg0.N, win0_2.index t = ![0, t.val % 8, t.val / 8] :=
  (by decide +kernel : ∀ t : Fin grid0.N, win0_2.index t = ![0, t.val % 8, t.val / 8])
theorem at3 : ∀ t : Fin cfg0.N, win0_3.index t = ![t.val % 8, t.val / 8] :=
  (by decide +kernel : ∀ t : Fin grid0.N, win0_3.index t = ![t.val % 8, t.val / 8])

theorem lt_N (t : Fin cfg0.N) : t.val < 16 := t.isLt

/-- The gated linear unit of a gate and a value. -/
def glu (g u : EReal) : EReal := g * Ideal.div 1 (1 + Ideal.exp (-g)) * u

/-- The product of a block of rows with one half of a block of columns. -/
def prod (h : FVec Ideal S512x1024 .bf16) (w : FVec Ideal S1x1024x1408 .bf16) (i : Fin 512) (j : Fin 1408) : EReal :=
  ∑ k : Fin 1024, h (ix2 i k) * w (ix3 0 k j)

theorem gate_apply (h : FVec Ideal S512x1024 .bf16) (w : FVec Ideal S1x1024x1408 .bf16) (i : Fin 512) (j : Fin 1408) :
    k0_pay1 (F := Ideal) h w (ix2 i j) = prod h w i j := by
  unfold k0_pay1 prod
  pointwise

theorem up_apply (h : FVec Ideal S512x1024 .bf16) (w : FVec Ideal S1x1024x1408 .bf16) (i : Fin 512) (j : Fin 1408) :
    k0_pay2 (F := Ideal) h w (ix2 i j) = prod h w i j := by
  unfold k0_pay2 prod
  pointwise

theorem gate_out (h : FVec Ideal S512x1024 .bf16) (w : FVec Ideal S1x1024x1408 .bf16) (i : Fin 512) (j : Fin 1408) :
    k0_pay3 (F := Ideal) h w (ix3 0 i j) = prod h w i j := by
  rw [← gate_apply]
  unfold k0_pay3
  generalize k0_pay1 (F := Ideal) h w = z
  pointwise

theorem up_out (h : FVec Ideal S512x1024 .bf16) (w : FVec Ideal S1x1024x1408 .bf16) (i : Fin 512) (j : Fin 1408) :
    k0_pay4 (F := Ideal) h w (ix3 0 i j) = prod h w i j := by
  rw [← up_apply]
  unfold k0_pay4
  generalize k0_pay2 (F := Ideal) h w = z
  pointwise

theorem act_out (h : FVec Ideal S512x1024 .bf16) (w v : FVec Ideal S1x1024x1408 .bf16) (i : Fin 512) (j : Fin 1408) :
    k0_pay5 (F := Ideal) h w h v (ix2 i j) = glu (prod h w i j) (prod h v i j) := by
  rw [← up_apply h v, ← gate_apply h w]
  unfold k0_pay5 glu
  generalize k0_pay2 (F := Ideal) h v = u
  generalize k0_pay1 (F := Ideal) h w = g
  pointwise
  try rw [Ideal.ofBits_one_f32]
  try rw [Ideal.ofBits_zero_f32]
  try rw [sub_eq_add_neg, zero_add]

variable (m : (ℓ : Loc nD τ sig) → Buf (Elt Ideal) ℓ) (c : Dev nD) (t : Fin cfg0.N)

/-- A point's block of the normalized inputs and its block of the weights. -/
def blkH : FVec Ideal S512x1024 .bf16 := iblk m c 0 t
def blkW : FVec Ideal S2x1024x1408 .bf16 := iblk m c 1 t

/-- The product of a point's two blocks. -/
def part (s : Fin 2) (i : Fin 512) (j : Fin 1408) : EReal := ∑ k : Fin 1024, blkH m c t (ix2 i k) * blkW m c t (ix3 s k j)

theorem part_gate (i : Fin 512) (j : Fin 1408) :
    prod (View.ld (iblk m c 0 t) r0_0) (View.ld (iblk m c 1 t) r0_1) i j = part m c t 0 i j := by
  unfold prod part
  refine Finset.sum_congr rfl fun k _ => congrArg₂ (· * ·) ?_ ?_
  · exact ld_part _ _ _ _ fun a => by fin_cases a <;> simp
  · exact ld_part _ _ _ _ fun a => by fin_cases a <;> simp

theorem part_up (i : Fin 512) (j : Fin 1408) :
    prod (View.ld (iblk m c 0 t) r0_0) (View.ld (iblk m c 1 t) r0_2) i j = part m c t 1 i j := by
  unfold prod part
  refine Finset.sum_congr rfl fun k _ => congrArg₂ (· * ·) ?_ ?_
  · exact ld_part _ _ _ _ fun a => by fin_cases a <;> simp
  · exact ld_part _ _ _ _ fun a => by fin_cases a <;> simp

/-- What a point stores of the two halves. -/
theorem outs_gu (s : Fin 2) (i : Fin 512) (j : Fin 1408) : (dats m 0 c).after 2 t (ix3 s i j) = part m c t s i j := by
  rw [after0_2]
  unfold out0_2
  revert s
  rw [Fin.forall_fin_two]
  constructor
  · refine (canon_miss _ _ _ _ 0 (.inl Nat.zero_lt_one)).trans ?_
    refine (canon_hit _ _ _ _ (ix3 0 i j) fun a => by fin_cases a <;> simp).trans ?_
    exact (gate_out _ _ i j).trans (part_gate m c t i j)
  · refine (canon_hit _ _ _ _ (ix3 0 i j) fun a => by fin_cases a <;> simp).trans ?_
    exact (up_out _ _ i j).trans (part_up m c t i j)

/-- What a point stores of the activations. -/
theorem outs_a (i : Fin 512) (j : Fin 1408) :
    (dats m 0 c).after 3 t (ix2 i j) = glu (part m c t 0 i j) (part m c t 1 i j) := by
  rw [after0_3]
  unfold out0_3
  refine (canon_hit _ _ _ _ (ix2 i j) fun a => by fin_cases a <;> simp).trans ?_
  exact (act_out _ _ _ i j).trans (congrArg₂ glu (part_gate m c t i j) (part_up m c t i j))

theorem blkH_apply (i : Fin 512) (k : Fin 1024) : blkH m c t (ix2 i k)
    = V m c main_v16 (ix2 (⟨512 * (t.val % 8) + i.val, by omega⟩ : Fin 4096) k) := by
  unfold blkH
  blk_simp [iblk, at0 t]
  congr 1
  blk_ext [at0 t]

theorem blkW_apply (s : Fin 2) (k : Fin 1024) (j : Fin 1408) : blkW m c t (ix3 s k j)
    = V m c main_v2 (ix3 s k (⟨1408 * (t.val / 8) + j.val, by have := lt_N t; omega⟩ : Fin 2816)) := by
  unfold blkW
  blk_simp [iblk, at1 t]
  congr 1
  blk_ext [at1 t]

/-- What the host hands to the call: the normalized inputs and the two halves of the weights. -/
theorem V_h : V m c main_v16 = Cert.Reference6Ideal.Read.val_main_v12 (F := Ideal) (m (c, Proc.tc.devRef main_arg0))
    (m (c, Proc.tc.devRef main_arg1)) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  rfl

theorem V_w (s : Fin 2) (k : Fin 1024) (j : Fin 2816) :
    V m c main_v2 (ix3 s k j) = (m (c, Proc.tc.devRef main_arg2) : FVec Ideal S1024x5632 .f32) (ix2 k (col s j)) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  generalize m (c, Proc.tc.devRef main_arg2) = w
  refine (show _ = transpose S2x1024x2816 [1, 0, 2] (shapeCast S1024x2x2816 w shapeCasts_S1024x5632_S1024x2x2816)
    transposes_S1024x2x2816_S2x1024x2816_1_0_2 (ix3 s k j) from rfl).trans ?_
  refine (transpose_apply [1, 0, 2] _ transposes_S1024x2x2816_S2x1024x2816_1_0_2 (ix3 s k j) (ix3 k s j)
    (fun b => match b with | ⟨0, _⟩ => rfl | ⟨1, _⟩ => rfl | ⟨2, _⟩ => rfl)).trans ?_
  refine shapeCast_apply _ shapeCasts_S1024x5632_S1024x2x2816 _ (ix2 k (col s j)) ?_
  rw [Shape.rowMajor_val_two, Shape.rowMajor_val_three]
  show k.val * 5632 + (2816 * s.val + j.val) = (k.val * 2 + s.val) * 2816 + j.val
  omega

/-- One half of the product of the normalized inputs and the weights. -/
def half1 (h : FVec Ideal S4096x1024 .f32) (w : FVec Ideal S1024x5632 .f32) (s : Fin 2) (i : Fin 4096) (j : Fin 2816) : EReal :=
  ∑ k : Fin 1024, h (ix2 i k) * w (ix2 k (col s j))

/-- The two halves of the product. -/
def halves (h : FVec Ideal S4096x1024 .f32) (w : FVec Ideal S1024x5632 .f32) (y : S2x4096x2816.Idx) : EReal :=
  half1 h w (y 0) (y 1) (y 2)

/-- The activations. -/
def act (h : FVec Ideal S4096x1024 .f32) (w : FVec Ideal S1024x5632 .f32) (y : S4096x2816.Idx) : EReal :=
  glu (half1 h w 0 (y 0) (y 1)) (half1 h w 1 (y 0) (y 1))

theorem part_eq (s : Fin 2) (i : Fin 512) (j : Fin 1408) : part m c t s i j
    = half1 (Cert.Reference6Ideal.Read.val_main_v12 (F := Ideal) (m (c, Proc.tc.devRef main_arg0)) (m (c, Proc.tc.devRef main_arg1)))
      (m (c, Proc.tc.devRef main_arg2)) s ⟨512 * (t.val % 8) + i.val, by omega⟩
      ⟨1408 * (t.val / 8) + j.val, by have := lt_N t; omega⟩ := by
  unfold part half1
  refine Finset.sum_congr rfl fun k _ => ?_
  rw [blkH_apply, blkW_apply, V_h, V_w]

/-- The kernel's first result. -/
theorem final_gu : (dats m 0 c).arrAt 2 cfg0.N = halves
    (Cert.Reference6Ideal.Read.val_main_v12 (F := Ideal) (m (c, Proc.tc.devRef main_arg0)) (m (c, Proc.tc.devRef main_arg1)))
    (m (c, Proc.tc.devRef main_arg2)) := by
  refine (dats m 0 c).arrAt_eq_of_covers 2 _ (by decide +kernel) fun t _ y => ?_
  blk_simp
  obtain ⟨s, i, j, rfl⟩ : ∃ (s : Fin 2) (i : Fin 512) (j : Fin 1408), y = ix3 s i j := ⟨y 0, y 1, y 2, eq_ix3 y⟩
  have e : (win0_2.blk t).view.emb (ix3 s i j) = ix3 s (⟨512 * (t.val % 8) + i.val, by omega⟩ : Fin 4096)
      (⟨1408 * (t.val / 8) + j.val, by have := lt_N t; omega⟩ : Fin 2816) := by
    blk_ext [at2 t]
  rw [e]
  exact (outs_gu m c t s i j).trans (part_eq m c t s i j)

/-- The kernel's second result. -/
theorem final_a : (dats m 0 c).arrAt 3 cfg0.N = act
    (Cert.Reference6Ideal.Read.val_main_v12 (F := Ideal) (m (c, Proc.tc.devRef main_arg0)) (m (c, Proc.tc.devRef main_arg1)))
    (m (c, Proc.tc.devRef main_arg2)) := by
  refine (dats m 0 c).arrAt_eq_of_covers 3 _ (by decide +kernel) fun t _ y => ?_
  blk_simp
  obtain ⟨i, j, rfl⟩ : ∃ (i : Fin 512) (j : Fin 1408), y = ix2 i j := ⟨y 0, y 1, eq_ix2 y⟩
  have e : (win0_3.blk t).view.emb (ix2 i j) = ix2 (⟨512 * (t.val % 8) + i.val, by omega⟩ : Fin 4096)
      (⟨1408 * (t.val / 8) + j.val, by have := lt_N t; omega⟩ : Fin 2816) := by
    blk_ext [at3 t]
  rw [e]
  exact (outs_a m c t i j).trans (congrArg₂ glu (part_eq m c t 0 i j) (part_eq m c t 1 i j))

open Cert.Reference6Ideal.Read in
/-- The reference's product, at a column of one half. -/
theorem ref_half (x0 : FVec Ideal S4096x1024 .f32) (x1 : FVec Ideal S1024 .f32) (x2 : FVec Ideal S1024x5632 .f32)
    (z : Cert.Reference6Ideal.S4096x5632.Idx) (s : Fin 2) (i : Fin 4096) (j : Fin 2816) (h0 : (z 0).val = i.val) (h1 : (z 1).val = 2816 * s.val + j.val) :
    val_main_v13 (F := Ideal) x0 x1 x2 z = half1 (val_main_v12 (F := Ideal) x0 x1) x2 s i j := by
  rw [val_main_v13_apply]
  unfold half1
  refine Finset.sum_congr rfl fun k _ => congrArg₂ (· * ·) (congrArg _ ?_) (congrArg _ ?_)
  · exact (eq_ix2 _).trans (congrArg₂ ix2 (Fin.ext h0) rfl)
  · exact (eq_ix2 _).trans (congrArg₂ ix2 rfl (Fin.ext h1))

open Cert.Reference6Ideal.Read in
/-- The reference's first result. -/
theorem ref_gu (x0 : FVec Ideal S4096x1024 .f32) (x1 : FVec Ideal S1024 .f32) (x2 : FVec Ideal S1024x5632 .f32) :
    val_main_v18 (F := Ideal) x0 x1 x2 = halves (val_main_v12 (F := Ideal) x0 x1) x2 := by
  funext y
  obtain ⟨s, i, j, rfl⟩ : ∃ (s : Fin 2) (i : Fin 4096) (j : Fin 2816), y = ix3 s i j := ⟨y 0, y 1, y 2, eq_ix3 y⟩
  refine (val_main_v17_apply (F := Ideal) x0 x1 x2 _).trans ?_
  rw [val_main_v16_apply]
  refine ref_half x0 x1 x2 _ s i j ?_ ?_
  · show ((i.val * 2 + s.val) * 2816 + j.val) / 5632 = i.val
    omega
  · show ((i.val * 2 + s.val) * 2816 + j.val) % 5632 = 2816 * s.val + j.val
    omega

open Cert.Reference6Ideal.Read in
/-- The reference's second result. -/
theorem ref_a (x0 : FVec Ideal S4096x1024 .f32) (x1 : FVec Ideal S1024 .f32) (x2 : FVec Ideal S1024x5632 .f32) :
    val_main_v21 (F := Ideal) x0 x1 x2 = act (val_main_v12 (F := Ideal) x0 x1) x2 := by
  funext y
  obtain ⟨i, j, rfl⟩ : ∃ (i : Fin 4096) (j : Fin 2816), y = ix2 i j := ⟨y 0, y 1, eq_ix2 y⟩
  have hg : val_main_v14 (F := Ideal) x0 x1 x2 (ix2 i j) = half1 (val_main_v12 (F := Ideal) x0 x1) x2 0 i j :=
    (val_main_v14_apply (F := Ideal) x0 x1 x2 _).trans (ref_half x0 x1 x2 _ 0 i j rfl (by simp))
  have hu : val_main_v15 (F := Ideal) x0 x1 x2 (ix2 i j) = half1 (val_main_v12 (F := Ideal) x0 x1) x2 1 i j :=
    (val_main_v15_apply (F := Ideal) x0 x1 x2 _).trans (ref_half x0 x1 x2 _ 1 i j rfl (by simp))
  show _ = glu (half1 (val_main_v12 (F := Ideal) x0 x1) x2 0 i j) (half1 (val_main_v12 (F := Ideal) x0 x1) x2 1 i j)
  rw [← hg, ← hu]
  refine (val_main_v20_apply (F := Ideal) x0 x1 x2 _).trans ?_
  unfold glu
  refine congrArg₂ (· * ·) ?_ rfl
  rw [val_main_v19_apply]
  refine congrArg₂ (· * ·) rfl ?_
  rw [val_main_call0_v5_apply, val_main_call0_v4_apply, val_main_call0_v3_apply, val_main_call0_v2_apply,
    val_main_call0_cst_0_apply, val_main_call0_cst_apply, val_main_call0_v1_apply, val_main_call0_v0_apply]
  rw [show (FloatOps.ofBits (F := Ideal) .f32 0x3F800000#32) = (1 : EReal) from Ideal.ofBits_one_f32]
  rfl

end Ffn.Up
-- ==== Proof.Products.lean ====
/-
  The three forms of a matrix product that the mixers' calls compute.
-/
module

public import Idealize.ShloMosaic.Lib.Pointwise
public import proofs.«01_k».proof.Proof.Parts

@[expose] public section

noncomputable section

namespace Ffn

open Finset Idealize.ShloMosaic

variable {p q r : ℕ}

/-- A product of two matrices. -/
def mm (a : (⟨2, ![p, q]⟩ : Shape).Idx → EReal) (b : (⟨2, ![q, r]⟩ : Shape).Idx → EReal) (i : Fin p) (j : Fin r) : EReal :=
  ∑ k : Fin q, a (ix2 i k) * b (ix2 k j)

/-- A product with the second matrix transposed. -/
def mmT (a : (⟨2, ![p, q]⟩ : Shape).Idx → EReal) (b : (⟨2, ![r, q]⟩ : Shape).Idx → EReal) (i : Fin p) (j : Fin r) : EReal :=
  ∑ k : Fin q, a (ix2 i k) * b (ix2 j k)

/-- A product with the first matrix transposed. -/
def tmm (a : (⟨2, ![q, p]⟩ : Shape).Idx → EReal) (b : (⟨2, ![q, r]⟩ : Shape).Idx → EReal) (i : Fin p) (j : Fin r) : EReal :=
  ∑ k : Fin q, a (ix2 k i) * b (ix2 k j)

/-- A sum taken block by block. -/
theorem sum_blocks {a b n : ℕ} (h : a * b = n) (f : Fin n → EReal) : ∑ i, f i = ∑ t : Fin a, ∑ i : Fin b,
    f ⟨b * t.val + i.val, h ▸ Nat.mul_comm a b ▸ Nat.lt_of_lt_of_le (Nat.add_lt_add_left i.isLt _)
      ((Nat.mul_succ b t.val).symm.trans_le (Nat.mul_le_mul_left b t.isLt))⟩ := by
  subst h
  rw [← Equiv.sum_comp (finProdFinEquiv (m := a) (n := b)), Fintype.sum_prod_type]
  refine Finset.sum_congr rfl fun t _ => Finset.sum_congr rfl fun i _ => congrArg f (Fin.ext ?_)
  simp [finProdFinEquiv, Nat.add_comm]

/-- What is first stored and then added to, one part at a point, is the sum of the parts. -/
theorem sum_of_steps {n : ℕ} (s g : (k : ℕ) → k < n → EReal) (h0 : ∀ h, s 0 h = g 0 h)
    (hs : ∀ k h, s (k + 1) h = s k (Nat.lt_of_succ_lt h) + g (k + 1) h) :
    ∀ (k : ℕ) (h : k < n), s k h = ∑ j ∈ range (k + 1), if h : j < n then g j h else 0
  | 0, h => by
    rw [h0, sum_range_one, dif_pos h]
  | k + 1, h => by
    rw [hs, sum_of_steps s g h0 hs k, sum_range_succ _ (k + 1), dif_pos h]

end Ffn
-- ==== Proof.Dx.lean ====
/-
  The gradients of the inputs and of the norm's gain: what a grid point's blocks hold, what it leaves, the results of the
  call and the reference's.
-/
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.StableHlo.ReadAt
public import Idealize.ShloMosaic.Lib.Pipeline.ReadBack
public import proofs.«01_k».proof.Proof.Products
public import proofs.«01_k».proof.Proof.Parts

@[expose] public section

set_option maxRecDepth 16384

noncomputable section

namespace Ffn.Dx

open Finset Idealize.ShloMosaic Idealize.ShloMosaic.TcCoe
open Cert.Kernel4Ideal Cert.Kernel4Ideal.Gen

/-- Where each window's block lies at each point. -/
theorem at0 : ∀ t : Fin cfg0.N, win0_0.index t = ![0, t.val, 0] :=
  (by decide +kernel : ∀ t : Fin grid0.N, win0_0.index t = ![0, t.val, 0])
theorem at1 : ∀ t : Fin cfg0.N, win0_1.index t = ![0, 0, 0] :=
  (by decide +kernel : ∀ t : Fin grid0.N, win0_1.index t = ![0, 0, 0])
theorem at2 : ∀ t : Fin cfg0.N, win0_2.index t = ![t.val, 0] :=
  (by decide +kernel : ∀ t : Fin grid0.N, win0_2.index t = ![t.val, 0])
theorem at3 : ∀ t : Fin cfg0.N, win0_3.index t = ![0, 0] :=
  (by decide +kernel : ∀ t : Fin grid0.N, win0_3.index t = ![0, 0])
theorem at4 : ∀ t : Fin cfg0.N, win0_4.index t = ![t.val, 0] :=
  (by decide +kernel : ∀ t : Fin grid0.N, win0_4.index t = ![t.val, 0])
theorem at5 : ∀ t : Fin cfg0.N, win0_5.index t = ![t.val, 0] :=
  (by decide +kernel : ∀ t : Fin grid0.N, win0_5.index t = ![t.val, 0])
theorem at6 : ∀ t : Fin cfg0.N, win0_6.index t = ![0, 0] :=
  (by decide +kernel : ∀ t : Fin grid0.N, win0_6.index t = ![0, 0])

theorem lt_N (t : Fin cfg0.N) : t.val < 8 := t.isLt

/-- The width of a row and the number added to its mean square, as the programs write them. -/
def width : EReal := Ideal.ofBits .f32 0x44800000#32
def tiny : EReal := Ideal.ofBits .f32 0x358637BD#32

/-- The reciprocal of a row's root mean square. -/
def inv (x : Fin 1024 → EReal) : EReal := Ideal.rsqrt (Ideal.div (∑ k, x k * x k) width + tiny)

/-- A row's gradient from the gradient `d` of its scaled normalization. -/
def row (x g d : Fin 1024 → EReal) (o : EReal) (n : Fin 1024) : EReal :=
  o + inv x * (d n * g n - x n * inv x * Ideal.div (∑ k, d k * g k * (x k * inv x)) width)

/-- A row's part in the gradient of the gain. -/
def gain (x d : Fin 1024 → EReal) (n : Fin 1024) : EReal := d n * (x n * inv x)

theorem d_apply (a b : FVec Ideal S1x512x2816 .bf16) (u v : FVec Ideal S1x1024x2816 .bf16) (i : Fin 512) (n : Fin 1024) :
    k0_pay3 (F := Ideal) a u b v (ix2 i n)
      = (∑ k : Fin 2816, a (ix3 0 i k) * u (ix3 0 n k)) + ∑ k : Fin 2816, b (ix3 0 i k) * v (ix3 0 n k) := by
  unfold k0_pay3
  pointwise

theorem inv_apply (x : FVec Ideal S512x1024 .f32) (i : Fin 512) (n : Fin 1) :
    k0_pay4 (F := Ideal) x (ix2 i n) = inv fun k => x (ix2 i k) := by
  unfold k0_pay4 inv
  pointwise
  rfl

theorem normed_apply (x : FVec Ideal S512x1024 .f32) (i : Fin 512) (n : Fin 1024) :
    k0_pay5 (F := Ideal) x (ix2 i n) = x (ix2 i n) * inv fun k => x (ix2 i k) := by
  rw [← inv_apply x i 0]
  unfold k0_pay5
  generalize k0_pay4 (F := Ideal) x = r
  pointwise

theorem gain_apply (a b : FVec Ideal S1x512x2816 .bf16) (u v : FVec Ideal S1x1024x2816 .bf16) (x : FVec Ideal S512x1024 .f32)
    (n : Fin 1024) : k0_pay6 (F := Ideal) a u b v x (ix2 0 n)
      = ∑ i : Fin 512, gain (fun k => x (ix2 i k)) (fun k => k0_pay3 (F := Ideal) a u b v (ix2 i k)) n := by
  unfold gain
  simp only [← normed_apply]
  unfold k0_pay6
  generalize k0_pay5 (F := Ideal) x = r
  generalize k0_pay3 (F := Ideal) a u b v = d
  pointwise

theorem gain_add (z y : FVec Ideal S1x1024 .f32) (n : Fin 1024) : k0_pay2 (F := Ideal) z y (ix2 0 n) = y (ix2 0 n) + z (ix2 0 n) := by
  unfold k0_pay2
  pointwise

theorem row_apply (a b : FVec Ideal S1x512x2816 .bf16) (u v : FVec Ideal S1x1024x2816 .bf16) (x o : FVec Ideal S512x1024 .f32)
    (g : FVec Ideal S1x1024 .f32) (i : Fin 512) (n : Fin 1024) :
    k0_pay1 (F := Ideal) o (k0_pay4 x) (k0_pay5 x) (k0_pay7 a u b v g) (k0_pay8 a u b v x g) (ix2 i n)
      = row (fun k => x (ix2 i k)) (fun k => g (ix2 0 k)) (fun k => k0_pay3 (F := Ideal) a u b v (ix2 i k)) (o (ix2 i n)) n := by
  unfold row
  simp only [← normed_apply]
  rw [← inv_apply x i 0]
  unfold k0_pay1 k0_pay8 k0_pay7
  generalize k0_pay5 (F := Ideal) x = r
  generalize k0_pay4 (F := Ideal) x = q
  generalize k0_pay3 (F := Ideal) a u b v = d
  pointwise
  rfl

variable (m : (ℓ : Loc nD τ sig) → Buf (Elt Ideal) ℓ) (c : Dev nD) (t : Fin cfg0.N)

/-- A point's blocks: the gradients, the weights, the inputs, the gain and the gradient of the residual. -/
def blkG : FVec Ideal S2x512x2816 .bf16 := iblk m c 0 t
def blkW : FVec Ideal S2x1024x2816 .bf16 := iblk m c 1 t
def blkX : FVec Ideal S512x1024 .f32 := iblk m c 2 t
def blkN : FVec Ideal S1x1024 .f32 := iblk m c 3 t
def blkO : FVec Ideal S512x1024 .f32 := iblk m c 4 t

/-- The gradient of a block of the scaled normalization. -/
def blkD (i : Fin 512) (n : Fin 1024) : EReal :=
  (∑ k : Fin 2816, blkG m c t (ix3 0 i k) * blkW m c t (ix3 0 n k)) + ∑ k : Fin 2816, blkG m c t (ix3 1 i k) * blkW m c t (ix3 1 n k)

/-- The two halves of a point's gradients and weights. -/
abbrev g0 : FVec Ideal S1x512x2816 .bf16 :=
  View.ld (iblk m c 0 t) (Rect.unit (s := S2x512x2816) ![0, 0, 0] ![1, 512, 2816] inb_S2x512x2816_S1x512x2816_0_0_0)
abbrev g1 : FVec Ideal S1x512x2816 .bf16 :=
  View.ld (iblk m c 0 t) (Rect.unit (s := S2x512x2816) ![1, 0, 0] ![1, 512, 2816] inb_S2x512x2816_S1x512x2816_1_0_0)
abbrev w0 : FVec Ideal S1x1024x2816 .bf16 :=
  View.ld (iblk m c 1 t) (Rect.unit (s := S2x1024x2816) ![0, 0, 0] ![1, 1024, 2816] inb_S2x1024x2816_S1x1024x2816_0_0_0)
abbrev w1 : FVec Ideal S1x1024x2816 .bf16 :=
  View.ld (iblk m c 1 t) (Rect.unit (s := S2x1024x2816) ![1, 0, 0] ![1, 1024, 2816] inb_S2x1024x2816_S1x1024x2816_1_0_0)

/-- What every point stores of the inputs' gradient. -/
def tile : FVec Ideal S512x1024 .f32 :=
  k0_pay1 (F := Ideal) (blkO m c t) (k0_pay4 (blkX m c t)) (k0_pay5 (blkX m c t))
    (k0_pay7 (g0 m c t) (w0 m c t) (g1 m c t) (w1 m c t) (blkN m c t))
    (k0_pay8 (g0 m c t) (w0 m c t) (g1 m c t) (w1 m c t) (blkX m c t) (blkN m c t))

/-- A point's part of the gain's gradient. -/
def share : FVec Ideal S1x1024 .f32 := k0_pay6 (F := Ideal) (g0 m c t) (w0 m c t) (g1 m c t) (w1 m c t) (blkX m c t)

theorem outs_A (h0 : t.val % 8 = 0) (h1 : ¬ 1 ≤ t.val) : outsAt0 m c t.val t.isLt = (tile m c t, share m c t) := by
  rw [outsAt0_A m c t h0 h1]
  refine Prod.ext ?_ ?_
  · frame_out
    rfl
  · frame_out
    rfl

theorem outs_B (h0 : ¬ t.val % 8 = 0) (h1 : 1 ≤ t.val) : outsAt0 m c t.val t.isLt
    = (tile m c t, k0_pay2 (F := Ideal) (share m c t) (outsAt0 m c (t.val - 1) (Nat.lt_of_le_of_lt (Nat.sub_le _ _) t.isLt)).2) := by
  rw [outsAt0_B m c t h0 h1]
  refine Prod.ext ?_ ?_
  · frame_out
    rfl
  · frame_out
    rfl

theorem d_blk (i : Fin 512) (n : Fin 1024) :
    k0_pay3 (F := Ideal) (g0 m c t) (w0 m c t) (g1 m c t) (w1 m c t) (ix2 i n) = blkD m c t i n := by
  refine (d_apply _ _ _ _ i n).trans ?_
  unfold blkD
  refine congrArg₂ (· + ·) (Finset.sum_congr rfl fun k _ => congrArg₂ (· * ·) ?_ ?_) (Finset.sum_congr rfl fun k _ => congrArg₂ (· * ·) ?_ ?_)
  · exact ld_part _ _ _ _ fun a => by fin_cases a <;> simp
  · exact ld_part _ _ _ _ fun a => by fin_cases a <;> simp
  · exact ld_part _ _ _ _ fun a => by fin_cases a <;> simp
  · exact ld_part _ _ _ _ fun a => by fin_cases a <;> simp

theorem tile_apply (i : Fin 512) (n : Fin 1024) : tile m c t (ix2 i n)
    = row (fun k => blkX m c t (ix2 i k)) (fun k => blkN m c t (ix2 0 k)) (blkD m c t i) (blkO m c t (ix2 i n)) n := by
  refine (row_apply _ _ _ _ _ _ _ i n).trans ?_
  simp only [d_blk]

theorem share_apply (n : Fin 1024) : share m c t (ix2 0 n)
    = ∑ i : Fin 512, gain (fun k => blkX m c t (ix2 i k)) (blkD m c t i) n := by
  refine (gain_apply _ _ _ _ _ n).trans ?_
  simp only [d_blk]

theorem outs_tile : (outsAt0 m c t.val t.isLt).1 = tile m c t := by
  by_cases h : t.val % 8 = 0
  · rw [outs_A m c t h (by have := lt_N t; omega)]
  · rw [outs_B m c t h (by omega)]

theorem blkG_apply (s : Fin 2) (i : Fin 512) (k : Fin 2816) : blkG m c t (ix3 s i k)
    = V m c main_v1 (ix3 s (⟨512 * t.val + i.val, by have := lt_N t; omega⟩ : Fin 4096) k) := by
  unfold blkG
  blk_simp [iblk, at0 t]
  congr 1
  blk_ext [at0 t]

theorem blkW_apply (s : Fin 2) (n : Fin 1024) (k : Fin 2816) : blkW m c t (ix3 s n k) = V m c main_v4 (ix3 s n k) := by
  unfold blkW
  blk_simp [iblk, at1 t]
  congr 1
  blk_ext [at1 t]

theorem blkX_apply (i : Fin 512) (n : Fin 1024) : blkX m c t (ix2 i n)
    = V m c main_arg0 (ix2 (⟨512 * t.val + i.val, by have := lt_N t; omega⟩ : Fin 4096) n) := by
  unfold blkX
  blk_simp [iblk, at2 t]
  congr 1
  blk_ext [at2 t]

theorem blkN_apply (n : Fin 1024) : blkN m c t (ix2 0 n) = V m c main_v0 (ix2 0 n) := by
  unfold blkN
  blk_simp [iblk, at3 t]
  congr 1
  blk_ext [at3 t]

theorem blkO_apply (i : Fin 512) (n : Fin 1024) : blkO m c t (ix2 i n)
    = V m c main_arg4 (ix2 (⟨512 * t.val + i.val, by have := lt_N t; omega⟩ : Fin 4096) n) := by
  unfold blkO
  blk_simp [iblk, at4 t]
  congr 1
  blk_ext [at4 t]

/-- What the host hands to the call: the gradients, the gain as a row and the two halves of the weights. -/
theorem V_g : V m c main_v1 = (m (c, Proc.tc.devRef main_arg3) : FVec Ideal S2x4096x2816 .f32) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  rfl

theorem V_n (n : Fin 1024) : V m c main_v0 (ix2 0 n) = (m (c, Proc.tc.devRef main_arg1) : FVec Ideal S1024 .f32) (ix1 n) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  generalize m (c, Proc.tc.devRef main_arg1) = w
  refine shapeCast_apply _ shapeCasts_S1024_S1x1024 _ (ix1 n) ?_
  rw [Shape.rowMajor_val_two, Shape.rowMajor_val_one]
  show n.val = 0 * 1024 + n.val
  omega

theorem V_w (s : Fin 2) (n : Fin 1024) (k : Fin 2816) :
    V m c main_v4 (ix3 s n k) = (m (c, Proc.tc.devRef main_arg2) : FVec Ideal S1024x5632 .f32) (ix2 n (col s k)) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  generalize m (c, Proc.tc.devRef main_arg2) = w
  refine (show _ = transpose S2x1024x2816 [1, 0, 2] (shapeCast S1024x2x2816 w shapeCasts_S1024x5632_S1024x2x2816)
    transposes_S1024x2x2816_S2x1024x2816_1_0_2 (ix3 s n k) from rfl).trans ?_
  refine (transpose_apply [1, 0, 2] _ transposes_S1024x2x2816_S2x1024x2816_1_0_2 (ix3 s n k) (ix3 n s k)
    (fun b => match b with | ⟨0, _⟩ => rfl | ⟨1, _⟩ => rfl | ⟨2, _⟩ => rfl)).trans ?_
  refine shapeCast_apply _ shapeCasts_S1024x5632_S1024x2x2816 _ (ix2 n (col s k)) ?_
  rw [Shape.rowMajor_val_two, Shape.rowMajor_val_three]
  show n.val * 5632 + (2816 * s.val + k.val) = (n.val * 2 + s.val) * 2816 + k.val
  omega

/-- The gradient of the scaled normalization: the gradients of both halves, times the weights. -/
def cot (w : FVec Ideal S1024x5632 .f32) (g : FVec Ideal S2x4096x2816 .f32) (i : Fin 4096) (n : Fin 1024) : EReal :=
  (∑ k : Fin 2816, g (ix3 0 i k) * w (ix2 n (col 0 k))) + ∑ k : Fin 2816, g (ix3 1 i k) * w (ix2 n (col 1 k))

/-- The inputs' gradient. -/
def dx (x : FVec Ideal S4096x1024 .f32) (g : FVec Ideal S1024 .f32) (w : FVec Ideal S1024x5632 .f32)
    (d : FVec Ideal S2x4096x2816 .f32) (o : FVec Ideal S4096x1024 .f32) (i : Fin 4096) (n : Fin 1024) : EReal :=
  row (fun k => x (ix2 i k)) (fun k => g (ix1 k)) (cot w d i) (o (ix2 i n)) n

/-- One row's part of the gain's gradient. -/
def dgRow (x : FVec Ideal S4096x1024 .f32) (w : FVec Ideal S1024x5632 .f32) (d : FVec Ideal S2x4096x2816 .f32)
    (n : Fin 1024) (i : Fin 4096) : EReal :=
  gain (fun k => x (ix2 i k)) (cot w d i) n

theorem blkD_eq (i : Fin 512) : blkD m c t i
    = cot (m (c, Proc.tc.devRef main_arg2)) (m (c, Proc.tc.devRef main_arg3)) ⟨512 * t.val + i.val, by have := lt_N t; omega⟩ := by
  funext n
  unfold blkD cot
  refine congrArg₂ (· + ·) (Finset.sum_congr rfl fun k _ => ?_) (Finset.sum_congr rfl fun k _ => ?_)
  · rw [blkG_apply, blkW_apply, V_g, V_w]
  · rw [blkG_apply, blkW_apply, V_g, V_w]

theorem blkX_eq (i : Fin 512) : (fun k => blkX m c t (ix2 i k)) = fun k => (m (c, Proc.tc.devRef main_arg0) : FVec Ideal S4096x1024 .f32)
    (ix2 (⟨512 * t.val + i.val, by have := lt_N t; omega⟩ : Fin 4096) k) := by
  funext k
  rw [blkX_apply, V_main_arg0]

theorem blkN_eq : (fun k => blkN m c t (ix2 0 k)) = fun k => (m (c, Proc.tc.devRef main_arg1) : FVec Ideal S1024 .f32) (ix1 k) := by
  funext k
  rw [blkN_apply, V_n]

/-- The kernel's first result. -/
theorem final_dx : (dats m 0 c).arrAt 5 cfg0.N = fun y => dx (m (c, Proc.tc.devRef main_arg0)) (m (c, Proc.tc.devRef main_arg1))
    (m (c, Proc.tc.devRef main_arg2)) (m (c, Proc.tc.devRef main_arg3)) (m (c, Proc.tc.devRef main_arg4)) (y 0) (y 1) := by
  refine (dats m 0 c).arrAt_eq_of_covers 5 _ (by decide +kernel) fun t _ y => ?_
  blk_simp
  obtain ⟨i, n, rfl⟩ : ∃ (i : Fin 512) (n : Fin 1024), y = ix2 i n := ⟨y 0, y 1, eq_ix2 y⟩
  have e : (win0_5.blk t).view.emb (ix2 i n) = ix2 (⟨512 * t.val + i.val, by have := lt_N t; omega⟩ : Fin 4096) n := by
    blk_ext [at5 t]
  rw [after0_5, e, outs_tile]
  refine (tile_apply m c t i n).trans ?_
  rw [blkD_eq, blkX_eq, blkN_eq, blkO_apply, V_main_arg4]
  rfl

/-- The accumulated parts of the gain's gradient, after a point. -/
theorem acc (n : Fin 1024) : ∀ (k : ℕ) (h : k < cfg0.N), (outsAt0 m c k h).2 (ix2 0 n)
    = ∑ j ∈ range (k + 1), if h : j < cfg0.N then share m c ⟨j, h⟩ (ix2 0 n) else 0 :=
  sum_of_steps (n := cfg0.N) (fun k h => (outsAt0 m c k h).2 (ix2 0 n)) (fun k h => share m c ⟨k, h⟩ (ix2 0 n))
    (fun h => by rw [outs_A m c ⟨0, h⟩ (by simp) (by simp)])
    fun k h => by
      have hk : k + 1 < 8 := lt_N ⟨k + 1, h⟩
      rw [outs_B m c ⟨k + 1, h⟩ (by show ¬(k + 1) % 8 = 0; omega) (by show 1 ≤ k + 1; omega)]
      exact gain_add _ _ n

/-- The kernel's second result. -/
theorem final_dg : (dats m 0 c).arrAt 6 cfg0.N = fun y => ∑ i, dgRow (m (c, Proc.tc.devRef main_arg0))
    (m (c, Proc.tc.devRef main_arg2)) (m (c, Proc.tc.devRef main_arg3)) (y 1) i := by
  refine (dats m 0 c).arrAt_eq_of_covers 6 _ (by decide +kernel) fun t hf y => ?_
  have ht := (flush0_6 t).mp hf
  blk_simp
  obtain ⟨i, n, rfl⟩ : ∃ (i : Fin 1) (n : Fin 1024), y = ix2 i n := ⟨y 0, y 1, eq_ix2 y⟩
  obtain rfl : i = 0 := Subsingleton.elim _ _
  have e : (win0_6.blk t).view.emb (ix2 0 n) = ix2 0 n := by
    blk_ext [at6 t]
  have h7 : t.val + 1 = 8 := by have := lt_N t; omega
  rw [after0_6, e]
  refine (acc m c n t.val t.isLt).trans ?_
  rw [h7, Finset.sum_range, sum_blocks (a := 8) (b := 512) rfl]
  refine Finset.sum_congr rfl fun j _ => ?_
  rw [dif_pos (show j.val < cfg0.N from j.isLt)]
  refine (share_apply m c _ n).trans (Finset.sum_congr rfl fun i _ => ?_)
  rw [blkD_eq, blkX_eq]
  rfl

end Ffn.Dx
-- ==== Proof.DxReal.lean ====
/-
  The gradient of a normalized row, written in two ways, at real numbers.
-/
module

public import proofs.«01_k».proof.Proof.Common
public import proofs.«01_k».proof.Proof.Dx

@[expose] public section

set_option maxRecDepth 16384

noncomputable section

namespace Ffn.Dx

open Finset Idealize.ShloMosaic

theorem width_eq : width = ((1024 : ℝ) : EReal) := by
  rw [width]
  simp [Ideal.ofBits, Ideal.ieee]
  rw [← EReal.coe_mul]
  norm_num

theorem tiny_pos : ∃ e : ℝ, 0 < e ∧ tiny = (e : EReal) := by
  refine ⟨8796093 * (2 ^ 43)⁻¹, by positivity, ?_⟩
  rw [tiny]
  simp [Ideal.ofBits, Ideal.ieee]

theorem mhalf_eq : Ideal.ofBits .f32 0xBF000000#32 = ((-(1 / 2) : ℝ) : EReal) := by
  simp [Ideal.ofBits, Ideal.ieee]
  rw [← EReal.coe_mul]
  norm_num

/-- The gradient of a row by the chain rule: through the row itself and twice through its mean square. -/
def chain (x g d : Fin 1024 → EReal) (o : EReal) (n : Fin 1024) : EReal :=
  let s := Ideal.div (∑ k, x k * x k) width + tiny
  let p := Ideal.div ((∑ k, x k * (d k * g k)) * (Ideal.ofBits .f32 0xBF000000#32 * Ideal.div (Ideal.rsqrt s) s)) width
  o + d n * g n * inv x + x n * p + p * x n

theorem row_eq_chain (x g d : Fin 1024 → ℝ) (o : EReal) (n : Fin 1024) :
    row (fun k => (x k : EReal)) (fun k => (g k : EReal)) (fun k => (d k : EReal)) o n
      = chain (fun k => (x k : EReal)) (fun k => (g k : EReal)) (fun k => (d k : EReal)) o n := by
  obtain ⟨e, he, te⟩ := tiny_pos
  have hs : Ideal.div (∑ k, (x k : EReal) * (x k : EReal)) width + tiny = (((∑ k, x k * x k) * (1 / 1024) + e : ℝ) : EReal) := by
    rw [width_eq, te, Ideal.div_coe (by norm_num), EReal.coe_add, EReal.coe_mul, Ssd.coe_sum]
    simp only [EReal.coe_mul]
  have hp : 0 < (∑ k, x k * x k) * (1 / 1024) + e :=
    add_pos_of_nonneg_of_pos (mul_nonneg (Finset.sum_nonneg fun k _ => mul_self_nonneg _) (by norm_num)) he
  have hr : inv (fun k => (x k : EReal)) = (((√((∑ k, x k * x k) * (1 / 1024) + e))⁻¹ : ℝ) : EReal) := by
    rw [inv, hs, Ideal.rsqrt_coe, if_neg (not_lt.2 hp.le), if_neg hp.ne']
  have hq : Ideal.rsqrt (Ideal.div (∑ k, (x k : EReal) * (x k : EReal)) width + tiny) = inv (fun k => (x k : EReal)) := rfl
  unfold row chain
  dsimp only
  rw [hq, hr, hs]
  generalize hS : (∑ k, x k * x k) * (1 / 1024) + e = S at *
  have hsq : √S * √S = S := Real.mul_self_sqrt hp.le
  have hn : √S ≠ 0 := (Real.sqrt_pos.2 hp).ne'
  rw [width_eq, mhalf_eq, Ideal.div_coe (by norm_num), Ideal.div_coe (by norm_num), Ideal.div_coe hp.ne']
  simp only [← EReal.coe_mul, ← Ssd.coe_sum]
  rw [add_assoc, add_assoc]
  simp only [← EReal.coe_mul, ← EReal.coe_sub, ← EReal.coe_add]
  refine congrArg _ (congrArg _ ?_)
  have h1 : ∑ k, d k * g k * (x k * (√S)⁻¹) = (√S)⁻¹ * ∑ k, x k * (d k * g k) := by
    rw [Finset.mul_sum]
    exact Finset.sum_congr rfl fun k _ => by ring
  rw [h1]
  generalize ∑ k, x k * (d k * g k) = T
  generalize √S = r at *
  subst hsq
  field_simp
  ring

/-- The same for entries that are known to be real numbers. -/
theorem row_eq_chain_of_real {x g d : Fin 1024 → EReal} (hx : ∀ k, x k = ((x k).toReal : EReal)) (hg : ∀ k, g k = ((g k).toReal : EReal))
    (hd : ∀ k, d k = ((d k).toReal : EReal)) (o : EReal) (n : Fin 1024) : row x g d o n = chain x g d o n := by
  have e := row_eq_chain (fun k => (x k).toReal) (fun k => (g k).toReal) (fun k => (d k).toReal) o n
  rwa [← funext hx, ← funext hg, ← funext hd] at e

end Ffn.Dx
-- ==== Proof.DxRef.lean ====
/-
  The reference's gradients of the inputs and of the norm's gain, read entry by entry.
-/
module

public import proofs.«01_k».proof.Proof.DxReal

@[expose] public section

set_option maxRecDepth 16384

noncomputable section

namespace Ffn.Dx

open Finset Idealize.ShloMosaic
open Cert.Reference4Ideal Cert.Reference4Ideal.Gen Cert.Reference4Ideal.Read

variable (x0 : FVec Ideal S4096x1024 .f32) (x1 : FVec Ideal S1024 .f32) (x2 : FVec Ideal S1024x5632 .f32)
  (x3 : FVec Ideal S2x4096x2816 .f32) (x4 : FVec Ideal S4096x1024 .f32)

theorem zero_bits : (FloatOps.ofBits (F := Ideal) .f32 0x00000000#32) = (0 : EReal) := Ideal.ofBits_zero_f32

/-- The reference's mean squares, and the reciprocals of their roots. -/
theorem ms_apply (z : S4096x1.Idx) (i : Fin 4096) (h : (z 0).val = i.val) : val_main_v6 (F := Ideal) x0 z
    = Ideal.div (∑ k, x0 (ix2 i k) * x0 (ix2 i k)) width + tiny := by
  rw [val_main_v6_apply, val_main_v5_apply, val_main_cst_1_apply, val_main_v4_apply, val_main_v3_apply, val_main_cst_0_apply,
    val_main_v2_apply, val_main_v1_apply, val_main_cst_apply, zero_bits, zero_add]
  refine congrArg₂ (· + ·) (congrArg₂ Ideal.div (Finset.sum_congr rfl fun k _ => ?_) rfl) rfl
  rw [val_main_v0_apply]
  have e : idx_main_v1 (idx_main_v2 z) k = ix2 i k := (eq_ix2 _).trans (congrArg₂ ix2 (Fin.ext h) rfl)
  rw [e]
  rfl

theorem inv_ref (z : S4096x1.Idx) (i : Fin 4096) (h : (z 0).val = i.val) :
    val_main_v7 (F := Ideal) x0 z = inv fun k => x0 (ix2 i k) := by
  rw [val_main_v7_apply, ms_apply x0 z i h]
  rfl

theorem normed_ref (i : Fin 4096) (n : Fin 1024) :
    val_main_v12 (F := Ideal) x0 (ix2 i n) = x0 (ix2 i n) * inv fun k => x0 (ix2 i k) := by
  rw [val_main_v12_apply, val_main_v11_apply, inv_ref x0 _ i rfl]
  rfl

/-- The two halves' gradients, side by side. -/
theorem both_apply (i : Fin 4096) (s : Fin 2) (k : Fin 2816) :
    val_main_v21 (F := Ideal) x3 (ix2 i (col s k)) = x3 (ix3 s i k) := by
  unfold val_main_v21
  revert s
  rw [Fin.forall_fin_two]
  constructor
  · refine (concatenate_pair_apply_left 1 _ _ concatenates_S4096x2816_S4096x2816_S4096x5632_d1 _ rfl (ix2 i k) fun b => ?_).trans ?_
    · fin_cases b
      · rfl
      · show k.val = 2816 * 0 + k.val
        omega
    · rw [val_main_v18_apply, val_main_v17_apply]
      refine congrArg _ ((eq_ix3 _).trans (congr (congrArg₂ ix3 (Fin.ext ?_) (Fin.ext ?_)) (Fin.ext ?_)))
      · rfl
      · show (i.val * 2816 + k.val) / 2816 % 4096 = i.val
        omega
      · show (i.val * 2816 + k.val) % 2816 = k.val
        omega
  · refine (concatenate_pair_apply_right 1 _ _ concatenates_S4096x2816_S4096x2816_S4096x5632_d1 _ rfl rfl (ix2 i k) (fun b hb => ?_) ?_).trans ?_
    · fin_cases b
      · rfl
      · exact absurd rfl hb
    · show k.val + 2816 = 2816 * 1 + k.val
      omega
    · rw [val_main_v20_apply, val_main_v19_apply]
      refine congrArg _ ((eq_ix3 _).trans (congr (congrArg₂ ix3 (Fin.ext ?_) (Fin.ext ?_)) (Fin.ext ?_)))
      · rfl
      · show (i.val * 2816 + k.val) / 2816 % 4096 = i.val
        omega
      · show (i.val * 2816 + k.val) % 2816 = k.val
        omega

theorem sum_cols (f : Fin 5632 → EReal) : ∑ k, f k = (∑ k, f (col 0 k)) + ∑ k, f (col 1 k) := by
  rw [show (∑ k, f k) = ∑ k : Fin (2816 + 2816), f k from rfl, Fin.sum_univ_add]
  refine congrArg₂ (· + ·) (Finset.sum_congr rfl fun k _ => congrArg f (Fin.ext ?_)) (Finset.sum_congr rfl fun k _ => congrArg f (Fin.ext ?_))
  · simp [col]
  · simp [col]
    omega

theorem cot_ref (i : Fin 4096) (n : Fin 1024) : val_main_v22 (F := Ideal) x2 x3 (ix2 i n) = cot x2 x3 i n := by
  rw [val_main_v22_apply, sum_cols]
  unfold cot
  refine congrArg₂ (· + ·) (Finset.sum_congr rfl fun k _ => ?_) (Finset.sum_congr rfl fun k _ => ?_)
  · rw [← both_apply x3 i 0 k]
    exact congrArg₂ (· * ·) (congrArg _ (eq_ix2 _)) (congrArg _ (eq_ix2 _))
  · rw [← both_apply x3 i 1 k]
    exact congrArg₂ (· * ·) (congrArg _ (eq_ix2 _)) (congrArg _ (eq_ix2 _))

theorem scaled_ref (i : Fin 4096) (n : Fin 1024) :
    val_main_v27 (F := Ideal) x1 x2 x3 (ix2 i n) = cot x2 x3 i n * x1 (ix1 n) := by
  rw [val_main_v27_apply, cot_ref, val_main_v26_apply, val_main_v13_apply]
  exact congrArg₂ (· * ·) rfl (congrArg _ (eq_ix1 _))

/-- The reference's gradient of the gain. -/
theorem ref_dg : val_main_v44 (F := Ideal) x0 x2 x3 = fun y => ∑ i, dgRow x0 x2 x3 (y 1) i := by
  funext y
  obtain ⟨i, n, rfl⟩ : ∃ (i : Fin 1) (n : Fin 1024), y = ix2 i n := ⟨y 0, y 1, eq_ix2 y⟩
  rw [val_main_v44_apply, val_main_v28_apply, val_main_cst_4_apply, zero_bits, zero_add, Fin.sum_univ_one, val_main_v25_apply,
    val_main_v24_apply, val_main_cst_3_apply, zero_bits, zero_add]
  refine Finset.sum_congr rfl fun k _ => ?_
  have e : idx_main_v24 (idx_main_v25 (idx_main_v28 (idx_main_v44 (ix2 i n)) 0)) k = ix2 k n :=
    (eq_ix2 _).trans (congrArg₂ ix2 rfl (Fin.ext (by show 0 * 1024 + (i.val * 1024 + n.val) = n.val; omega)))
  rw [e, val_main_v23_apply, normed_ref, cot_ref]
  exact mul_comm _ _

/-- The reference's gradient of the inputs, by the chain rule. -/
theorem ref_dx (i : Fin 4096) (n : Fin 1024) : val_main_v43 (F := Ideal) x0 x1 x2 x3 x4 (ix2 i n)
    = chain (fun k => x0 (ix2 i k)) (fun k => x1 (ix1 k)) (cot x2 x3 i) (x4 (ix2 i n)) n := by
  have hp : val_main_v39 (F := Ideal) x0 x1 x2 x3 (ix2 i n)
      = Ideal.div ((∑ k, x0 (ix2 i k) * (cot x2 x3 i k * x1 (ix1 k))) * (Ideal.ofBits .f32 0xBF000000#32
        * Ideal.div (Ideal.rsqrt (Ideal.div (∑ k, x0 (ix2 i k) * x0 (ix2 i k)) width + tiny))
          (Ideal.div (∑ k, x0 (ix2 i k) * x0 (ix2 i k)) width + tiny))) width := by
    rw [val_main_v39_apply, val_main_v38_apply, val_main_cst_7_apply, zero_bits, zero_add, Fin.sum_univ_one, val_main_v37_apply,
      val_main_v36_apply, val_main_cst_6_apply, val_main_v35_apply, val_main_v31_apply, val_main_v30_apply, val_main_cst_5_apply,
      zero_bits, zero_add, val_main_v10_apply, val_main_v9_apply, val_main_cst_2_apply, val_main_v8_apply]
    rw [ms_apply x0 _ i rfl, inv_ref x0 _ i rfl]
    refine congrArg₂ Ideal.div (congrArg₂ (· * ·) (Finset.sum_congr rfl fun k _ => ?_) rfl) rfl
    rw [val_main_v29_apply, ← scaled_ref]
    have e : idx_main_v30 (idx_main_v31 (idx_main_v38 (idx_main_v39 (ix2 i n)) 0)) k = ix2 i k :=
      (eq_ix2 _).trans (congrArg₂ ix2 (Fin.ext (by show i.val * 1 + 0 = i.val; omega)) rfl)
    rw [e]
    rfl
  rw [val_main_v43_apply, val_main_v42_apply, val_main_v41_apply, val_main_v40_apply, val_main_v34_apply, val_main_v33_apply,
    val_main_v32_apply, hp, scaled_ref, inv_ref x0 _ i rfl]
  rfl

end Ffn.Dx
-- ==== Proof.DxFinite.lean ====
/-
  The gradient to the feed-forward layer's inputs on real numbers: the precondition read, and the call's closed form met
  with the reference's.
-/
module

public import proofs.«01_k».proof.Pre_dx_finite
public import proofs.«01_k».proof.Proof.Finite
public import proofs.«01_k».proof.Proof.DxRef

@[expose] public section

set_option maxRecDepth 16384

noncomputable section

namespace Ffn.Dx

open Idealize.ShloMosaic Cert.Pre_dx_finite

instance : Subsingleton Cert.Pre_dx_finite.S_.Idx := ⟨fun a b => funext fun d => d.elim0⟩

/-- The facts that the precondition's program states. -/
theorem preFacts : Cert.Pre_dx_finite.Facts where
  reducesTo_S4096x1024_S_d0_1 := by decide
  h_S_ := by decide
  reducesTo_S1024_S_d0 := by decide
  reducesTo_S1024x5632_S_d0_1 := by decide
  reducesTo_S2x4096x2816_S_d0_1_2 := by decide

variable [Cert.Pre_dx_finite.Facts] {x : FVec Ideal S4096x1024 .f32} {g : FVec Ideal S1024 .f32} {w : FVec Ideal S1024x5632 .f32}
  {d : FVec Ideal S2x4096x2816 .f32} {o : FVec Ideal S4096x1024 .f32}

/-- Under the precondition the entries of the first four arguments are real numbers. -/
theorem reals (h : fn (F := Ideal) x g w d o = fun _ => 1#1) :
    (∀ i, x i = ((x i : EReal).toReal : EReal)) ∧ (∀ i, g i = ((g i : EReal).toReal : EReal))
      ∧ (∀ i, w i = ((w i : EReal).toReal : EReal)) ∧ (∀ i, d i = ((d i : EReal).toReal : EReal)) := by
  have h' := congrFun h ix0
  dsimp only [fn] at h'
  obtain ⟨h012, h3⟩ := Ssd.and_one h'
  obtain ⟨h01, h2⟩ := Ssd.and_one h012
  obtain ⟨h0, h1⟩ := Ssd.and_one h01
  exact ⟨fun i => Ssd.real_of_max x _ _ _ _ (Ssd.below h0) i, fun i => Ssd.real_of_max g _ _ _ _ (Ssd.below h1) i,
    fun i => Ssd.real_of_max w _ _ _ _ (Ssd.below h2) i, fun i => Ssd.real_of_max d _ _ _ _ (Ssd.below h3) i⟩

/-- The cotangent of the normalised row is real. -/
theorem cot_real (hw : ∀ i, w i = ((w i : EReal).toReal : EReal)) (hd : ∀ i, d i = ((d i : EReal).toReal : EReal)) (i : Fin 4096)
    (n : Fin 1024) : cot w d i n = ((cot w d i n).toReal : EReal) := by
  have e : cot w d i n = (((∑ k : Fin 2816, (d (ix3 0 i k) : EReal).toReal * (w (ix2 n (col 0 k)) : EReal).toReal)
      + ∑ k : Fin 2816, (d (ix3 1 i k) : EReal).toReal * (w (ix2 n (col 1 k)) : EReal).toReal : ℝ) : EReal) := by
    unfold cot
    rw [EReal.coe_add, Ssd.coe_sum, Ssd.coe_sum]
    refine congrArg₂ (· + ·) (Finset.sum_congr rfl fun k _ => ?_) (Finset.sum_congr rfl fun k _ => ?_)
    · rw [EReal.coe_mul, ← hw, ← hd]
    · rw [EReal.coe_mul, ← hw, ← hd]
  rw [e, EReal.toReal_coe]

/-- The call's closed form is the chain rule's. -/
theorem dx_eq_chain (h : fn (F := Ideal) x g w d o = fun _ => 1#1) (i : Fin 4096) (n : Fin 1024) :
    dx x g w d o i n = chain (fun k => x (ix2 i k)) (fun k => g (ix1 k)) (cot w d i) (o (ix2 i n)) n := by
  obtain ⟨hx, hg, hw, hd⟩ := reals h
  exact row_eq_chain_of_real (fun k => hx (ix2 i k)) (fun k => hg (ix1 k)) (fun k => cot_real hw hd i k) _ n

end Ffn.Dx

end
-- ==== Proof.Dact.lean ====
/-
  The gradient of the two halves of the up product: what a grid point's blocks hold, what it leaves, and the result of the
  call. A point works through its columns in four chunks of 384, 384, 384 and 256.
-/
module

public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.StableHlo.ReadAt
public import Idealize.ShloMosaic.Lib.Pipeline.ReadBack
public import proofs.«01_k».proof.Proof.Parts

@[expose] public section

noncomputable section

namespace Ffn.Dact

open Finset Idealize.ShloMosaic Idealize.ShloMosaic.TcCoe
open Cert.Kernel5Ideal Cert.Kernel5Ideal.Gen

/-- Where each window's block lies at each point. -/
theorem at0 : ∀ t : Fin cfg0.N, win0_0.index t = ![t.val % 8, 0] :=
  (by decide +kernel : ∀ t : Fin grid0.N, win0_0.index t = ![t.val % 8, 0])
theorem at1 : ∀ t : Fin cfg0.N, win0_1.index t = ![t.val / 8, 0] :=
  (by decide +kernel : ∀ t : Fin grid0.N, win0_1.index t = ![t.val / 8, 0])
theorem at2 : ∀ t : Fin cfg0.N, win0_2.index t = ![0, t.val % 8, t.val / 8] :=
  (by decide +kernel : ∀ t : Fin grid0.N, win0_2.index t = ![0, t.val % 8, t.val / 8])
theorem at3 : ∀ t : Fin cfg0.N, win0_3.index t = ![0, t.val % 8, t.val / 8] :=
  (by decide +kernel : ∀ t : Fin grid0.N, win0_3.index t = ![0, t.val % 8, t.val / 8])

theorem lt_N (t : Fin cfg0.N) : t.val < 16 := t.isLt

/-- The logistic function. -/
def lgs (g : EReal) : EReal := Ideal.div 1 (1 + Ideal.exp (-g))

/-- The gradients of the gate and of the value, from that of the activation. -/
def dgate (a g u : EReal) : EReal := a * u * lgs g * (1 + g * (1 - lgs g))
def dup (a g : EReal) : EReal := a * g * lgs g

/-- A column's product of a row of gradients and a row of weights, halved. -/
def act {n : ℕ} (d : FVec Ideal S512x1024 .f32) (w : (⟨2, ![n, 1024]⟩ : Shape).Idx → EReal) (i : Fin 512) (q : Fin n) : EReal :=
  half * ∑ k : Fin 1024, d (ix2 i k) * w (ix2 q k)

section
variable (d : FVec Ideal S512x1024 .f32) (w : FVec Ideal S384x1024 .bf16) (v : FVec Ideal S2x512x384 .bf16)
  (w' : FVec Ideal S256x1024 .bf16) (v' : FVec Ideal S2x512x256 .bf16) (i : Fin 512) (q : Fin 384) (q' : Fin 256)

theorem act1 : k0_pay7 (F := Ideal) d w (ix2 i q) = act d w i q := by
  unfold k0_pay7 k0_pay2 act half
  pointwise
theorem act2 : k0_pay15 (F := Ideal) (k0_pay3 d w) (ix2 i q) = act d w i q := by
  unfold k0_pay15 k0_pay3 k0_pay2 act half
  pointwise
theorem act3 : k0_pay23 (F := Ideal) (k0_pay4 d w) (ix2 i q) = act d w i q := by
  unfold k0_pay23 k0_pay4 k0_pay2 act half
  pointwise
theorem act4 : k0_pay30 (F := Ideal) (k0_pay5 d w') (ix2 i q') = act d w' i q' := by
  unfold k0_pay30 k0_pay5 k0_pay2 act half
  pointwise

theorem gate1 : k0_pay8 (F := Ideal) v (ix2 i q) = v (ix3 0 i q) := by
  unfold k0_pay8 k0_pay6
  pointwise
theorem gate2 : k0_pay16 (F := Ideal) v (ix2 i q) = v (ix3 0 i q) := by
  unfold k0_pay16 k0_pay14
  pointwise
theorem gate3 : k0_pay24 (F := Ideal) v (ix2 i q) = v (ix3 0 i q) := by
  unfold k0_pay24 k0_pay22
  pointwise
theorem gate4 : k0_pay31 (F := Ideal) v' (ix2 i q') = v' (ix3 0 i q') := by
  unfold k0_pay31 k0_pay29
  pointwise

theorem sig_of (g : EReal) : Ideal.div (Ideal.ofBits .f32 0x3F800000#32)
    (Ideal.ofBits .f32 0x3F800000#32 + Ideal.exp (Ideal.ofBits .f32 0x00000000#32 - g)) = lgs g := by
  rw [Ideal.ofBits_one_f32, Ideal.ofBits_zero_f32, sub_eq_add_neg, zero_add]
  rfl

theorem sig1 : k0_pay9 (F := Ideal) v (ix2 i q) = lgs (v (ix3 0 i q)) := by
  rw [← gate1 v i q, ← sig_of]
  unfold k0_pay9
  generalize k0_pay8 (F := Ideal) v = z
  pointwise
theorem sig2 : k0_pay17 (F := Ideal) v (ix2 i q) = lgs (v (ix3 0 i q)) := by
  rw [← gate2 v i q, ← sig_of]
  unfold k0_pay17
  generalize k0_pay16 (F := Ideal) v = z
  pointwise
theorem sig3 : k0_pay25 (F := Ideal) v (ix2 i q) = lgs (v (ix3 0 i q)) := by
  rw [← gate3 v i q, ← sig_of]
  unfold k0_pay25
  generalize k0_pay24 (F := Ideal) v = z
  pointwise
theorem sig4 : k0_pay32 (F := Ideal) v' (ix2 i q') = lgs (v' (ix3 0 i q')) := by
  rw [← gate4 v' i q', ← sig_of]
  unfold k0_pay32
  generalize k0_pay31 (F := Ideal) v' = z
  pointwise

theorem dgate1 : k0_pay12 (F := Ideal) (k0_pay8 v) (k0_pay10 d w v) (k0_pay11 v) (ix3 0 i q)
    = dgate (act d w i q) (v (ix3 0 i q)) (v (ix3 1 i q)) := by
  unfold dgate
  rw [← sig1 v i q, ← act1 d w i q, ← Ideal.ofBits_one_f32]
  unfold k0_pay12 k0_pay10 k0_pay11 k0_pay8 k0_pay6
  generalize k0_pay9 (F := Ideal) v = s
  generalize k0_pay7 (F := Ideal) d w = a
  pointwise
theorem dgate2 : k0_pay20 (F := Ideal) (k0_pay19 (k0_pay3 d w) v) (ix3 0 i q)
    = dgate (act d w i q) (v (ix3 0 i q)) (v (ix3 1 i q)) := by
  unfold dgate
  rw [← sig2 v i q, ← act2 d w i q, ← Ideal.ofBits_one_f32]
  unfold k0_pay20 k0_pay19 k0_pay16 k0_pay14
  generalize k0_pay17 (F := Ideal) v = s
  generalize k0_pay15 (F := Ideal) (k0_pay3 d w) = a
  pointwise
theorem dgate3 : k0_pay26 (F := Ideal) (k0_pay4 d w) v (ix3 0 i q)
    = dgate (act d w i q) (v (ix3 0 i q)) (v (ix3 1 i q)) := by
  unfold dgate
  rw [← sig3 v i q, ← act3 d w i q, ← Ideal.ofBits_one_f32]
  unfold k0_pay26 k0_pay24 k0_pay22
  generalize k0_pay25 (F := Ideal) v = s
  generalize k0_pay23 (F := Ideal) (k0_pay4 d w) = a
  pointwise
theorem dgate4 : k0_pay33 (F := Ideal) (k0_pay5 d w') v' (ix3 0 i q')
    = dgate (act d w' i q') (v' (ix3 0 i q')) (v' (ix3 1 i q')) := by
  unfold dgate
  rw [← sig4 v' i q', ← act4 d w' i q', ← Ideal.ofBits_one_f32]
  unfold k0_pay33 k0_pay31 k0_pay29
  generalize k0_pay32 (F := Ideal) v' = s
  generalize k0_pay30 (F := Ideal) (k0_pay5 d w') = a
  pointwise

theorem dup1 : k0_pay13 (F := Ideal) (k0_pay7 d w) (k0_pay8 v) (k0_pay9 v) (ix3 0 i q) = dup (act d w i q) (v (ix3 0 i q)) := by
  unfold dup
  rw [← sig1 v i q, ← act1 d w i q, ← gate1 v i q]
  unfold k0_pay13
  generalize k0_pay9 (F := Ideal) v = s
  generalize k0_pay8 (F := Ideal) v = g
  generalize k0_pay7 (F := Ideal) d w = a
  pointwise
theorem dup2 : k0_pay21 (F := Ideal) (k0_pay18 (k0_pay3 d w) v) (ix3 0 i q) = dup (act d w i q) (v (ix3 0 i q)) := by
  unfold dup
  rw [← sig2 v i q, ← act2 d w i q, ← gate2 v i q]
  unfold k0_pay21 k0_pay18
  generalize k0_pay17 (F := Ideal) v = s
  generalize k0_pay16 (F := Ideal) v = g
  generalize k0_pay15 (F := Ideal) (k0_pay3 d w) = a
  pointwise
theorem dup3 : k0_pay28 (F := Ideal) (k0_pay27 (k0_pay4 d w) v) (ix3 0 i q) = dup (act d w i q) (v (ix3 0 i q)) := by
  unfold dup
  rw [← sig3 v i q, ← act3 d w i q, ← gate3 v i q]
  unfold k0_pay28 k0_pay27
  generalize k0_pay25 (F := Ideal) v = s
  generalize k0_pay24 (F := Ideal) v = g
  generalize k0_pay23 (F := Ideal) (k0_pay4 d w) = a
  pointwise
theorem dup4 : k0_pay1 (F := Ideal) (k0_pay34 (k0_pay5 d w') v') (ix3 0 i q') = dup (act d w' i q') (v' (ix3 0 i q')) := by
  unfold dup
  rw [← sig4 v' i q', ← act4 d w' i q', ← gate4 v' i q']
  unfold k0_pay1 k0_pay34
  generalize k0_pay32 (F := Ideal) v' = s
  generalize k0_pay31 (F := Ideal) v' = g
  generalize k0_pay30 (F := Ideal) (k0_pay5 d w') = a
  pointwise

end

variable (m : (ℓ : Loc nD τ sig) → Buf (Elt Ideal) ℓ) (c : Dev nD) (t : Fin cfg0.N)

/-- A point's blocks: the gradients, the weights and the two halves. -/
def blkD : FVec Ideal S512x1024 .f32 := iblk m c 0 t
def blkW : FVec Ideal S1408x1024 .bf16 := iblk m c 1 t
def blkG : FVec Ideal S2x512x1408 .bf16 := iblk m c 2 t

/-- The chunks of a point's weights and halves. -/
abbrev w1 : FVec Ideal S384x1024 .bf16 :=
  View.ld (iblk m c 1 t) (Rect.unit (s := S1408x1024) ![0, 0] ![384, 1024] inb_S1408x1024_S384x1024_0_0)
abbrev v1 : FVec Ideal S2x512x384 .bf16 :=
  View.ld (iblk m c 2 t) (Rect.unit (s := S2x512x1408) ![0, 0, 0] ![2, 512, 384] inb_S2x512x1408_S2x512x384_0_0_0)
abbrev w2 : FVec Ideal S384x1024 .bf16 :=
  View.ld (iblk m c 1 t) (Rect.unit (s := S1408x1024) ![384, 0] ![384, 1024] inb_S1408x1024_S384x1024_384_0)
abbrev v2 : FVec Ideal S2x512x384 .bf16 :=
  View.ld (iblk m c 2 t) (Rect.unit (s := S2x512x1408) ![0, 0, 384] ![2, 512, 384] inb_S2x512x1408_S2x512x384_0_0_384)
abbrev w3 : FVec Ideal S384x1024 .bf16 :=
  View.ld (iblk m c 1 t) (Rect.unit (s := S1408x1024) ![768, 0] ![384, 1024] inb_S1408x1024_S384x1024_768_0)
abbrev v3 : FVec Ideal S2x512x384 .bf16 :=
  View.ld (iblk m c 2 t) (Rect.unit (s := S2x512x1408) ![0, 0, 768] ![2, 512, 384] inb_S2x512x1408_S2x512x384_0_0_768)
abbrev w4 : FVec Ideal S256x1024 .bf16 :=
  View.ld (iblk m c 1 t) (Rect.unit (s := S1408x1024) ![1152, 0] ![256, 1024] inb_S1408x1024_S256x1024_1152_0)
abbrev v4 : FVec Ideal S2x512x256 .bf16 :=
  View.ld (iblk m c 2 t) (Rect.unit (s := S2x512x1408) ![0, 0, 1152] ![2, 512, 256] inb_S2x512x1408_S2x512x256_0_0_1152)

/-- The stores of a point, the last one first. -/
def pieces : List (View.Piece (Elt Ideal) S2x512x1408 .bf16) := [
  ⟨Rect.unit (s := S2x512x1408) ![1, 0, 1152] ![1, 512, 256] inb_S2x512x1408_S1x512x256_1_0_1152,
    k0_pay1 (F := Ideal) (k0_pay34 (k0_pay5 (blkD m c t) (w4 m c t)) (v4 m c t))⟩,
  ⟨Rect.unit (s := S2x512x1408) ![0, 0, 1152] ![1, 512, 256] inb_S2x512x1408_S1x512x256_0_0_1152,
    k0_pay33 (F := Ideal) (k0_pay5 (blkD m c t) (w4 m c t)) (v4 m c t)⟩,
  ⟨Rect.unit (s := S2x512x1408) ![1, 0, 768] ![1, 512, 384] inb_S2x512x1408_S1x512x384_1_0_768,
    k0_pay28 (F := Ideal) (k0_pay27 (k0_pay4 (blkD m c t) (w3 m c t)) (v3 m c t))⟩,
  ⟨Rect.unit (s := S2x512x1408) ![0, 0, 768] ![1, 512, 384] inb_S2x512x1408_S1x512x384_0_0_768,
    k0_pay26 (F := Ideal) (k0_pay4 (blkD m c t) (w3 m c t)) (v3 m c t)⟩,
  ⟨Rect.unit (s := S2x512x1408) ![1, 0, 384] ![1, 512, 384] inb_S2x512x1408_S1x512x384_1_0_384,
    k0_pay21 (F := Ideal) (k0_pay18 (k0_pay3 (blkD m c t) (w2 m c t)) (v2 m c t))⟩,
  ⟨Rect.unit (s := S2x512x1408) ![0, 0, 384] ![1, 512, 384] inb_S2x512x1408_S1x512x384_0_0_384,
    k0_pay20 (F := Ideal) (k0_pay19 (k0_pay3 (blkD m c t) (w2 m c t)) (v2 m c t))⟩,
  ⟨Rect.unit (s := S2x512x1408) ![1, 0, 0] ![1, 512, 384] inb_S2x512x1408_S1x512x384_1_0_0,
    k0_pay13 (F := Ideal) (k0_pay7 (blkD m c t) (w1 m c t)) (k0_pay8 (v1 m c t)) (k0_pay9 (v1 m c t))⟩,
  ⟨Rect.unit (s := S2x512x1408) ![0, 0, 0] ![1, 512, 384] inb_S2x512x1408_S1x512x384_0_0_0,
    k0_pay12 (F := Ideal) (k0_pay8 (v1 m c t)) (k0_pay10 (blkD m c t) (w1 m c t) (v1 m c t)) (k0_pay11 (v1 m c t))⟩]

theorem outs_eq : outsAt0 m c t = View.canon (pieces m c t) := by
  unfold outsAt0
  frame_out
  rfl

/-- What a point leaves at one column: the halved product there, and the two gradients. -/
def blkA (i : Fin 512) (j : Fin 1408) : EReal := half * ∑ k : Fin 1024, blkD m c t (ix2 i k) * blkW m c t (ix2 j k)

/-- A chunk's products and halves are the block's. -/
theorem act_ld {off n : ℕ} (inb : ∀ a, (![off, 0] : Fin 2 → ℕ) a + (![n, 1024] : Fin 2 → ℕ) a ≤ S1408x1024.size a) (i : Fin 512)
    (q : Fin n) (j : Fin 1408) (h : j.val = off + q.val) :
    act (blkD m c t) (View.ld (iblk m c 1 t) (Rect.unit (s := S1408x1024) ![off, 0] ![n, 1024] inb)) i q = blkA m c t i j := by
  unfold act blkA
  refine congrArg _ (Finset.sum_congr rfl fun k _ => congrArg _ ?_)
  refine ld_part (iblk m c 1 t) inb (ix2 j k) (ix2 q k) fun a => ?_
  fin_cases a
  · exact h
  · exact (Nat.zero_add _).symm

theorem half_ld {off n : ℕ} (inb : ∀ a, (![0, 0, off] : Fin 3 → ℕ) a + (![2, 512, n] : Fin 3 → ℕ) a ≤ S2x512x1408.size a) (s : Fin 2)
    (i : Fin 512) (q : Fin n) (j : Fin 1408) (h : j.val = off + q.val) :
    View.ld (iblk m c 2 t) (Rect.unit (s := S2x512x1408) ![0, 0, off] ![2, 512, n] inb) (ix3 s i q) = blkG m c t (ix3 s i j) := by
  refine ld_part (iblk m c 2 t) inb (ix3 s i j) (ix3 s i q) fun a => ?_
  fin_cases a
  · exact (Nat.zero_add _).symm
  · exact (Nat.zero_add _).symm
  · exact h

/-- What a point stores of the gate's gradient. -/
theorem outs_gate (i : Fin 512) (j : Fin 1408) : (dats m 0 c).after 3 t (ix3 0 i j)
    = dgate (blkA m c t i j) (blkG m c t (ix3 0 i j)) (blkG m c t (ix3 1 i j)) := by
  rw [after0_3, outs_eq]
  unfold pieces
  by_cases h4 : 1152 ≤ j.val
  · refine (canon_miss _ _ _ _ 0 (.inl Nat.zero_lt_one)).trans ?_
    have hj : j.val = 1152 + (⟨j.val - 1152, by omega⟩ : Fin 256).val := by show j.val = 1152 + (j.val - 1152); omega
    refine (canon_hit _ _ _ _ (ix3 0 i (⟨j.val - 1152, by omega⟩ : Fin 256)) fun a => by fin_cases a <;> first | rfl | exact (Nat.zero_add _).symm | exact hj).trans ?_
    refine (dgate4 _ _ _ _ _).trans ?_
    rw [act_ld m c t _ i _ j hj]
    exact congrArg₂ (dgate _) (half_ld m c t _ 0 i _ j hj) (half_ld m c t _ 1 i _ j hj)
  refine (canon_miss _ _ _ _ 2 (.inl (Nat.lt_of_not_le h4))).trans ?_
  refine (canon_miss _ _ _ _ 2 (.inl (Nat.lt_of_not_le h4))).trans ?_
  by_cases h3 : 768 ≤ j.val
  · refine (canon_miss _ _ _ _ 0 (.inl Nat.zero_lt_one)).trans ?_
    have hj : j.val = 768 + (⟨j.val - 768, by omega⟩ : Fin 384).val := by show j.val = 768 + (j.val - 768); omega
    refine (canon_hit _ _ _ _ (ix3 0 i (⟨j.val - 768, by omega⟩ : Fin 384)) fun a => by fin_cases a <;> first | rfl | exact (Nat.zero_add _).symm | exact hj).trans ?_
    refine (dgate3 _ _ _ _ _).trans ?_
    rw [act_ld m c t _ i _ j hj]
    exact congrArg₂ (dgate _) (half_ld m c t _ 0 i _ j hj) (half_ld m c t _ 1 i _ j hj)
  refine (canon_miss _ _ _ _ 2 (.inl (Nat.lt_of_not_le h3))).trans ?_
  refine (canon_miss _ _ _ _ 2 (.inl (Nat.lt_of_not_le h3))).trans ?_
  by_cases h2 : 384 ≤ j.val
  · refine (canon_miss _ _ _ _ 0 (.inl Nat.zero_lt_one)).trans ?_
    have hj : j.val = 384 + (⟨j.val - 384, by omega⟩ : Fin 384).val := by show j.val = 384 + (j.val - 384); omega
    refine (canon_hit _ _ _ _ (ix3 0 i (⟨j.val - 384, by omega⟩ : Fin 384)) fun a => by fin_cases a <;> first | rfl | exact (Nat.zero_add _).symm | exact hj).trans ?_
    refine (dgate2 _ _ _ _ _).trans ?_
    rw [act_ld m c t _ i _ j hj]
    exact congrArg₂ (dgate _) (half_ld m c t _ 0 i _ j hj) (half_ld m c t _ 1 i _ j hj)
  refine (canon_miss _ _ _ _ 2 (.inl (Nat.lt_of_not_le h2))).trans ?_
  refine (canon_miss _ _ _ _ 2 (.inl (Nat.lt_of_not_le h2))).trans ?_
  refine (canon_miss _ _ _ _ 0 (.inl Nat.zero_lt_one)).trans ?_
  have hj : j.val = 0 + (⟨j.val - 0, by omega⟩ : Fin 384).val := by show j.val = 0 + (j.val - 0); omega
  refine (canon_hit _ _ _ _ (ix3 0 i (⟨j.val - 0, by omega⟩ : Fin 384)) fun a => by fin_cases a <;> first | rfl | exact (Nat.zero_add _).symm | exact hj).trans ?_
  refine (dgate1 _ _ _ _ _).trans ?_
  rw [act_ld m c t _ i _ j hj]
  exact congrArg₂ (dgate _) (half_ld m c t _ 0 i _ j hj) (half_ld m c t _ 1 i _ j hj)

/-- What a point stores of the value's gradient. -/
theorem outs_up (i : Fin 512) (j : Fin 1408) : (dats m 0 c).after 3 t (ix3 1 i j)
    = dup (blkA m c t i j) (blkG m c t (ix3 0 i j)) := by
  rw [after0_3, outs_eq]
  unfold pieces
  by_cases h4 : 1152 ≤ j.val
  · have hj : j.val = 1152 + (⟨j.val - 1152, by omega⟩ : Fin 256).val := by show j.val = 1152 + (j.val - 1152); omega
    refine (canon_hit _ _ _ _ (ix3 0 i (⟨j.val - 1152, by omega⟩ : Fin 256)) fun a => by fin_cases a <;> first | rfl | exact (Nat.zero_add _).symm | exact hj).trans ?_
    refine (dup4 _ _ _ _ _).trans ?_
    rw [act_ld m c t _ i _ j hj]
    exact congrArg (dup _) (half_ld m c t _ 0 i _ j hj)
  refine (canon_miss _ _ _ _ 2 (.inl (Nat.lt_of_not_le h4))).trans ?_
  refine (canon_miss _ _ _ _ 2 (.inl (Nat.lt_of_not_le h4))).trans ?_
  by_cases h3 : 768 ≤ j.val
  · have hj : j.val = 768 + (⟨j.val - 768, by omega⟩ : Fin 384).val := by show j.val = 768 + (j.val - 768); omega
    refine (canon_hit _ _ _ _ (ix3 0 i (⟨j.val - 768, by omega⟩ : Fin 384)) fun a => by fin_cases a <;> first | rfl | exact (Nat.zero_add _).symm | exact hj).trans ?_
    refine (dup3 _ _ _ _ _).trans ?_
    rw [act_ld m c t _ i _ j hj]
    exact congrArg (dup _) (half_ld m c t _ 0 i _ j hj)
  refine (canon_miss _ _ _ _ 2 (.inl (Nat.lt_of_not_le h3))).trans ?_
  refine (canon_miss _ _ _ _ 2 (.inl (Nat.lt_of_not_le h3))).trans ?_
  by_cases h2 : 384 ≤ j.val
  · have hj : j.val = 384 + (⟨j.val - 384, by omega⟩ : Fin 384).val := by show j.val = 384 + (j.val - 384); omega
    refine (canon_hit _ _ _ _ (ix3 0 i (⟨j.val - 384, by omega⟩ : Fin 384)) fun a => by fin_cases a <;> first | rfl | exact (Nat.zero_add _).symm | exact hj).trans ?_
    refine (dup2 _ _ _ _ _).trans ?_
    rw [act_ld m c t _ i _ j hj]
    exact congrArg (dup _) (half_ld m c t _ 0 i _ j hj)
  refine (canon_miss _ _ _ _ 2 (.inl (Nat.lt_of_not_le h2))).trans ?_
  refine (canon_miss _ _ _ _ 2 (.inl (Nat.lt_of_not_le h2))).trans ?_
  have hj : j.val = 0 + (⟨j.val - 0, by omega⟩ : Fin 384).val := by show j.val = 0 + (j.val - 0); omega
  refine (canon_hit _ _ _ _ (ix3 0 i (⟨j.val - 0, by omega⟩ : Fin 384)) fun a => by fin_cases a <;> first | rfl | exact (Nat.zero_add _).symm | exact hj).trans ?_
  refine (dup1 _ _ _ _ _).trans ?_
  rw [act_ld m c t _ i _ j hj]
  exact congrArg (dup _) (half_ld m c t _ 0 i _ j hj)

theorem blkD_apply (i : Fin 512) (k : Fin 1024) : blkD m c t (ix2 i k)
    = V m c main_arg4 (ix2 (⟨512 * (t.val % 8) + i.val, by omega⟩ : Fin 4096) k) := by
  unfold blkD
  blk_simp [iblk, at0 t]
  congr 1
  blk_ext [at0 t]

theorem blkW_apply (j : Fin 1408) (k : Fin 1024) : blkW m c t (ix2 j k)
    = V m c main_v17 (ix2 (⟨1408 * (t.val / 8) + j.val, by have := lt_N t; omega⟩ : Fin 2816) k) := by
  unfold blkW
  blk_simp [iblk, at1 t]
  congr 1
  blk_ext [at1 t]

theorem blkG_apply (s : Fin 2) (i : Fin 512) (j : Fin 1408) : blkG m c t (ix3 s i j)
    = V m c main_v16 (ix3 s (⟨512 * (t.val % 8) + i.val, by omega⟩ : Fin 4096)
      (⟨1408 * (t.val / 8) + j.val, by have := lt_N t; omega⟩ : Fin 2816)) := by
  unfold blkG
  blk_simp [iblk, at2 t]
  congr 1
  blk_ext [at2 t]

/-- What the host hands to the call: the gradient, the weights and the two halves. -/
theorem V_d : V m c main_arg4 = m (c, Proc.tc.devRef main_arg4) := by
  simp only [V, hostOps0, List.flatten_cons, List.flatten_nil, List.cons_append, List.nil_append, List.append_nil]
  after_reads_simp

theorem V_w : V m c main_v17 = (m (c, Proc.tc.devRef main_arg3) : FVec Ideal S2816x1024 .f32) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  rfl

/-- The product of the normalized inputs and the weights of both halves. -/
abbrev both (x0 : FVec Ideal S4096x1024 .f32) (x1 : FVec Ideal S1024 .f32) (x2 : FVec Ideal S1024x5632 .f32) : FVec Ideal S4096x5632 .f32 :=
  Cert.Reference5Ideal.Read.val_main_v13 (F := Ideal) x0 x1 x2

theorem V_g (s : Fin 2) (i : Fin 4096) (j : Fin 2816) : V m c main_v16 (ix3 s i j)
    = both (m (c, Proc.tc.devRef main_arg0)) (m (c, Proc.tc.devRef main_arg1)) (m (c, Proc.tc.devRef main_arg2)) (ix2 i (col s j)) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  generalize m (c, Proc.tc.devRef main_arg2) = x2
  generalize m (c, Proc.tc.devRef main_arg1) = x1
  generalize m (c, Proc.tc.devRef main_arg0) = x0
  refine (show _ = transpose S2x4096x2816 [1, 0, 2] (shapeCast S4096x2x2816 (both x0 x1 x2) shapeCasts_S4096x5632_S4096x2x2816)
    transposes_S4096x2x2816_S2x4096x2816_1_0_2 (ix3 s i j) from rfl).trans ?_
  refine (transpose_apply [1, 0, 2] _ transposes_S4096x2x2816_S2x4096x2816_1_0_2 (ix3 s i j) (ix3 i s j)
    (fun b => match b with | ⟨0, _⟩ => rfl | ⟨1, _⟩ => rfl | ⟨2, _⟩ => rfl)).trans ?_
  refine shapeCast_apply _ shapeCasts_S4096x5632_S4096x2x2816 _ (ix2 i (col s j)) ?_
  rw [Shape.rowMajor_val_two, Shape.rowMajor_val_three]
  show i.val * 5632 + (2816 * s.val + j.val) = (i.val * 2 + s.val) * 2816 + j.val
  omega

/-- The activation's gradient. -/
def da (d : FVec Ideal S4096x1024 .f32) (w : FVec Ideal S2816x1024 .f32) (i : Fin 4096) (j : Fin 2816) : EReal :=
  half * ∑ k : Fin 1024, d (ix2 i k) * w (ix2 j k)

/-- The gradient of the two halves. -/
def dgu (h : FVec Ideal S4096x5632 .f32) (w : FVec Ideal S2816x1024 .f32) (d : FVec Ideal S4096x1024 .f32) (s : Fin 2) (i : Fin 4096)
    (j : Fin 2816) : EReal :=
  match s with
  | 0 => dgate (da d w i j) (h (ix2 i (col 0 j))) (h (ix2 i (col 1 j)))
  | 1 => dup (da d w i j) (h (ix2 i (col 0 j)))

theorem blkA_eq (i : Fin 512) (j : Fin 1408) : blkA m c t i j
    = da (m (c, Proc.tc.devRef main_arg4)) (m (c, Proc.tc.devRef main_arg3)) ⟨512 * (t.val % 8) + i.val, by omega⟩
      ⟨1408 * (t.val / 8) + j.val, by have := lt_N t; omega⟩ := by
  unfold blkA da
  refine congrArg _ (Finset.sum_congr rfl fun k _ => ?_)
  rw [blkD_apply, blkW_apply, V_d, V_w]

/-- The kernel's result. -/
theorem final : (dats m 0 c).arrAt 3 cfg0.N = fun y => dgu (both (m (c, Proc.tc.devRef main_arg0)) (m (c, Proc.tc.devRef main_arg1))
    (m (c, Proc.tc.devRef main_arg2))) (m (c, Proc.tc.devRef main_arg3)) (m (c, Proc.tc.devRef main_arg4)) (y 0) (y 1) (y 2) := by
  refine (dats m 0 c).arrAt_eq_of_covers 3 _ (by decide +kernel) fun t _ y => ?_
  blk_simp
  obtain ⟨s, i, j, rfl⟩ : ∃ (s : Fin 2) (i : Fin 512) (j : Fin 1408), y = ix3 s i j := ⟨y 0, y 1, y 2, eq_ix3 y⟩
  have e : (win0_3.blk t).view.emb (ix3 s i j) = ix3 s (⟨512 * (t.val % 8) + i.val, by omega⟩ : Fin 4096)
      (⟨1408 * (t.val / 8) + j.val, by have := lt_N t; omega⟩ : Fin 2816) := by
    blk_ext [at3 t]
  rw [e]
  clear e
  revert s
  rw [Fin.forall_fin_two]
  constructor
  · refine (outs_gate m c t i j).trans ?_
    rw [blkA_eq, blkG_apply, blkG_apply, V_g, V_g]
    rfl
  · refine (outs_up m c t i j).trans ?_
    rw [blkA_eq, blkG_apply, V_g]
    rfl

end Ffn.Dact

end
-- ==== Proof.DactRef.lean ====
/-
  The gradient of the two halves of the up product: what the reference's operations compute, and the two forms of the gate's
  gradient, which agree over the reals.
-/
module

public import proofs.«01_k».proof.Proof.Dact
public import proofs.«01_k».proof.Proof.DxRef

@[expose] public section

set_option maxRecDepth 16384

noncomputable section

namespace Ffn.Dact

open Finset Idealize.ShloMosaic
open Cert.Reference5Ideal Cert.Reference5Ideal.Gen Cert.Reference5Ideal.Read

/-- An extended real that is a real number. -/
def IsReal (x : EReal) : Prop := x = (x.toReal : EReal)

theorem IsReal.coe (r : ℝ) : IsReal (r : EReal) := by
  unfold IsReal
  rw [EReal.toReal_coe]

theorem IsReal.mul {x y : EReal} (hx : IsReal x) (hy : IsReal y) : IsReal (x * y) := by
  rw [hx, hy, ← EReal.coe_mul]
  exact IsReal.coe _

theorem IsReal.add {x y : EReal} (hx : IsReal x) (hy : IsReal y) : IsReal (x + y) := by
  rw [hx, hy, ← EReal.coe_add]
  exact IsReal.coe _

theorem IsReal.sum {n : ℕ} {f : Fin n → EReal} (h : ∀ k, IsReal (f k)) : IsReal (∑ k, f k) := by
  rw [Finset.sum_congr rfl fun k _ => h k, ← Ssd.coe_sum]
  exact IsReal.coe _

/-- The reciprocal of a row's root mean square is real. -/
theorem inv_real {x : Fin 1024 → EReal} (h : ∀ k, IsReal (x k)) : IsReal (Dx.inv x) := by
  obtain ⟨e, he, te⟩ := Dx.tiny_pos
  unfold Dx.inv
  rw [Finset.sum_congr rfl fun k _ => congrArg₂ (· * ·) (h k) (h k), Dx.width_eq, te, Ideal.div_coe (by norm_num)]
  simp only [← EReal.coe_mul]
  rw [← Ssd.coe_sum, ← EReal.coe_mul, ← EReal.coe_add, Ideal.rsqrt_coe]
  have hp : 0 < (∑ k, (x k).toReal * (x k).toReal) * (1 / 1024) + e :=
    add_pos_of_nonneg_of_pos (mul_nonneg (Finset.sum_nonneg fun k _ => mul_self_nonneg _) (by norm_num)) he
  rw [if_neg hp.ne', if_neg (not_lt.2 hp.le)]
  exact IsReal.coe _

/-- The two forms of the gate's gradient agree over the reals. -/
theorem gate_forms (a g u : ℝ) : ((a : EReal) * u) * lgs g + (g * ((a : EReal) * u)) * (lgs g * (1 - lgs g)) = dgate a g u := by
  have hs : lgs (g : EReal) = ((1 / (1 + Real.exp (-g)) : ℝ) : EReal) := by
    unfold lgs
    rw [← EReal.coe_neg, Ideal.exp_coe, ← EReal.coe_one, ← EReal.coe_add,
      Ideal.div_coe (by have := Real.exp_pos (-g); positivity), ← EReal.coe_mul, one_mul]
  unfold dgate
  rw [hs, ← EReal.coe_one]
  norm_cast
  ring

variable (x0 : FVec Ideal S4096x1024 .f32) (x1 : FVec Ideal S1024 .f32) (x2 : FVec Ideal S1024x5632 .f32)
  (x3 : FVec Ideal S2816x1024 .f32) (x4 : FVec Ideal S4096x1024 .f32)

/-- The reference's normalized rows, and its products. -/
theorem normed_apply (i : Fin 4096) (n : Fin 1024) : val_main_v12 (F := Ideal) x0 x1 (ix2 i n)
    = (x0 (ix2 i n) * Dx.inv fun k => x0 (ix2 i k)) * x1 (ix1 n) := by
  have hv : ∀ z : S4096x1.Idx, (z 0).val = i.val → val_main_v7 (F := Ideal) x0 z = Dx.inv fun k => x0 (ix2 i k) := by
    intro z h
    rw [val_main_v7_apply, val_main_v6_apply, val_main_v5_apply, val_main_cst_1_apply, val_main_v4_apply, val_main_v3_apply,
      val_main_cst_0_apply, val_main_v2_apply, val_main_v1_apply, val_main_cst_apply, Dx.zero_bits, zero_add]
    refine congrArg Ideal.rsqrt (congrArg₂ (· + ·) (congrArg₂ Ideal.div (Finset.sum_congr rfl fun k _ => ?_) rfl) rfl)
    rw [val_main_v0_apply]
    have e : idx_main_v1 (idx_main_v2 z) k = ix2 i k := (eq_ix2 _).trans (congrArg₂ ix2 (Fin.ext h) rfl)
    rw [e]
    rfl
  rw [val_main_v12_apply, val_main_v9_apply, val_main_v8_apply, hv _ rfl, val_main_v11_apply, val_main_v10_apply]
  exact congrArg₂ (· * ·) rfl (congrArg _ (eq_ix1 _))

theorem gate_ref (i : Fin 4096) (j : Fin 2816) : val_main_v14 (F := Ideal) x0 x1 x2 (ix2 i j) = both x0 x1 x2 (ix2 i (col 0 j)) :=
  (val_main_v14_apply (F := Ideal) x0 x1 x2 _).trans (congrArg _ ((eq_ix2 _).trans (congrArg₂ ix2 rfl (Fin.ext (by simp [col])))))

theorem up_ref (i : Fin 4096) (j : Fin 2816) : val_main_v15 (F := Ideal) x0 x1 x2 (ix2 i j) = both x0 x1 x2 (ix2 i (col 1 j)) :=
  (val_main_v15_apply (F := Ideal) x0 x1 x2 _).trans (congrArg _ ((eq_ix2 _).trans (congrArg₂ ix2 rfl (Fin.ext (by simp [col])))))

theorem lgs_ref (i : Fin 4096) (j : Fin 2816) : val_main_v16_2 (F := Ideal) x0 x1 x2 (ix2 i j) = lgs (both x0 x1 x2 (ix2 i (col 0 j))) := by
  rw [← gate_ref, val_main_v16_2_apply, val_main_call0_v4_apply, val_main_call0_v3_apply, val_main_call0_v2_apply,
    val_main_call0_cst_0_apply, val_main_call0_cst_apply, val_main_call0_v1_apply, val_main_call0_v0_apply]
  rw [show (FloatOps.ofBits (F := Ideal) .f32 0x3F800000#32) = (1 : EReal) from Ideal.ofBits_one_f32]
  rfl

theorem da_ref (i : Fin 4096) (j : Fin 2816) : val_main_v23 (F := Ideal) x3 x4 (ix2 i j) = da x4 x3 i j := by
  rw [val_main_v23_apply]
  unfold da
  rw [half_sum]
  refine Finset.sum_congr rfl fun k _ => ?_
  rw [val_main_v22_apply, val_main_v21_apply, val_main_cst_3_apply, ← mul_assoc]
  exact congrArg₂ (· * ·) (congrArg _ (congrArg _ (eq_ix2 _))) (congrArg _ (eq_ix2 _))

/-- The gradient of the gate, by the chain rule. -/
def gchain (a g u : EReal) : EReal := (a * u) * lgs g + (g * (a * u)) * (lgs g * (1 - lgs g))

theorem dgate_ref (i : Fin 4096) (j : Fin 2816) : val_main_v26 (F := Ideal) x0 x1 x2 x3 x4 (ix2 i j)
    = gchain (da x4 x3 i j) (both x0 x1 x2 (ix2 i (col 0 j))) (both x0 x1 x2 (ix2 i (col 1 j))) := by
  rw [val_main_v26_apply, val_main_call1_v2_apply, val_main_call1_v1_apply, val_main_call1_v0_apply, val_main_v25_apply,
    val_main_v16_1_apply, val_main_call0_v7_apply, val_main_call0_v6_apply, val_main_call0_cst_1_apply, da_ref, up_ref, gate_ref, lgs_ref]
  rw [show (FloatOps.ofBits (F := Ideal) .f32 0x3F800000#32) = (1 : EReal) from Ideal.ofBits_one_f32]
  rfl

theorem dup_ref (i : Fin 4096) (j : Fin 2816) : val_main_v24 (F := Ideal) x0 x1 x2 x3 x4 (ix2 i j)
    = dup (da x4 x3 i j) (both x0 x1 x2 (ix2 i (col 0 j))) := by
  rw [val_main_v24_apply, val_main_v16_0_apply, da_ref, gate_ref, lgs_ref]
  unfold dup
  rw [mul_assoc]
  exact mul_comm _ _

/-- The reference's result, half by half. -/
theorem ref_dgu (s : Fin 2) (i : Fin 4096) (j : Fin 2816) : val_main_v30 (F := Ideal) x0 x1 x2 x3 x4 (ix3 s i j)
    = match s with
      | 0 => gchain (da x4 x3 i j) (both x0 x1 x2 (ix2 i (col 0 j))) (both x0 x1 x2 (ix2 i (col 1 j)))
      | 1 => dup (da x4 x3 i j) (both x0 x1 x2 (ix2 i (col 0 j))) := by
  have e : val_main_v30 (F := Ideal) x0 x1 x2 x3 x4 (ix3 s i j) = val_main_v27 (F := Ideal) x0 x1 x2 x3 x4 (ix2 i (col s j)) := by
    rw [val_main_v30_apply, val_main_v29_apply, val_main_v28_apply]
    refine (congrArg (val_main_v27 (F := Ideal) x0 x1 x2 x3 x4) ((eq_ix2 _).trans (congrArg₂ ix2 (Fin.ext ?_) (Fin.ext ?_))) :)
    · show ((i.val * 2 + s.val) * 2816 + j.val) / 5632 = i.val
      omega
    · show ((i.val * 2 + s.val) * 2816 + j.val) % 5632 = 2816 * s.val + j.val
      omega
  rw [e]
  unfold val_main_v27
  revert s
  rw [Fin.forall_fin_two]
  refine ⟨fun _ => ?_, fun _ => ?_⟩
  · refine (concatenate_pair_apply_left 1 _ _ concatenates_S4096x2816_S4096x2816_S4096x5632_d1 _ rfl (ix2 i j) fun b => ?_).trans
      (dgate_ref x0 x1 x2 x3 x4 i j)
    fin_cases b
    · rfl
    · show j.val = 2816 * 0 + j.val
      omega
  · refine (concatenate_pair_apply_right 1 _ _ concatenates_S4096x2816_S4096x2816_S4096x5632_d1 _ rfl rfl (ix2 i j) (fun b hb => ?_) ?_).trans
      (dup_ref x0 x1 x2 x3 x4 i j)
    · fin_cases b
      · rfl
      · exact absurd rfl hb
    · show j.val + 2816 = 2816 * 1 + j.val
      omega

end Ffn.Dact

end
-- ==== Proof.DactFinite.lean ====
/-
  The gradient of the two halves of the up product on real numbers: the precondition read, and the call's closed form met
  with the reference's.
-/
module

public import proofs.«01_k».proof.Pre_dact_finite
public import proofs.«01_k».proof.Proof.Finite
public import proofs.«01_k».proof.Proof.DactRef

@[expose] public section

set_option maxRecDepth 16384

noncomputable section

namespace Ffn.Dact

open Idealize.ShloMosaic Cert.Pre_dact_finite

instance : Subsingleton Cert.Pre_dact_finite.S_.Idx := ⟨fun a b => funext fun d => d.elim0⟩

/-- The facts that the precondition's program states. -/
theorem preFacts : Cert.Pre_dact_finite.Facts where
  reducesTo_S4096x1024_S_d0_1 := by decide
  h_S_ := by decide
  reducesTo_S1024_S_d0 := by decide
  reducesTo_S1024x5632_S_d0_1 := by decide
  reducesTo_S2816x1024_S_d0_1 := by decide

variable [Cert.Pre_dact_finite.Facts] {x : FVec Ideal S4096x1024 .f32} {g : FVec Ideal S1024 .f32} {w : FVec Ideal S1024x5632 .f32}
  {v : FVec Ideal S2816x1024 .f32} {d : FVec Ideal S4096x1024 .f32}

/-- Under the precondition the entries of the arguments are real numbers. -/
theorem reals (h : fn (F := Ideal) x g w v d = fun _ => 1#1) :
    ((∀ i, IsReal (x i)) ∧ (∀ i, IsReal (g i)) ∧ (∀ i, IsReal (w i))) ∧ (∀ i, IsReal (v i)) ∧ (∀ i, IsReal (d i)) := by
  have h' := congrFun h ix0
  dsimp only [fn, fn_part1] at h'
  obtain ⟨h0123, h4⟩ := Ssd.and_one h'
  obtain ⟨h012, h3⟩ := Ssd.and_one h0123
  obtain ⟨h01, h2⟩ := Ssd.and_one h012
  obtain ⟨h0, h1⟩ := Ssd.and_one h01
  exact ⟨⟨fun i => Ssd.real_of_max x _ _ _ _ (Ssd.below h0) i, fun i => Ssd.real_of_max g _ _ _ _ (Ssd.below h1) i,
    fun i => Ssd.real_of_max w _ _ _ _ (Ssd.below h2) i⟩, fun i => Ssd.real_of_max v _ _ _ _ (Ssd.below h3) i,
    fun i => Ssd.real_of_max d _ _ _ _ (Ssd.below h4) i⟩

/-- The products with the up weights are real. -/
theorem both_real (hx : ∀ i, IsReal (x i)) (hg : ∀ i, IsReal (g i)) (hw : ∀ i, IsReal (w i)) (i : Fin 4096) (n : Fin 5632) :
    IsReal (both x g w (ix2 i n)) := by
  unfold both
  rw [Cert.Reference5Ideal.Read.val_main_v13_apply]
  refine IsReal.sum fun k => IsReal.mul ?_ (hw _)
  rw [eq_ix2 (Cert.Reference5Ideal.Read.lidx_main_v13 _ _)]
  exact (normed_apply x g i k) ▸ ((hx _).mul (inv_real fun k => hx _)).mul (hg _)

/-- The activation's gradient is real. -/
theorem da_real (hv : ∀ i, IsReal (v i)) (hd : ∀ i, IsReal (d i)) (i : Fin 4096) (j : Fin 2816) : IsReal (da d v i j) := by
  unfold da
  rw [half_eq]
  exact (IsReal.coe _).mul (IsReal.sum fun k => (hd _).mul (hv _))

/-- The reference's result is the call's closed form. -/
theorem ref_eq (h : fn (F := Ideal) x g w v d = fun _ => 1#1) (s : Fin 2) (i : Fin 4096) (j : Fin 2816) :
    Cert.Reference5Ideal.Read.val_main_v30 (F := Ideal) x g w v d (ix3 s i j) = dgu (both x g w) v d s i j := by
  obtain ⟨⟨hx, hg, hw⟩, hv, hd⟩ := reals h
  rw [ref_dgu]
  revert s
  rw [Fin.forall_fin_two]
  refine ⟨?_, rfl⟩
  show gchain _ _ _ = dgate _ _ _
  rw [da_real hv hd i j, both_real hx hg hw i (col 0 j), both_real hx hg hw i (col 1 j)]
  exact gate_forms _ _ _

end Ffn.Dact

end
-- ==== Proof.Layer.lean ====
/-
  The claims of the feed-forward layer's calls: each reference runs and changes no argument, and each call gives its
  reference's results.
-/
module

public import proofs.«01_k».proof.Defs
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Dwgu
public import proofs.«01_k».proof.Proof.Dwd
public import proofs.«01_k».proof.Proof.Down
public import proofs.«01_k».proof.Proof.Up
public import proofs.«01_k».proof.Proof.Dx
public import proofs.«01_k».proof.Proof.DxRef
public import proofs.«01_k».proof.Proof.DxFinite
public import proofs.«01_k».proof.Proof.DactFinite
public import Idealize.ShloMosaic.Adequacy
public import Idealize.ShloMosaic.Init

@[expose] public section

noncomputable section

namespace Ffn

open Idealize.ShloMosaic Idealize.ShloMosaic.TcCoe Idealize.SL.Sem

/-- The reference of the gate and up weights gradient runs and changes no argument. -/
theorem frame2 : Cert.quiescent_Reference2Ideal (hReference2Ideal := Cert.Reference2Ideal.Gen.facts) := fun m g _ =>
  (θ_run _ _ _).mono (fun r h => ⟨fun c => (h c).2, sem_eq_zero_of_no_sems (by decide) r.2⟩) (Cert.Reference2Ideal.Value.run m g)

/-- The reference of the down weights gradient runs and changes no argument. -/
theorem frame3 : Cert.quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Value.run m g)

/-- The reference of the input gradient runs and changes no argument. -/
theorem frame4 : Cert.quiescent_Reference4Ideal (hReference4Ideal := Cert.Reference4Ideal.Gen.facts) := fun m g _ =>
  (θ_run _ _ _).mono (fun r h => ⟨fun c => (h c).2.2, sem_eq_zero_of_no_sems (by decide) r.2⟩) (Cert.Reference4Ideal.Value.run m g)

/-- The reference of the gate and up products runs and changes no argument. -/
theorem frame5 : Cert.quiescent_Reference5Ideal (hReference5Ideal := Cert.Reference5Ideal.Gen.facts) := fun m g _ =>
  (θ_run _ _ _).mono (fun r h => ⟨fun c => (h c).2, sem_eq_zero_of_no_sems (by decide) r.2⟩) (Cert.Reference5Ideal.Value.run m g)

theorem frame6 : Cert.quiescent_Reference6Ideal (hReference6Ideal := Cert.Reference6Ideal.Gen.facts) := fun m g _ =>
  (θ_run _ _ _).mono (fun r h => ⟨fun c => (h c).2.2, sem_eq_zero_of_no_sems (by decide) r.2⟩) (Cert.Reference6Ideal.Value.run m g)

/-- The reference of the down product runs and changes no argument. -/
theorem frame7 : Cert.quiescent_Reference7Ideal (hReference7Ideal := Cert.Reference7Ideal.Gen.facts) := fun m g _ =>
  (θ_run _ _ _).mono (fun r h => ⟨fun c => (h c).2, sem_eq_zero_of_no_sems (by decide) r.2⟩) (Cert.Reference7Ideal.Value.run m g)

/-- The gate and up weights gradient: the call gives the reference's. -/
theorem algebraic2 : Cert.algebraic_Kernel2Ideal_Reference2Ideal (hKernel2Ideal := Cert.Kernel2Ideal.Gen.facts)
    (hReference2Ideal := Cert.Reference2Ideal.Gen.facts) := by
  intro m g m' g' _ hargs
  refine ⟨_, Cert.Kernel2Ideal.Value.run_blocks m g, ?_⟩
  refine (θ_run _ _ _).mono (fun r h c => ?_) (Cert.Reference2Ideal.Value.run m' g')
  obtain ⟨h0, hk⟩ := h c
  obtain ⟨a0, a1, a2, a3⟩ := hargs c
  refine ⟨h0.trans (((Cert.Reference2Ideal.Read.val_main_v23_eq _ _ _).trans (Dwgu.ref _ _ _)).trans ?_), hk⟩
  rw [a0, a1, a3]
  exact (Dwgu.final m c).symm

/-- The down weights gradient: the call gives the reference's. -/
theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨_, Cert.Kernel3Ideal.Value.run_blocks m g, ?_⟩
  refine (θ_run _ _ _).mono (fun r h c => ?_) (Cert.Reference3Ideal.Value.run m' g')
  obtain ⟨h0, hk⟩ := h c
  obtain ⟨a0, a1, a2, a3, a4⟩ := hargs c
  refine ⟨h0.trans (((Cert.Reference3Ideal.Read.val_main_v25_eq _ _ _ _).trans (Dwd.ref _ _ _ _)).trans ?_), hk⟩
  rw [a0, a1, a2, a4]
  exact (Dwd.final m c).symm

/-- The input gradient: the call gives the reference's. -/
theorem algebraic4 : Cert.algebraic_Kernel4Ideal_Reference4Ideal_pre_dx_finite (hKernel4Ideal := Cert.Kernel4Ideal.Gen.facts)
    (hReference4Ideal := Cert.Reference4Ideal.Gen.facts) (hPre_dx_finite := Dx.preFacts) := by
  intro m g m' g' hpre hargs
  have := Dx.preFacts
  refine ⟨_, _, Cert.Kernel4Ideal.Value.run_blocks m g, ?_⟩
  refine (θ_run _ _ _).mono (fun r h c => ?_) (Cert.Reference4Ideal.Value.run m' g')
  obtain ⟨h0, h1, hk⟩ := h c
  obtain ⟨a0, a1, a2, a3, a4⟩ := hargs c
  refine ⟨h0.trans ((Cert.Reference4Ideal.Read.val_main_v43_eq m' c).trans ?_),
    h1.trans (((Cert.Reference4Ideal.Read.val_main_v44_eq _ _ _).trans (Dx.ref_dg _ _ _)).trans ?_), hk⟩
  · rw [a0, a1, a2, a3, a4]
    refine (funext fun y => ?_ : _ = fun y => Dx.dx _ _ _ _ _ (y 0) (y 1)).trans (Dx.final_dx m c).symm
    exact (congrArg _ (eq_ix2 y)).trans ((Dx.ref_dx _ _ _ _ _ (y 0) (y 1)).trans (Dx.dx_eq_chain (hpre c) (y 0) (y 1)).symm)
  · rw [a0, a2, a3]
    exact (Dx.final_dg m c).symm

/-- The gradients of the two halves. -/
theorem algebraic5 : Cert.algebraic_Kernel5Ideal_Reference5Ideal_pre_dact_finite (hKernel5Ideal := Cert.Kernel5Ideal.Gen.facts)
    (hReference5Ideal := Cert.Reference5Ideal.Gen.facts) (hPre_dact_finite := Dact.preFacts) := by
  intro m g m' g' hpre hargs
  have := Dact.preFacts
  refine ⟨_, Cert.Kernel5Ideal.Value.run_blocks m g, ?_⟩
  refine (θ_run _ _ _).mono (fun r h c => ?_) (Cert.Reference5Ideal.Value.run m' g')
  obtain ⟨h0, hk⟩ := h c
  obtain ⟨a0, a1, a2, a3, a4⟩ := hargs c
  refine ⟨h0.trans ((Cert.Reference5Ideal.Read.val_main_v30_eq m' c).trans ?_), hk⟩
  rw [a0, a1, a2, a3, a4]
  refine (funext fun y => ?_ : _ = fun y => Dact.dgu (Dact.both _ _ _) _ _ (y 0) (y 1) (y 2)).trans (Dact.final m c).symm
  exact (congrArg _ (eq_ix3 y)).trans (Dact.ref_eq (hpre c) (y 0) (y 1) (y 2))

/-- The gate and up products: the call gives the reference's. -/
theorem algebraic6 : Cert.algebraic_Kernel6Ideal_Reference6Ideal (hKernel6Ideal := Cert.Kernel6Ideal.Gen.facts)
    (hReference6Ideal := Cert.Reference6Ideal.Gen.facts) := by
  intro m g m' g' _ hargs
  refine ⟨_, _, Cert.Kernel6Ideal.Value.run_blocks m g, ?_⟩
  refine (θ_run _ _ _).mono (fun r h c => ?_) (Cert.Reference6Ideal.Value.run m' g')
  obtain ⟨h0, h1, hk⟩ := h c
  obtain ⟨a0, a1, a2⟩ := hargs c
  refine ⟨h0.trans (((Cert.Reference6Ideal.Read.val_main_v18_eq _ _ _).trans (Up.ref_gu _ _ _)).trans ?_),
    h1.trans (((Cert.Reference6Ideal.Read.val_main_v21_eq _ _ _).trans (Up.ref_a _ _ _)).trans ?_), hk⟩
  · rw [a0, a1, a2]
    exact (Up.final_gu m c).symm
  · rw [a0, a1, a2]
    exact (Up.final_a m c).symm

/-- The down product: the call gives the reference's. -/
theorem algebraic7 : Cert.algebraic_Kernel7Ideal_Reference7Ideal (hKernel7Ideal := Cert.Kernel7Ideal.Gen.facts)
    (hReference7Ideal := Cert.Reference7Ideal.Gen.facts) := by
  intro m g m' g' _ hargs
  refine ⟨_, Cert.Kernel7Ideal.Value.run_blocks m g, ?_⟩
  refine (θ_run _ _ _).mono (fun r h c => ?_) (Cert.Reference7Ideal.Value.run m' g')
  obtain ⟨h0, hk⟩ := h c
  obtain ⟨a0, a1, a2, a3⟩ := hargs c
  refine ⟨h0.trans (((Cert.Reference7Ideal.Read.val_main_v21_eq _ _ _ _).trans (Down.ref _ _ _ _)).trans ?_), hk⟩
  rw [a0, a1, a2, a3]
  exact (Down.final m c).symm

end Ffn

end
-- ==== Proof.MixDx.lean ====
/-
  The gradients of a mixer's inputs and of its norm's gain: what a grid point's blocks hold, what it leaves and the results
  of the call.
-/
module

public import proofs.«01_k».proof.Proof.Gen.Kernel8Ideal.Value
public import proofs.«01_k».proof.Proof.Gen.Reference8Ideal.Run
public import proofs.«01_k».proof.Proof.Gen.Reference8Ideal.Read
public import Idealize.ShloMosaic.Lib.StableHlo.ReadAt
public import Idealize.ShloMosaic.Lib.Pipeline.ReadBack
public import proofs.«01_k».proof.Proof.Products
public import proofs.«01_k».proof.Proof.Dx

@[expose] public section

set_option maxRecDepth 16384

noncomputable section

namespace Ffn.MixDx

open Finset Idealize.ShloMosaic Idealize.ShloMosaic.TcCoe
open Cert.Kernel8Ideal Cert.Kernel8Ideal.Gen
open Ffn.Dx (width row gain)

/-- Where each window's block lies at each point. -/
theorem at0 : ∀ t : Fin cfg0.N, win0_0.index t = ![t.val, 0] :=
  (by decide +kernel : ∀ t : Fin grid0.N, win0_0.index t = ![t.val, 0])
theorem at1 : ∀ t : Fin cfg0.N, win0_1.index t = ![0, 0] :=
  (by decide +kernel : ∀ t : Fin grid0.N, win0_1.index t = ![0, 0])
theorem at2 : ∀ t : Fin cfg0.N, win0_2.index t = ![t.val, 0] :=
  (by decide +kernel : ∀ t : Fin grid0.N, win0_2.index t = ![t.val, 0])
theorem at3 : ∀ t : Fin cfg0.N, win0_3.index t = ![0, 0] :=
  (by decide +kernel : ∀ t : Fin grid0.N, win0_3.index t = ![0, 0])
theorem at4 : ∀ t : Fin cfg0.N, win0_4.index t = ![t.val, 0] :=
  (by decide +kernel : ∀ t : Fin grid0.N, win0_4.index t = ![t.val, 0])
theorem at5 : ∀ t : Fin cfg0.N, win0_5.index t = ![t.val, 0] :=
  (by decide +kernel : ∀ t : Fin grid0.N, win0_5.index t = ![t.val, 0])
theorem at6 : ∀ t : Fin cfg0.N, win0_6.index t = ![0, 0] :=
  (by decide +kernel : ∀ t : Fin grid0.N, win0_6.index t = ![0, 0])

theorem lt_N (t : Fin cfg0.N) : t.val < 8 := t.isLt

theorem d_apply (d : FVec Ideal S512x3072 .bf16) (w : FVec Ideal S1024x3072 .bf16) (i : Fin 512) (n : Fin 1024) :
    k0_pay2 (F := Ideal) d w (ix2 i n) = mmT d w i n := by
  unfold k0_pay2 mmT
  pointwise

theorem inv_apply (x : FVec Ideal S512x1024 .f32) (i : Fin 512) (n : Fin 1) :
    k0_pay3 (F := Ideal) x (ix2 i n) = Dx.inv fun k => x (ix2 i k) := Dx.inv_apply x i n

theorem normed_apply (x : FVec Ideal S512x1024 .f32) (i : Fin 512) (n : Fin 1024) :
    k0_pay4 (F := Ideal) x (ix2 i n) = x (ix2 i n) * Dx.inv fun k => x (ix2 i k) := Dx.normed_apply x i n

theorem gain_apply (d : FVec Ideal S512x3072 .bf16) (w : FVec Ideal S1024x3072 .bf16) (x : FVec Ideal S512x1024 .f32)
    (n : Fin 1024) : k0_pay5 (F := Ideal) d w x (ix2 0 n)
      = ∑ i : Fin 512, gain (fun k => x (ix2 i k)) (fun k => k0_pay2 (F := Ideal) d w (ix2 i k)) n := by
  unfold gain
  simp only [← normed_apply]
  unfold k0_pay5
  generalize k0_pay4 (F := Ideal) x = r
  generalize k0_pay2 (F := Ideal) d w = d
  pointwise

theorem gain_add (z y : FVec Ideal S1x1024 .f32) (n : Fin 1024) : k0_pay1 (F := Ideal) z y (ix2 0 n) = y (ix2 0 n) + z (ix2 0 n) := Dx.gain_add z y n

theorem row_apply (d : FVec Ideal S512x3072 .bf16) (w : FVec Ideal S1024x3072 .bf16) (x o : FVec Ideal S512x1024 .f32)
    (g : FVec Ideal S1x1024 .f32) (i : Fin 512) (n : Fin 1024) : k0_pay6 (F := Ideal) d w x g o (ix2 i n)
      = row (fun k => x (ix2 i k)) (fun k => g (ix2 0 k)) (fun k => k0_pay2 (F := Ideal) d w (ix2 i k)) (o (ix2 i n)) n := by
  unfold row
  simp only [← normed_apply]
  rw [← inv_apply x i 0]
  unfold k0_pay6
  generalize k0_pay4 (F := Ideal) x = r
  generalize k0_pay3 (F := Ideal) x = q
  generalize k0_pay2 (F := Ideal) d w = d
  pointwise
  rfl

variable (m : (ℓ : Loc nD τ sig) → Buf (Elt Ideal) ℓ) (c : Dev nD) (t : Fin cfg0.N)

/-- A point's blocks: the gradients, the weights, the inputs, the gain and the gradient of the residual. -/
def blkG : FVec Ideal S512x3072 .bf16 := iblk m c 0 t
def blkW : FVec Ideal S1024x3072 .bf16 := iblk m c 1 t
def blkX : FVec Ideal S512x1024 .f32 := iblk m c 2 t
def blkN : FVec Ideal S1x1024 .f32 := iblk m c 3 t
def blkO : FVec Ideal S512x1024 .f32 := iblk m c 4 t

/-- What every point stores of the inputs' gradient. -/
def tile : FVec Ideal S512x1024 .f32 :=
  k0_pay6 (F := Ideal) (blkG m c t) (blkW m c t) (blkX m c t) (blkN m c t) (blkO m c t)

/-- A point's part of the gain's gradient. -/
def share : FVec Ideal S1x1024 .f32 := k0_pay5 (F := Ideal) (blkG m c t) (blkW m c t) (blkX m c t)

theorem outs_A (h0 : t.val % 8 = 0) (h1 : ¬ 1 ≤ t.val) : outsAt0 m c t.val t.isLt = (tile m c t, share m c t) := by
  rw [outsAt0_A m c t h0 h1]
  refine Prod.ext ?_ ?_
  · frame_out
    rfl
  · frame_out
    rfl

theorem outs_B (h0 : ¬ t.val % 8 = 0) (h1 : 1 ≤ t.val) : outsAt0 m c t.val t.isLt
    = (tile m c t, k0_pay1 (F := Ideal) (share m c t) (outsAt0 m c (t.val - 1) (Nat.lt_of_le_of_lt (Nat.sub_le _ _) t.isLt)).2) := by
  rw [outsAt0_B m c t h0 h1]
  refine Prod.ext ?_ ?_
  · frame_out
    rfl
  · frame_out
    rfl

/-- The gradient of a block of the scaled normalization. -/
def blkD (i : Fin 512) (n : Fin 1024) : EReal := mmT (blkG m c t) (blkW m c t) i n

theorem tile_apply (i : Fin 512) (n : Fin 1024) : tile m c t (ix2 i n)
    = row (fun k => blkX m c t (ix2 i k)) (fun k => blkN m c t (ix2 0 k)) (blkD m c t i) (blkO m c t (ix2 i n)) n := by
  refine (row_apply _ _ _ _ _ i n).trans ?_
  simp only [d_apply]
  rfl

theorem share_apply (n : Fin 1024) : share m c t (ix2 0 n)
    = ∑ i : Fin 512, gain (fun k => blkX m c t (ix2 i k)) (blkD m c t i) n := by
  refine (gain_apply _ _ _ n).trans ?_
  simp only [d_apply]
  rfl

theorem outs_tile : (outsAt0 m c t.val t.isLt).1 = tile m c t := by
  by_cases h : t.val % 8 = 0
  · rw [outs_A m c t h (by have := lt_N t; omega)]
  · rw [outs_B m c t h (by omega)]

theorem blkG_apply (i : Fin 512) (k : Fin 3072) : blkG m c t (ix2 i k)
    = V m c main_v0 (ix2 (⟨512 * t.val + i.val, by have := lt_N t; omega⟩ : Fin 4096) k) := by
  unfold blkG
  blk_simp [iblk, at0 t]
  congr 1
  blk_ext [at0 t]

theorem blkW_apply (n : Fin 1024) (k : Fin 3072) : blkW m c t (ix2 n k) = V m c main_v1 (ix2 n k) := by
  unfold blkW
  blk_simp [iblk, at1 t]
  congr 1
  blk_ext [at1 t]

theorem blkX_apply (i : Fin 512) (n : Fin 1024) : blkX m c t (ix2 i n)
    = V m c main_arg0 (ix2 (⟨512 * t.val + i.val, by have := lt_N t; omega⟩ : Fin 4096) n) := by
  unfold blkX
  blk_simp [iblk, at2 t]
  congr 1
  blk_ext [at2 t]

theorem blkN_apply (n : Fin 1024) : blkN m c t (ix2 0 n) = V m c main_v2 (ix2 0 n) := by
  unfold blkN
  blk_simp [iblk, at3 t]
  congr 1
  blk_ext [at3 t]

theorem blkO_apply (i : Fin 512) (n : Fin 1024) : blkO m c t (ix2 i n)
    = V m c main_arg4 (ix2 (⟨512 * t.val + i.val, by have := lt_N t; omega⟩ : Fin 4096) n) := by
  unfold blkO
  blk_simp [iblk, at4 t]
  congr 1
  blk_ext [at4 t]

/-- What the host hands to the call: the gradients, the weights and the gain as a row. -/
theorem V_g : V m c main_v0 = (m (c, Proc.tc.devRef main_arg3) : FVec Ideal S4096x3072 .f32) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  rfl

theorem V_w : V m c main_v1 = (m (c, Proc.tc.devRef main_arg2) : FVec Ideal S1024x3072 .f32) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  rfl

theorem V_n (n : Fin 1024) : V m c main_v2 (ix2 0 n) = (m (c, Proc.tc.devRef main_arg1) : FVec Ideal S1024 .f32) (ix1 n) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  generalize m (c, Proc.tc.devRef main_arg1) = w
  refine shapeCast_apply _ shapeCasts_S1024_S1x1024 _ (ix1 n) ?_
  rw [Shape.rowMajor_val_two, Shape.rowMajor_val_one]
  show n.val = 0 * 1024 + n.val
  omega

/-- The gradient of the scaled normalization: the gradients times the transposed weights. -/
def cot (w : FVec Ideal S1024x3072 .f32) (g : FVec Ideal S4096x3072 .f32) (i : Fin 4096) (n : Fin 1024) : EReal :=
  mmT (p := 4096) (q := 3072) (r := 1024) g w i n

/-- The inputs' gradient. -/
def dx (x : FVec Ideal S4096x1024 .f32) (g : FVec Ideal S1024 .f32) (w : FVec Ideal S1024x3072 .f32)
    (d : FVec Ideal S4096x3072 .f32) (o : FVec Ideal S4096x1024 .f32) (i : Fin 4096) (n : Fin 1024) : EReal :=
  row (fun k => x (ix2 i k)) (fun k => g (ix1 k)) (cot w d i) (o (ix2 i n)) n

/-- One row's part of the gain's gradient. -/
def dgRow (x : FVec Ideal S4096x1024 .f32) (w : FVec Ideal S1024x3072 .f32) (d : FVec Ideal S4096x3072 .f32)
    (n : Fin 1024) (i : Fin 4096) : EReal :=
  gain (fun k => x (ix2 i k)) (cot w d i) n

theorem blkD_eq (i : Fin 512) : blkD m c t i
    = cot (m (c, Proc.tc.devRef main_arg2)) (m (c, Proc.tc.devRef main_arg3)) ⟨512 * t.val + i.val, by have := lt_N t; omega⟩ := by
  funext n
  unfold blkD cot mmT
  refine Finset.sum_congr rfl fun k _ => ?_
  rw [blkG_apply, blkW_apply, V_g, V_w]

theorem blkX_eq (i : Fin 512) : (fun k => blkX m c t (ix2 i k)) = fun k => (m (c, Proc.tc.devRef main_arg0) : FVec Ideal S4096x1024 .f32)
    (ix2 (⟨512 * t.val + i.val, by have := lt_N t; omega⟩ : Fin 4096) k) := by
  funext k
  rw [blkX_apply, V_main_arg0]

theorem blkN_eq : (fun k => blkN m c t (ix2 0 k)) = fun k => (m (c, Proc.tc.devRef main_arg1) : FVec Ideal S1024 .f32) (ix1 k) := by
  funext k
  rw [blkN_apply, V_n]

/-- The kernel's first result. -/
theorem final_dx : (dats m 0 c).arrAt 5 cfg0.N = fun y => dx (m (c, Proc.tc.devRef main_arg0)) (m (c, Proc.tc.devRef main_arg1))
    (m (c, Proc.tc.devRef main_arg2)) (m (c, Proc.tc.devRef main_arg3)) (m (c, Proc.tc.devRef main_arg4)) (y 0) (y 1) := by
  refine (dats m 0 c).arrAt_eq_of_covers 5 _ (by decide +kernel) fun t _ y => ?_
  blk_simp
  obtain ⟨i, n, rfl⟩ : ∃ (i : Fin 512) (n : Fin 1024), y = ix2 i n := ⟨y 0, y 1, eq_ix2 y⟩
  have e : (win0_5.blk t).view.emb (ix2 i n) = ix2 (⟨512 * t.val + i.val, by have := lt_N t; omega⟩ : Fin 4096) n := by
    blk_ext [at5 t]
  rw [after0_5, e, outs_tile]
  refine (tile_apply m c t i n).trans ?_
  rw [blkD_eq, blkX_eq, blkN_eq, blkO_apply, V_main_arg4]
  rfl

/-- The accumulated parts of the gain's gradient, after a point. -/
theorem acc (n : Fin 1024) : ∀ (k : ℕ) (h : k < cfg0.N), (outsAt0 m c k h).2 (ix2 0 n)
    = ∑ j ∈ range (k + 1), if h : j < cfg0.N then share m c ⟨j, h⟩ (ix2 0 n) else 0 :=
  sum_of_steps (n := cfg0.N) (fun k h => (outsAt0 m c k h).2 (ix2 0 n)) (fun k h => share m c ⟨k, h⟩ (ix2 0 n))
    (fun h => by rw [outs_A m c ⟨0, h⟩ (by simp) (by simp)])
    fun k h => by
      have hk : k + 1 < 8 := lt_N ⟨k + 1, h⟩
      rw [outs_B m c ⟨k + 1, h⟩ (by show ¬(k + 1) % 8 = 0; omega) (by show 1 ≤ k + 1; omega)]
      exact gain_add _ _ n

/-- The kernel's second result. -/
theorem final_dg : (dats m 0 c).arrAt 6 cfg0.N = fun y => ∑ i, dgRow (m (c, Proc.tc.devRef main_arg0))
    (m (c, Proc.tc.devRef main_arg2)) (m (c, Proc.tc.devRef main_arg3)) (y 1) i := by
  refine (dats m 0 c).arrAt_eq_of_covers 6 _ (by decide +kernel) fun t hf y => ?_
  have ht := (flush0_6 t).mp hf
  blk_simp
  obtain ⟨i, n, rfl⟩ : ∃ (i : Fin 1) (n : Fin 1024), y = ix2 i n := ⟨y 0, y 1, eq_ix2 y⟩
  obtain rfl : i = 0 := Subsingleton.elim _ _
  have e : (win0_6.blk t).view.emb (ix2 0 n) = ix2 0 n := by
    blk_ext [at6 t]
  have h7 : t.val + 1 = 8 := by have := lt_N t; omega
  rw [after0_6, e]
  refine (acc m c n t.val t.isLt).trans ?_
  rw [h7, Finset.sum_range, sum_blocks (a := 8) (b := 512) rfl]
  refine Finset.sum_congr rfl fun j _ => ?_
  rw [dif_pos (show j.val < cfg0.N from j.isLt)]
  refine (share_apply m c _ n).trans (Finset.sum_congr rfl fun i _ => ?_)
  rw [blkD_eq, blkX_eq]
  rfl

end Ffn.MixDx
-- ==== Proof.MixDxRef.lean ====
/-
  The reference's gradients of a mixer's inputs and of its norm's gain, read entry by entry.
-/
module

public import proofs.«01_k».proof.Proof.MixDx
public import proofs.«01_k».proof.Proof.DxRef

@[expose] public section

set_option maxRecDepth 16384

noncomputable section

namespace Ffn.MixDx

open Finset Idealize.ShloMosaic
open Cert.Reference8Ideal Cert.Reference8Ideal.Gen Cert.Reference8Ideal.Read
open Ffn.Dx (width tiny chain zero_bits)

variable (x0 : FVec Ideal S4096x1024 .f32) (x1 : FVec Ideal S1024 .f32) (x2 : FVec Ideal S1024x3072 .f32)
  (x3 : FVec Ideal S4096x3072 .f32) (x4 : FVec Ideal S4096x1024 .f32)

/-- The reference's mean squares, and the reciprocals of their roots. -/
theorem ms_apply (z : S4096x1.Idx) (i : Fin 4096) (h : (z 0).val = i.val) : val_main_v6 (F := Ideal) x0 z
    = Ideal.div (∑ k, x0 (ix2 i k) * x0 (ix2 i k)) width + tiny := by
  rw [val_main_v6_apply, val_main_v5_apply, val_main_cst_1_apply, val_main_v4_apply, val_main_v3_apply, val_main_cst_0_apply,
    val_main_v2_apply, val_main_v1_apply, val_main_cst_apply, zero_bits, zero_add]
  refine congrArg₂ (· + ·) (congrArg₂ Ideal.div (Finset.sum_congr rfl fun k _ => ?_) rfl) rfl
  rw [val_main_v0_apply]
  have e : idx_main_v1 (idx_main_v2 z) k = ix2 i k := (eq_ix2 _).trans (congrArg₂ ix2 (Fin.ext h) rfl)
  rw [e]
  rfl

theorem inv_ref (z : S4096x1.Idx) (i : Fin 4096) (h : (z 0).val = i.val) :
    val_main_v7 (F := Ideal) x0 z = Dx.inv fun k => x0 (ix2 i k) := by
  rw [val_main_v7_apply, ms_apply x0 z i h]
  rfl

theorem normed_ref (i : Fin 4096) (n : Fin 1024) :
    val_main_v12 (F := Ideal) x0 (ix2 i n) = x0 (ix2 i n) * Dx.inv fun k => x0 (ix2 i k) := by
  rw [val_main_v12_apply, val_main_v11_apply, inv_ref x0 _ i rfl]
  rfl

theorem cot_ref (i : Fin 4096) (n : Fin 1024) : val_main_v17 (F := Ideal) x2 x3 (ix2 i n) = cot x2 x3 i n := by
  rw [val_main_v17_apply]
  unfold cot mmT
  exact Finset.sum_congr rfl fun k _ => congrArg₂ (· * ·) (congrArg _ (eq_ix2 _)) (congrArg _ (eq_ix2 _))

theorem scaled_ref (i : Fin 4096) (n : Fin 1024) :
    val_main_v22 (F := Ideal) x1 x2 x3 (ix2 i n) = cot x2 x3 i n * x1 (ix1 n) := by
  rw [val_main_v22_apply, cot_ref, val_main_v21_apply, val_main_v13_apply]
  exact congrArg₂ (· * ·) rfl (congrArg _ (eq_ix1 _))

/-- The reference's gradient of the gain. -/
theorem ref_dg : val_main_v39 (F := Ideal) x0 x2 x3 = fun y => ∑ i, dgRow x0 x2 x3 (y 1) i := by
  funext y
  obtain ⟨i, n, rfl⟩ : ∃ (i : Fin 1) (n : Fin 1024), y = ix2 i n := ⟨y 0, y 1, eq_ix2 y⟩
  rw [val_main_v39_apply, val_main_v23_apply, val_main_cst_4_apply, zero_bits, zero_add, Fin.sum_univ_one, val_main_v20_apply,
    val_main_v19_apply, val_main_cst_3_apply, zero_bits, zero_add]
  refine Finset.sum_congr rfl fun k _ => ?_
  have e : idx_main_v19 (idx_main_v20 (idx_main_v23 (idx_main_v39 (ix2 i n)) 0)) k = ix2 k n :=
    (eq_ix2 _).trans (congrArg₂ ix2 rfl (Fin.ext (by show 0 * 1024 + (i.val * 1024 + n.val) = n.val; omega)))
  rw [e, val_main_v18_apply, normed_ref, cot_ref]
  exact mul_comm _ _

/-- The reference's gradient of the inputs, by the chain rule. -/
theorem ref_dx (i : Fin 4096) (n : Fin 1024) : val_main_v38 (F := Ideal) x0 x1 x2 x3 x4 (ix2 i n)
    = chain (fun k => x0 (ix2 i k)) (fun k => x1 (ix1 k)) (cot x2 x3 i) (x4 (ix2 i n)) n := by
  have hp : val_main_v34 (F := Ideal) x0 x1 x2 x3 (ix2 i n)
      = Ideal.div ((∑ k, x0 (ix2 i k) * (cot x2 x3 i k * x1 (ix1 k))) * (Ideal.ofBits .f32 0xBF000000#32
        * Ideal.div (Ideal.rsqrt (Ideal.div (∑ k, x0 (ix2 i k) * x0 (ix2 i k)) width + tiny))
          (Ideal.div (∑ k, x0 (ix2 i k) * x0 (ix2 i k)) width + tiny))) width := by
    rw [val_main_v34_apply, val_main_v33_apply, val_main_cst_7_apply, zero_bits, zero_add, Fin.sum_univ_one, val_main_v32_apply,
      val_main_v31_apply, val_main_cst_6_apply, val_main_v30_apply, val_main_v26_apply, val_main_v25_apply, val_main_cst_5_apply,
      zero_bits, zero_add, val_main_v10_apply, val_main_v9_apply, val_main_cst_2_apply, val_main_v8_apply]
    rw [ms_apply x0 _ i rfl, inv_ref x0 _ i rfl]
    refine congrArg₂ Ideal.div (congrArg₂ (· * ·) (Finset.sum_congr rfl fun k _ => ?_) rfl) rfl
    rw [val_main_v24_apply, ← scaled_ref]
    have e : idx_main_v25 (idx_main_v26 (idx_main_v33 (idx_main_v34 (ix2 i n)) 0)) k = ix2 i k :=
      (eq_ix2 _).trans (congrArg₂ ix2 (Fin.ext (by show i.val * 1 + 0 = i.val; omega)) rfl)
    rw [e]
    rfl
  rw [val_main_v38_apply, val_main_v37_apply, val_main_v36_apply, val_main_v35_apply, val_main_v29_apply, val_main_v28_apply,
    val_main_v27_apply, hp, scaled_ref, inv_ref x0 _ i rfl]
  rfl

end Ffn.MixDx
-- ==== Proof.ProductsReal.lean ====
/-
  A product of matrices of real numbers is a matrix of real numbers.
-/
module

public import proofs.«01_k».proof.Proof.Common
public import proofs.«01_k».proof.Proof.Products

@[expose] public section

noncomputable section

namespace Ffn

open Idealize.ShloMosaic

variable {p q r : ℕ}

theorem mmT_real {a : (⟨2, ![p, q]⟩ : Shape).Idx → EReal} {b : (⟨2, ![r, q]⟩ : Shape).Idx → EReal}
    (ha : ∀ i, a i = ((a i).toReal : EReal)) (hb : ∀ i, b i = ((b i).toReal : EReal)) (i : Fin p) (j : Fin r) :
    mmT a b i j = ((mmT a b i j).toReal : EReal) := by
  have e : mmT a b i j = ((∑ k : Fin q, (a (ix2 i k)).toReal * (b (ix2 j k)).toReal : ℝ) : EReal) := by
    unfold mmT
    rw [Ssd.coe_sum]
    exact Finset.sum_congr rfl fun k _ => by rw [EReal.coe_mul, ← ha, ← hb]
  rw [e, EReal.toReal_coe]

end Ffn

end
-- ==== Proof.MixDxFinite.lean ====
/-
  The gradient to a mixer's inputs on real numbers: the precondition read, and the call's closed form met with the
  reference's.
-/
module

public import proofs.«01_k».proof.Pre_mix_dx_finite
public import proofs.«01_k».proof.Proof.Finite
public import proofs.«01_k».proof.Proof.MixDxRef
public import proofs.«01_k».proof.Proof.ProductsReal

@[expose] public section

set_option maxRecDepth 16384

noncomputable section

namespace Ffn.MixDx

open Idealize.ShloMosaic Cert.Pre_mix_dx_finite

instance : Subsingleton Cert.Pre_mix_dx_finite.S_.Idx := ⟨fun a b => funext fun d => d.elim0⟩

/-- The facts that the precondition's program states. -/
theorem preFacts : Cert.Pre_mix_dx_finite.Facts where
  reducesTo_S4096x1024_S_d0_1 := by decide
  h_S_ := by decide
  reducesTo_S1024_S_d0 := by decide
  reducesTo_S1024x3072_S_d0_1 := by decide
  reducesTo_S4096x3072_S_d0_1 := by decide

variable [Cert.Pre_mix_dx_finite.Facts] {x : FVec Ideal S4096x1024 .f32} {g : FVec Ideal S1024 .f32} {w : FVec Ideal S1024x3072 .f32}
  {d : FVec Ideal S4096x3072 .f32} {o : FVec Ideal S4096x1024 .f32}

/-- Under the precondition the entries of the first four arguments are real numbers. -/
theorem reals (h : fn (F := Ideal) x g w d o = fun _ => 1#1) :
    (∀ i, x i = ((x i : EReal).toReal : EReal)) ∧ (∀ i, g i = ((g i : EReal).toReal : EReal))
      ∧ (∀ i, w i = ((w i : EReal).toReal : EReal)) ∧ (∀ i, d i = ((d i : EReal).toReal : EReal)) := by
  have h' := congrFun h ix0
  dsimp only [fn] at h'
  obtain ⟨h012, h3⟩ := Ssd.and_one h'
  obtain ⟨h01, h2⟩ := Ssd.and_one h012
  obtain ⟨h0, h1⟩ := Ssd.and_one h01
  exact ⟨fun i => Ssd.real_of_max x _ _ _ _ (Ssd.below h0) i, fun i => Ssd.real_of_max g _ _ _ _ (Ssd.below h1) i,
    fun i => Ssd.real_of_max w _ _ _ _ (Ssd.below h2) i, fun i => Ssd.real_of_max d _ _ _ _ (Ssd.below h3) i⟩

/-- The call's closed form is the chain rule's. -/
theorem dx_eq_chain (h : fn (F := Ideal) x g w d o = fun _ => 1#1) (i : Fin 4096) (n : Fin 1024) :
    dx x g w d o i n = Dx.chain (fun k => x (ix2 i k)) (fun k => g (ix1 k)) (cot w d i) (o (ix2 i n)) n := by
  obtain ⟨hx, hg, hw, hd⟩ := reals h
  exact Dx.row_eq_chain_of_real (fun k => hx (ix2 i k)) (fun k => hg (ix1 k)) (fun k => mmT_real hd hw i k) _ n

end Ffn.MixDx

end
-- ==== Proof.MixDwin.lean ====
/-
  The gradient of a mixer's input weights: what a grid point's blocks hold, what it leaves, the result of the call and the
  reference's.
-/
module

public import proofs.«01_k».proof.Proof.Gen.Kernel9Ideal.Value
public import proofs.«01_k».proof.Proof.Gen.Reference9Ideal.Run
public import proofs.«01_k».proof.Proof.Gen.Reference9Ideal.Read
public import Idealize.ShloMosaic.Lib.StableHlo.ReadAt
public import Idealize.ShloMosaic.Lib.Pipeline.ReadBack
public import proofs.«01_k».proof.Proof.Products

@[expose] public section

noncomputable section

namespace Ffn.MixDwin

open Finset Idealize.ShloMosaic Idealize.ShloMosaic.TcCoe
open Cert.Kernel9Ideal Cert.Kernel9Ideal.Gen

/-- Where each window's block lies at each point. -/
theorem at0 : ∀ t : Fin cfg0.N, win0_0.index t = ![t.val % 2, 0] :=
  (by decide +kernel : ∀ t : Fin grid0.N, win0_0.index t = ![t.val % 2, 0])
theorem at1 : ∀ t : Fin cfg0.N, win0_1.index t = ![t.val % 2, t.val / 2] :=
  (by decide +kernel : ∀ t : Fin grid0.N, win0_1.index t = ![t.val % 2, t.val / 2])
theorem at2 : ∀ t : Fin cfg0.N, win0_2.index t = ![0, t.val / 2] :=
  (by decide +kernel : ∀ t : Fin grid0.N, win0_2.index t = ![0, t.val / 2])

theorem lt_N (t : Fin cfg0.N) : t.val < 6 := t.isLt

theorem zero_apply (i j : Fin 1024) : k0_pay1 (F := Ideal) (ix2 i j) = 0 := by
  unfold k0_pay1
  pointwise

/-- Adding a product of two blocks to the accumulator. -/
theorem add_apply (x y : FVec Ideal S2048x1024 .bf16) (z : FVec Ideal S1024x1024 .f32) (i j : Fin 1024) :
    k0_pay2 x y z (ix2 i j) = z (ix2 i j) + tmm x y i j := by
  unfold k0_pay2 tmm
  pointwise

theorem out_apply (z : FVec Ideal S1024x1024 .f32) (i j : Fin 1024) : k0_pay3 (F := Ideal) z (ix2 i j) = z (ix2 i j) := by
  unfold k0_pay3
  pointwise

variable (m : (ℓ : Loc nD τ sig) → Buf (Elt Ideal) ℓ) (c : Dev nD) (t : Fin cfg0.N)

/-- A point's block of the normalized inputs and its block of the gradients. -/
def blkH : FVec Ideal S2048x1024 .bf16 := iblk m c 0 t
def blkG : FVec Ideal S2048x1024 .bf16 := iblk m c 1 t

/-- The first of two points leaves in the accumulator the product of its blocks. -/
theorem outs_A (h : t.val % 2 = 0) (i j : Fin 1024) :
    (outsAt0 m c t.val t.isLt).2 (ix2 i j) = tmm (blkH m c t) (blkG m c t) i j := by
  rw [outsAt0_A m c t h (by omega)]
  frame_out
  refine (add_apply _ _ _ i j).trans ?_
  rw [zero_apply, zero_add]
  rfl

/-- The second of two points adds the product of its blocks and stores the sum. -/
theorem outs_B (h : t.val % 2 = 1) (i j : Fin 1024) :
    (outsAt0 m c t.val t.isLt).1 (ix2 i j)
      = (outsAt0 m c (t.val - 1) (Nat.lt_of_le_of_lt (Nat.sub_le _ _) t.isLt)).2 (ix2 i j) + tmm (blkH m c t) (blkG m c t) i j := by
  rw [outsAt0_B m c t (by omega) h]
  frame_out
  simp only [read_unread_whole]
  exact (out_apply _ i j).trans (add_apply _ _ _ i j)

theorem blkH_apply (k : Fin 2048) (i : Fin 1024) : blkH m c t (ix2 k i)
    = V m c main_v13 (ix2 (⟨2048 * (t.val % 2) + k.val, by omega⟩ : Fin 4096) i) := by
  unfold blkH
  blk_simp [iblk, at0 t]
  congr 1
  blk_ext [at0 t]

theorem blkG_apply (k : Fin 2048) (j : Fin 1024) : blkG m c t (ix2 k j)
    = V m c main_v14 (ix2 (⟨2048 * (t.val % 2) + k.val, by omega⟩ : Fin 4096)
      (⟨1024 * (t.val / 2) + j.val, by have := lt_N t; omega⟩ : Fin 3072)) := by
  unfold blkG
  blk_simp [iblk, at1 t]
  congr 1
  blk_ext [at1 t]

/-- What the host hands to the call: the normalized inputs and the gradients. -/
theorem V_h : V m c main_v13 = Cert.Reference9Ideal.Read.val_main_v12 (F := Ideal) (m (c, Proc.tc.devRef main_arg0))
    (m (c, Proc.tc.devRef main_arg1)) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  rfl

theorem V_g : V m c main_v14 = (m (c, Proc.tc.devRef main_arg3) : FVec Ideal S4096x3072 .f32) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  rfl

/-- The kernel's result: the transposed normalized inputs times the gradients. -/
theorem final : (dats m 0 c).arrAt 2 cfg0.N = fun y => tmm (p := 1024) (q := 4096) (r := 3072)
    (Cert.Reference9Ideal.Read.val_main_v12 (F := Ideal) (m (c, Proc.tc.devRef main_arg0)) (m (c, Proc.tc.devRef main_arg1)))
      (m (c, Proc.tc.devRef main_arg3)) (y 0) (y 1) := by
  refine (dats m 0 c).arrAt_eq_of_covers 2 _ (by decide +kernel) fun t hf y => ?_
  have ht := (flush0_2 t).mp hf
  blk_simp
  obtain ⟨i, j, rfl⟩ : ∃ (i j : Fin 1024), y = ix2 i j := ⟨y 0, y 1, eq_ix2 y⟩
  have e : (win0_2.blk t).view.emb (ix2 i j) = ix2 i (⟨1024 * (t.val / 2) + j.val, by have := lt_N t; omega⟩ : Fin 3072) := by
    blk_ext [at2 t]
  have hp : (t.val - 1) % 2 = 0 := by omega
  rw [after0_2, e]
  refine (outs_B m c t ht i j).trans ?_
  rw [outs_A m c ⟨t.val - 1, Nat.lt_of_le_of_lt (Nat.sub_le _ _) t.isLt⟩ hp i j]
  refine Eq.trans ?_ (sum_halves _).symm
  refine congrArg₂ (· + ·) (Finset.sum_congr rfl fun k _ => ?_) (Finset.sum_congr rfl fun k _ => ?_)
  · rw [blkH_apply, blkG_apply, V_h, V_g]
    refine congrArg₂ (· * ·) (congrArg _ ?_) (congrArg _ ?_)
    · exact congrArg₂ ix2 (Fin.ext (by simp [hp])) rfl
    · exact congrArg₂ ix2 (Fin.ext (by simp [hp])) (Fin.ext (by simp; omega))
  · rw [blkH_apply, blkG_apply, V_h, V_g]
    refine congrArg₂ (· * ·) (congrArg _ ?_) (congrArg _ ?_)
    · exact congrArg₂ ix2 (Fin.ext (by simp [ht])) rfl
    · exact congrArg₂ ix2 (Fin.ext (by simp [ht])) rfl

open Cert.Reference9Ideal.Read in
/-- The reference's result. -/
theorem ref (x0 : FVec Ideal S4096x1024 .f32) (x1 : FVec Ideal S1024 .f32) (x3 : FVec Ideal S4096x3072 .f32) :
    val_main_v16 (F := Ideal) x0 x1 x3
      = fun y => tmm (p := 1024) (q := 4096) (r := 3072) (val_main_v12 (F := Ideal) x0 x1) x3 (y 0) (y 1) := by
  funext y
  refine (val_main_v15_apply (F := Ideal) x0 x1 x3 y).trans ?_
  rw [val_main_v14_apply]
  refine Finset.sum_congr rfl fun k _ => ?_
  exact (mul_comm _ _).trans (congrArg₂ (· * ·) (congrArg _ (eq_ix2 _)) (congrArg _ (eq_ix2 _)))

end Ffn.MixDwin
-- ==== Proof.Qkv.lean ====
/-
  The queries, keys and values: what a grid point's blocks hold, what it leaves, the result of the call and the reference's.
-/
module

public import proofs.«01_k».proof.Proof.Gen.Kernel10Ideal.Value
public import proofs.«01_k».proof.Proof.Gen.Reference10Ideal.Run
public import proofs.«01_k».proof.Proof.Gen.Reference10Ideal.Read
public import Idealize.ShloMosaic.Lib.StableHlo.ReadAt
public import Idealize.ShloMosaic.Lib.Pipeline.ReadBack
public import proofs.«01_k».proof.Proof.Products

@[expose] public section

noncomputable section

namespace Ffn.Qkv

open Finset Idealize.ShloMosaic Idealize.ShloMosaic.TcCoe
open Cert.Kernel10Ideal Cert.Kernel10Ideal.Gen

/-- Where each window's block lies at each point. -/
theorem at0 : ∀ t : Fin cfg0.N, win0_0.index t = ![t.val % 4, 0] :=
  (by decide +kernel : ∀ t : Fin grid0.N, win0_0.index t = ![t.val % 4, 0])
theorem at1 : ∀ t : Fin cfg0.N, win0_1.index t = ![0, t.val / 4] :=
  (by decide +kernel : ∀ t : Fin grid0.N, win0_1.index t = ![0, t.val / 4])
theorem at2 : ∀ t : Fin cfg0.N, win0_2.index t = ![t.val % 4, t.val / 4] :=
  (by decide +kernel : ∀ t : Fin grid0.N, win0_2.index t = ![t.val % 4, t.val / 4])

theorem lt_N (t : Fin cfg0.N) : t.val < 12 := t.isLt

theorem out_apply (h w : FVec Ideal S1024x1024 .bf16) (i j : Fin 1024) : k0_pay1 (F := Ideal) h w (ix2 i j) = mm h w i j := by
  unfold k0_pay1 mm
  pointwise

variable (m : (ℓ : Loc nD τ sig) → Buf (Elt Ideal) ℓ) (c : Dev nD) (t : Fin cfg0.N)

/-- A point's block of the normalized inputs and its block of the weights. -/
def blkH : FVec Ideal S1024x1024 .bf16 := iblk m c 0 t
def blkW : FVec Ideal S1024x1024 .bf16 := iblk m c 1 t

/-- What a point stores. -/
theorem outs (i j : Fin 1024) : (dats m 0 c).after 2 t (ix2 i j) = mm (blkH m c t) (blkW m c t) i j := by
  rw [after0_2]
  unfold out0_2
  refine (canon_hit _ _ _ _ (ix2 i j) fun a => by fin_cases a <;> simp).trans ?_
  refine (out_apply _ _ i j).trans (Finset.sum_congr rfl fun k _ => congrArg₂ (· * ·) ?_ ?_)
  · exact ld_part _ _ _ _ fun a => by fin_cases a <;> simp
  · exact ld_part _ _ _ _ fun a => by fin_cases a <;> simp

theorem blkH_apply (i k : Fin 1024) : blkH m c t (ix2 i k)
    = V m c main_v13 (ix2 (⟨1024 * (t.val % 4) + i.val, by omega⟩ : Fin 4096) k) := by
  unfold blkH
  blk_simp [iblk, at0 t]
  congr 1
  blk_ext [at0 t]

theorem blkW_apply (k j : Fin 1024) : blkW m c t (ix2 k j)
    = V m c main_v14 (ix2 k (⟨1024 * (t.val / 4) + j.val, by have := lt_N t; omega⟩ : Fin 3072)) := by
  unfold blkW
  blk_simp [iblk, at1 t]
  congr 1
  blk_ext [at1 t]

/-- What the host hands to the call: the normalized inputs and the weights. -/
theorem V_h : V m c main_v13 = Cert.Reference10Ideal.Read.val_main_v12 (F := Ideal) (m (c, Proc.tc.devRef main_arg0))
    (m (c, Proc.tc.devRef main_arg1)) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  rfl

theorem V_w : V m c main_v14 = (m (c, Proc.tc.devRef main_arg2) : FVec Ideal S1024x3072 .f32) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  rfl

/-- The kernel's result: the product of the normalized inputs with the weights. -/
theorem final : (dats m 0 c).arrAt 2 cfg0.N = fun y => mm (p := 4096) (q := 1024) (r := 3072)
    (Cert.Reference10Ideal.Read.val_main_v12 (F := Ideal) (m (c, Proc.tc.devRef main_arg0)) (m (c, Proc.tc.devRef main_arg1)))
      (m (c, Proc.tc.devRef main_arg2)) (y 0) (y 1) := by
  refine (dats m 0 c).arrAt_eq_of_covers 2 _ (by decide +kernel) fun t _ y => ?_
  blk_simp
  obtain ⟨i, j, rfl⟩ : ∃ (i j : Fin 1024), y = ix2 i j := ⟨y 0, y 1, eq_ix2 y⟩
  have e : (win0_2.blk t).view.emb (ix2 i j) = ix2 (⟨1024 * (t.val % 4) + i.val, by omega⟩ : Fin 4096)
      (⟨1024 * (t.val / 4) + j.val, by have := lt_N t; omega⟩ : Fin 3072) := by
    blk_ext [at2 t]
  rw [e]
  refine (outs m c t i j).trans (Finset.sum_congr (M := EReal) rfl fun k _ => ?_)
  rw [blkH_apply, blkW_apply, V_h, V_w]
  rfl

open Cert.Reference10Ideal.Read in
/-- The reference's result. -/
theorem ref (x0 : FVec Ideal S4096x1024 .f32) (x1 : FVec Ideal S1024 .f32) (x2 : FVec Ideal S1024x3072 .f32) :
    val_main_v14 (F := Ideal) x0 x1 x2
      = fun y => mm (p := 4096) (q := 1024) (r := 3072) (val_main_v12 (F := Ideal) x0 x1) x2 (y 0) (y 1) := by
  funext y
  refine (val_main_v13_apply x0 x1 x2 y).trans (Finset.sum_congr rfl fun k _ => ?_)
  exact congrArg₂ (· * ·) (congrArg _ (eq_ix2 _)) (congrArg _ (eq_ix2 _))

end Ffn.Qkv
-- ==== Proof.MixOut.lean ====
/-
  A mixer's result added to its input: what a grid point's blocks hold, what it leaves, the result of the call and the
  reference's.
-/
module

public import proofs.«01_k».proof.Proof.Gen.Kernel11Ideal.Value
public import proofs.«01_k».proof.Proof.Gen.Reference11Ideal.Run
public import proofs.«01_k».proof.Proof.Gen.Reference11Ideal.Read
public import Idealize.ShloMosaic.Lib.StableHlo.ReadAt
public import Idealize.ShloMosaic.Lib.Pipeline.ReadBack
public import proofs.«01_k».proof.Proof.Products

@[expose] public section

noncomputable section

namespace Ffn.MixOut

open Finset Idealize.ShloMosaic Idealize.ShloMosaic.TcCoe
open Cert.Kernel11Ideal Cert.Kernel11Ideal.Gen

/-- Where each window's block lies at each point. -/
theorem at0 : ∀ t : Fin cfg0.N, win0_0.index t = ![t.val, 0] :=
  (by decide +kernel : ∀ t : Fin grid0.N, win0_0.index t = ![t.val, 0])
theorem at1 : ∀ t : Fin cfg0.N, win0_1.index t = ![0, 0] :=
  (by decide +kernel : ∀ t : Fin grid0.N, win0_1.index t = ![0, 0])
theorem at2 : ∀ t : Fin cfg0.N, win0_2.index t = ![t.val, 0] :=
  (by decide +kernel : ∀ t : Fin grid0.N, win0_2.index t = ![t.val, 0])
theorem at3 : ∀ t : Fin cfg0.N, win0_3.index t = ![t.val, 0] :=
  (by decide +kernel : ∀ t : Fin grid0.N, win0_3.index t = ![t.val, 0])

theorem lt_N (t : Fin cfg0.N) : t.val < 4 := t.isLt

/-- What is stored: the input and the product. -/
theorem out_apply (a w : FVec Ideal S1024x1024 .bf16) (x : FVec Ideal S1024x1024 .f32) (i j : Fin 1024) :
    k0_pay1 (F := Ideal) a w x (ix2 i j) = x (ix2 i j) + mm a w i j := by
  unfold k0_pay1 mm
  pointwise

variable (m : (ℓ : Loc nD τ sig) → Buf (Elt Ideal) ℓ) (c : Dev nD) (t : Fin cfg0.N)

/-- A point's block of the mixer's result, the weights, and its block of the input. -/
def blkA : FVec Ideal S1024x1024 .bf16 := iblk m c 0 t
def blkW : FVec Ideal S1024x1024 .bf16 := iblk m c 1 t
def blkX : FVec Ideal S1024x1024 .f32 := iblk m c 2 t

/-- What a point stores. -/
theorem outs (i j : Fin 1024) : (dats m 0 c).after 3 t (ix2 i j)
    = blkX m c t (ix2 i j) + mm (blkA m c t) (blkW m c t) i j := by
  rw [after0_3]
  unfold out0_3
  refine (canon_hit _ _ _ _ (ix2 i j) fun a => by fin_cases a <;> simp).trans ?_
  refine (out_apply _ _ _ i j).trans ?_
  refine congrArg₂ (· + ·) (ld_part _ _ _ _ fun a => by fin_cases a <;> simp)
    (Finset.sum_congr rfl fun k _ => congrArg₂ (· * ·) ?_ ?_)
  · exact ld_part _ _ _ _ fun a => by fin_cases a <;> simp
  · exact ld_part _ _ _ _ fun a => by fin_cases a <;> simp

theorem blkA_apply (i k : Fin 1024) : blkA m c t (ix2 i k)
    = V m c main_v0 (ix2 (⟨1024 * t.val + i.val, by have := lt_N t; omega⟩ : Fin 4096) k) := by
  unfold blkA
  blk_simp [iblk, at0 t]
  congr 1
  blk_ext [at0 t]

theorem blkW_apply (k j : Fin 1024) : blkW m c t (ix2 k j) = V m c main_v1 (ix2 k j) := by
  unfold blkW
  blk_simp [iblk, at1 t]
  congr 1
  blk_ext [at1 t]

theorem blkX_apply (i j : Fin 1024) : blkX m c t (ix2 i j)
    = V m c main_arg0 (ix2 (⟨1024 * t.val + i.val, by have := lt_N t; omega⟩ : Fin 4096) j) := by
  unfold blkX
  blk_simp [iblk, at2 t]
  congr 1
  blk_ext [at2 t]

/-- What the host hands to the call: the mixer's result and the weights. -/
theorem V_a : V m c main_v0 = (m (c, Proc.tc.devRef main_arg1) : FVec Ideal S4096x1024 .f32) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  rfl

theorem V_w : V m c main_v1 = (m (c, Proc.tc.devRef main_arg2) : FVec Ideal S1024x1024 .f32) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  rfl

/-- The layer's result: the input and the product of the mixer's result with the weights. -/
def layer (x a : FVec Ideal S4096x1024 .f32) (w : FVec Ideal S1024x1024 .f32) (y : S4096x1024.Idx) : EReal :=
  x (ix2 (y 0) (y 1)) + mm (p := 4096) (q := 1024) (r := 1024) a w (y 0) (y 1)

/-- The kernel's result. -/
theorem final : (dats m 0 c).arrAt 3 cfg0.N = layer (m (c, Proc.tc.devRef main_arg0)) (m (c, Proc.tc.devRef main_arg1))
    (m (c, Proc.tc.devRef main_arg2)) := by
  refine (dats m 0 c).arrAt_eq_of_covers 3 _ (by decide +kernel) fun t _ y => ?_
  blk_simp
  obtain ⟨i, j, rfl⟩ : ∃ (i j : Fin 1024), y = ix2 i j := ⟨y 0, y 1, eq_ix2 y⟩
  have e : (win0_3.blk t).view.emb (ix2 i j) = ix2 (⟨1024 * t.val + i.val, by have := lt_N t; omega⟩ : Fin 4096) j := by
    blk_ext [at3 t]
  rw [e]
  refine (outs m c t i j).trans ?_
  unfold layer
  rw [blkX_apply, V_main_arg0]
  refine congrArg₂ (· + ·) rfl (Finset.sum_congr rfl fun k _ => ?_)
  rw [blkA_apply, blkW_apply, V_a, V_w]
  rfl

open Cert.Reference11Ideal.Read in
/-- The reference's result. -/
theorem ref (x0 x1 : FVec Ideal S4096x1024 .f32) (x2 : FVec Ideal S1024x1024 .f32) :
    val_main_v1 (F := Ideal) x0 x1 x2 = layer x0 x1 x2 := by
  funext y
  rw [val_main_v1_apply, val_main_v0_apply]
  unfold layer
  refine congrArg₂ (· + ·) (congrArg _ (eq_ix2 _)) (Finset.sum_congr rfl fun k _ => ?_)
  exact congrArg₂ (· * ·) (congrArg _ (eq_ix2 _)) (congrArg _ (eq_ix2 _))

end Ffn.MixOut
-- ==== Proof.Do.lean ====
/-
  The gradient of the attention's result: what a grid point's blocks hold, what it leaves, the result of the call and the
  reference's.
-/
module

public import proofs.«01_k».proof.Proof.Gen.Kernel12Ideal.Value
public import proofs.«01_k».proof.Proof.Gen.Reference12Ideal.Run
public import proofs.«01_k».proof.Proof.Gen.Reference12Ideal.Read
public import Idealize.ShloMosaic.Lib.StableHlo.ReadAt
public import Idealize.ShloMosaic.Lib.Pipeline.ReadBack
public import proofs.«01_k».proof.Proof.Products

@[expose] public section

noncomputable section

namespace Ffn.Do

open Finset Idealize.ShloMosaic Idealize.ShloMosaic.TcCoe
open Cert.Kernel12Ideal Cert.Kernel12Ideal.Gen

/-- Where each window's block lies at each point. -/
theorem at0 : ∀ t : Fin cfg0.N, win0_0.index t = ![t.val, 0] :=
  (by decide +kernel : ∀ t : Fin grid0.N, win0_0.index t = ![t.val, 0])
theorem at1 : ∀ t : Fin cfg0.N, win0_1.index t = ![0, 0] :=
  (by decide +kernel : ∀ t : Fin grid0.N, win0_1.index t = ![0, 0])
theorem at2 : ∀ t : Fin cfg0.N, win0_2.index t = ![t.val, 0] :=
  (by decide +kernel : ∀ t : Fin grid0.N, win0_2.index t = ![t.val, 0])

theorem lt_N (t : Fin cfg0.N) : t.val < 4 := t.isLt

theorem out_apply (d : FVec Ideal S1024x1024 .f32) (w : FVec Ideal S1024x1024 .bf16) (i j : Fin 1024) :
    k0_pay1 (F := Ideal) d w (ix2 i j) = mmT d w i j := by
  unfold k0_pay1 mmT
  pointwise

variable (m : (ℓ : Loc nD τ sig) → Buf (Elt Ideal) ℓ) (c : Dev nD) (t : Fin cfg0.N)

/-- A point's block of the gradients and the weights. -/
def blkD : FVec Ideal S1024x1024 .f32 := iblk m c 0 t
def blkW : FVec Ideal S1024x1024 .bf16 := iblk m c 1 t

/-- What a point stores. -/
theorem outs (i j : Fin 1024) : (dats m 0 c).after 2 t (ix2 i j) = mmT (blkD m c t) (blkW m c t) i j := by
  rw [after0_2]
  unfold out0_2
  refine (canon_hit _ _ _ _ (ix2 i j) fun a => by fin_cases a <;> simp).trans ?_
  refine (out_apply _ _ i j).trans (Finset.sum_congr rfl fun k _ => congrArg₂ (· * ·) ?_ ?_)
  · exact ld_part _ _ _ _ fun a => by fin_cases a <;> simp
  · exact ld_part _ _ _ _ fun a => by fin_cases a <;> simp

theorem blkD_apply (i k : Fin 1024) : blkD m c t (ix2 i k)
    = V m c main_arg2 (ix2 (⟨1024 * t.val + i.val, by have := lt_N t; omega⟩ : Fin 4096) k) := by
  unfold blkD
  blk_simp [iblk, at0 t]
  congr 1
  blk_ext [at0 t]

theorem blkW_apply (j k : Fin 1024) : blkW m c t (ix2 j k) = V m c main_v0 (ix2 j k) := by
  unfold blkW
  blk_simp [iblk, at1 t]
  congr 1
  blk_ext [at1 t]

/-- What the host hands to the call: the weights. -/
theorem V_w : V m c main_v0 = (m (c, Proc.tc.devRef main_arg1) : FVec Ideal S1024x1024 .f32) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  rfl

/-- The kernel's result: the gradients times the transposed weights. -/
theorem final : (dats m 0 c).arrAt 2 cfg0.N = fun y => mmT (p := 4096) (q := 1024) (r := 1024)
    (m (c, Proc.tc.devRef main_arg2)) (m (c, Proc.tc.devRef main_arg1)) (y 0) (y 1) := by
  refine (dats m 0 c).arrAt_eq_of_covers 2 _ (by decide +kernel) fun t _ y => ?_
  blk_simp
  obtain ⟨i, j, rfl⟩ : ∃ (i j : Fin 1024), y = ix2 i j := ⟨y 0, y 1, eq_ix2 y⟩
  have e : (win0_2.blk t).view.emb (ix2 i j) = ix2 (⟨1024 * t.val + i.val, by have := lt_N t; omega⟩ : Fin 4096) j := by
    blk_ext [at2 t]
  rw [e]
  refine (outs m c t i j).trans (Finset.sum_congr (M := EReal) rfl fun k _ => ?_)
  rw [blkD_apply, blkW_apply, V_main_arg2, V_w]
  rfl

open Cert.Reference12Ideal.Read in
/-- The reference's result. -/
theorem ref (x1 : FVec Ideal S1024x1024 .f32) (x2 : FVec Ideal S4096x1024 .f32) :
    val_main_v2 (F := Ideal) x1 x2 = fun y => mmT (p := 4096) (q := 1024) (r := 1024) x2 x1 (y 0) (y 1) := by
  funext y
  refine (val_main_v1_apply x1 x2 y).trans (Finset.sum_congr rfl fun k _ => ?_)
  exact congrArg₂ (· * ·) (congrArg _ (eq_ix2 _)) (congrArg _ (eq_ix2 _))

end Ffn.Do
-- ==== Proof.MixDwout.lean ====
/-
  The gradient of a mixer's output weights: what a grid point's blocks hold, what it leaves, the result of the call and the
  reference's.
-/
module

public import proofs.«01_k».proof.Proof.Gen.Kernel13Ideal.Value
public import proofs.«01_k».proof.Proof.Gen.Reference13Ideal.Run
public import proofs.«01_k».proof.Proof.Gen.Reference13Ideal.Read
public import Idealize.ShloMosaic.Lib.StableHlo.ReadAt
public import Idealize.ShloMosaic.Lib.Pipeline.ReadBack
public import proofs.«01_k».proof.Proof.MixDwin
public import proofs.«01_k».proof.Proof.Products

@[expose] public section

noncomputable section

namespace Ffn.MixDwout

open Finset Idealize.ShloMosaic Idealize.ShloMosaic.TcCoe
open Cert.Kernel13Ideal Cert.Kernel13Ideal.Gen

/-- Where each window's block lies at each point. -/
theorem at0 : ∀ t : Fin cfg0.N, win0_0.index t = ![t.val, 0] :=
  (by decide +kernel : ∀ t : Fin grid0.N, win0_0.index t = ![t.val, 0])
theorem at1 : ∀ t : Fin cfg0.N, win0_1.index t = ![t.val, 0] :=
  (by decide +kernel : ∀ t : Fin grid0.N, win0_1.index t = ![t.val, 0])
theorem at2 : ∀ t : Fin cfg0.N, win0_2.index t = ![0, 0] :=
  (by decide +kernel : ∀ t : Fin grid0.N, win0_2.index t = ![0, 0])

theorem lt_N (t : Fin cfg0.N) : t.val < 2 := t.isLt

theorem zero_apply (i j : Fin 1024) : k0_pay1 (F := Ideal) (ix2 i j) = 0 := MixDwin.zero_apply i j

/-- Adding a product of two blocks to the accumulator. -/
theorem add_apply (x : FVec Ideal S2048x1024 .bf16) (y : FVec Ideal S2048x1024 .f32) (z : FVec Ideal S1024x1024 .f32)
    (i j : Fin 1024) : k0_pay2 x y z (ix2 i j) = z (ix2 i j) + tmm x y i j := by
  unfold k0_pay2 tmm
  pointwise

theorem out_apply (z : FVec Ideal S1024x1024 .f32) (i j : Fin 1024) : k0_pay3 (F := Ideal) z (ix2 i j) = z (ix2 i j) := MixDwin.out_apply z i j

variable (m : (ℓ : Loc nD τ sig) → Buf (Elt Ideal) ℓ) (c : Dev nD) (t : Fin cfg0.N)

/-- A point's block of the mixer's result and its block of the gradients. -/
def blkA : FVec Ideal S2048x1024 .bf16 := iblk m c 0 t
def blkG : FVec Ideal S2048x1024 .f32 := iblk m c 1 t

/-- The first point leaves in the accumulator the product of its blocks. -/
theorem outs_A (h : t.val % 2 = 0) (i j : Fin 1024) :
    (outsAt0 m c t.val t.isLt).2 (ix2 i j) = tmm (blkA m c t) (blkG m c t) i j := by
  rw [outsAt0_A m c t h (by omega)]
  frame_out
  refine (add_apply _ _ _ i j).trans ?_
  rw [zero_apply, zero_add]
  rfl

/-- The second point adds the product of its blocks and stores the sum. -/
theorem outs_B (h : t.val % 2 = 1) (i j : Fin 1024) :
    (outsAt0 m c t.val t.isLt).1 (ix2 i j)
      = (outsAt0 m c (t.val - 1) (Nat.lt_of_le_of_lt (Nat.sub_le _ _) t.isLt)).2 (ix2 i j) + tmm (blkA m c t) (blkG m c t) i j := by
  rw [outsAt0_B m c t (by omega) h]
  frame_out
  simp only [read_unread_whole]
  exact (out_apply _ i j).trans (add_apply _ _ _ i j)

theorem blkA_apply (k : Fin 2048) (i : Fin 1024) : blkA m c t (ix2 k i)
    = V m c main_v0 (ix2 (⟨2048 * t.val + k.val, by have := lt_N t; omega⟩ : Fin 4096) i) := by
  unfold blkA
  blk_simp [iblk, at0 t]
  congr 1
  blk_ext [at0 t]

theorem blkG_apply (k : Fin 2048) (j : Fin 1024) : blkG m c t (ix2 k j)
    = V m c main_arg2 (ix2 (⟨2048 * t.val + k.val, by have := lt_N t; omega⟩ : Fin 4096) j) := by
  unfold blkG
  blk_simp [iblk, at1 t]
  congr 1
  blk_ext [at1 t]

/-- What the host hands to the call: the mixer's result. -/
theorem V_a : V m c main_v0 = (m (c, Proc.tc.devRef main_arg0) : FVec Ideal S4096x1024 .f32) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  rfl

/-- The kernel's result: the transposed result of the mixer times the gradients. -/
theorem final : (dats m 0 c).arrAt 2 cfg0.N = fun y => tmm (p := 1024) (q := 4096) (r := 1024)
    (m (c, Proc.tc.devRef main_arg0)) (m (c, Proc.tc.devRef main_arg2)) (y 0) (y 1) := by
  refine (dats m 0 c).arrAt_eq_of_covers 2 _ (by decide +kernel) fun t hf y => ?_
  have ht := (flush0_2 t).mp hf
  have h1 : t.val = 1 := by have := lt_N t; omega
  blk_simp
  obtain ⟨i, j, rfl⟩ : ∃ (i j : Fin 1024), y = ix2 i j := ⟨y 0, y 1, eq_ix2 y⟩
  have e : (win0_2.blk t).view.emb (ix2 i j) = ix2 i j := by
    blk_ext [at2 t]
  rw [after0_2, e]
  refine (outs_B m c t ht i j).trans ?_
  rw [outs_A m c ⟨t.val - 1, Nat.lt_of_le_of_lt (Nat.sub_le _ _) t.isLt⟩ (by show (t.val - 1) % 2 = 0; omega) i j]
  refine Eq.trans ?_ (sum_halves _).symm
  refine congrArg₂ (· + ·) (Finset.sum_congr rfl fun k _ => ?_) (Finset.sum_congr rfl fun k _ => ?_)
  · rw [blkA_apply, blkG_apply, V_a, V_main_arg2]
    refine congrArg₂ (· * ·) (congrArg _ ?_) (congrArg _ ?_)
    · exact congrArg₂ ix2 (Fin.ext (by simp [h1])) rfl
    · exact congrArg₂ ix2 (Fin.ext (by simp [h1])) rfl
  · rw [blkA_apply, blkG_apply, V_a, V_main_arg2]
    refine congrArg₂ (· * ·) (congrArg _ ?_) (congrArg _ ?_)
    · exact congrArg₂ ix2 (Fin.ext (by simp [h1])) rfl
    · exact congrArg₂ ix2 (Fin.ext (by simp [h1])) rfl

open Cert.Reference13Ideal.Read in
/-- The reference's result. -/
theorem ref (x0 x2 : FVec Ideal S4096x1024 .f32) :
    val_main_v3 (F := Ideal) x0 x2 = fun y => tmm (p := 1024) (q := 4096) (r := 1024) x0 x2 (y 0) (y 1) := by
  funext y
  refine (val_main_v2_apply (F := Ideal) x0 x2 y).trans ?_
  rw [val_main_v1_apply]
  refine Finset.sum_congr rfl fun k _ => ?_
  exact (mul_comm _ _).trans (congrArg₂ (· * ·) (congrArg _ (eq_ix2 _)) (congrArg _ (eq_ix2 _)))

end Ffn.MixDwout
-- ==== Proof.ScIn.lean ====
/-
  The three gates of the short convolution: what a grid point's blocks hold, what it leaves, the result of the call and the reference's.
-/
module

public import proofs.«01_k».proof.Proof.Gen.Kernel14Ideal.Value
public import proofs.«01_k».proof.Proof.Gen.Reference14Ideal.Run
public import proofs.«01_k».proof.Proof.Gen.Reference14Ideal.Read
public import Idealize.ShloMosaic.Lib.StableHlo.ReadAt
public import Idealize.ShloMosaic.Lib.Pipeline.ReadBack
public import proofs.«01_k».proof.Proof.Qkv

@[expose] public section

noncomputable section

namespace Ffn.ScIn

open Finset Idealize.ShloMosaic Idealize.ShloMosaic.TcCoe
open Cert.Kernel14Ideal Cert.Kernel14Ideal.Gen

/-- Where each window's block lies at each point. -/
theorem at0 : ∀ t : Fin cfg0.N, win0_0.index t = ![t.val % 4, 0] :=
  (by decide +kernel : ∀ t : Fin grid0.N, win0_0.index t = ![t.val % 4, 0])
theorem at1 : ∀ t : Fin cfg0.N, win0_1.index t = ![0, t.val / 4] :=
  (by decide +kernel : ∀ t : Fin grid0.N, win0_1.index t = ![0, t.val / 4])
theorem at2 : ∀ t : Fin cfg0.N, win0_2.index t = ![t.val % 4, t.val / 4] :=
  (by decide +kernel : ∀ t : Fin grid0.N, win0_2.index t = ![t.val % 4, t.val / 4])

theorem lt_N (t : Fin cfg0.N) : t.val < 12 := t.isLt

theorem out_apply (h w : FVec Ideal S1024x1024 .bf16) (i j : Fin 1024) : k0_pay1 (F := Ideal) h w (ix2 i j) = mm h w i j := Qkv.out_apply h w i j

variable (m : (ℓ : Loc nD τ sig) → Buf (Elt Ideal) ℓ) (c : Dev nD) (t : Fin cfg0.N)

/-- A point's block of the normalized inputs and its block of the weights. -/
def blkH : FVec Ideal S1024x1024 .bf16 := iblk m c 0 t
def blkW : FVec Ideal S1024x1024 .bf16 := iblk m c 1 t

/-- What a point stores. -/
theorem outs (i j : Fin 1024) : (dats m 0 c).after 2 t (ix2 i j) = mm (blkH m c t) (blkW m c t) i j := by
  rw [after0_2]
  unfold out0_2
  refine (canon_hit _ _ _ _ (ix2 i j) fun a => by fin_cases a <;> simp).trans ?_
  refine (out_apply _ _ i j).trans (Finset.sum_congr rfl fun k _ => congrArg₂ (· * ·) ?_ ?_)
  · exact ld_part _ _ _ _ fun a => by fin_cases a <;> simp
  · exact ld_part _ _ _ _ fun a => by fin_cases a <;> simp

theorem blkH_apply (i k : Fin 1024) : blkH m c t (ix2 i k)
    = V m c main_v13 (ix2 (⟨1024 * (t.val % 4) + i.val, by omega⟩ : Fin 4096) k) := by
  unfold blkH
  blk_simp [iblk, at0 t]
  congr 1
  blk_ext [at0 t]

theorem blkW_apply (k j : Fin 1024) : blkW m c t (ix2 k j)
    = V m c main_v14 (ix2 k (⟨1024 * (t.val / 4) + j.val, by have := lt_N t; omega⟩ : Fin 3072)) := by
  unfold blkW
  blk_simp [iblk, at1 t]
  congr 1
  blk_ext [at1 t]

/-- What the host hands to the call: the normalized inputs and the weights. -/
theorem V_h : V m c main_v13 = Cert.Reference14Ideal.Read.val_main_v12 (F := Ideal) (m (c, Proc.tc.devRef main_arg0))
    (m (c, Proc.tc.devRef main_arg1)) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  rfl

theorem V_w : V m c main_v14 = (m (c, Proc.tc.devRef main_arg2) : FVec Ideal S1024x3072 .f32) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  rfl

/-- The kernel's result: the product of the normalized inputs with the weights. -/
theorem final : (dats m 0 c).arrAt 2 cfg0.N = fun y => mm (p := 4096) (q := 1024) (r := 3072)
    (Cert.Reference14Ideal.Read.val_main_v12 (F := Ideal) (m (c, Proc.tc.devRef main_arg0)) (m (c, Proc.tc.devRef main_arg1)))
      (m (c, Proc.tc.devRef main_arg2)) (y 0) (y 1) := by
  refine (dats m 0 c).arrAt_eq_of_covers 2 _ (by decide +kernel) fun t _ y => ?_
  blk_simp
  obtain ⟨i, j, rfl⟩ : ∃ (i j : Fin 1024), y = ix2 i j := ⟨y 0, y 1, eq_ix2 y⟩
  have e : (win0_2.blk t).view.emb (ix2 i j) = ix2 (⟨1024 * (t.val % 4) + i.val, by omega⟩ : Fin 4096)
      (⟨1024 * (t.val / 4) + j.val, by have := lt_N t; omega⟩ : Fin 3072) := by
    blk_ext [at2 t]
  rw [e]
  refine (outs m c t i j).trans (Finset.sum_congr (M := EReal) rfl fun k _ => ?_)
  rw [blkH_apply, blkW_apply, V_h, V_w]
  rfl

open Cert.Reference14Ideal.Read in
/-- The reference's result: it is the reference of the queries, keys and values. -/
theorem ref (x0 : FVec Ideal S4096x1024 .f32) (x1 : FVec Ideal S1024 .f32) (x2 : FVec Ideal S1024x3072 .f32) :
    val_main_v13 (F := Ideal) x0 x1 x2
      = fun y => mm (p := 4096) (q := 1024) (r := 3072) (val_main_v12 (F := Ideal) x0 x1) x2 (y 0) (y 1) := Qkv.ref x0 x1 x2

end Ffn.ScIn
-- ==== Proof.Dbu.lean ====
/-
  The gradient of the gated short convolution: what a grid point's blocks hold, what it leaves, the result of the call and the
  reference's.
-/
module

public import proofs.«01_k».proof.Proof.Gen.Kernel15Ideal.Value
public import proofs.«01_k».proof.Proof.Gen.Reference15Ideal.Run
public import proofs.«01_k».proof.Proof.Gen.Reference15Ideal.Read
public import Idealize.ShloMosaic.Lib.StableHlo.ReadAt
public import Idealize.ShloMosaic.Lib.Pipeline.ReadBack
public import proofs.«01_k».proof.Proof.Do

@[expose] public section

noncomputable section

namespace Ffn.Dbu

open Finset Idealize.ShloMosaic Idealize.ShloMosaic.TcCoe
open Cert.Kernel15Ideal Cert.Kernel15Ideal.Gen

/-- Where each window's block lies at each point. -/
theorem at0 : ∀ t : Fin cfg0.N, win0_0.index t = ![t.val, 0] :=
  (by decide +kernel : ∀ t : Fin grid0.N, win0_0.index t = ![t.val, 0])
theorem at1 : ∀ t : Fin cfg0.N, win0_1.index t = ![0, 0] :=
  (by decide +kernel : ∀ t : Fin grid0.N, win0_1.index t = ![0, 0])
theorem at2 : ∀ t : Fin cfg0.N, win0_2.index t = ![t.val, 0] :=
  (by decide +kernel : ∀ t : Fin grid0.N, win0_2.index t = ![t.val, 0])

theorem lt_N (t : Fin cfg0.N) : t.val < 4 := t.isLt

theorem out_apply (d : FVec Ideal S1024x1024 .f32) (w : FVec Ideal S1024x1024 .bf16) (i j : Fin 1024) :
    k0_pay1 (F := Ideal) d w (ix2 i j) = mmT d w i j := Do.out_apply d w i j

variable (m : (ℓ : Loc nD τ sig) → Buf (Elt Ideal) ℓ) (c : Dev nD) (t : Fin cfg0.N)

/-- A point's block of the gradients and the weights. -/
def blkD : FVec Ideal S1024x1024 .f32 := iblk m c 0 t
def blkW : FVec Ideal S1024x1024 .bf16 := iblk m c 1 t

/-- What a point stores. -/
theorem outs (i j : Fin 1024) : (dats m 0 c).after 2 t (ix2 i j) = mmT (blkD m c t) (blkW m c t) i j := by
  rw [after0_2]
  unfold out0_2
  refine (canon_hit _ _ _ _ (ix2 i j) fun a => by fin_cases a <;> simp).trans ?_
  refine (out_apply _ _ i j).trans (Finset.sum_congr rfl fun k _ => congrArg₂ (· * ·) ?_ ?_)
  · exact ld_part _ _ _ _ fun a => by fin_cases a <;> simp
  · exact ld_part _ _ _ _ fun a => by fin_cases a <;> simp

theorem blkD_apply (i k : Fin 1024) : blkD m c t (ix2 i k)
    = V m c main_arg2 (ix2 (⟨1024 * t.val + i.val, by have := lt_N t; omega⟩ : Fin 4096) k) := by
  unfold blkD
  blk_simp [iblk, at0 t]
  congr 1
  blk_ext [at0 t]

theorem blkW_apply (j k : Fin 1024) : blkW m c t (ix2 j k) = V m c main_v0 (ix2 j k) := by
  unfold blkW
  blk_simp [iblk, at1 t]
  congr 1
  blk_ext [at1 t]

/-- What the host hands to the call: the weights. -/
theorem V_w : V m c main_v0 = (m (c, Proc.tc.devRef main_arg1) : FVec Ideal S1024x1024 .f32) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  rfl

/-- The kernel's result: the gradients times the transposed weights. -/
theorem final : (dats m 0 c).arrAt 2 cfg0.N = fun y => mmT (p := 4096) (q := 1024) (r := 1024)
    (m (c, Proc.tc.devRef main_arg2)) (m (c, Proc.tc.devRef main_arg1)) (y 0) (y 1) := by
  refine (dats m 0 c).arrAt_eq_of_covers 2 _ (by decide +kernel) fun t _ y => ?_
  blk_simp
  obtain ⟨i, j, rfl⟩ : ∃ (i j : Fin 1024), y = ix2 i j := ⟨y 0, y 1, eq_ix2 y⟩
  have e : (win0_2.blk t).view.emb (ix2 i j) = ix2 (⟨1024 * t.val + i.val, by have := lt_N t; omega⟩ : Fin 4096) j := by
    blk_ext [at2 t]
  rw [e]
  refine (outs m c t i j).trans (Finset.sum_congr (M := EReal) rfl fun k _ => ?_)
  rw [blkD_apply, blkW_apply, V_main_arg2, V_w]
  rfl

open Cert.Reference15Ideal.Read in
/-- The reference's result: it is the reference of the gradient of the attention's result. -/
theorem ref (x1 : FVec Ideal S1024x1024 .f32) (x2 : FVec Ideal S4096x1024 .f32) :
    val_main_v1 (F := Ideal) x1 x2 = fun y => mmT (p := 4096) (q := 1024) (r := 1024) x2 x1 (y 0) (y 1) := Do.ref x1 x2

end Ffn.Dbu
-- ==== Proof.Mixers.lean ====
/-
  The claims of the calls around the attention and the short convolution: each reference runs and changes no argument, and
  each call gives its reference's results.
-/
module

public import proofs.«01_k».proof.Defs
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.MixDxFinite
public import proofs.«01_k».proof.Proof.MixDwin
public import proofs.«01_k».proof.Proof.Qkv
public import proofs.«01_k».proof.Proof.MixOut
public import proofs.«01_k».proof.Proof.Do
public import proofs.«01_k».proof.Proof.MixDwout
public import proofs.«01_k».proof.Proof.ScIn
public import proofs.«01_k».proof.Proof.Dbu
public import Idealize.ShloMosaic.Adequacy
public import Idealize.ShloMosaic.Init

@[expose] public section

noncomputable section

namespace Ffn

open Idealize.ShloMosaic Idealize.ShloMosaic.TcCoe Idealize.SL.Sem

/-- The reference of the gradients of a mixer's inputs and gain runs and changes no argument. -/
theorem frame8 : Cert.quiescent_Reference8Ideal (hReference8Ideal := Cert.Reference8Ideal.Gen.facts) := fun m g _ =>
  (θ_run _ _ _).mono (fun r h => ⟨fun c => (h c).2.2, sem_eq_zero_of_no_sems (by decide) r.2⟩) (Cert.Reference8Ideal.Value.run m g)

/-- The reference of the gradient of a mixer's input weights runs and changes no argument. -/
theorem frame9 : Cert.quiescent_Reference9Ideal (hReference9Ideal := Cert.Reference9Ideal.Gen.facts) := fun m g _ =>
  (θ_run _ _ _).mono (fun r h => ⟨fun c => (h c).2, sem_eq_zero_of_no_sems (by decide) r.2⟩) (Cert.Reference9Ideal.Value.run m g)

/-- The reference of the queries, keys and values runs and changes no argument. -/
theorem frame10 : Cert.quiescent_Reference10Ideal (hReference10Ideal := Cert.Reference10Ideal.Gen.facts) := fun m g _ =>
  (θ_run _ _ _).mono (fun r h => ⟨fun c => (h c).2, sem_eq_zero_of_no_sems (by decide) r.2⟩) (Cert.Reference10Ideal.Value.run m g)

/-- The reference of a mixer's layer runs and changes no argument. -/
theorem frame11 : Cert.quiescent_Reference11Ideal (hReference11Ideal := Cert.Reference11Ideal.Gen.facts) := fun m g _ =>
  (θ_run _ _ _).mono (fun r h => ⟨fun c => (h c).2, sem_eq_zero_of_no_sems (by decide) r.2⟩) (Cert.Reference11Ideal.Value.run m g)

/-- The reference of the gradient of the attention's result runs and changes no argument. -/
theorem frame12 : Cert.quiescent_Reference12Ideal (hReference12Ideal := Cert.Reference12Ideal.Gen.facts) := fun m g _ =>
  (θ_run _ _ _).mono (fun r h => ⟨fun c => (h c).2, sem_eq_zero_of_no_sems (by decide) r.2⟩) (Cert.Reference12Ideal.Value.run m g)

/-- The reference of the gradient of a mixer's output weights runs and changes no argument. -/
theorem frame13 : Cert.quiescent_Reference13Ideal (hReference13Ideal := Cert.Reference13Ideal.Gen.facts) := fun m g _ =>
  (θ_run _ _ _).mono (fun r h => ⟨fun c => (h c).2, sem_eq_zero_of_no_sems (by decide) r.2⟩) (Cert.Reference13Ideal.Value.run m g)

/-- The reference of the three gates of the short convolution runs and changes no argument. -/
theorem frame14 : Cert.quiescent_Reference14Ideal (hReference14Ideal := Cert.Reference14Ideal.Gen.facts) := fun m g _ =>
  (θ_run _ _ _).mono (fun r h => ⟨fun c => (h c).2, sem_eq_zero_of_no_sems (by decide) r.2⟩) (Cert.Reference14Ideal.Value.run m g)

/-- The reference of the gradient of the gated short convolution runs and changes no argument. -/
theorem frame15 : Cert.quiescent_Reference15Ideal (hReference15Ideal := Cert.Reference15Ideal.Gen.facts) := fun m g _ =>
  (θ_run _ _ _).mono (fun r h => ⟨fun c => (h c).2, sem_eq_zero_of_no_sems (by decide) r.2⟩) (Cert.Reference15Ideal.Value.run m g)

/-- The gradients of a mixer's inputs and gain: the call gives the reference's. -/
theorem algebraic8 : Cert.algebraic_Kernel8Ideal_Reference8Ideal_pre_mix_dx_finite (hKernel8Ideal := Cert.Kernel8Ideal.Gen.facts)
    (hReference8Ideal := Cert.Reference8Ideal.Gen.facts) (hPre_mix_dx_finite := MixDx.preFacts) := by
  intro m g m' g' hpre hargs
  have := MixDx.preFacts
  refine ⟨_, _, Cert.Kernel8Ideal.Value.run_blocks m g, ?_⟩
  refine (θ_run _ _ _).mono (fun r h c => ?_) (Cert.Reference8Ideal.Value.run m' g')
  obtain ⟨h0, h1, hk⟩ := h c
  obtain ⟨a0, a1, a2, a3, a4⟩ := hargs c
  refine ⟨h0.trans ((Cert.Reference8Ideal.Read.val_main_v38_eq m' c).trans ?_),
    h1.trans (((Cert.Reference8Ideal.Read.val_main_v39_eq _ _ _).trans (MixDx.ref_dg _ _ _)).trans ?_), hk⟩
  · rw [a0, a1, a2, a3, a4]
    refine (funext fun y => ?_ : _ = fun y => MixDx.dx _ _ _ _ _ (y 0) (y 1)).trans (MixDx.final_dx m c).symm
    exact (congrArg _ (eq_ix2 y)).trans ((MixDx.ref_dx _ _ _ _ _ (y 0) (y 1)).trans (MixDx.dx_eq_chain (hpre c) (y 0) (y 1)).symm)
  · rw [a0, a2, a3]
    exact (MixDx.final_dg m c).symm

/-- The gradient of a mixer's input weights: the call gives the reference's. -/
theorem algebraic9 : Cert.algebraic_Kernel9Ideal_Reference9Ideal (hKernel9Ideal := Cert.Kernel9Ideal.Gen.facts)
    (hReference9Ideal := Cert.Reference9Ideal.Gen.facts) := by
  intro m g m' g' _ hargs
  refine ⟨_, Cert.Kernel9Ideal.Value.run_blocks m g, ?_⟩
  refine (θ_run _ _ _).mono (fun r h c => ?_) (Cert.Reference9Ideal.Value.run m' g')
  obtain ⟨h0, hk⟩ := h c
  obtain ⟨a0, a1, a2, a3⟩ := hargs c
  refine ⟨h0.trans (((Cert.Reference9Ideal.Read.val_main_v16_eq _ _ _).trans (MixDwin.ref _ _ _)).trans ?_), hk⟩
  rw [a0, a1, a3]
  exact (MixDwin.final m c).symm

/-- The queries, keys and values: the call gives the reference's. -/
theorem algebraic10 : Cert.algebraic_Kernel10Ideal_Reference10Ideal (hKernel10Ideal := Cert.Kernel10Ideal.Gen.facts)
    (hReference10Ideal := Cert.Reference10Ideal.Gen.facts) := by
  intro m g m' g' _ hargs
  refine ⟨_, Cert.Kernel10Ideal.Value.run_blocks m g, ?_⟩
  refine (θ_run _ _ _).mono (fun r h c => ?_) (Cert.Reference10Ideal.Value.run m' g')
  obtain ⟨h0, hk⟩ := h c
  obtain ⟨a0, a1, a2⟩ := hargs c
  refine ⟨h0.trans (((Cert.Reference10Ideal.Read.val_main_v14_eq _ _ _).trans (Qkv.ref _ _ _)).trans ?_), hk⟩
  rw [a0, a1, a2]
  exact (Qkv.final m c).symm

/-- A mixer's layer: the call gives the reference's. -/
theorem algebraic11 : Cert.algebraic_Kernel11Ideal_Reference11Ideal (hKernel11Ideal := Cert.Kernel11Ideal.Gen.facts)
    (hReference11Ideal := Cert.Reference11Ideal.Gen.facts) := by
  intro m g m' g' _ hargs
  refine ⟨_, Cert.Kernel11Ideal.Value.run_blocks m g, ?_⟩
  refine (θ_run _ _ _).mono (fun r h c => ?_) (Cert.Reference11Ideal.Value.run m' g')
  obtain ⟨h0, hk⟩ := h c
  obtain ⟨a0, a1, a2⟩ := hargs c
  refine ⟨h0.trans (((Cert.Reference11Ideal.Read.val_main_v1_eq _ _ _).trans (MixOut.ref _ _ _)).trans ?_), hk⟩
  rw [a0, a1, a2]
  exact (MixOut.final m c).symm

/-- The gradient of the attention's result: the call gives the reference's. -/
theorem algebraic12 : Cert.algebraic_Kernel12Ideal_Reference12Ideal (hKernel12Ideal := Cert.Kernel12Ideal.Gen.facts)
    (hReference12Ideal := Cert.Reference12Ideal.Gen.facts) := by
  intro m g m' g' _ hargs
  refine ⟨_, Cert.Kernel12Ideal.Value.run_blocks m g, ?_⟩
  refine (θ_run _ _ _).mono (fun r h c => ?_) (Cert.Reference12Ideal.Value.run m' g')
  obtain ⟨h0, hk⟩ := h c
  obtain ⟨a0, a1, a2⟩ := hargs c
  refine ⟨h0.trans (((Cert.Reference12Ideal.Read.val_main_v2_eq _ _).trans (Do.ref _ _)).trans ?_), hk⟩
  rw [a1, a2]
  exact (Do.final m c).symm

/-- The gradient of a mixer's output weights: the call gives the reference's. -/
theorem algebraic13 : Cert.algebraic_Kernel13Ideal_Reference13Ideal (hKernel13Ideal := Cert.Kernel13Ideal.Gen.facts)
    (hReference13Ideal := Cert.Reference13Ideal.Gen.facts) := by
  intro m g m' g' _ hargs
  refine ⟨_, Cert.Kernel13Ideal.Value.run_blocks m g, ?_⟩
  refine (θ_run _ _ _).mono (fun r h c => ?_) (Cert.Reference13Ideal.Value.run m' g')
  obtain ⟨h0, hk⟩ := h c
  obtain ⟨a0, a1, a2⟩ := hargs c
  refine ⟨h0.trans (((Cert.Reference13Ideal.Read.val_main_v3_eq _ _).trans (MixDwout.ref _ _)).trans ?_), hk⟩
  rw [a0, a2]
  exact (MixDwout.final m c).symm

/-- The three gates of the short convolution: the call gives the reference's. -/
theorem algebraic14 : Cert.algebraic_Kernel14Ideal_Reference14Ideal (hKernel14Ideal := Cert.Kernel14Ideal.Gen.facts)
    (hReference14Ideal := Cert.Reference14Ideal.Gen.facts) := by
  intro m g m' g' _ hargs
  refine ⟨_, Cert.Kernel14Ideal.Value.run_blocks m g, ?_⟩
  refine (θ_run _ _ _).mono (fun r h c => ?_) (Cert.Reference14Ideal.Value.run m' g')
  obtain ⟨h0, hk⟩ := h c
  obtain ⟨a0, a1, a2⟩ := hargs c
  refine ⟨h0.trans (((Cert.Reference14Ideal.Read.val_main_v13_eq _ _ _).trans (ScIn.ref _ _ _)).trans ?_), hk⟩
  rw [a0, a1, a2]
  exact (ScIn.final m c).symm

/-- The gradient of the gated short convolution: the call gives the reference's. -/
theorem algebraic15 : Cert.algebraic_Kernel15Ideal_Reference15Ideal (hKernel15Ideal := Cert.Kernel15Ideal.Gen.facts)
    (hReference15Ideal := Cert.Reference15Ideal.Gen.facts) := by
  intro m g m' g' _ hargs
  refine ⟨_, Cert.Kernel15Ideal.Value.run_blocks m g, ?_⟩
  refine (θ_run _ _ _).mono (fun r h c => ?_) (Cert.Reference15Ideal.Value.run m' g')
  obtain ⟨h0, hk⟩ := h c
  obtain ⟨a0, a1, a2⟩ := hargs c
  refine ⟨h0.trans (((Cert.Reference15Ideal.Read.val_main_v1_eq _ _).trans (Dbu.ref _ _)).trans ?_), hk⟩
  rw [a1, a2]
  exact (Dbu.final m c).symm

end Ffn
-- ==== Proof.Pad.lean ====
/-
  The columns of the state-space layer's input product, padded with zeros from 6176 to 6272.
-/
module

public import Idealize.ShloMosaic.Lib.KernelVsHost
public import proofs.«01_k».proof.Proof.Products

@[expose] public section

noncomputable section

namespace Ffn

open Finset Idealize.ShloMosaic

variable {p q : ℕ}

/-- A matrix of 6176 columns and zeros in 96 further ones. -/
def padCols (x : (⟨2, ![p, 6176]⟩ : Shape).Idx → EReal) (i : Fin p) (j : Fin 6272) : EReal :=
  if h : j.val < 6176 then x (ix2 i ⟨j.val, h⟩) else 0

theorem padCols_in (x : (⟨2, ![p, 6176]⟩ : Shape).Idx → EReal) (i : Fin p) (j : Fin 6272) (h : j.val < 6176) :
    padCols x i j = x (ix2 i ⟨j.val, h⟩) := dif_pos h

theorem padCols_out (x : (⟨2, ![p, 6176]⟩ : Shape).Idx → EReal) (i : Fin p) (j : Fin 6272) (h : ¬ j.val < 6176) :
    padCols x i j = 0 := dif_neg h

/-- The value that the host pads with: the number zero. -/
theorem pad_zero {u : Shape} (y : u.Idx) : sitofp (F := Ideal) .f32 (constantI u 32 0#32) y = (0 : EReal) := by
  show (((0#32 : BitVec 32).toInt : ℝ) : EReal) = 0
  simp

/-- What the host's padding is at an index. -/
theorem pad_cols {u : Shape} (x : (⟨2, ![p, 6176]⟩ : Shape).Idx → EReal) (v : u.Idx → EReal)
    (h : (⟨2, ![p, 6176]⟩ : Shape).Pads ![0, 0] ![0, 96] ![0, 0] ⟨2, ![p, 6272]⟩) (hu : 0 < u.numel) (hv : ∀ y, v y = 0)
    (i : Fin p) (j : Fin 6272) :
    pad (⟨2, ![p, 6272]⟩ : Shape) ![0, 0] ![0, 96] ![0, 0] x v h hu (ix2 i j) = padCols x i j := by
  by_cases hj : j.val < 6176
  · rw [padCols_in x i j hj]
    exact pad_apply_of_inside _ _ _ x v h hu _ (ix2 i ⟨j.val, hj⟩) fun a => by fin_cases a <;> simp
  · rw [padCols_out x i j hj]
    refine (pad_apply_of_not_inside _ _ _ x v h hu _ 1 ?_).trans (hv _)
    simp
    omega

/-- A row of a product with a padded matrix is the padded row of the product. -/
theorem sum_padCols {q : ℕ} (u : Fin q → EReal) (w : (⟨2, ![q, 6176]⟩ : Shape).Idx → EReal)
    (f : (⟨2, ![p, 6176]⟩ : Shape).Idx → EReal) (i : Fin p) (hf : ∀ j, f (ix2 i j) = ∑ k, u k * w (ix2 k j)) (j : Fin 6272) :
    ∑ k, u k * padCols w k j = padCols f i j := by
  by_cases hj : j.val < 6176
  · rw [padCols_in f i j hj, hf]
    exact Finset.sum_congr rfl fun k _ => congrArg _ (padCols_in w k j hj)
  · rw [padCols_out f i j hj]
    exact Finset.sum_eq_zero fun k _ => by rw [padCols_out w k j hj, mul_zero]

/-- A sum over the padded columns that vanishes on the further ones. -/
theorem sum_pad (f : Fin 6272 → EReal) (g : Fin 6176 → EReal) (h : ∀ k : Fin 6176, f ⟨k.val, by omega⟩ = g k)
    (hz : ∀ k : Fin 6272, ¬ k.val < 6176 → f k = 0) : ∑ k, f k = ∑ k, g k := by
  rw [show (∑ k, f k) = ∑ k : Fin (6176 + 96), f k from rfl, Fin.sum_univ_add]
  rw [Finset.sum_eq_zero (f := fun k : Fin 96 => f (Fin.natAdd 6176 k)) fun k _ => hz _ (by simp), add_zero]
  exact Finset.sum_congr rfl fun k _ => h k

end Ffn
-- ==== Proof.SsdDx.lean ====
/-
  The gradients of the state-space layer's inputs and of its norm's gain: what a grid point's blocks hold, what it leaves and
  the results of the call.
-/
module

public import proofs.«01_k».proof.Proof.Gen.Kernel16Ideal.Value
public import proofs.«01_k».proof.Proof.Gen.Reference16Ideal.Run
public import proofs.«01_k».proof.Proof.Gen.Reference16Ideal.Read
public import Idealize.ShloMosaic.Lib.StableHlo.ReadAt
public import Idealize.ShloMosaic.Lib.Pipeline.ReadBack
public import proofs.«01_k».proof.Proof.Pad
public import proofs.«01_k».proof.Proof.Dx

@[expose] public section

set_option maxRecDepth 16384

noncomputable section

namespace Ffn.SsdDx

open Finset Idealize.ShloMosaic Idealize.ShloMosaic.TcCoe
open Cert.Kernel16Ideal Cert.Kernel16Ideal.Gen
open Ffn.Dx (width row gain)

/-- Where each window's block lies at each point. -/
theorem at0 : ∀ t : Fin cfg0.N, win0_0.index t = ![t.val, 0] :=
  (by decide +kernel : ∀ t : Fin grid0.N, win0_0.index t = ![t.val, 0])
theorem at1 : ∀ t : Fin cfg0.N, win0_1.index t = ![0, 0] :=
  (by decide +kernel : ∀ t : Fin grid0.N, win0_1.index t = ![0, 0])
theorem at2 : ∀ t : Fin cfg0.N, win0_2.index t = ![t.val, 0] :=
  (by decide +kernel : ∀ t : Fin grid0.N, win0_2.index t = ![t.val, 0])
theorem at3 : ∀ t : Fin cfg0.N, win0_3.index t = ![0, 0] :=
  (by decide +kernel : ∀ t : Fin grid0.N, win0_3.index t = ![0, 0])
theorem at4 : ∀ t : Fin cfg0.N, win0_4.index t = ![t.val, 0] :=
  (by decide +kernel : ∀ t : Fin grid0.N, win0_4.index t = ![t.val, 0])
theorem at5 : ∀ t : Fin cfg0.N, win0_5.index t = ![t.val, 0] :=
  (by decide +kernel : ∀ t : Fin grid0.N, win0_5.index t = ![t.val, 0])
theorem at6 : ∀ t : Fin cfg0.N, win0_6.index t = ![0, 0] :=
  (by decide +kernel : ∀ t : Fin grid0.N, win0_6.index t = ![0, 0])

theorem lt_N (t : Fin cfg0.N) : t.val < 16 := t.isLt

theorem d_apply (d : FVec Ideal S256x6272 .f32) (w : FVec Ideal S1024x6272 .bf16) (i : Fin 256) (n : Fin 1024) :
    k0_pay2 (F := Ideal) d w (ix2 i n) = mmT d w i n := by
  unfold k0_pay2 mmT
  pointwise

theorem inv_apply (x : FVec Ideal S256x1024 .f32) (i : Fin 256) (n : Fin 1) :
    k0_pay3 (F := Ideal) x (ix2 i n) = Dx.inv fun k => x (ix2 i k) := by
  unfold k0_pay3 Dx.inv
  pointwise
  rfl

theorem normed_apply (x : FVec Ideal S256x1024 .f32) (i : Fin 256) (n : Fin 1024) :
    k0_pay4 (F := Ideal) x (ix2 i n) = x (ix2 i n) * Dx.inv fun k => x (ix2 i k) := by
  rw [← inv_apply x i 0]
  unfold k0_pay4
  generalize k0_pay3 (F := Ideal) x = r
  pointwise

theorem gain_apply (d : FVec Ideal S256x6272 .f32) (w : FVec Ideal S1024x6272 .bf16) (x : FVec Ideal S256x1024 .f32)
    (n : Fin 1024) : k0_pay5 (F := Ideal) d w x (ix2 0 n)
      = ∑ i : Fin 256, gain (fun k => x (ix2 i k)) (fun k => k0_pay2 (F := Ideal) d w (ix2 i k)) n := by
  unfold gain
  simp only [← normed_apply]
  unfold k0_pay5
  generalize k0_pay4 (F := Ideal) x = r
  generalize k0_pay2 (F := Ideal) d w = d
  pointwise

theorem gain_add (z y : FVec Ideal S1x1024 .f32) (n : Fin 1024) : k0_pay1 (F := Ideal) z y (ix2 0 n) = y (ix2 0 n) + z (ix2 0 n) := Dx.gain_add z y n

theorem row_apply (d : FVec Ideal S256x6272 .f32) (w : FVec Ideal S1024x6272 .bf16) (x o : FVec Ideal S256x1024 .f32)
    (g : FVec Ideal S1x1024 .f32) (i : Fin 256) (n : Fin 1024) : k0_pay6 (F := Ideal) d w x g o (ix2 i n)
      = row (fun k => x (ix2 i k)) (fun k => g (ix2 0 k)) (fun k => k0_pay2 (F := Ideal) d w (ix2 i k)) (o (ix2 i n)) n := by
  unfold row
  simp only [← normed_apply]
  rw [← inv_apply x i 0]
  unfold k0_pay6
  generalize k0_pay4 (F := Ideal) x = r
  generalize k0_pay3 (F := Ideal) x = q
  generalize k0_pay2 (F := Ideal) d w = d
  pointwise
  rfl

variable (m : (ℓ : Loc nD τ sig) → Buf (Elt Ideal) ℓ) (c : Dev nD) (t : Fin cfg0.N)

/-- A point's blocks: the gradients, the weights, the inputs, the gain and the gradient of the residual. -/
def blkG : FVec Ideal S256x6272 .f32 := iblk m c 0 t
def blkW : FVec Ideal S1024x6272 .bf16 := iblk m c 1 t
def blkX : FVec Ideal S256x1024 .f32 := iblk m c 2 t
def blkN : FVec Ideal S1x1024 .f32 := iblk m c 3 t
def blkO : FVec Ideal S256x1024 .f32 := iblk m c 4 t

/-- What every point stores of the inputs' gradient. -/
def tile : FVec Ideal S256x1024 .f32 :=
  k0_pay6 (F := Ideal) (blkG m c t) (blkW m c t) (blkX m c t) (blkN m c t) (blkO m c t)

/-- A point's part of the gain's gradient. -/
def share : FVec Ideal S1x1024 .f32 := k0_pay5 (F := Ideal) (blkG m c t) (blkW m c t) (blkX m c t)

theorem outs_A (h0 : t.val % 16 = 0) (h1 : ¬ 1 ≤ t.val) : outsAt0 m c t.val t.isLt = (tile m c t, share m c t) := by
  rw [outsAt0_A m c t h0 h1]
  refine Prod.ext ?_ ?_
  · frame_out
    rfl
  · frame_out
    rfl

theorem outs_B (h0 : ¬ t.val % 16 = 0) (h1 : 1 ≤ t.val) : outsAt0 m c t.val t.isLt
    = (tile m c t, k0_pay1 (F := Ideal) (share m c t) (outsAt0 m c (t.val - 1) (Nat.lt_of_le_of_lt (Nat.sub_le _ _) t.isLt)).2) := by
  rw [outsAt0_B m c t h0 h1]
  refine Prod.ext ?_ ?_
  · frame_out
    rfl
  · frame_out
    rfl

/-- The gradient of a block of the scaled normalization. -/
def blkD (i : Fin 256) (n : Fin 1024) : EReal := mmT (blkG m c t) (blkW m c t) i n

theorem tile_apply (i : Fin 256) (n : Fin 1024) : tile m c t (ix2 i n)
    = row (fun k => blkX m c t (ix2 i k)) (fun k => blkN m c t (ix2 0 k)) (blkD m c t i) (blkO m c t (ix2 i n)) n := by
  refine (row_apply _ _ _ _ _ i n).trans ?_
  simp only [d_apply]
  rfl

theorem share_apply (n : Fin 1024) : share m c t (ix2 0 n)
    = ∑ i : Fin 256, gain (fun k => blkX m c t (ix2 i k)) (blkD m c t i) n := by
  refine (gain_apply _ _ _ n).trans ?_
  simp only [d_apply]
  rfl

theorem outs_tile : (outsAt0 m c t.val t.isLt).1 = tile m c t := by
  by_cases h : t.val % 16 = 0
  · rw [outs_A m c t h (by have := lt_N t; omega)]
  · rw [outs_B m c t h (by omega)]

theorem blkG_apply (i : Fin 256) (k : Fin 6272) : blkG m c t (ix2 i k)
    = V m c main_v0 (ix2 (⟨256 * t.val + i.val, by have := lt_N t; omega⟩ : Fin 4096) k) := by
  unfold blkG
  blk_simp [iblk, at0 t]
  congr 1
  blk_ext [at0 t]

theorem blkW_apply (n : Fin 1024) (k : Fin 6272) : blkW m c t (ix2 n k) = V m c main_v2 (ix2 n k) := by
  unfold blkW
  blk_simp [iblk, at1 t]
  congr 1
  blk_ext [at1 t]

theorem blkX_apply (i : Fin 256) (n : Fin 1024) : blkX m c t (ix2 i n)
    = V m c main_arg0 (ix2 (⟨256 * t.val + i.val, by have := lt_N t; omega⟩ : Fin 4096) n) := by
  unfold blkX
  blk_simp [iblk, at2 t]
  congr 1
  blk_ext [at2 t]

theorem blkN_apply (n : Fin 1024) : blkN m c t (ix2 0 n) = V m c main_v3 (ix2 0 n) := by
  unfold blkN
  blk_simp [iblk, at3 t]
  congr 1
  blk_ext [at3 t]

theorem blkO_apply (i : Fin 256) (n : Fin 1024) : blkO m c t (ix2 i n)
    = V m c main_arg4 (ix2 (⟨256 * t.val + i.val, by have := lt_N t; omega⟩ : Fin 4096) n) := by
  unfold blkO
  blk_simp [iblk, at4 t]
  congr 1
  blk_ext [at4 t]

/-- What the host hands to the call: the gradients, the weights and the gain as a row. -/
theorem V_g (i : Fin 4096) (k : Fin 6272) :
    V m c main_v0 (ix2 i k) = padCols (m (c, Proc.tc.devRef main_arg3) : FVec Ideal S4096x6176 .f32) i k := by
  simp only [V, hostOps0, hostOps0_1, hostOps0_2, hostOps0_3, hostOps0_4, List.flatten_cons, List.flatten_nil, List.cons_append, List.nil_append, List.append_nil]
  after_reads_simp
  try simp -implicitDefEqProofs only [StableHlo.TRef.toBuf, StableHlo.TRef.ofBuf, cast_cast, cast_eq]
  clean_types
  generalize m (c, Proc.tc.devRef main_arg3) = w
  exact pad_cols w _ _ _ pad_zero i k

theorem V_w (n : Fin 1024) (k : Fin 6272) :
    V m c main_v2 (ix2 n k) = padCols (m (c, Proc.tc.devRef main_arg2) : FVec Ideal S1024x6176 .f32) n k := by
  simp only [V, hostOps0, hostOps0_1, hostOps0_2, hostOps0_3, hostOps0_4, List.flatten_cons, List.flatten_nil, List.cons_append, List.nil_append, List.append_nil]
  after_reads_simp
  try simp -implicitDefEqProofs only [StableHlo.TRef.toBuf, StableHlo.TRef.ofBuf, cast_cast, cast_eq]
  clean_types
  generalize m (c, Proc.tc.devRef main_arg2) = w
  exact pad_cols w _ pads_S1024x6176_S1024x6272_000_0960 h_S_ pad_zero n k

theorem V_n (n : Fin 1024) : V m c main_v3 (ix2 0 n) = (m (c, Proc.tc.devRef main_arg1) : FVec Ideal S1024 .f32) (ix1 n) := by
  simp only [V, hostOps0, hostOps0_1, hostOps0_2, hostOps0_3, hostOps0_4, List.flatten_cons, List.flatten_nil, List.cons_append, List.nil_append, List.append_nil]
  after_reads_simp
  try simp -implicitDefEqProofs only [StableHlo.TRef.toBuf, StableHlo.TRef.ofBuf, cast_cast, cast_eq]
  clean_types
  generalize m (c, Proc.tc.devRef main_arg1) = w
  refine shapeCast_apply _ shapeCasts_S1024_S1x1024 _ (ix1 n) ?_
  rw [Shape.rowMajor_val_two, Shape.rowMajor_val_one]
  show n.val = 0 * 1024 + n.val
  omega

/-- The gradient of the scaled normalization: the gradients times the transposed weights. -/
def cot (w : FVec Ideal S1024x6176 .f32) (g : FVec Ideal S4096x6176 .f32) (i : Fin 4096) (n : Fin 1024) : EReal :=
  mmT (p := 4096) (q := 6176) (r := 1024) g w i n

/-- The inputs' gradient. -/
def dx (x : FVec Ideal S4096x1024 .f32) (g : FVec Ideal S1024 .f32) (w : FVec Ideal S1024x6176 .f32)
    (d : FVec Ideal S4096x6176 .f32) (o : FVec Ideal S4096x1024 .f32) (i : Fin 4096) (n : Fin 1024) : EReal :=
  row (fun k => x (ix2 i k)) (fun k => g (ix1 k)) (cot w d i) (o (ix2 i n)) n

/-- One row's part of the gain's gradient. -/
def dgRow (x : FVec Ideal S4096x1024 .f32) (w : FVec Ideal S1024x6176 .f32) (d : FVec Ideal S4096x6176 .f32)
    (n : Fin 1024) (i : Fin 4096) : EReal :=
  gain (fun k => x (ix2 i k)) (cot w d i) n

theorem blkD_eq (i : Fin 256) : blkD m c t i
    = cot (m (c, Proc.tc.devRef main_arg2)) (m (c, Proc.tc.devRef main_arg3)) ⟨256 * t.val + i.val, by have := lt_N t; omega⟩ := by
  funext n
  unfold blkD cot mmT
  refine sum_pad _ _ (fun k => ?_) fun k hk => ?_
  · rw [blkG_apply, blkW_apply, V_g, V_w, padCols_in _ _ _ k.isLt, padCols_in _ _ _ k.isLt]
  · rw [blkG_apply, V_g, padCols_out _ _ _ hk, zero_mul]

theorem blkX_eq (i : Fin 256) : (fun k => blkX m c t (ix2 i k)) = fun k => (m (c, Proc.tc.devRef main_arg0) : FVec Ideal S4096x1024 .f32)
    (ix2 (⟨256 * t.val + i.val, by have := lt_N t; omega⟩ : Fin 4096) k) := by
  funext k
  rw [blkX_apply, V_main_arg0]

theorem blkN_eq : (fun k => blkN m c t (ix2 0 k)) = fun k => (m (c, Proc.tc.devRef main_arg1) : FVec Ideal S1024 .f32) (ix1 k) := by
  funext k
  rw [blkN_apply, V_n]

/-- The kernel's first result. -/
theorem final_dx : (dats m 0 c).arrAt 5 cfg0.N = fun y => dx (m (c, Proc.tc.devRef main_arg0)) (m (c, Proc.tc.devRef main_arg1))
    (m (c, Proc.tc.devRef main_arg2)) (m (c, Proc.tc.devRef main_arg3)) (m (c, Proc.tc.devRef main_arg4)) (y 0) (y 1) := by
  refine (dats m 0 c).arrAt_eq_of_covers 5 _ (by decide +kernel) fun t _ y => ?_
  blk_simp
  obtain ⟨i, n, rfl⟩ : ∃ (i : Fin 256) (n : Fin 1024), y = ix2 i n := ⟨y 0, y 1, eq_ix2 y⟩
  have e : (win0_5.blk t).view.emb (ix2 i n) = ix2 (⟨256 * t.val + i.val, by have := lt_N t; omega⟩ : Fin 4096) n := by
    blk_ext [at5 t]
  rw [after0_5, e, outs_tile]
  refine (tile_apply m c t i n).trans ?_
  rw [blkD_eq, blkX_eq, blkN_eq, blkO_apply, V_main_arg4]
  rfl

/-- The accumulated parts of the gain's gradient, after a point. -/
theorem acc (n : Fin 1024) : ∀ (k : ℕ) (h : k < cfg0.N), (outsAt0 m c k h).2 (ix2 0 n)
    = ∑ j ∈ range (k + 1), if h : j < cfg0.N then share m c ⟨j, h⟩ (ix2 0 n) else 0 :=
  sum_of_steps (n := cfg0.N) (fun k h => (outsAt0 m c k h).2 (ix2 0 n)) (fun k h => share m c ⟨k, h⟩ (ix2 0 n))
    (fun h => by rw [outs_A m c ⟨0, h⟩ (by simp) (by simp)])
    fun k h => by
      have hk : k + 1 < 16 := lt_N ⟨k + 1, h⟩
      rw [outs_B m c ⟨k + 1, h⟩ (by show ¬(k + 1) % 16 = 0; omega) (by show 1 ≤ k + 1; omega)]
      exact gain_add _ _ n

/-- The kernel's second result. -/
theorem final_dg : (dats m 0 c).arrAt 6 cfg0.N = fun y => ∑ i, dgRow (m (c, Proc.tc.devRef main_arg0))
    (m (c, Proc.tc.devRef main_arg2)) (m (c, Proc.tc.devRef main_arg3)) (y 1) i := by
  refine (dats m 0 c).arrAt_eq_of_covers 6 _ (by decide +kernel) fun t hf y => ?_
  have ht := (flush0_6 t).mp hf
  blk_simp
  obtain ⟨i, n, rfl⟩ : ∃ (i : Fin 1) (n : Fin 1024), y = ix2 i n := ⟨y 0, y 1, eq_ix2 y⟩
  obtain rfl : i = 0 := Subsingleton.elim _ _
  have e : (win0_6.blk t).view.emb (ix2 0 n) = ix2 0 n := by
    blk_ext [at6 t]
  have h7 : t.val + 1 = 16 := by have := lt_N t; omega
  rw [after0_6, e]
  refine (acc m c n t.val t.isLt).trans ?_
  rw [h7, Finset.sum_range, sum_blocks (a := 16) (b := 256) rfl]
  refine Finset.sum_congr rfl fun j _ => ?_
  rw [dif_pos (show j.val < cfg0.N from j.isLt)]
  refine (share_apply m c _ n).trans (Finset.sum_congr rfl fun i _ => ?_)
  rw [blkD_eq, blkX_eq]
  rfl

end Ffn.SsdDx
-- ==== Proof.SsdDxRef.lean ====
/-
  The reference's gradients of the state-space layer's inputs and of its norm's gain, read entry by entry.
-/
module

public import proofs.«01_k».proof.Proof.SsdDx
public import proofs.«01_k».proof.Proof.MixDxRef
public import proofs.«01_k».proof.Proof.DxRef

@[expose] public section

set_option maxRecDepth 16384

noncomputable section

namespace Ffn.SsdDx

open Finset Idealize.ShloMosaic
open Cert.Reference16Ideal Cert.Reference16Ideal.Gen Cert.Reference16Ideal.Read
open Ffn.Dx (chain)

variable (x0 : FVec Ideal S4096x1024 .f32) (x1 : FVec Ideal S1024 .f32) (x2 : FVec Ideal S1024x6176 .f32)
  (x3 : FVec Ideal S4096x6176 .f32) (x4 : FVec Ideal S4096x1024 .f32)

theorem cot_ref (i : Fin 4096) (n : Fin 1024) : val_main_v17 (F := Ideal) x2 x3 (ix2 i n) = cot x2 x3 i n := by
  rw [val_main_v17_apply]
  unfold cot mmT
  exact Finset.sum_congr rfl fun k _ => congrArg₂ (· * ·) (congrArg _ (eq_ix2 _)) (congrArg _ (eq_ix2 _))

/-- Weights and gradients of a mixer with the same product: ones on the diagonal, and the product padded with zeros. -/
def ones : FVec Ideal Cert.Reference8Ideal.S1024x3072 .f32 := fun y => if (y 1).val = (y 0).val then (1 : EReal) else 0
def padded : FVec Ideal Cert.Reference8Ideal.S4096x3072 .f32 := fun y => if h : (y 1).val < 1024 then cot x2 x3 (y 0) ⟨(y 1).val, h⟩ else (0 : EReal)

theorem cot_same (i : Fin 4096) (n : Fin 1024) : MixDx.cot ones (padded x2 x3) i n = cot x2 x3 i n := by
  unfold MixDx.cot mmT
  rw [Finset.sum_eq_single (⟨n.val, by omega⟩ : Fin 3072)]
  · show (if h : n.val < 1024 then cot x2 x3 i ⟨n.val, h⟩ else (0 : EReal)) * (if n.val = n.val then (1 : EReal) else 0) = _
    rw [dif_pos n.isLt, if_pos rfl, mul_one]
  · intro k _ hk
    show _ * (if k.val = n.val then (1 : EReal) else 0) = 0
    rw [if_neg fun h => hk (Fin.ext h), mul_zero]
  · exact fun h => absurd (Finset.mem_univ _) h

theorem product_same : val_main_v17 (F := Ideal) x2 x3 = Cert.Reference8Ideal.Read.val_main_v17 (F := Ideal) ones (padded x2 x3) := by
  funext y
  obtain ⟨i, n, rfl⟩ : ∃ (i : Fin 4096) (n : Fin 1024), y = ix2 i n := ⟨y 0, y 1, eq_ix2 y⟩
  exact (cot_ref x2 x3 i n).trans ((cot_same x2 x3 i n).symm.trans (MixDx.cot_ref ones (padded x2 x3) i n).symm)

/-- The reference meets the weights and the gradients only in their product, so its results are the mixer's reference's. -/
theorem dg_same : val_main_v39 (F := Ideal) x0 x2 x3 = Cert.Reference8Ideal.Read.val_main_v39 (F := Ideal) x0 ones (padded x2 x3) := by
  unfold val_main_v39 val_main_v23 val_main_v20 val_main_v19 val_main_v18
  rw [product_same]
  rfl

theorem dx_same : val_main_v38 (F := Ideal) x0 x1 x2 x3 x4
    = Cert.Reference8Ideal.Read.val_main_v38 (F := Ideal) x0 x1 ones (padded x2 x3) x4 := by
  unfold val_main_v38 val_main_v37 val_main_v36 val_main_v35 val_main_v34 val_main_v33 val_main_v32 val_main_v30 val_main_v29
    val_main_v28 val_main_v26 val_main_v25 val_main_v24 val_main_v22
  rw [product_same]
  rfl

/-- The reference's gradient of the gain. -/
theorem ref_dg : val_main_v39 (F := Ideal) x0 x2 x3 = fun y => ∑ i, dgRow x0 x2 x3 (y 1) i := by
  rw [dg_same]
  refine (MixDx.ref_dg x0 ones (padded x2 x3)).trans (funext fun y => Finset.sum_congr rfl fun i _ => ?_)
  exact congrArg (fun d => Dx.gain (fun k => x0 (ix2 i k)) d (y 1)) (funext (cot_same x2 x3 i))

/-- The reference's gradient of the inputs, by the chain rule. -/
theorem ref_dx (i : Fin 4096) (n : Fin 1024) : val_main_v38 (F := Ideal) x0 x1 x2 x3 x4 (ix2 i n)
    = chain (fun k => x0 (ix2 i k)) (fun k => x1 (ix1 k)) (cot x2 x3 i) (x4 (ix2 i n)) n := by
  rw [dx_same, ← funext (cot_same x2 x3 i)]
  exact MixDx.ref_dx x0 x1 ones (padded x2 x3) x4 i n

end Ffn.SsdDx
-- ==== Proof.SsdDxFinite.lean ====
/-
  The gradient to the state-space layer's inputs on real numbers: the precondition read, and the call's closed form met with
  the reference's.
-/
module

public import proofs.«01_k».proof.Pre_ssd_dx_finite
public import proofs.«01_k».proof.Proof.Finite
public import proofs.«01_k».proof.Proof.SsdDxRef
public import proofs.«01_k».proof.Proof.ProductsReal

@[expose] public section

set_option maxRecDepth 16384

noncomputable section

namespace Ffn.SsdDx

open Idealize.ShloMosaic Cert.Pre_ssd_dx_finite

instance : Subsingleton Cert.Pre_ssd_dx_finite.S_.Idx := ⟨fun a b => funext fun d => d.elim0⟩

/-- The facts that the precondition's program states. -/
theorem preFacts : Cert.Pre_ssd_dx_finite.Facts where
  reducesTo_S4096x1024_S_d0_1 := by decide
  h_S_ := by decide
  reducesTo_S1024_S_d0 := by decide
  reducesTo_S1024x6176_S_d0_1 := by decide
  reducesTo_S4096x6176_S_d0_1 := by decide

variable [Cert.Pre_ssd_dx_finite.Facts] {x : FVec Ideal S4096x1024 .f32} {g : FVec Ideal S1024 .f32} {w : FVec Ideal S1024x6176 .f32}
  {d : FVec Ideal S4096x6176 .f32} {o : FVec Ideal S4096x1024 .f32}

/-- Under the precondition the entries of the first four arguments are real numbers. -/
theorem reals (h : fn (F := Ideal) x g w d o = fun _ => 1#1) :
    (∀ i, x i = ((x i : EReal).toReal : EReal)) ∧ (∀ i, g i = ((g i : EReal).toReal : EReal))
      ∧ (∀ i, w i = ((w i : EReal).toReal : EReal)) ∧ (∀ i, d i = ((d i : EReal).toReal : EReal)) := by
  have h' := congrFun h ix0
  dsimp only [fn] at h'
  obtain ⟨h012, h3⟩ := Ssd.and_one h'
  obtain ⟨h01, h2⟩ := Ssd.and_one h012
  obtain ⟨h0, h1⟩ := Ssd.and_one h01
  exact ⟨fun i => Ssd.real_of_max x _ _ _ _ (Ssd.below h0) i, fun i => Ssd.real_of_max g _ _ _ _ (Ssd.below h1) i,
    fun i => Ssd.real_of_max w _ _ _ _ (Ssd.below h2) i, fun i => Ssd.real_of_max d _ _ _ _ (Ssd.below h3) i⟩

/-- The call's closed form is the chain rule's. -/
theorem dx_eq_chain (h : fn (F := Ideal) x g w d o = fun _ => 1#1) (i : Fin 4096) (n : Fin 1024) :
    dx x g w d o i n = Dx.chain (fun k => x (ix2 i k)) (fun k => g (ix1 k)) (cot w d i) (o (ix2 i n)) n := by
  obtain ⟨hx, hg, hw, hd⟩ := reals h
  exact Dx.row_eq_chain_of_real (fun k => hx (ix2 i k)) (fun k => hg (ix1 k)) (fun k => mmT_real hd hw i k) _ n

end Ffn.SsdDx

end
-- ==== Proof.SsdDwin.lean ====
/-
  The gradient of the state-space layer's input weights: what a grid point's blocks hold, what it leaves, the result of the
  call and the reference's.
-/
module

public import proofs.«01_k».proof.Proof.Gen.Kernel17Ideal.Value
public import proofs.«01_k».proof.Proof.Gen.Reference17Ideal.Run
public import proofs.«01_k».proof.Proof.Gen.Reference17Ideal.Read
public import Idealize.ShloMosaic.Lib.StableHlo.ReadAt
public import Idealize.ShloMosaic.Lib.Pipeline.ReadBack
public import proofs.«01_k».proof.Proof.Pad

@[expose] public section

noncomputable section

namespace Ffn.SsdDwin

open Finset Idealize.ShloMosaic Idealize.ShloMosaic.TcCoe
open Cert.Kernel17Ideal Cert.Kernel17Ideal.Gen

/-- Where each window's block lies at each point. -/
theorem at0 : ∀ t : Fin cfg0.N, win0_0.index t = ![t.val % 2, 0] :=
  (by decide +kernel : ∀ t : Fin grid0.N, win0_0.index t = ![t.val % 2, 0])
theorem at1 : ∀ t : Fin cfg0.N, win0_1.index t = ![t.val % 2, t.val / 2] :=
  (by decide +kernel : ∀ t : Fin grid0.N, win0_1.index t = ![t.val % 2, t.val / 2])
theorem at2 : ∀ t : Fin cfg0.N, win0_2.index t = ![0, t.val / 2] :=
  (by decide +kernel : ∀ t : Fin grid0.N, win0_2.index t = ![0, t.val / 2])

theorem lt_N (t : Fin cfg0.N) : t.val < 14 := t.isLt

theorem zero_apply (i : Fin 1024) (j : Fin 896) : k0_pay1 (F := Ideal) (ix2 i j) = 0 := by
  unfold k0_pay1
  pointwise

/-- Adding a product of two blocks to the accumulator. -/
theorem add_apply (x : FVec Ideal S2048x1024 .bf16) (y : FVec Ideal S2048x896 .f32) (z : FVec Ideal S1024x896 .f32)
    (i : Fin 1024) (j : Fin 896) : k0_pay2 x y z (ix2 i j) = z (ix2 i j) + tmm x y i j := by
  unfold k0_pay2 tmm
  pointwise

theorem out_apply (z : FVec Ideal S1024x896 .f32) (i : Fin 1024) (j : Fin 896) :
    k0_pay3 (F := Ideal) z (ix2 i j) = z (ix2 i j) := by
  unfold k0_pay3
  pointwise

variable (m : (ℓ : Loc nD τ sig) → Buf (Elt Ideal) ℓ) (c : Dev nD) (t : Fin cfg0.N)

/-- A point's block of the normalized inputs and its block of the gradients. -/
def blkH : FVec Ideal S2048x1024 .bf16 := iblk m c 0 t
def blkG : FVec Ideal S2048x896 .f32 := iblk m c 1 t

/-- The first of two points leaves in the accumulator the product of its blocks. -/
theorem outs_A (h : t.val % 2 = 0) (i : Fin 1024) (j : Fin 896) :
    (outsAt0 m c t.val t.isLt).2 (ix2 i j) = tmm (blkH m c t) (blkG m c t) i j := by
  rw [outsAt0_A m c t h (by omega)]
  frame_out
  refine (add_apply _ _ _ i j).trans ?_
  rw [zero_apply, zero_add]
  rfl

/-- The second of two points adds the product of its blocks and stores the sum. -/
theorem outs_B (h : t.val % 2 = 1) (i : Fin 1024) (j : Fin 896) :
    (outsAt0 m c t.val t.isLt).1 (ix2 i j)
      = (outsAt0 m c (t.val - 1) (Nat.lt_of_le_of_lt (Nat.sub_le _ _) t.isLt)).2 (ix2 i j) + tmm (blkH m c t) (blkG m c t) i j := by
  rw [outsAt0_B m c t (by omega) h]
  frame_out
  simp only [read_unread_whole]
  exact (out_apply _ i j).trans (add_apply _ _ _ i j)

theorem blkH_apply (k : Fin 2048) (i : Fin 1024) : blkH m c t (ix2 k i)
    = V m c main_v13 (ix2 (⟨2048 * (t.val % 2) + k.val, by omega⟩ : Fin 4096) i) := by
  unfold blkH
  blk_simp [iblk, at0 t]
  congr 1
  blk_ext [at0 t]

theorem blkG_apply (k : Fin 2048) (j : Fin 896) : blkG m c t (ix2 k j)
    = V m c main_v14 (ix2 (⟨2048 * (t.val % 2) + k.val, by omega⟩ : Fin 4096)
      (⟨896 * (t.val / 2) + j.val, by have := lt_N t; omega⟩ : Fin 6272)) := by
  unfold blkG
  blk_simp [iblk, at1 t]
  congr 1
  blk_ext [at1 t]

/-- What the host hands to the call: the normalized inputs and the gradients. -/
theorem V_h : V m c main_v13 = Cert.Reference17Ideal.Read.val_main_v12 (F := Ideal) (m (c, Proc.tc.devRef main_arg0))
    (m (c, Proc.tc.devRef main_arg1)) := by
  simp only [V, hostOps0, hostOps0_1, List.flatten_cons, List.flatten_nil, List.cons_append, List.nil_append, List.append_nil]
  after_reads_simp
  try simp -implicitDefEqProofs only [StableHlo.TRef.toBuf, StableHlo.TRef.ofBuf, cast_cast, cast_eq]
  clean_types
  rfl

theorem V_g (k : Fin 4096) (j : Fin 6272) :
    V m c main_v14 (ix2 k j) = padCols (m (c, Proc.tc.devRef main_arg3) : FVec Ideal S4096x6176 .f32) k j := by
  simp only [V, hostOps0, hostOps0_1, List.flatten_cons, List.flatten_nil, List.cons_append, List.nil_append, List.append_nil]
  after_reads_simp
  try simp -implicitDefEqProofs only [StableHlo.TRef.toBuf, StableHlo.TRef.ofBuf, cast_cast, cast_eq]
  clean_types
  generalize m (c, Proc.tc.devRef main_arg3) = w
  exact pad_cols w _ _ _ pad_zero k j

/-- The transposed normalized inputs times the gradients, and zeros in the further columns. -/
def grad (h : FVec Ideal S4096x1024 .f32) (g : FVec Ideal S4096x6176 .f32) (y : S1024x6272.Idx) : EReal :=
  padCols (fun z : S1024x6176.Idx => tmm (p := 1024) (q := 4096) (r := 6176) h g (z 0) (z 1)) (y 0) (y 1)

theorem grad_eq (h : FVec Ideal S4096x1024 .f32) (g : FVec Ideal S4096x6176 .f32) (i : Fin 1024) (j : Fin 6272) :
    ∑ k : Fin 4096, h (ix2 k i) * padCols g k j = grad h g (ix2 i j) :=
  sum_padCols (fun k => h (ix2 k i)) g _ i (fun _ => rfl) j

/-- The kernel's result. -/
theorem final : (dats m 0 c).arrAt 2 cfg0.N = grad
    (Cert.Reference17Ideal.Read.val_main_v12 (F := Ideal) (m (c, Proc.tc.devRef main_arg0)) (m (c, Proc.tc.devRef main_arg1)))
      (m (c, Proc.tc.devRef main_arg3)) := by
  refine (dats m 0 c).arrAt_eq_of_covers 2 _ (by decide +kernel) fun t hf y => ?_
  have ht := (flush0_2 t).mp hf
  blk_simp
  obtain ⟨i, j, rfl⟩ : ∃ (i : Fin 1024) (j : Fin 896), y = ix2 i j := ⟨y 0, y 1, eq_ix2 y⟩
  have e : (win0_2.blk t).view.emb (ix2 i j) = ix2 i (⟨896 * (t.val / 2) + j.val, by have := lt_N t; omega⟩ : Fin 6272) := by
    blk_ext [at2 t]
  have hp : (t.val - 1) % 2 = 0 := by omega
  rw [after0_2, e, ← grad_eq]
  refine (outs_B m c t ht i j).trans ?_
  rw [outs_A m c ⟨t.val - 1, Nat.lt_of_le_of_lt (Nat.sub_le _ _) t.isLt⟩ hp i j]
  refine Eq.trans ?_ (sum_halves _).symm
  refine congrArg₂ (· + ·) (Finset.sum_congr rfl fun k _ => ?_) (Finset.sum_congr rfl fun k _ => ?_)
  · rw [blkH_apply, blkG_apply, V_h, V_g]
    refine congrArg₂ (· * ·) (congrArg _ ?_) (congrArg₂ (padCols _) ?_ ?_)
    · exact congrArg₂ ix2 (Fin.ext (by simp [hp])) rfl
    · exact Fin.ext (by simp [hp])
    · exact Fin.ext (by simp; omega)
  · rw [blkH_apply, blkG_apply, V_h, V_g]
    refine congrArg₂ (· * ·) (congrArg _ ?_) (congrArg₂ (padCols _) ?_ ?_)
    · exact congrArg₂ ix2 (Fin.ext (by simp [ht])) rfl
    · exact Fin.ext (by simp [ht])
    · rfl

open Cert.Reference17Ideal.Read in
/-- The reference's result. -/
theorem ref (x0 : FVec Ideal S4096x1024 .f32) (x1 : FVec Ideal S1024 .f32) (x3 : FVec Ideal S4096x6176 .f32) :
    val_main_v17 (F := Ideal) x0 x1 x3 = grad (val_main_v12 (F := Ideal) x0 x1) x3 := by
  funext y
  have e : val_main_v15 (F := Ideal) x0 x1 x3
      = fun z : S1024x6176.Idx => tmm (p := 1024) (q := 4096) (r := 6176) (val_main_v12 (F := Ideal) x0 x1) x3 (z 0) (z 1) := by
    funext z
    rw [val_main_v15_apply, val_main_v14_apply]
    refine Finset.sum_congr rfl fun k _ => ?_
    exact (mul_comm _ _).trans (congrArg₂ (· * ·) (congrArg _ (eq_ix2 _)) (congrArg _ (eq_ix2 _)))
  obtain ⟨i, j, rfl⟩ : ∃ (i : Fin 1024) (j : Fin 6272), y = ix2 i j := ⟨y 0, y 1, eq_ix2 y⟩
  refine (show _ = val_main_v16 (F := Ideal) x0 x1 x3 (ix2 i j) from rfl).trans ?_
  unfold val_main_v16 grad
  rw [e]
  exact pad_cols _ _ _ _ pad_zero i j

end Ffn.SsdDwin
-- ==== Proof.SsdIn.lean ====
/-
  The state-space layer's input product: what a grid point's blocks hold, what it leaves, the result of the call and the reference's.
-/
module

public import proofs.«01_k».proof.Proof.Gen.Kernel18Ideal.Value
public import proofs.«01_k».proof.Proof.Gen.Reference18Ideal.Run
public import proofs.«01_k».proof.Proof.Gen.Reference18Ideal.Read
public import Idealize.ShloMosaic.Lib.StableHlo.ReadAt
public import Idealize.ShloMosaic.Lib.Pipeline.ReadBack
public import proofs.«01_k».proof.Proof.Pad

@[expose] public section

noncomputable section

namespace Ffn.SsdIn

open Finset Idealize.ShloMosaic Idealize.ShloMosaic.TcCoe
open Cert.Kernel18Ideal Cert.Kernel18Ideal.Gen

/-- Where each window's block lies at each point. -/
theorem at0 : ∀ t : Fin cfg0.N, win0_0.index t = ![t.val % 4, 0] :=
  (by decide +kernel : ∀ t : Fin grid0.N, win0_0.index t = ![t.val % 4, 0])
theorem at1 : ∀ t : Fin cfg0.N, win0_1.index t = ![0, t.val / 4] :=
  (by decide +kernel : ∀ t : Fin grid0.N, win0_1.index t = ![0, t.val / 4])
theorem at2 : ∀ t : Fin cfg0.N, win0_2.index t = ![t.val % 4, t.val / 4] :=
  (by decide +kernel : ∀ t : Fin grid0.N, win0_2.index t = ![t.val % 4, t.val / 4])

theorem lt_N (t : Fin cfg0.N) : t.val < 28 := t.isLt

theorem out_apply (h : FVec Ideal S1024x1024 .bf16) (w : FVec Ideal S1024x896 .bf16) (i : Fin 1024) (j : Fin 896) :
    k0_pay1 (F := Ideal) h w (ix2 i j) = mm h w i j := by
  unfold k0_pay1 mm
  pointwise

variable (m : (ℓ : Loc nD τ sig) → Buf (Elt Ideal) ℓ) (c : Dev nD) (t : Fin cfg0.N)

/-- A point's block of the normalized inputs and its block of the weights. -/
def blkH : FVec Ideal S1024x1024 .bf16 := iblk m c 0 t
def blkW : FVec Ideal S1024x896 .bf16 := iblk m c 1 t

/-- What a point stores. -/
theorem outs (i : Fin 1024) (j : Fin 896) : (dats m 0 c).after 2 t (ix2 i j) = mm (blkH m c t) (blkW m c t) i j := by
  rw [after0_2]
  unfold out0_2
  refine (canon_hit _ _ _ _ (ix2 i j) fun a => by fin_cases a <;> simp).trans ?_
  refine (out_apply _ _ i j).trans (Finset.sum_congr rfl fun k _ => congrArg₂ (· * ·) ?_ ?_)
  · exact ld_part _ _ _ _ fun a => by fin_cases a <;> simp
  · exact ld_part _ _ _ _ fun a => by fin_cases a <;> simp

theorem blkH_apply (i k : Fin 1024) : blkH m c t (ix2 i k)
    = V m c main_v13 (ix2 (⟨1024 * (t.val % 4) + i.val, by omega⟩ : Fin 4096) k) := by
  unfold blkH
  blk_simp [iblk, at0 t]
  congr 1
  blk_ext [at0 t]

theorem blkW_apply (k : Fin 1024) (j : Fin 896) : blkW m c t (ix2 k j)
    = V m c main_v15 (ix2 k (⟨896 * (t.val / 4) + j.val, by have := lt_N t; omega⟩ : Fin 6272)) := by
  unfold blkW
  blk_simp [iblk, at1 t]
  congr 1
  blk_ext [at1 t]

/-- What the host hands to the call: the normalized inputs and the weights. -/
theorem V_h : V m c main_v13 = Cert.Reference18Ideal.Read.val_main_v12 (F := Ideal) (m (c, Proc.tc.devRef main_arg0))
    (m (c, Proc.tc.devRef main_arg1)) := by
  simp only [V, hostOps0, hostOps0_1, hostOps0_2, List.flatten_cons, List.flatten_nil, List.cons_append, List.nil_append, List.append_nil]
  after_reads_simp
  try simp -implicitDefEqProofs only [StableHlo.TRef.toBuf, StableHlo.TRef.ofBuf, cast_cast, cast_eq]
  clean_types
  rfl

theorem V_w (k : Fin 1024) (j : Fin 6272) :
    V m c main_v15 (ix2 k j) = padCols (m (c, Proc.tc.devRef main_arg2) : FVec Ideal S1024x6176 .f32) k j := by
  simp only [V, hostOps0, hostOps0_1, hostOps0_2, List.flatten_cons, List.flatten_nil, List.cons_append, List.nil_append, List.append_nil]
  after_reads_simp
  try simp -implicitDefEqProofs only [StableHlo.TRef.toBuf, StableHlo.TRef.ofBuf, cast_cast, cast_eq]
  clean_types
  generalize m (c, Proc.tc.devRef main_arg2) = w
  exact pad_cols w _ pads_S1024x6176_S1024x6272_000_0960 h_S_ pad_zero k j

/-- The product of the normalized inputs with the weights, and zeros in the further columns. -/
def prod (h : FVec Ideal S4096x1024 .f32) (w : FVec Ideal S1024x6176 .f32) (y : S4096x6272.Idx) : EReal :=
  padCols (fun z : Cert.Reference18Ideal.S4096x6176.Idx => mm (p := 4096) (q := 1024) (r := 6176) h w (z 0) (z 1)) (y 0) (y 1)

theorem prod_eq (h : FVec Ideal S4096x1024 .f32) (w : FVec Ideal S1024x6176 .f32) (i : Fin 4096) (j : Fin 6272) :
    ∑ k : Fin 1024, h (ix2 i k) * padCols w k j = prod h w (ix2 i j) :=
  sum_padCols (fun k => h (ix2 i k)) w _ i (fun _ => rfl) j

/-- The kernel's result. -/
theorem final : (dats m 0 c).arrAt 2 cfg0.N = prod
    (Cert.Reference18Ideal.Read.val_main_v12 (F := Ideal) (m (c, Proc.tc.devRef main_arg0)) (m (c, Proc.tc.devRef main_arg1)))
      (m (c, Proc.tc.devRef main_arg2)) := by
  refine (dats m 0 c).arrAt_eq_of_covers 2 _ (by decide +kernel) fun t _ y => ?_
  blk_simp
  obtain ⟨i, j, rfl⟩ : ∃ (i : Fin 1024) (j : Fin 896), y = ix2 i j := ⟨y 0, y 1, eq_ix2 y⟩
  have e : (win0_2.blk t).view.emb (ix2 i j) = ix2 (⟨1024 * (t.val % 4) + i.val, by omega⟩ : Fin 4096)
      (⟨896 * (t.val / 4) + j.val, by have := lt_N t; omega⟩ : Fin 6272) := by
    blk_ext [at2 t]
  rw [e, ← prod_eq]
  refine (outs m c t i j).trans (Finset.sum_congr (M := EReal) rfl fun k _ => ?_)
  rw [blkH_apply, blkW_apply, V_h, V_w]

open Cert.Reference18Ideal.Read in
/-- The reference's result. -/
theorem ref (x0 : FVec Ideal S4096x1024 .f32) (x1 : FVec Ideal S1024 .f32) (x2 : FVec Ideal S1024x6176 .f32) :
    val_main_v14 (F := Ideal) x0 x1 x2 = prod (val_main_v12 (F := Ideal) x0 x1) x2 := by
  funext y
  have e : val_main_v13 (F := Ideal) x0 x1 x2
      = fun z : Cert.Reference18Ideal.S4096x6176.Idx => mm (p := 4096) (q := 1024) (r := 6176) (val_main_v12 (F := Ideal) x0 x1) x2 (z 0) (z 1) := by
    funext z
    refine (val_main_v13_apply x0 x1 x2 z).trans (Finset.sum_congr rfl fun k _ => ?_)
    exact congrArg₂ (· * ·) (congrArg _ (eq_ix2 _)) (congrArg _ (eq_ix2 _))
  obtain ⟨i, j, rfl⟩ : ∃ (i : Fin 4096) (j : Fin 6272), y = ix2 i j := ⟨y 0, y 1, eq_ix2 y⟩
  unfold val_main_v14 prod
  rw [e]
  exact pad_cols _ _ _ _ pad_zero i j

end Ffn.SsdIn
-- ==== Proof.SsdOut.lean ====
/-
  The state-space layer's result: what a grid point's blocks hold, what it leaves, the result of the call and the
  reference's.
-/
module

public import proofs.«01_k».proof.Proof.Gen.Kernel19Ideal.Value
public import proofs.«01_k».proof.Proof.Gen.Reference19Ideal.Run
public import proofs.«01_k».proof.Proof.Gen.Reference19Ideal.Read
public import Idealize.ShloMosaic.Lib.StableHlo.ReadAt
public import Idealize.ShloMosaic.Lib.Pipeline.ReadBack
public import proofs.«01_k».proof.Proof.Products

@[expose] public section

noncomputable section

namespace Ffn.SsdOut

open Finset Idealize.ShloMosaic Idealize.ShloMosaic.TcCoe
open Cert.Kernel19Ideal Cert.Kernel19Ideal.Gen

/-- Where each window's block lies at each point. -/
theorem at0 : ∀ t : Fin cfg0.N, win0_0.index t = ![t.val, 0] :=
  (by decide +kernel : ∀ t : Fin grid0.N, win0_0.index t = ![t.val, 0])
theorem at1 : ∀ t : Fin cfg0.N, win0_1.index t = ![0, 0] :=
  (by decide +kernel : ∀ t : Fin grid0.N, win0_1.index t = ![0, 0])
theorem at2 : ∀ t : Fin cfg0.N, win0_2.index t = ![t.val, 0] :=
  (by decide +kernel : ∀ t : Fin grid0.N, win0_2.index t = ![t.val, 0])
theorem at3 : ∀ t : Fin cfg0.N, win0_3.index t = ![t.val, 0] :=
  (by decide +kernel : ∀ t : Fin grid0.N, win0_3.index t = ![t.val, 0])

theorem lt_N (t : Fin cfg0.N) : t.val < 4 := t.isLt

/-- What is stored: the input and the product. -/
theorem out_apply (a : FVec Ideal S1024x2048 .bf16) (w : FVec Ideal S2048x1024 .bf16) (x : FVec Ideal S1024x1024 .f32) (i j : Fin 1024) :
    k0_pay1 (F := Ideal) a w x (ix2 i j) = x (ix2 i j) + mm a w i j := by
  unfold k0_pay1 mm
  pointwise

variable (m : (ℓ : Loc nD τ sig) → Buf (Elt Ideal) ℓ) (c : Dev nD) (t : Fin cfg0.N)

/-- A point's block of the scan's result, the weights, and its block of the input. -/
def blkA : FVec Ideal S1024x2048 .bf16 := iblk m c 0 t
def blkW : FVec Ideal S2048x1024 .bf16 := iblk m c 1 t
def blkX : FVec Ideal S1024x1024 .f32 := iblk m c 2 t

/-- What a point stores. -/
theorem outs (i j : Fin 1024) : (dats m 0 c).after 3 t (ix2 i j)
    = blkX m c t (ix2 i j) + mm (blkA m c t) (blkW m c t) i j := by
  rw [after0_3]
  unfold out0_3
  refine (canon_hit _ _ _ _ (ix2 i j) fun a => by fin_cases a <;> simp).trans ?_
  refine (out_apply _ _ _ i j).trans ?_
  refine congrArg₂ (· + ·) (ld_part _ _ _ _ fun a => by fin_cases a <;> simp)
    (Finset.sum_congr rfl fun k _ => congrArg₂ (· * ·) ?_ ?_)
  · exact ld_part _ _ _ _ fun a => by fin_cases a <;> simp
  · exact ld_part _ _ _ _ fun a => by fin_cases a <;> simp

theorem blkA_apply (i : Fin 1024) (k : Fin 2048) : blkA m c t (ix2 i k)
    = V m c main_v0 (ix2 (⟨1024 * t.val + i.val, by have := lt_N t; omega⟩ : Fin 4096) k) := by
  unfold blkA
  blk_simp [iblk, at0 t]
  congr 1
  blk_ext [at0 t]

theorem blkW_apply (k : Fin 2048) (j : Fin 1024) : blkW m c t (ix2 k j) = V m c main_v1 (ix2 k j) := by
  unfold blkW
  blk_simp [iblk, at1 t]
  congr 1
  blk_ext [at1 t]

theorem blkX_apply (i j : Fin 1024) : blkX m c t (ix2 i j)
    = V m c main_arg0 (ix2 (⟨1024 * t.val + i.val, by have := lt_N t; omega⟩ : Fin 4096) j) := by
  unfold blkX
  blk_simp [iblk, at2 t]
  congr 1
  blk_ext [at2 t]

/-- What the host hands to the call: the scan's result and the weights. -/
theorem V_a : V m c main_v0 = (m (c, Proc.tc.devRef main_arg1) : FVec Ideal S4096x2048 .f32) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  rfl

theorem V_w : V m c main_v1 = (m (c, Proc.tc.devRef main_arg2) : FVec Ideal S2048x1024 .f32) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  rfl

/-- The layer's result: the input and the product of the scan's result with the weights. -/
def layer (x : FVec Ideal S4096x1024 .f32) (a : FVec Ideal S4096x2048 .f32) (w : FVec Ideal S2048x1024 .f32) (y : S4096x1024.Idx) : EReal :=
  x (ix2 (y 0) (y 1)) + mm (p := 4096) (q := 2048) (r := 1024) a w (y 0) (y 1)

/-- The kernel's result. -/
theorem final : (dats m 0 c).arrAt 3 cfg0.N = layer (m (c, Proc.tc.devRef main_arg0)) (m (c, Proc.tc.devRef main_arg1))
    (m (c, Proc.tc.devRef main_arg2)) := by
  refine (dats m 0 c).arrAt_eq_of_covers 3 _ (by decide +kernel) fun t _ y => ?_
  blk_simp
  obtain ⟨i, j, rfl⟩ : ∃ (i j : Fin 1024), y = ix2 i j := ⟨y 0, y 1, eq_ix2 y⟩
  have e : (win0_3.blk t).view.emb (ix2 i j) = ix2 (⟨1024 * t.val + i.val, by have := lt_N t; omega⟩ : Fin 4096) j := by
    blk_ext [at3 t]
  rw [e]
  refine (outs m c t i j).trans ?_
  unfold layer
  rw [blkX_apply, V_main_arg0]
  refine congrArg₂ (· + ·) rfl (Finset.sum_congr rfl fun k _ => ?_)
  rw [blkA_apply, blkW_apply, V_a, V_w]
  rfl

open Cert.Reference19Ideal.Read in
/-- The reference's result. -/
theorem ref (x0 : FVec Ideal S4096x1024 .f32) (x1 : FVec Ideal S4096x2048 .f32) (x2 : FVec Ideal S2048x1024 .f32) :
    val_main_v1 (F := Ideal) x0 x1 x2 = layer x0 x1 x2 := by
  funext y
  rw [val_main_v1_apply, val_main_v0_apply]
  unfold layer
  refine congrArg₂ (· + ·) (congrArg _ (eq_ix2 _)) (Finset.sum_congr rfl fun k _ => ?_)
  exact congrArg₂ (· * ·) (congrArg _ (eq_ix2 _)) (congrArg _ (eq_ix2 _))

end Ffn.SsdOut
-- ==== Proof.Dyn.lean ====
/-
  The gradient of the normalized gated scan: what a grid point's blocks hold, what it leaves, the result of the call and the
  reference's.
-/
module

public import proofs.«01_k».proof.Proof.Gen.Kernel20Ideal.Value
public import proofs.«01_k».proof.Proof.Gen.Reference20Ideal.Run
public import proofs.«01_k».proof.Proof.Gen.Reference20Ideal.Read
public import Idealize.ShloMosaic.Lib.StableHlo.ReadAt
public import Idealize.ShloMosaic.Lib.Pipeline.ReadBack
public import proofs.«01_k».proof.Proof.Do
public import proofs.«01_k».proof.Proof.Products

@[expose] public section

noncomputable section

namespace Ffn.Dyn

open Finset Idealize.ShloMosaic Idealize.ShloMosaic.TcCoe
open Cert.Kernel20Ideal Cert.Kernel20Ideal.Gen

/-- Where each window's block lies at each point. -/
theorem at0 : ∀ t : Fin cfg0.N, win0_0.index t = ![t.val % 4, 0] :=
  (by decide +kernel : ∀ t : Fin grid0.N, win0_0.index t = ![t.val % 4, 0])
theorem at1 : ∀ t : Fin cfg0.N, win0_1.index t = ![t.val / 4, 0] :=
  (by decide +kernel : ∀ t : Fin grid0.N, win0_1.index t = ![t.val / 4, 0])
theorem at2 : ∀ t : Fin cfg0.N, win0_2.index t = ![t.val % 4, t.val / 4] :=
  (by decide +kernel : ∀ t : Fin grid0.N, win0_2.index t = ![t.val % 4, t.val / 4])

theorem lt_N (t : Fin cfg0.N) : t.val < 8 := t.isLt

theorem out_apply (d : FVec Ideal S1024x1024 .f32) (w : FVec Ideal S1024x1024 .bf16) (i j : Fin 1024) :
    k0_pay1 (F := Ideal) d w (ix2 i j) = mmT d w i j := Do.out_apply d w i j

variable (m : (ℓ : Loc nD τ sig) → Buf (Elt Ideal) ℓ) (c : Dev nD) (t : Fin cfg0.N)

/-- A point's block of the gradients and the weights. -/
def blkD : FVec Ideal S1024x1024 .f32 := iblk m c 0 t
def blkW : FVec Ideal S1024x1024 .bf16 := iblk m c 1 t

/-- What a point stores. -/
theorem outs (i j : Fin 1024) : (dats m 0 c).after 2 t (ix2 i j) = mmT (blkD m c t) (blkW m c t) i j := by
  rw [after0_2]
  unfold out0_2
  refine (canon_hit _ _ _ _ (ix2 i j) fun a => by fin_cases a <;> simp).trans ?_
  refine (out_apply _ _ i j).trans (Finset.sum_congr rfl fun k _ => congrArg₂ (· * ·) ?_ ?_)
  · exact ld_part _ _ _ _ fun a => by fin_cases a <;> simp
  · exact ld_part _ _ _ _ fun a => by fin_cases a <;> simp

theorem blkD_apply (i k : Fin 1024) : blkD m c t (ix2 i k)
    = V m c main_arg2 (ix2 (⟨1024 * (t.val % 4) + i.val, by omega⟩ : Fin 4096) k) := by
  unfold blkD
  blk_simp [iblk, at0 t]
  congr 1
  blk_ext [at0 t]

theorem blkW_apply (j k : Fin 1024) : blkW m c t (ix2 j k)
    = V m c main_v0 (ix2 (⟨1024 * (t.val / 4) + j.val, by have := lt_N t; omega⟩ : Fin 2048) k) := by
  unfold blkW
  blk_simp [iblk, at1 t]
  congr 1
  blk_ext [at1 t]

/-- What the host hands to the call: the weights. -/
theorem V_w : V m c main_v0 = (m (c, Proc.tc.devRef main_arg1) : FVec Ideal S2048x1024 .f32) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  rfl

/-- The kernel's result: the gradients times the transposed weights. -/
theorem final : (dats m 0 c).arrAt 2 cfg0.N = fun y => mmT (p := 4096) (q := 1024) (r := 2048)
    (m (c, Proc.tc.devRef main_arg2)) (m (c, Proc.tc.devRef main_arg1)) (y 0) (y 1) := by
  refine (dats m 0 c).arrAt_eq_of_covers 2 _ (by decide +kernel) fun t _ y => ?_
  blk_simp
  obtain ⟨i, j, rfl⟩ : ∃ (i j : Fin 1024), y = ix2 i j := ⟨y 0, y 1, eq_ix2 y⟩
  have e : (win0_2.blk t).view.emb (ix2 i j) = ix2 (⟨1024 * (t.val % 4) + i.val, by omega⟩ : Fin 4096)
      (⟨1024 * (t.val / 4) + j.val, by have := lt_N t; omega⟩ : Fin 2048) := by
    blk_ext [at2 t]
  rw [e]
  refine (outs m c t i j).trans (Finset.sum_congr (M := EReal) rfl fun k _ => ?_)
  rw [blkD_apply, blkW_apply, V_main_arg2, V_w]
  rfl

open Cert.Reference20Ideal.Read in
/-- The reference's result. -/
theorem ref (x1 : FVec Ideal S2048x1024 .f32) (x2 : FVec Ideal S4096x1024 .f32) :
    val_main_v1 (F := Ideal) x1 x2 = fun y => mmT (p := 4096) (q := 1024) (r := 2048) x2 x1 (y 0) (y 1) := by
  funext y
  refine (val_main_v1_apply x1 x2 y).trans (Finset.sum_congr rfl fun k _ => ?_)
  exact congrArg₂ (· * ·) (congrArg _ (eq_ix2 _)) (congrArg _ (eq_ix2 _))

end Ffn.Dyn
-- ==== Proof.SsdDwout.lean ====
/-
  The gradient of the state-space layer's output weights: what a grid point's blocks hold, what it leaves, the result of the call and the
  reference's.
-/
module

public import proofs.«01_k».proof.Proof.Gen.Kernel21Ideal.Value
public import proofs.«01_k».proof.Proof.Gen.Reference21Ideal.Run
public import proofs.«01_k».proof.Proof.Gen.Reference21Ideal.Read
public import Idealize.ShloMosaic.Lib.StableHlo.ReadAt
public import Idealize.ShloMosaic.Lib.Pipeline.ReadBack
public import proofs.«01_k».proof.Proof.MixDwout
public import proofs.«01_k».proof.Proof.Products

@[expose] public section

noncomputable section

namespace Ffn.SsdDwout

open Finset Idealize.ShloMosaic Idealize.ShloMosaic.TcCoe
open Cert.Kernel21Ideal Cert.Kernel21Ideal.Gen

/-- Where each window's block lies at each point. -/
theorem at0 : ∀ t : Fin cfg0.N, win0_0.index t = ![t.val % 2, t.val / 2] :=
  (by decide +kernel : ∀ t : Fin grid0.N, win0_0.index t = ![t.val % 2, t.val / 2])
theorem at1 : ∀ t : Fin cfg0.N, win0_1.index t = ![t.val % 2, 0] :=
  (by decide +kernel : ∀ t : Fin grid0.N, win0_1.index t = ![t.val % 2, 0])
theorem at2 : ∀ t : Fin cfg0.N, win0_2.index t = ![t.val / 2, 0] :=
  (by decide +kernel : ∀ t : Fin grid0.N, win0_2.index t = ![t.val / 2, 0])

theorem lt_N (t : Fin cfg0.N) : t.val < 4 := t.isLt

theorem zero_apply (i j : Fin 1024) : k0_pay1 (F := Ideal) (ix2 i j) = 0 := MixDwout.zero_apply i j

/-- Adding a product of two blocks to the accumulator. -/
theorem add_apply (x : FVec Ideal S2048x1024 .bf16) (y : FVec Ideal S2048x1024 .f32) (z : FVec Ideal S1024x1024 .f32)
    (i j : Fin 1024) : k0_pay2 x y z (ix2 i j) = z (ix2 i j) + tmm x y i j := MixDwout.add_apply x y z i j

theorem out_apply (z : FVec Ideal S1024x1024 .f32) (i j : Fin 1024) : k0_pay3 (F := Ideal) z (ix2 i j) = z (ix2 i j) := MixDwout.out_apply z i j

variable (m : (ℓ : Loc nD τ sig) → Buf (Elt Ideal) ℓ) (c : Dev nD) (t : Fin cfg0.N)

/-- A point's block of the scan's result and its block of the gradients. -/
def blkA : FVec Ideal S2048x1024 .bf16 := iblk m c 0 t
def blkG : FVec Ideal S2048x1024 .f32 := iblk m c 1 t

/-- The first of two points leaves in the accumulator the product of its blocks. -/
theorem outs_A (h : t.val % 2 = 0) (i j : Fin 1024) :
    (outsAt0 m c t.val t.isLt).2 (ix2 i j) = tmm (blkA m c t) (blkG m c t) i j := by
  rw [outsAt0_A m c t h (by omega)]
  frame_out
  refine (add_apply _ _ _ i j).trans ?_
  rw [zero_apply, zero_add]
  rfl

/-- The second of two points adds the product of its blocks and stores the sum. -/
theorem outs_B (h : t.val % 2 = 1) (i j : Fin 1024) :
    (outsAt0 m c t.val t.isLt).1 (ix2 i j)
      = (outsAt0 m c (t.val - 1) (Nat.lt_of_le_of_lt (Nat.sub_le _ _) t.isLt)).2 (ix2 i j) + tmm (blkA m c t) (blkG m c t) i j := by
  rw [outsAt0_B m c t (by omega) h]
  frame_out
  simp only [read_unread_whole]
  exact (out_apply _ i j).trans (add_apply _ _ _ i j)

theorem blkA_apply (k : Fin 2048) (i : Fin 1024) : blkA m c t (ix2 k i)
    = V m c main_v0 (ix2 (⟨2048 * (t.val % 2) + k.val, by omega⟩ : Fin 4096)
      (⟨1024 * (t.val / 2) + i.val, by have := lt_N t; omega⟩ : Fin 2048)) := by
  unfold blkA
  blk_simp [iblk, at0 t]
  congr 1
  blk_ext [at0 t]

theorem blkG_apply (k : Fin 2048) (j : Fin 1024) : blkG m c t (ix2 k j)
    = V m c main_arg2 (ix2 (⟨2048 * (t.val % 2) + k.val, by omega⟩ : Fin 4096) j) := by
  unfold blkG
  blk_simp [iblk, at1 t]
  congr 1
  blk_ext [at1 t]

/-- What the host hands to the call: the scan's result. -/
theorem V_a : V m c main_v0 = (m (c, Proc.tc.devRef main_arg0) : FVec Ideal S4096x2048 .f32) := by
  simp only [V, hostOps0, List.flatten_cons, List.flatten_nil, List.cons_append, List.nil_append, List.append_nil]
  after_reads_simp
  try simp -implicitDefEqProofs only [StableHlo.TRef.toBuf, StableHlo.TRef.ofBuf, cast_cast, cast_eq]
  clean_types
  rfl

/-- The kernel's result: the transposed result of the scan times the gradients. -/
theorem final : (dats m 0 c).arrAt 2 cfg0.N = fun y => tmm (p := 2048) (q := 4096) (r := 1024)
    (m (c, Proc.tc.devRef main_arg0)) (m (c, Proc.tc.devRef main_arg2)) (y 0) (y 1) := by
  refine (dats m 0 c).arrAt_eq_of_covers 2 _ (by decide +kernel) fun t hf y => ?_
  have ht := (flush0_2 t).mp hf
  have hp : (t.val - 1) % 2 = 0 := by omega
  blk_simp
  obtain ⟨i, j, rfl⟩ : ∃ (i j : Fin 1024), y = ix2 i j := ⟨y 0, y 1, eq_ix2 y⟩
  have e : (win0_2.blk t).view.emb (ix2 i j) = ix2 (⟨1024 * (t.val / 2) + i.val, by have := lt_N t; omega⟩ : Fin 2048) j := by
    blk_ext [at2 t]
  rw [after0_2, e]
  refine (outs_B m c t ht i j).trans ?_
  rw [outs_A m c ⟨t.val - 1, Nat.lt_of_le_of_lt (Nat.sub_le _ _) t.isLt⟩ hp i j]
  refine Eq.trans ?_ (sum_halves _).symm
  refine congrArg₂ (· + ·) (Finset.sum_congr rfl fun k _ => ?_) (Finset.sum_congr rfl fun k _ => ?_)
  · rw [blkA_apply, blkG_apply, V_a, V_main_arg2]
    refine congrArg₂ (· * ·) (congrArg _ ?_) (congrArg _ ?_)
    · exact congrArg₂ ix2 (Fin.ext (by simp [hp])) (Fin.ext (by simp; omega))
    · exact congrArg₂ ix2 (Fin.ext (by simp [hp])) rfl
  · rw [blkA_apply, blkG_apply, V_a, V_main_arg2]
    refine congrArg₂ (· * ·) (congrArg _ ?_) (congrArg _ ?_)
    · exact congrArg₂ ix2 (Fin.ext (by simp [ht])) rfl
    · exact congrArg₂ ix2 (Fin.ext (by simp [ht])) rfl

open Cert.Reference21Ideal.Read in
/-- The reference's result. -/
theorem ref (x0 : FVec Ideal S4096x2048 .f32) (x2 : FVec Ideal S4096x1024 .f32) :
    val_main_v3 (F := Ideal) x0 x2 = fun y => tmm (p := 2048) (q := 4096) (r := 1024) x0 x2 (y 0) (y 1) := by
  funext y
  refine (val_main_v2_apply (F := Ideal) x0 x2 y).trans ?_
  rw [val_main_v1_apply]
  refine Finset.sum_congr rfl fun k _ => ?_
  exact (mul_comm _ _).trans (congrArg₂ (· * ·) (congrArg _ (eq_ix2 _)) (congrArg _ (eq_ix2 _)))

end Ffn.SsdDwout
-- ==== Proof.SsdLayer.lean ====
/-
  The claims of the calls around the state-space scan: each reference runs and changes no argument, and each call gives its
  reference's results.
-/
module

public import proofs.«01_k».proof.Defs
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.SsdDxFinite
public import proofs.«01_k».proof.Proof.SsdDwin
public import proofs.«01_k».proof.Proof.SsdIn
public import proofs.«01_k».proof.Proof.SsdOut
public import proofs.«01_k».proof.Proof.Dyn
public import proofs.«01_k».proof.Proof.SsdDwout
public import Idealize.ShloMosaic.Adequacy
public import Idealize.ShloMosaic.Init

@[expose] public section

noncomputable section

namespace Ffn

open Idealize.ShloMosaic Idealize.ShloMosaic.TcCoe Idealize.SL.Sem

/-- The reference of the gradients of the state-space layer's inputs and gain runs and changes no argument. -/
theorem frame16 : Cert.quiescent_Reference16Ideal (hReference16Ideal := Cert.Reference16Ideal.Gen.facts) := fun m g _ =>
  (θ_run _ _ _).mono (fun r h => ⟨fun c => (h c).2.2, sem_eq_zero_of_no_sems (by decide) r.2⟩) (Cert.Reference16Ideal.Value.run m g)

/-- The reference of the gradient of the state-space layer's input weights runs and changes no argument. -/
theorem frame17 : Cert.quiescent_Reference17Ideal (hReference17Ideal := Cert.Reference17Ideal.Gen.facts) := fun m g _ =>
  (θ_run _ _ _).mono (fun r h => ⟨fun c => (h c).2, sem_eq_zero_of_no_sems (by decide) r.2⟩) (Cert.Reference17Ideal.Value.run m g)

/-- The reference of the state-space layer's input product runs and changes no argument. -/
theorem frame18 : Cert.quiescent_Reference18Ideal (hReference18Ideal := Cert.Reference18Ideal.Gen.facts) := fun m g _ =>
  (θ_run _ _ _).mono (fun r h => ⟨fun c => (h c).2, sem_eq_zero_of_no_sems (by decide) r.2⟩) (Cert.Reference18Ideal.Value.run m g)

/-- The reference of the state-space layer runs and changes no argument. -/
theorem frame19 : Cert.quiescent_Reference19Ideal (hReference19Ideal := Cert.Reference19Ideal.Gen.facts) := fun m g _ =>
  (θ_run _ _ _).mono (fun r h => ⟨fun c => (h c).2, sem_eq_zero_of_no_sems (by decide) r.2⟩) (Cert.Reference19Ideal.Value.run m g)

/-- The reference of the gradient of the normalized gated scan runs and changes no argument. -/
theorem frame20 : Cert.quiescent_Reference20Ideal (hReference20Ideal := Cert.Reference20Ideal.Gen.facts) := fun m g _ =>
  (θ_run _ _ _).mono (fun r h => ⟨fun c => (h c).2, sem_eq_zero_of_no_sems (by decide) r.2⟩) (Cert.Reference20Ideal.Value.run m g)

/-- The reference of the gradient of the state-space layer's output weights runs and changes no argument. -/
theorem frame21 : Cert.quiescent_Reference21Ideal (hReference21Ideal := Cert.Reference21Ideal.Gen.facts) := fun m g _ =>
  (θ_run _ _ _).mono (fun r h => ⟨fun c => (h c).2, sem_eq_zero_of_no_sems (by decide) r.2⟩) (Cert.Reference21Ideal.Value.run m g)

/-- The gradients of the state-space layer's inputs and gain: the call gives the reference's. -/
theorem algebraic16 : Cert.algebraic_Kernel16Ideal_Reference16Ideal_pre_ssd_dx_finite (hKernel16Ideal := Cert.Kernel16Ideal.Gen.facts)
    (hReference16Ideal := Cert.Reference16Ideal.Gen.facts) (hPre_ssd_dx_finite := SsdDx.preFacts) := by
  intro m g m' g' hpre hargs
  have := SsdDx.preFacts
  refine ⟨_, _, Cert.Kernel16Ideal.Value.run_blocks m g, ?_⟩
  refine (θ_run _ _ _).mono (fun r h c => ?_) (Cert.Reference16Ideal.Value.run m' g')
  obtain ⟨h0, h1, hk⟩ := h c
  obtain ⟨a0, a1, a2, a3, a4⟩ := hargs c
  refine ⟨h0.trans ((Cert.Reference16Ideal.Read.val_main_v38_eq m' c).trans ?_),
    h1.trans (((Cert.Reference16Ideal.Read.val_main_v39_eq _ _ _).trans (SsdDx.ref_dg _ _ _)).trans ?_), hk⟩
  · rw [a0, a1, a2, a3, a4]
    refine (funext fun y => ?_ : _ = fun y => SsdDx.dx _ _ _ _ _ (y 0) (y 1)).trans (SsdDx.final_dx m c).symm
    exact (congrArg _ (eq_ix2 y)).trans ((SsdDx.ref_dx _ _ _ _ _ (y 0) (y 1)).trans (SsdDx.dx_eq_chain (hpre c) (y 0) (y 1)).symm)
  · rw [a0, a2, a3]
    exact (SsdDx.final_dg m c).symm

/-- The gradient of the state-space layer's input weights: the call gives the reference's. -/
theorem algebraic17 : Cert.algebraic_Kernel17Ideal_Reference17Ideal (hKernel17Ideal := Cert.Kernel17Ideal.Gen.facts)
    (hReference17Ideal := Cert.Reference17Ideal.Gen.facts) := by
  intro m g m' g' _ hargs
  refine ⟨_, Cert.Kernel17Ideal.Value.run_blocks m g, ?_⟩
  refine (θ_run _ _ _).mono (fun r h c => ?_) (Cert.Reference17Ideal.Value.run m' g')
  obtain ⟨h0, hk⟩ := h c
  obtain ⟨a0, a1, a2, a3⟩ := hargs c
  refine ⟨h0.trans (((Cert.Reference17Ideal.Read.val_main_v17_eq _ _ _).trans (SsdDwin.ref _ _ _)).trans ?_), hk⟩
  rw [a0, a1, a3]
  exact (SsdDwin.final m c).symm

/-- The state-space layer's input product: the call gives the reference's. -/
theorem algebraic18 : Cert.algebraic_Kernel18Ideal_Reference18Ideal (hKernel18Ideal := Cert.Kernel18Ideal.Gen.facts)
    (hReference18Ideal := Cert.Reference18Ideal.Gen.facts) := by
  intro m g m' g' _ hargs
  refine ⟨_, Cert.Kernel18Ideal.Value.run_blocks m g, ?_⟩
  refine (θ_run _ _ _).mono (fun r h c => ?_) (Cert.Reference18Ideal.Value.run m' g')
  obtain ⟨h0, hk⟩ := h c
  obtain ⟨a0, a1, a2⟩ := hargs c
  refine ⟨h0.trans (((Cert.Reference18Ideal.Read.val_main_v14_eq _ _ _).trans (SsdIn.ref _ _ _)).trans ?_), hk⟩
  rw [a0, a1, a2]
  exact (SsdIn.final m c).symm

/-- The state-space layer: the call gives the reference's. -/
theorem algebraic19 : Cert.algebraic_Kernel19Ideal_Reference19Ideal (hKernel19Ideal := Cert.Kernel19Ideal.Gen.facts)
    (hReference19Ideal := Cert.Reference19Ideal.Gen.facts) := by
  intro m g m' g' _ hargs
  refine ⟨_, Cert.Kernel19Ideal.Value.run_blocks m g, ?_⟩
  refine (θ_run _ _ _).mono (fun r h c => ?_) (Cert.Reference19Ideal.Value.run m' g')
  obtain ⟨h0, hk⟩ := h c
  obtain ⟨a0, a1, a2⟩ := hargs c
  refine ⟨h0.trans (((Cert.Reference19Ideal.Read.val_main_v1_eq _ _ _).trans (SsdOut.ref _ _ _)).trans ?_), hk⟩
  rw [a0, a1, a2]
  exact (SsdOut.final m c).symm

/-- The gradient of the normalized gated scan: the call gives the reference's. -/
theorem algebraic20 : Cert.algebraic_Kernel20Ideal_Reference20Ideal (hKernel20Ideal := Cert.Kernel20Ideal.Gen.facts)
    (hReference20Ideal := Cert.Reference20Ideal.Gen.facts) := by
  intro m g m' g' _ hargs
  refine ⟨_, Cert.Kernel20Ideal.Value.run_blocks m g, ?_⟩
  refine (θ_run _ _ _).mono (fun r h c => ?_) (Cert.Reference20Ideal.Value.run m' g')
  obtain ⟨h0, hk⟩ := h c
  obtain ⟨a0, a1, a2⟩ := hargs c
  refine ⟨h0.trans (((Cert.Reference20Ideal.Read.val_main_v1_eq _ _).trans (Dyn.ref _ _)).trans ?_), hk⟩
  rw [a1, a2]
  exact (Dyn.final m c).symm

/-- The gradient of the state-space layer's output weights: the call gives the reference's. -/
theorem algebraic21 : Cert.algebraic_Kernel21Ideal_Reference21Ideal (hKernel21Ideal := Cert.Kernel21Ideal.Gen.facts)
    (hReference21Ideal := Cert.Reference21Ideal.Gen.facts) := by
  intro m g m' g' _ hargs
  refine ⟨_, Cert.Kernel21Ideal.Value.run_blocks m g, ?_⟩
  refine (θ_run _ _ _).mono (fun r h c => ?_) (Cert.Reference21Ideal.Value.run m' g')
  obtain ⟨h0, hk⟩ := h c
  obtain ⟨a0, a1, a2⟩ := hargs c
  refine ⟨h0.trans (((Cert.Reference21Ideal.Read.val_main_v3_eq _ _).trans (SsdDwout.ref _ _)).trans ?_), hk⟩
  rw [a0, a2]
  exact (SsdDwout.final m c).symm

end Ffn
-- ==== Proof.Shift.lean ====
/-
  A column moved down or up by some rows, with zeros for what comes in, and the short convolution and its transpose along a
  column. The kernel moves a block by a rotation and clears the rows that came around; the reference puts rows of zeros
  before or after.
-/
module

public import Idealize.ShloMosaic.Lib.KernelVsHost
public import Idealize.ShloMosaic.Lib.Pipeline.ReadBack
public import proofs.«01_k».proof.Proof.Products

@[expose] public section

noncomputable section

namespace Ffn

open Finset Idealize.ShloMosaic

/-- A column moved down by `s` rows. -/
def down (s : ℕ) (f : Fin 4096 → EReal) (i : Fin 4096) : EReal :=
  if s ≤ i.val then f ⟨i.val - s, by omega⟩ else 0

/-- A column moved up by `s` rows. -/
def up (s : ℕ) (f : Fin 4096 → EReal) (i : Fin 4096) : EReal :=
  if h : i.val + s < 4096 then f ⟨i.val + s, h⟩ else 0

theorem down_zero (f : Fin 4096 → EReal) (i : Fin 4096) : down 0 f i = f i := by
  unfold down
  rw [if_pos (Nat.zero_le _)]
  rfl

theorem up_zero (f : Fin 4096 → EReal) (i : Fin 4096) : up 0 f i = f i := by
  unfold up
  rw [dif_pos (by omega : i.val + 0 < 4096)]
  rfl

/-- A factor of the whole column goes through the move. -/
theorem up_mul (s : ℕ) (f : Fin 4096 → EReal) (w : EReal) (i : Fin 4096) : up s (fun k => w * f k) i = up s f i * w := by
  unfold up
  split
  · exact mul_comm _ _
  · exact (zero_mul _).symm

/-- The convolution of a column with three weights: a row and the two before it. -/
def conv (w : Fin 3 → EReal) (f : Fin 4096 → EReal) (i : Fin 4096) : EReal := f i * w 2 + down 1 f i * w 1 + down 2 f i * w 0

/-- Its transpose: a row and the two after it. -/
def convT (w : Fin 3 → EReal) (f : Fin 4096 → EReal) (i : Fin 4096) : EReal := f i * w 2 + up 1 f i * w 1 + up 2 f i * w 0

/-- The sum as the reference forms it, from the first weight to the last. -/
theorem conv_forward (w : Fin 3 → EReal) (f : Fin 4096 → EReal) (i : Fin 4096) :
    0 + w 0 * down 2 f i + w 1 * down 1 f i + w 2 * down 0 f i = conv w f i := by
  unfold conv
  rw [down_zero, zero_add, mul_comm (w 0), mul_comm (w 1), mul_comm (w 2)]
  abel

variable {r : ℕ} (x : FVec Ideal (⟨2, ![4096, r]⟩ : Shape) .f32) (i : Fin 4096) (j : Fin r)

/-- A block rotated by `s` rows, and the rows that came around cleared. -/
theorem rotate_down (s : ℕ) (hs : s < 4096) (h : (⟨2, ![4096, r]⟩ : Shape).Rotates 0 none) :
    (if s ≤ i.val then dynamicRotate 0 (BitVec.ofNat 32 s) none x h (ix2 i j) else 0) = down s (fun k => x (ix2 k j)) i := by
  unfold down
  split
  · rename_i hi
    refine dynamicRotate_apply 0 _ x h (ix2 i j) (ix2 ⟨i.val - s, by omega⟩ j) fun b => ?_
    have e : (BitVec.ofNat 32 s).toNat = s := by
      rw [BitVec.toNat_ofNat]; omega
    fin_cases b
    · simp [e]
      omega
    · simp
  · rfl

/-- A block rotated by all but `s` rows, and the rows that came around cleared. -/
theorem rotate_up (s : ℕ) (hs : s < 4096) (h0 : 0 < s) (h : (⟨2, ![4096, r]⟩ : Shape).Rotates 0 none) :
    (if i.val < 4096 - s then dynamicRotate 0 (BitVec.ofNat 32 (4096 - s)) none x h (ix2 i j) else 0)
      = up s (fun k => x (ix2 k j)) i := by
  unfold up
  by_cases hi : i.val + s < 4096
  · rw [if_pos (by omega), dif_pos hi]
    refine dynamicRotate_apply 0 _ x h (ix2 i j) (ix2 ⟨i.val + s, hi⟩ j) fun b => ?_
    have e : (BitVec.ofNat 32 (4096 - s)).toNat = 4096 - s := by
      rw [BitVec.toNat_ofNat]; omega
    fin_cases b
    · simp [e]
      omega
    · simp
  · rw [if_neg (by omega), dif_neg hi]

/-- Two rows of zeros before a column, read from row `2 - s` on. -/
theorem cat_down (z : FVec Ideal (⟨2, ![2, r]⟩ : Shape) .f32) (hz : ∀ q, z q = 0)
    (h : Shape.Concatenates [(⟨2, ![2, r]⟩ : Shape), (⟨2, ![4096, r]⟩ : Shape)] (⟨2, ![4098, r]⟩ : Shape) 0)
    (s : ℕ) (n : Fin 4098) (hn : n.val + s = i.val + 2) :
    concatenate (⟨2, ![4098, r]⟩ : Shape) 0 [⟨(⟨2, ![2, r]⟩ : Shape), z⟩, ⟨(⟨2, ![4096, r]⟩ : Shape), x⟩] h (ix2 n j)
      = down s (fun k => x (ix2 k j)) i := by
  unfold down
  split
  · rename_i hi
    refine concatenate_pair_apply_right 0 z x h _ rfl rfl (ix2 ⟨i.val - s, by omega⟩ j) (fun b hb => ?_) ?_
    · fin_cases b
      · exact absurd rfl hb
      · rfl
    · show i.val - s + 2 = n.val
      omega
  · refine (concatenate_pair_apply_left 0 z x h _ rfl (ix2 ⟨n.val, by omega⟩ j) fun b => ?_).trans (hz _)
    fin_cases b <;> rfl

/-- A column with rows of zeros before and after it, read `s` rows on. -/
theorem pad_up (lo hi s : ℕ) (n : Fin 4098) (hn : n.val + 0 = i.val + 2) (hl : lo + s = 2) (v : FVec Ideal (⟨0, ![]⟩ : Shape) .f32)
    (h : (⟨2, ![4096, r]⟩ : Shape).Pads ![lo, 0] ![hi, 0] ![0, 0] (⟨2, ![4098, r]⟩ : Shape)) (hu : 0 < (⟨0, ![]⟩ : Shape).numel)
    (hv : ∀ q, v q = 0) :
    pad (⟨2, ![4098, r]⟩ : Shape) ![lo, 0] ![hi, 0] ![0, 0] x v h hu (ix2 n j) = up s (fun k => x (ix2 k j)) i := by
  unfold up
  split
  · rename_i hi
    exact pad_apply_of_inside _ _ _ x v h hu _ (ix2 ⟨i.val + s, hi⟩ j) fun a => by
      fin_cases a
      · simp
        omega
      · simp
  · refine (pad_apply_of_not_inside _ _ _ x v h hu _ 0 ?_).trans (hv _)
    simp
    omega

end Ffn

namespace Ffn.ShortConv

open Finset Idealize.ShloMosaic

variable (p : FVec Ideal (⟨2, ![4096, 3072]⟩ : Shape) .f32) (w : FVec Ideal (⟨2, ![3, 1024]⟩ : Shape) .f32)
  (g : FVec Ideal (⟨2, ![4096, 1024]⟩ : Shape) .f32) (j : Fin 1024) (i : Fin 4096)

/-- A column of the input product's three parts: the outer gate, the inner gate and the values. -/
def outGate : EReal := p (ix2 i (⟨j.val, by omega⟩ : Fin 3072))
def inGate : EReal := p (ix2 i (⟨1024 + j.val, by omega⟩ : Fin 3072))
def value : EReal := p (ix2 i (⟨2048 + j.val, by omega⟩ : Fin 3072))

/-- What is convolved, and a column's three weights. -/
def gated : EReal := inGate p j i * value p j i
def weight (k : Fin 3) : EReal := w (ix2 k j)

/-- What the layer hands on. -/
def result (y : (⟨2, ![4096, 1024]⟩ : Shape).Idx) : EReal := outGate p (y 1) (y 0) * conv (weight w (y 1)) (gated p (y 1)) (y 0)

/-- The gradient of the convolution's result. -/
def dConv : EReal := g (ix2 i j) * outGate p j i

/-- The gradient of the outer gate, of the inner gate and of the values. -/
def dOuter (y : (⟨2, ![4096, 1024]⟩ : Shape).Idx) : EReal := g (ix2 (y 0) (y 1)) * conv (weight w (y 1)) (gated p (y 1)) (y 0)
def dInner (y : (⟨2, ![4096, 1024]⟩ : Shape).Idx) : EReal := convT (weight w (y 1)) (dConv p g (y 1)) (y 0) * value p (y 1) (y 0)
def dValue (y : (⟨2, ![4096, 1024]⟩ : Shape).Idx) : EReal := convT (weight w (y 1)) (dConv p g (y 1)) (y 0) * inGate p (y 1) (y 0)

/-- The gradient of the weights, with five rows of zeros after it. -/
def dWeight (y : (⟨2, ![8, 1024]⟩ : Shape).Idx) : EReal :=
  if (y 0).val < 3 then ∑ i : Fin 4096, dConv p g (y 1) i * down (2 - (y 0).val) (gated p (y 1)) i else 0

end Ffn.ShortConv
-- ==== Proof.ScBwd.lean ====
/-
  The gradient of the short convolution and its gates: what a grid point's blocks hold, what it leaves and the results of
  the call.
-/
module

public import proofs.«01_k».proof.Proof.Gen.Kernel22Ideal.Value
public import Idealize.ShloMosaic.Lib.StableHlo.ReadAt
public import Idealize.ShloMosaic.Lib.Pipeline.ReadBack
public import proofs.«01_k».proof.Proof.Shift

@[expose] public section

set_option maxRecDepth 16384

noncomputable section

namespace Ffn.ScBwd

open Finset Idealize.ShloMosaic Idealize.ShloMosaic.TcCoe
open Cert.Kernel22Ideal Cert.Kernel22Ideal.Gen
open Ffn.ShortConv

/-- Where each window's block lies at each point. -/
theorem at0 : ∀ t : Fin cfg0.N, win0_0.index t = ![0, t.val] :=
  (by decide +kernel : ∀ t : Fin grid0.N, win0_0.index t = ![0, t.val])
theorem at1 : ∀ t : Fin cfg0.N, win0_1.index t = ![0, 8 + t.val] :=
  (by decide +kernel : ∀ t : Fin grid0.N, win0_1.index t = ![0, 8 + t.val])
theorem at2 : ∀ t : Fin cfg0.N, win0_2.index t = ![0, 16 + t.val] :=
  (by decide +kernel : ∀ t : Fin grid0.N, win0_2.index t = ![0, 16 + t.val])
theorem at3 : ∀ t : Fin cfg0.N, win0_3.index t = ![0, t.val] :=
  (by decide +kernel : ∀ t : Fin grid0.N, win0_3.index t = ![0, t.val])
theorem at4 : ∀ t : Fin cfg0.N, win0_4.index t = ![0, t.val] :=
  (by decide +kernel : ∀ t : Fin grid0.N, win0_4.index t = ![0, t.val])
theorem at5 : ∀ t : Fin cfg0.N, win0_5.index t = ![0, t.val] :=
  (by decide +kernel : ∀ t : Fin grid0.N, win0_5.index t = ![0, t.val])
theorem at6 : ∀ t : Fin cfg0.N, win0_6.index t = ![0, t.val] :=
  (by decide +kernel : ∀ t : Fin grid0.N, win0_6.index t = ![0, t.val])
theorem at7 : ∀ t : Fin cfg0.N, win0_7.index t = ![0, t.val] :=
  (by decide +kernel : ∀ t : Fin grid0.N, win0_7.index t = ![0, t.val])
theorem at8 : ∀ t : Fin cfg0.N, win0_8.index t = ![0, t.val] :=
  (by decide +kernel : ∀ t : Fin grid0.N, win0_8.index t = ![0, t.val])

theorem lt_N (t : Fin cfg0.N) : t.val < 8 := t.isLt

/-- What is convolved, and it moved down by one row and by two. -/
theorem v_apply (c h : FVec Ideal S4096x128 .f32) (i : Fin 4096) (j : Fin 128) :
    k0_pay2 (F := Ideal) c h (ix2 i j) = c (ix2 i j) * h (ix2 i j) := by
  unfold k0_pay2
  pointwise

theorem v1_apply (c h : FVec Ideal S4096x128 .f32) (i : Fin 4096) (j : Fin 128) :
    k0_pay3 (F := Ideal) c h (ix2 i j) = down 1 (fun k => c (ix2 k j) * h (ix2 k j)) i := by
  refine Eq.trans ?_ ((rotate_down (k0_pay2 (F := Ideal) c h) i j 1 (by omega) rotates_S4096x128_d0).trans
    (congrArg (down 1 · i) (funext fun k => v_apply c h k j)))
  unfold k0_pay3
  pointwise
  rw [WordCmp.cmpi_sge_ofNat (by omega) (by omega), WordCmp.select_ofBool]
  simp only [decide_eq_true_eq]

theorem v2_apply (c h : FVec Ideal S4096x128 .f32) (i : Fin 4096) (j : Fin 128) :
    k0_pay4 (F := Ideal) c h (ix2 i j) = down 2 (fun k => c (ix2 k j) * h (ix2 k j)) i := by
  refine Eq.trans ?_ ((rotate_down (k0_pay2 (F := Ideal) c h) i j 2 (by omega) rotates_S4096x128_d0).trans
    (congrArg (down 2 · i) (funext fun k => v_apply c h k j)))
  unfold k0_pay4
  pointwise
  rw [WordCmp.cmpi_sge_ofNat (by omega) (by omega), WordCmp.select_ofBool]
  simp only [decide_eq_true_eq]

/-- The gradient of the outer gate as it is stored. -/
theorem db_apply (c h g : FVec Ideal S4096x128 .f32) (w2 w1 w0 : FVec Ideal S1x128 .f32) (i : Fin 4096) (j : Fin 128) :
    k0_pay5 (F := Ideal) c h w2 w1 w0 g (ix2 i j)
      = g (ix2 i j) * conv ![w0 (ix2 0 j), w1 (ix2 0 j), w2 (ix2 0 j)] (fun k => c (ix2 k j) * h (ix2 k j)) i := by
  unfold k0_pay5 conv
  pointwise
  rw [v_apply, v1_apply, v2_apply]

theorem du_apply (g b : FVec Ideal S4096x128 .f32) (i : Fin 4096) (j : Fin 128) :
    k0_pay6 (F := Ideal) g b (ix2 i j) = g (ix2 i j) * b (ix2 i j) := by
  unfold k0_pay6
  pointwise

theorem du2_apply (g b : FVec Ideal S4096x128 .f32) (w2 : FVec Ideal S1x128 .f32) (i : Fin 4096) (j : Fin 128) :
    k0_pay7 (F := Ideal) g b w2 (ix2 i j) = g (ix2 i j) * b (ix2 i j) * w2 (ix2 0 j) := by
  unfold k0_pay7
  pointwise
  rw [du_apply]

/-- The gradient of what is convolved. -/
theorem dv_apply (d d2 : FVec Ideal S4096x128 .f32) (w1 w0 : FVec Ideal S1x128 .f32) (i : Fin 4096) (j : Fin 128) :
    k0_pay8 (F := Ideal) (iota .tc S4096x128 32 [0] iota_S4096x128_d0_w32) d d2 w1 w0 (ix2 i j)
      = d2 (ix2 i j) + up 1 (fun k => d (ix2 k j)) i * w1 (ix2 0 j) + up 2 (fun k => d (ix2 k j)) i * w0 (ix2 0 j) := by
  rw [← rotate_up d i j 1 (by omega) (by omega) rotates_S4096x128_d0, ← rotate_up d i j 2 (by omega) (by omega) rotates_S4096x128_d0]
  unfold k0_pay8
  rw [show 4096 - 1 = 4095 from rfl, show 4096 - 2 = 4094 from rfl]
  generalize dynamicRotate (s := S4096x128) 0 4095#32 none d rotates_S4096x128_d0 = e1
  generalize dynamicRotate (s := S4096x128) 0 4094#32 none d rotates_S4096x128_d0 = e2
  pointwise
  rw [WordCmp.cmpi_slt_ofNat (by omega) (by omega), WordCmp.cmpi_slt_ofNat (by omega) (by omega), WordCmp.select_ofBool,
    WordCmp.select_ofBool]
  simp only [decide_eq_true_eq, ite_mul, zero_mul]

variable (m : (ℓ : Loc nD τ sig) → Buf (Elt Ideal) ℓ) (c : Dev nD) (t : Fin cfg0.N)

/-- A point's block of columns of the outer gate, the inner gate, the values, the weights and the cotangent. -/
def blkB : FVec Ideal S4096x128 .f32 := iblk m c 0 t
def blkC : FVec Ideal S4096x128 .f32 := iblk m c 1 t
def blkH : FVec Ideal S4096x128 .f32 := iblk m c 2 t
def blkW : FVec Ideal S3x128 .f32 := iblk m c 3 t
def blkG : FVec Ideal S4096x128 .f32 := iblk m c 4 t

/-- A column of the call's arrays that a point works on. -/
def colOf (j : Fin 128) : Fin 1024 := ⟨128 * t.val + j.val, by have := lt_N t; omega⟩

theorem blkB_apply (i : Fin 4096) (j : Fin 128) :
    blkB m c t (ix2 i j) = outGate (m (c, Proc.tc.devRef main_arg0)) (colOf t j) i := by
  unfold blkB outGate
  blk_simp [iblk, at0 t]
  rw [V_main_arg0]
  refine congrArg _ ?_
  blk_ext [at0 t, colOf]

theorem blkC_apply (i : Fin 4096) (j : Fin 128) :
    blkC m c t (ix2 i j) = inGate (m (c, Proc.tc.devRef main_arg0)) (colOf t j) i := by
  unfold blkC inGate
  blk_simp [iblk, at1 t]
  rw [V_main_arg0]
  refine congrArg _ ?_
  blk_ext [at1 t, colOf]

theorem blkH_apply (i : Fin 4096) (j : Fin 128) :
    blkH m c t (ix2 i j) = value (m (c, Proc.tc.devRef main_arg0)) (colOf t j) i := by
  unfold blkH value
  blk_simp [iblk, at2 t]
  rw [V_main_arg0]
  refine congrArg _ ?_
  blk_ext [at2 t, colOf]

theorem blkW_apply (k : Fin 3) (j : Fin 128) :
    blkW m c t (ix2 k j) = weight (m (c, Proc.tc.devRef main_arg1)) (colOf t j) k := by
  unfold blkW weight
  blk_simp [iblk, at3 t]
  rw [V_main_arg1]
  refine congrArg _ ?_
  blk_ext [at3 t, colOf]

theorem blkG_apply (i : Fin 4096) (j : Fin 128) :
    blkG m c t (ix2 i j) = (m (c, Proc.tc.devRef main_arg2) : FVec Ideal S4096x1024 .f32) (ix2 i (colOf t j)) := by
  unfold blkG
  blk_simp [iblk, at4 t]
  rw [V_main_arg2]
  refine congrArg _ ?_
  blk_ext [at4 t, colOf]

/-- A row of a point's weights. -/
def wRow (k : Fin 3) : FVec Ideal S1x128 .f32 := fun z => blkW m c t (ix2 k (z 1))

theorem ld_row {off : Fin S3x128.rank → ℕ} (k : Fin 3) (inb : ∀ a, off a + (![1, 128] : Fin 2 → ℕ) a ≤ S3x128.size a)
    (h0 : off 0 = k.val) (h1 : off 1 = 0) :
    View.ld (iblk m c 3 t) (Rect.unit off ![1, 128] inb) = wRow m c t k := by
  funext z
  refine ld_part _ _ _ _ fun a => ?_
  fin_cases a
  · show k.val = off 0 + (z 0).val
    have : (z 0).val < 1 := (z 0).isLt
    omega
  · show (z 1).val = off 1 + (z 1).val
    omega

/-- The gradient of the convolution's result, in a point's columns. -/
def blkDu : FVec Ideal S4096x128 .f32 := k0_pay6 (F := Ideal) (blkG m c t) (blkB m c t)

/-- What is convolved, in a point's columns. -/
theorem v_col (j : Fin 128) : (fun k => blkC m c t (ix2 k j) * blkH m c t (ix2 k j))
    = gated (m (c, Proc.tc.devRef main_arg0)) (colOf t j) :=
  funext fun k => congrArg₂ (· * ·) (blkC_apply m c t k j) (blkH_apply m c t k j)

theorem du_col (j : Fin 128) : (fun k => blkDu m c t (ix2 k j))
    = dConv (m (c, Proc.tc.devRef main_arg0)) (m (c, Proc.tc.devRef main_arg2)) (colOf t j) := by
  funext k
  unfold blkDu dConv
  rw [du_apply, blkG_apply, blkB_apply]

/-- The gradient of what is convolved, in a point's columns. -/
def blkDv : FVec Ideal S4096x128 .f32 := k0_pay8 (F := Ideal) (iota .tc S4096x128 32 [0] iota_S4096x128_d0_w32) (blkDu m c t)
  (k0_pay7 (F := Ideal) (blkG m c t) (blkB m c t) (wRow m c t 2)) (wRow m c t 1) (wRow m c t 0)

theorem dv_col (i : Fin 4096) (j : Fin 128) : blkDv m c t (ix2 i j)
    = convT (weight (m (c, Proc.tc.devRef main_arg1)) (colOf t j))
        (dConv (m (c, Proc.tc.devRef main_arg0)) (m (c, Proc.tc.devRef main_arg2)) (colOf t j)) i := by
  unfold blkDv
  rw [dv_apply, du2_apply, du_col, blkG_apply, blkB_apply]
  unfold convT
  rw [← blkW_apply, ← blkW_apply, ← blkW_apply]
  rfl

/-- The three blocks of gradients that a point stores, and the block of the weights' gradient row by row. -/
theorem outs_5 : (dats m 0 c).after 5 t
    = k0_pay5 (F := Ideal) (blkC m c t) (blkH m c t) (wRow m c t 2) (wRow m c t 1) (wRow m c t 0) (blkG m c t) := by
  rw [after0_5]
  unfold outsAt0
  frame_out
  rw [ld_row m c t 2 _ rfl rfl, ld_row m c t 1 _ rfl rfl, ld_row m c t 0 _ rfl rfl]
  rfl

theorem outs_6 : (dats m 0 c).after 6 t = mulf (blkDv m c t) (blkH m c t) := by
  rw [after0_6]
  unfold outsAt0
  frame_out
  rw [ld_row m c t 2 _ rfl rfl, ld_row m c t 1 _ rfl rfl, ld_row m c t 0 _ rfl rfl]
  rfl

theorem outs_7 : (dats m 0 c).after 7 t = mulf (blkDv m c t) (blkC m c t) := by
  rw [after0_7]
  unfold outsAt0
  frame_out
  rw [ld_row m c t 2 _ rfl rfl, ld_row m c t 1 _ rfl rfl, ld_row m c t 0 _ rfl rfl]
  rfl

theorem dw0_apply (x d : FVec Ideal S4096x128 .f32) (j : Fin 128) :
    k0_pay12 (F := Ideal) x d (ix2 0 j) = ∑ i : Fin 4096, d (ix2 i j) * x (ix2 i j) := by
  unfold k0_pay12
  pointwise

theorem dw1_apply (x d : FVec Ideal S4096x128 .f32) (j : Fin 128) :
    k0_pay13 (F := Ideal) x d (ix2 0 j) = ∑ i : Fin 4096, d (ix2 i j) * x (ix2 i j) := by
  unfold k0_pay13
  pointwise

theorem dw2_apply (x d : FVec Ideal S4096x128 .f32) (j : Fin 128) :
    k0_pay1 (F := Ideal) x d (ix2 0 j) = ∑ i : Fin 4096, d (ix2 i j) * x (ix2 i j) := by
  unfold k0_pay1
  pointwise

theorem rest_apply (i : Fin 8) (j : Fin 128) : k0_pay11 (F := Ideal) (ix2 i j) = 0 := by
  unfold k0_pay11
  pointwise

theorem outs_8 (i : Fin 8) (j : Fin 128) : (dats m 0 c).after 8 t (ix2 i j)
    = dWeight (m (c, Proc.tc.devRef main_arg0)) (m (c, Proc.tc.devRef main_arg2)) (ix2 i (colOf t j)) := by
  rw [after0_8]
  unfold outsAt0 dWeight
  frame_out
  have hc := v_col m c t j
  have hd := du_col m c t j
  by_cases h2 : i.val = 2
  · obtain rfl : i = 2 := Fin.ext h2
    refine (canon_hit _ _ _ _ (ix2 0 j) fun a => by fin_cases a <;> simp).trans ?_
    refine (dw2_apply _ _ j).trans ((Finset.sum_congr rfl fun k _ => ?_).trans (if_pos (show 2 < 3 by decide)).symm)
    exact congrArg₂ (· * ·) (congrFun hd k) ((v_apply _ _ k j).trans ((congrFun hc k).trans (down_zero _ k).symm))
  refine (canon_miss _ _ _ _ 0 (by simp; omega)).trans ?_
  by_cases h1 : i.val = 1
  · obtain rfl : i = 1 := Fin.ext h1
    refine (canon_hit _ _ _ _ (ix2 0 j) fun a => by fin_cases a <;> simp).trans ?_
    refine (dw1_apply _ _ j).trans ((Finset.sum_congr rfl fun k _ => ?_).trans (if_pos (show 1 < 3 by decide)).symm)
    exact congrArg₂ (· * ·) (congrFun hd k) ((v1_apply _ _ k j).trans (congrArg (down 1 · k) hc))
  refine (canon_miss _ _ _ _ 0 (by simp; omega)).trans ?_
  by_cases h0 : i.val = 0
  · obtain rfl : i = 0 := Fin.ext h0
    refine (canon_hit _ _ _ _ (ix2 0 j) fun a => by fin_cases a <;> simp).trans ?_
    refine (dw0_apply _ _ j).trans ((Finset.sum_congr rfl fun k _ => ?_).trans (if_pos (show 0 < 3 by decide)).symm)
    exact congrArg₂ (· * ·) (congrFun hd k) ((v2_apply _ _ k j).trans (congrArg (down 2 · k) hc))
  refine (canon_miss _ _ _ _ 0 (by simp; omega)).trans ?_
  refine (canon_hit _ _ _ _ (ix2 i j) fun a => by fin_cases a <;> simp).trans ?_
  exact (rest_apply i j).trans (if_neg (by show ¬ i.val < 3; omega)).symm

/-- The kernel's four results. -/
theorem final_5 : (dats m 0 c).arrAt 5 cfg0.N = dOuter (m (c, Proc.tc.devRef main_arg0)) (m (c, Proc.tc.devRef main_arg1))
    (m (c, Proc.tc.devRef main_arg2)) := by
  refine (dats m 0 c).arrAt_eq_of_covers 5 _ (by decide +kernel) fun t _ y => ?_
  blk_simp
  obtain ⟨i, j, rfl⟩ : ∃ (i : Fin 4096) (j : Fin 128), y = ix2 i j := ⟨y 0, y 1, eq_ix2 y⟩
  have e : (win0_5.blk t).view.emb (ix2 i j) = ix2 i (colOf t j) := by
    blk_ext [at5 t, colOf]
  rw [e]
  refine (congrFun (outs_5 m c t) (ix2 i j)).trans ?_
  rw [db_apply, v_col, blkG_apply]
  unfold dOuter
  refine congrArg₂ (· * ·) rfl (congrArg (conv · _ i) (funext fun k => ?_))
  fin_cases k <;> exact blkW_apply m c t _ j

theorem final_6 : (dats m 0 c).arrAt 6 cfg0.N = dInner (m (c, Proc.tc.devRef main_arg0)) (m (c, Proc.tc.devRef main_arg1))
    (m (c, Proc.tc.devRef main_arg2)) := by
  refine (dats m 0 c).arrAt_eq_of_covers 6 _ (by decide +kernel) fun t _ y => ?_
  blk_simp
  obtain ⟨i, j, rfl⟩ : ∃ (i : Fin 4096) (j : Fin 128), y = ix2 i j := ⟨y 0, y 1, eq_ix2 y⟩
  have e : (win0_6.blk t).view.emb (ix2 i j) = ix2 i (colOf t j) := by
    blk_ext [at6 t, colOf]
  rw [e]
  refine (congrFun (outs_6 m c t) (ix2 i j)).trans ?_
  exact congrArg₂ (· * ·) (dv_col m c t i j) (blkH_apply m c t i j)

theorem final_7 : (dats m 0 c).arrAt 7 cfg0.N = dValue (m (c, Proc.tc.devRef main_arg0)) (m (c, Proc.tc.devRef main_arg1))
    (m (c, Proc.tc.devRef main_arg2)) := by
  refine (dats m 0 c).arrAt_eq_of_covers 7 _ (by decide +kernel) fun t _ y => ?_
  blk_simp
  obtain ⟨i, j, rfl⟩ : ∃ (i : Fin 4096) (j : Fin 128), y = ix2 i j := ⟨y 0, y 1, eq_ix2 y⟩
  have e : (win0_7.blk t).view.emb (ix2 i j) = ix2 i (colOf t j) := by
    blk_ext [at7 t, colOf]
  rw [e]
  refine (congrFun (outs_7 m c t) (ix2 i j)).trans ?_
  exact congrArg₂ (· * ·) (dv_col m c t i j) (blkC_apply m c t i j)

theorem final_8 : (dats m 0 c).arrAt 8 cfg0.N = dWeight (m (c, Proc.tc.devRef main_arg0)) (m (c, Proc.tc.devRef main_arg2)) := by
  refine (dats m 0 c).arrAt_eq_of_covers 8 _ (by decide +kernel) fun t _ y => ?_
  blk_simp
  obtain ⟨i, j, rfl⟩ : ∃ (i : Fin 8) (j : Fin 128), y = ix2 i j := ⟨y 0, y 1, eq_ix2 y⟩
  have e : (win0_8.blk t).view.emb (ix2 i j) = ix2 i (colOf t j) := by
    blk_ext [at8 t, colOf]
  rw [e]
  exact outs_8 m c t i j

end Ffn.ScBwd
-- ==== Proof.ScBwdRef.lean ====
/-
  What the reference computes for the gradient of the short convolution and its gates.
-/
module

public import proofs.«01_k».proof.Proof.Gen.Reference22Ideal.Run
public import proofs.«01_k».proof.Proof.Gen.Reference22Ideal.Read
public import proofs.«01_k».proof.Proof.Shift

@[expose] public section

set_option maxRecDepth 16384

noncomputable section

namespace Ffn.ScBwdRef

open Finset Idealize.ShloMosaic
open Cert.Reference22Ideal Cert.Reference22Ideal.Gen Cert.Reference22Ideal.Read
open Ffn.ShortConv

variable (x0 : FVec Ideal S4096x3072 .f32) (x1 : FVec Ideal S3x1024 .f32) (x2 : FVec Ideal S4096x1024 .f32)
  (i : Fin 4096) (j : Fin 1024)

theorem zero_bits : (FloatOps.ofBits FTy.f32 0#32 : Ideal .f32) = (0 : EReal) := Ideal.ofBits_zero .f32

theorem b_apply : val_main_v0 (F := Ideal) x0 (ix2 i j) = outGate x0 j i := by
  rw [val_main_v0_apply]
  exact congrArg x0 (eq_ix2 _)

theorem c_apply : val_main_v1 (F := Ideal) x0 (ix2 i j) = inGate x0 j i := by
  rw [val_main_v1_apply]
  exact congrArg x0 (eq_ix2 _)

theorem h_apply : val_main_v2 (F := Ideal) x0 (ix2 i j) = value x0 j i := by
  rw [val_main_v2_apply]
  exact congrArg x0 (eq_ix2 _)

theorem v_apply : val_main_v3 (F := Ideal) x0 (ix2 i j) = gated x0 j i := by
  rw [val_main_v3_apply, c_apply, h_apply]
  rfl

/-- Two rows of zeros and what is convolved. -/
theorem cat_apply (s : ℕ) (n : Fin 4098) (hn : n.val + s = i.val + 2) :
    val_main_v5 (F := Ideal) x0 (ix2 n j) = down s (gated x0 j) i := by
  unfold val_main_v5
  refine (cat_down (val_main_v3 (F := Ideal) x0) i j (val_main_v4 (F := Ideal)) (fun q => ?_)
    concatenates_S2x1024_S4096x1024_S4098x1024_d0 s n hn).trans (congrArg (down s · i) (funext fun k => v_apply x0 k j))
  rw [val_main_v4_apply, val_main_cst_apply]
  exact Ideal.ofBits_zero .f32

theorem v8_apply : val_main_v8 (F := Ideal) x0 (ix2 i j) = down 2 (gated x0 j) i := by
  rw [val_main_v8_apply]
  exact (congrArg _ (eq_ix2 _)).trans (cat_apply x0 i j 2 _ rfl)

theorem v14_apply : val_main_v14 (F := Ideal) x0 (ix2 i j) = down 1 (gated x0 j) i := by
  rw [val_main_v14_apply]
  exact (congrArg _ (eq_ix2 _)).trans (cat_apply x0 i j 1 _ (by show 1 + i.val + 1 = _; omega))

theorem v19_apply : val_main_v19 (F := Ideal) x0 (ix2 i j) = down 0 (gated x0 j) i := by
  rw [val_main_v19_apply]
  exact (congrArg _ (eq_ix2 _)).trans (cat_apply x0 i j 0 _ (by show 2 + i.val + 0 = _; omega))

/-- A row of the weights over all rows. -/
theorem w0_apply : val_main_v9 (F := Ideal) x1 (ix2 i j) = weight x1 j 0 := by
  rw [val_main_v9_apply, val_main_v7_apply]
  exact congrArg x1 (eq_ix2 _)

theorem w1_apply : val_main_v15 (F := Ideal) x1 (ix2 i j) = weight x1 j 1 := by
  rw [val_main_v15_apply, val_main_v13_apply]
  exact congrArg x1 (eq_ix2 _)

theorem w2_apply : val_main_v20 (F := Ideal) x1 (ix2 i j) = weight x1 j 2 := by
  rw [val_main_v20_apply, val_main_v18_apply]
  exact congrArg x1 (eq_ix2 _)

theorem conv_apply : val_main_v22 (F := Ideal) x0 x1 (ix2 i j) = conv (weight x1 j) (gated x0 j) i := by
  rw [val_main_v22_apply, val_main_v17_apply, val_main_v12_apply, val_main_v10_apply, val_main_v16_apply, val_main_v21_apply,
    v8_apply, v14_apply, v19_apply, w0_apply, w1_apply, w2_apply, val_main_v11_apply, val_main_cst_1_apply]
  refine Eq.trans ?_ (conv_forward _ _ i)
  rw [zero_bits]
  rfl

theorem du_apply : val_main_v24 (F := Ideal) x0 x2 (ix2 i j) = dConv x0 x2 j i := by
  rw [val_main_v24_apply, b_apply]
  exact mul_comm _ _

/-- The gradient through each weight, moved up. -/
theorem t2_apply (n : Fin 4098) (hn : n.val + 0 = i.val + 2) :
    val_main_v31 (F := Ideal) x0 x1 x2 (ix2 n j) = up 0 (dConv x0 x2 j) i * weight x1 j 2 := by
  refine Eq.trans ?_ (up_mul 0 (dConv x0 x2 j) (weight x1 j 2) i)
  unfold val_main_v31
  refine (pad_up _ i j 2 0 0 n hn rfl _ pads_S4096x1024_S4098x1024_200_000 h_S_ (fun q => Ideal.ofBits_zero .f32)).trans
    (congrArg (up 0 · i) (funext fun k => ?_))
  rw [val_main_v27_apply, du_apply]
  exact congrArg (· * _) (w2_apply x1 k j)

theorem t1_apply (n : Fin 4098) (hn : n.val + 0 = i.val + 2) :
    val_main_v38 (F := Ideal) x0 x1 x2 (ix2 n j) = up 1 (dConv x0 x2 j) i * weight x1 j 1 := by
  refine Eq.trans ?_ (up_mul 1 (dConv x0 x2 j) (weight x1 j 1) i)
  unfold val_main_v38
  refine (pad_up _ i j 1 1 1 n hn rfl _ pads_S4096x1024_S4098x1024_110_000 h_S_ (fun q => Ideal.ofBits_zero .f32)).trans
    (congrArg (up 1 · i) (funext fun k => ?_))
  rw [val_main_v34_apply, du_apply]
  exact congrArg (· * _) (w1_apply x1 k j)

theorem t0_apply (n : Fin 4098) (hn : n.val + 0 = i.val + 2) :
    val_main_v47 (F := Ideal) x0 x1 x2 (ix2 n j) = up 2 (dConv x0 x2 j) i * weight x1 j 0 := by
  refine Eq.trans ?_ (up_mul 2 (dConv x0 x2 j) (weight x1 j 0) i)
  unfold val_main_v47
  refine (pad_up _ i j 0 2 2 n hn rfl _ pads_S4096x1024_S4098x1024_020_000 h_S_ (fun q => Ideal.ofBits_zero .f32)).trans
    (congrArg (up 2 · i) (funext fun k => ?_))
  rw [val_main_v43_apply, du_apply]
  exact congrArg (· * _) (w0_apply x1 k j)

theorem dv_apply : val_main_v52 (F := Ideal) x0 x1 x2 (ix2 i j) = convT (weight x1 j) (dConv x0 x2 j) i := by
  rw [val_main_v52_apply]
  have e : idx_main_v52 (ix2 i j) = ix2 (⟨2 + i.val, by omega⟩ : Fin 4098) j := eq_ix2 _
  have hn : (⟨2 + i.val, by omega⟩ : Fin 4098).val + 0 = i.val + 2 := by show 2 + i.val + 0 = _; omega
  rw [e, val_main_v48_apply, val_main_v39_apply, t2_apply x0 x1 x2 i j _ hn, t1_apply x0 x1 x2 i j _ hn, t0_apply x0 x1 x2 i j _ hn, up_zero]
  rfl

/-- The three parts of the input product's gradient. -/
def pieces : List ((s : Shape) × (s.Idx → Ideal .f32)) := [⟨S4096x1024, val_main_v25 (F := Ideal) x0 x1 x2⟩,
  ⟨S4096x1024, val_main_v54 (F := Ideal) x0 x1 x2⟩, ⟨S4096x1024, val_main_v53 (F := Ideal) x0 x1 x2⟩]

/-- The three parts side by side. -/
theorem dp_apply (k : Fin 3) (y : FVec Ideal S4096x1024 .f32)
    (hy : y = (![val_main_v25 (F := Ideal) x0 x1 x2, val_main_v54 (F := Ideal) x0 x1 x2, val_main_v53 (F := Ideal) x0 x1 x2] :
      Fin 3 → FVec Ideal S4096x1024 .f32) k) (n : Fin 3072) (hn : n.val = 1024 * k.val + j.val) :
    val_main_v56 (F := Ideal) x0 x1 x2 (ix2 i n) = y (ix2 i j) := by
  subst hy
  rw [val_main_v56_apply]
  unfold val_main_v55
  fin_cases k
  · refine concatenate_apply_piece (t := S4096x3072) 1 (pieces x0 x1 x2) concatenates_S4096x1024_S4096x1024_S4096x1024_S4096x3072_d1 (ix2 i n) 0 (by simp [pieces]) S4096x1024 _ rfl rfl 0 rfl (ix2 i j) (fun b hb => ?_) ?_
    · fin_cases b
      · rfl
      · exact absurd rfl hb
    · simp at hn
      show 0 + j.val = n.val
      omega
  · refine concatenate_apply_piece (t := S4096x3072) 1 (pieces x0 x1 x2) concatenates_S4096x1024_S4096x1024_S4096x1024_S4096x3072_d1 (ix2 i n) 1 (by simp [pieces]) S4096x1024 _ rfl rfl 1024 rfl (ix2 i j) (fun b hb => ?_) ?_
    · fin_cases b
      · rfl
      · exact absurd rfl hb
    · simp at hn
      show 1024 + j.val = n.val
      omega
  · refine concatenate_apply_piece (t := S4096x3072) 1 (pieces x0 x1 x2) concatenates_S4096x1024_S4096x1024_S4096x1024_S4096x3072_d1 (ix2 i n) 2 (by simp [pieces]) S4096x1024 _ rfl rfl 2048 rfl (ix2 i j) (fun b hb => ?_) ?_
    · fin_cases b
      · rfl
      · exact absurd rfl hb
    · simp at hn
      show 2048 + j.val = n.val
      omega

/-- The reference's four results. -/
theorem ref_outGate : val_main_v57 (F := Ideal) x0 x1 x2 = dOuter x0 x1 x2 := by
  funext y
  obtain ⟨i, j, rfl⟩ : ∃ (i : Fin 4096) (j : Fin 1024), y = ix2 i j := ⟨y 0, y 1, eq_ix2 y⟩
  rw [val_main_v57_apply]
  refine (congrArg _ (eq_ix2 _)).trans ((dp_apply x0 x1 x2 i j 0 _ rfl _ (by simp)).trans ?_)
  show val_main_v25 (F := Ideal) x0 x1 x2 (ix2 i j) = _
  rw [val_main_v25_apply, conv_apply]
  rfl

theorem ref_inGate : val_main_v58 (F := Ideal) x0 x1 x2 = dInner x0 x1 x2 := by
  funext y
  obtain ⟨i, j, rfl⟩ : ∃ (i : Fin 4096) (j : Fin 1024), y = ix2 i j := ⟨y 0, y 1, eq_ix2 y⟩
  rw [val_main_v58_apply]
  refine (congrArg _ (eq_ix2 _)).trans ((dp_apply x0 x1 x2 i j 1 _ rfl _ (by simp)).trans ?_)
  show val_main_v54 (F := Ideal) x0 x1 x2 (ix2 i j) = _
  rw [val_main_v54_apply, dv_apply, h_apply]
  rfl

theorem ref_value : val_main_v59 (F := Ideal) x0 x1 x2 = dValue x0 x1 x2 := by
  funext y
  obtain ⟨i, j, rfl⟩ : ∃ (i : Fin 4096) (j : Fin 1024), y = ix2 i j := ⟨y 0, y 1, eq_ix2 y⟩
  rw [val_main_v59_apply]
  refine (congrArg _ (eq_ix2 _)).trans ((dp_apply x0 x1 x2 i j 2 _ rfl _ (by simp)).trans ?_)
  show val_main_v53 (F := Ideal) x0 x1 x2 (ix2 i j) = _
  rw [val_main_v53_apply, dv_apply, c_apply]
  exact mul_comm _ _

/-- The sums over the rows, a weight each. -/
theorem s2_apply (n : Fin 1) : val_main_v30 (F := Ideal) x0 x2 (ix2 n j) = ∑ k : Fin 4096, dConv x0 x2 j k * down 0 (gated x0 j) k := by
  rw [val_main_v30_apply, val_main_v29_apply, val_main_cst_2_apply, zero_bits, zero_add]
  refine Finset.sum_congr rfl fun k _ => ?_
  have e : idx_main_v29 (idx_main_v30 (ix2 n j)) k = ix2 k j := by
    refine (eq_ix2 _).trans (congrArg (ix2 k) (Fin.ext ?_))
    show n.val * 1024 + j.val = j.val
    omega
  rw [e, val_main_v28_apply, du_apply, v19_apply]
  rfl

theorem s1_apply (n : Fin 1) : val_main_v37 (F := Ideal) x0 x2 (ix2 n j) = ∑ k : Fin 4096, dConv x0 x2 j k * down 1 (gated x0 j) k := by
  rw [val_main_v37_apply, val_main_v36_apply, val_main_cst_5_apply, zero_bits, zero_add]
  refine Finset.sum_congr rfl fun k _ => ?_
  have e : idx_main_v36 (idx_main_v37 (ix2 n j)) k = ix2 k j := by
    refine (eq_ix2 _).trans (congrArg (ix2 k) (Fin.ext ?_))
    show n.val * 1024 + j.val = j.val
    omega
  rw [e, val_main_v35_apply, du_apply, v14_apply]
  rfl

theorem s0_apply (n : Fin 1) : val_main_v46 (F := Ideal) x0 x2 (ix2 n j) = ∑ k : Fin 4096, dConv x0 x2 j k * down 2 (gated x0 j) k := by
  rw [val_main_v46_apply, val_main_v45_apply, val_main_cst_8_apply, zero_bits, zero_add]
  refine Finset.sum_congr rfl fun k _ => ?_
  have e : idx_main_v45 (idx_main_v46 (ix2 n j)) k = ix2 k j := by
    refine (eq_ix2 _).trans (congrArg (ix2 k) (Fin.ext ?_))
    show n.val * 1024 + j.val = j.val
    omega
  rw [e, val_main_v44_apply, du_apply, v8_apply]
  rfl

/-- A row among rows of zeros. -/
theorem pad_row {a : ℕ} (x : FVec Ideal (⟨2, ![a, 1024]⟩ : Shape) .f32) {b : ℕ} (lo hi : ℕ) (v : FVec Ideal S_ .f32)
    (h : (⟨2, ![a, 1024]⟩ : Shape).Pads ![lo, 0] ![hi, 0] ![0, 0] (⟨2, ![b, 1024]⟩ : Shape)) (hv : ∀ q, v q = 0) (k : Fin b) :
    pad (⟨2, ![b, 1024]⟩ : Shape) ![lo, 0] ![hi, 0] ![0, 0] x v h h_S_ (ix2 k j)
      = if hk : lo ≤ k.val ∧ k.val - lo < a then x (ix2 ⟨k.val - lo, hk.2⟩ j) else 0 := by
  split
  · rename_i hk
    exact pad_apply_of_inside _ _ _ x v h h_S_ _ (ix2 ⟨k.val - lo, hk.2⟩ j) fun d => by
      fin_cases d
      · simp
        omega
      · simp
  · refine (pad_apply_of_not_inside _ _ _ x v h h_S_ _ 0 ?_).trans (hv _)
    simp
    omega

theorem dw_apply (k : Fin 3) : val_main_v50 (F := Ideal) x0 x2 (ix2 k j)
    = ∑ i : Fin 4096, dConv x0 x2 j i * down (2 - k.val) (gated x0 j) i := by
  rw [val_main_v50_apply, val_main_v41_apply]
  unfold val_main_v32 val_main_v40 val_main_v49
  rw [pad_row (b := 3) j _ 2 0 (val_main_cst_4 (F := Ideal)) pads_S1x1024_S3x1024_200_000 (fun q => zero_bits),
    pad_row (b := 3) j _ 1 1 (val_main_cst_7 (F := Ideal)) pads_S1x1024_S3x1024_110_000 (fun q => zero_bits),
    pad_row (b := 3) j _ 0 2 (val_main_cst_10 (F := Ideal)) pads_S1x1024_S3x1024_020_000 (fun q => zero_bits)]
  simp only [s2_apply, s1_apply, s0_apply]
  fin_cases k
  · exact (congrArg (· + _) (add_zero _)).trans (zero_add _)
  · exact (add_zero _).trans (zero_add _)
  · exact (add_zero _).trans (add_zero _)

theorem ref_weight : val_main_v60 (F := Ideal) x0 x2 = dWeight x0 x2 := by
  funext y
  obtain ⟨k, j, rfl⟩ : ∃ (k : Fin 8) (j : Fin 1024), y = ix2 k j := ⟨y 0, y 1, eq_ix2 y⟩
  unfold val_main_v60
  rw [pad_row j _ 0 5 _ pads_S3x1024_S8x1024_050_000 fun q => ?_]
  · unfold dWeight
    by_cases hk : k.val < 3
    · refine (dif_pos ⟨Nat.zero_le _, hk⟩).trans ((dw_apply x0 x2 j _).trans (if_pos hk).symm)
    · exact (dif_neg fun h => hk h.2).trans (if_neg hk).symm
  · rw [val_main_call0_v0_apply]
    exact sitofp_zero

end Ffn.ScBwdRef
-- ==== Proof.ScFwd.lean ====
/-
  The short convolution and its gates: what a grid point's blocks hold, what it leaves, and the result of the call.
-/
module

public import proofs.«01_k».proof.Proof.Gen.Kernel23Ideal.Value
public import Idealize.ShloMosaic.Lib.StableHlo.ReadAt
public import Idealize.ShloMosaic.Lib.Pipeline.ReadBack
public import proofs.«01_k».proof.Proof.Shift

@[expose] public section

set_option maxRecDepth 16384

noncomputable section

namespace Ffn.ScFwd

open Finset Idealize.ShloMosaic Idealize.ShloMosaic.TcCoe
open Cert.Kernel23Ideal Cert.Kernel23Ideal.Gen
open Ffn.ShortConv

/-- Where each window's block lies at each point. -/
theorem at0 : ∀ t : Fin cfg0.N, win0_0.index t = ![0, t.val] :=
  (by decide +kernel : ∀ t : Fin grid0.N, win0_0.index t = ![0, t.val])
theorem at1 : ∀ t : Fin cfg0.N, win0_1.index t = ![0, 8 + t.val] :=
  (by decide +kernel : ∀ t : Fin grid0.N, win0_1.index t = ![0, 8 + t.val])
theorem at2 : ∀ t : Fin cfg0.N, win0_2.index t = ![0, 16 + t.val] :=
  (by decide +kernel : ∀ t : Fin grid0.N, win0_2.index t = ![0, 16 + t.val])
theorem at3 : ∀ t : Fin cfg0.N, win0_3.index t = ![0, t.val] :=
  (by decide +kernel : ∀ t : Fin grid0.N, win0_3.index t = ![0, t.val])
theorem at4 : ∀ t : Fin cfg0.N, win0_4.index t = ![0, t.val] :=
  (by decide +kernel : ∀ t : Fin grid0.N, win0_4.index t = ![0, t.val])

theorem lt_N (t : Fin cfg0.N) : t.val < 8 := t.isLt

/-- What is stored: the outer gate and the convolution of the gated values. -/
theorem out_apply (c h b : FVec Ideal S4096x128 .f32) (w2 w1 w0 : FVec Ideal S1x128 .f32) (i : Fin 4096) (j : Fin 128) :
    k0_pay1 (F := Ideal) c h w2 w1 w0 b (ix2 i j)
      = b (ix2 i j) * conv ![w0 (ix2 0 j), w1 (ix2 0 j), w2 (ix2 0 j)] (fun k => c (ix2 k j) * h (ix2 k j)) i := by
  have r1 := rotate_down (mulf (F := Ideal) c h) i j 1 (by omega) rotates_S4096x128_d0
  have r2 := rotate_down (mulf (F := Ideal) c h) i j 2 (by omega) rotates_S4096x128_d0
  unfold conv
  refine Eq.trans ?_ (congrArg (b (ix2 i j) * ·) (congrArg₂ (· + ·) (congrArg (_ + · * _) r1) (congrArg (· * _) r2)))
  unfold k0_pay1
  generalize dynamicRotate (s := S4096x128) 0 1#32 none (mulf (F := Ideal) c h) rotates_S4096x128_d0 = e1
  generalize dynamicRotate (s := S4096x128) 0 2#32 none (mulf (F := Ideal) c h) rotates_S4096x128_d0 = e2
  pointwise
  rw [WordCmp.cmpi_sge_ofNat (by omega) (by omega), WordCmp.cmpi_sge_ofNat (by omega) (by omega), WordCmp.select_ofBool,
    WordCmp.select_ofBool]
  simp only [decide_eq_true_eq, ite_mul, zero_mul]

variable (m : (ℓ : Loc nD τ sig) → Buf (Elt Ideal) ℓ) (c : Dev nD) (t : Fin cfg0.N)

/-- A point's block of columns of the outer gate, the inner gate, the values and the weights. -/
def blkB : FVec Ideal S4096x128 .f32 := iblk m c 0 t
def blkC : FVec Ideal S4096x128 .f32 := iblk m c 1 t
def blkH : FVec Ideal S4096x128 .f32 := iblk m c 2 t
def blkW : FVec Ideal S3x128 .f32 := iblk m c 3 t

/-- A column of the call's arrays that a point works on. -/
def colOf (j : Fin 128) : Fin 1024 := ⟨128 * t.val + j.val, by have := lt_N t; omega⟩

theorem blkB_apply (i : Fin 4096) (j : Fin 128) :
    blkB m c t (ix2 i j) = outGate (m (c, Proc.tc.devRef main_arg0)) (colOf t j) i := by
  unfold blkB outGate
  blk_simp [iblk, at0 t]
  rw [V_main_arg0]
  refine congrArg _ ?_
  blk_ext [at0 t, colOf]

theorem blkC_apply (i : Fin 4096) (j : Fin 128) :
    blkC m c t (ix2 i j) = inGate (m (c, Proc.tc.devRef main_arg0)) (colOf t j) i := by
  unfold blkC inGate
  blk_simp [iblk, at1 t]
  rw [V_main_arg0]
  refine congrArg _ ?_
  blk_ext [at1 t, colOf]

theorem blkH_apply (i : Fin 4096) (j : Fin 128) :
    blkH m c t (ix2 i j) = value (m (c, Proc.tc.devRef main_arg0)) (colOf t j) i := by
  unfold blkH value
  blk_simp [iblk, at2 t]
  rw [V_main_arg0]
  refine congrArg _ ?_
  blk_ext [at2 t, colOf]

theorem blkW_apply (k : Fin 3) (j : Fin 128) :
    blkW m c t (ix2 k j) = weight (m (c, Proc.tc.devRef main_arg1)) (colOf t j) k := by
  unfold blkW weight
  blk_simp [iblk, at3 t]
  rw [V_main_arg1]
  refine congrArg _ ?_
  blk_ext [at3 t, colOf]

/-- A row of a point's weights. -/
def wRow (k : Fin 3) : FVec Ideal S1x128 .f32 := fun z => blkW m c t (ix2 k (z 1))

theorem ld_row {off : Fin S3x128.rank → ℕ} (k : Fin 3) (inb : ∀ a, off a + (![1, 128] : Fin 2 → ℕ) a ≤ S3x128.size a)
    (h0 : off 0 = k.val) (h1 : off 1 = 0) :
    View.ld (iblk m c 3 t) (Rect.unit off ![1, 128] inb) = wRow m c t k := by
  funext z
  refine ld_part _ _ _ _ fun a => ?_
  fin_cases a
  · show k.val = off 0 + (z 0).val
    have : (z 0).val < 1 := (z 0).isLt
    omega
  · show (z 1).val = off 1 + (z 1).val
    omega

/-- What is convolved, in a point's columns. -/
theorem v_col (j : Fin 128) : (fun k => blkC m c t (ix2 k j) * blkH m c t (ix2 k j))
    = gated (m (c, Proc.tc.devRef main_arg0)) (colOf t j) :=
  funext fun k => congrArg₂ (· * ·) (blkC_apply m c t k j) (blkH_apply m c t k j)

theorem ld_whole (x : FVec Ideal S4096x128 .f32) : (View.ld (Val := Elt Ideal) (e' := .f32) x r0_0 : FVec Ideal S4096x128 .f32) = x :=
  funext fun z => ld_part (Val := Elt Ideal) (e := .f32) x _ z z fun a => by fin_cases a <;> simp

/-- What a point stores. -/
theorem outs : (dats m 0 c).after 4 t
    = k0_pay1 (F := Ideal) (blkC m c t) (blkH m c t) (wRow m c t 2) (wRow m c t 1) (wRow m c t 0) (blkB m c t) := by
  rw [after0_4]
  unfold out0_4
  funext y
  refine (canon_hit _ _ _ _ y fun a => by fin_cases a <;> simp).trans ?_
  rw [ld_row m c t 2 _ rfl rfl, ld_row m c t 1 _ rfl rfl, ld_row m c t 0 _ rfl rfl, ld_whole, ld_whole, ld_whole]
  rfl

/-- The kernel's result. -/
theorem final : (dats m 0 c).arrAt 4 cfg0.N = result (m (c, Proc.tc.devRef main_arg0)) (m (c, Proc.tc.devRef main_arg1)) := by
  refine (dats m 0 c).arrAt_eq_of_covers 4 _ (by decide +kernel) fun t _ y => ?_
  blk_simp
  obtain ⟨i, j, rfl⟩ : ∃ (i : Fin 4096) (j : Fin 128), y = ix2 i j := ⟨y 0, y 1, eq_ix2 y⟩
  have e : (win0_4.blk t).view.emb (ix2 i j) = ix2 i (colOf t j) := by
    blk_ext [at4 t, colOf]
  rw [e]
  refine (congrFun (outs m c t) (ix2 i j)).trans ?_
  rw [out_apply, v_col, blkB_apply]
  unfold result
  refine congrArg₂ (· * ·) rfl (congrArg (conv · _ i) (funext fun k => ?_))
  fin_cases k <;> exact blkW_apply m c t _ j

end Ffn.ScFwd
-- ==== Proof.ScFwdRef.lean ====
/-
  What the reference computes for the short convolution and its gates.
-/
module

public import proofs.«01_k».proof.Proof.Gen.Reference23Ideal.Run
public import proofs.«01_k».proof.Proof.Gen.Reference23Ideal.Read
public import proofs.«01_k».proof.Proof.Shift

@[expose] public section

set_option maxRecDepth 16384

noncomputable section

namespace Ffn.ScFwdRef

open Finset Idealize.ShloMosaic
open Cert.Reference23Ideal Cert.Reference23Ideal.Gen Cert.Reference23Ideal.Read
open Ffn.ShortConv

variable (x0 : FVec Ideal S4096x3072 .f32) (x1 : FVec Ideal S3x1024 .f32) (i : Fin 4096) (j : Fin 1024)

theorem zero_bits : (FloatOps.ofBits FTy.f32 0#32 : Ideal .f32) = (0 : EReal) := Ideal.ofBits_zero .f32

theorem b_apply : val_main_v0 (F := Ideal) x0 (ix2 i j) = outGate x0 j i := by
  rw [val_main_v0_apply]
  exact congrArg x0 (eq_ix2 _)

theorem c_apply : val_main_v1 (F := Ideal) x0 (ix2 i j) = inGate x0 j i := by
  rw [val_main_v1_apply]
  exact congrArg x0 (eq_ix2 _)

theorem h_apply : val_main_v2 (F := Ideal) x0 (ix2 i j) = value x0 j i := by
  rw [val_main_v2_apply]
  exact congrArg x0 (eq_ix2 _)

theorem cv_apply : val_main_v3 (F := Ideal) x0 (ix2 i j) = gated x0 j i := by
  rw [val_main_v3_apply, c_apply, h_apply]
  rfl

/-- Two rows of zeros and what is convolved. -/
theorem cat_apply (s : ℕ) (n : Fin 4098) (hn : n.val + s = i.val + 2) :
    val_main_v5 (F := Ideal) x0 (ix2 n j) = down s (gated x0 j) i := by
  unfold val_main_v5
  refine (cat_down (val_main_v3 (F := Ideal) x0) i j (val_main_v4 (F := Ideal)) (fun q => ?_)
    concatenates_S2x1024_S4096x1024_S4098x1024_d0 s n hn).trans (congrArg (down s · i) (funext fun k => cv_apply x0 k j))
  rw [val_main_v4_apply, val_main_cst_apply]
  exact Ideal.ofBits_zero .f32

theorem moved2_apply : val_main_v7 (F := Ideal) x0 (ix2 i j) = down 2 (gated x0 j) i := by
  rw [val_main_v7_apply]
  exact (congrArg _ (eq_ix2 _)).trans (cat_apply x0 i j 2 _ rfl)

theorem moved1_apply : val_main_v13 (F := Ideal) x0 (ix2 i j) = down 1 (gated x0 j) i := by
  rw [val_main_v13_apply]
  exact (congrArg _ (eq_ix2 _)).trans (cat_apply x0 i j 1 _ (by show 1 + i.val + 1 = _; omega))

theorem moved0_apply : val_main_v18 (F := Ideal) x0 (ix2 i j) = down 0 (gated x0 j) i := by
  rw [val_main_v18_apply]
  exact (congrArg _ (eq_ix2 _)).trans (cat_apply x0 i j 0 _ (by show 2 + i.val + 0 = _; omega))

/-- A row of the weights over all rows. -/
theorem w0_apply : val_main_v8 (F := Ideal) x1 (ix2 i j) = weight x1 j 0 := by
  rw [val_main_v8_apply, val_main_v6_apply]
  exact congrArg x1 (eq_ix2 _)

theorem w1_apply : val_main_v14 (F := Ideal) x1 (ix2 i j) = weight x1 j 1 := by
  rw [val_main_v14_apply, val_main_v12_apply]
  exact congrArg x1 (eq_ix2 _)

theorem w2_apply : val_main_v19 (F := Ideal) x1 (ix2 i j) = weight x1 j 2 := by
  rw [val_main_v19_apply, val_main_v17_apply]
  exact congrArg x1 (eq_ix2 _)

theorem conv_apply : val_main_v21 (F := Ideal) x0 x1 (ix2 i j) = conv (weight x1 j) (gated x0 j) i := by
  rw [val_main_v21_apply, val_main_v16_apply, val_main_v11_apply, val_main_v9_apply, val_main_v15_apply, val_main_v20_apply,
    moved2_apply, moved1_apply, moved0_apply, w0_apply, w1_apply, w2_apply, val_main_v10_apply, val_main_cst_0_apply]
  refine Eq.trans ?_ (conv_forward _ _ i)
  rw [zero_bits]
  rfl

/-- The reference's result. -/
theorem ref : val_main_v23 (F := Ideal) x0 x1 = result x0 x1 := by
  funext y
  obtain ⟨i, j, rfl⟩ : ∃ (i : Fin 4096) (j : Fin 1024), y = ix2 i j := ⟨y 0, y 1, eq_ix2 y⟩
  rw [val_main_v23_apply, val_main_v22_apply, b_apply, conv_apply]
  rfl

end Ffn.ScFwdRef
-- ==== Proof.Adamw.lean ====
/-
  The optimiser's step at one entry and on whole arrays: the gradient is a sum of four parts, the two moments are mixed with it
  and with its square, and the update is formed from the corrected moments and the weight.
-/
module

public import Idealize.ShloMosaic.Lib.Pipeline.ReadBack
public import proofs.«01_k».proof.Proof.Products

@[expose] public section

noncomputable section

namespace Ffn.Adamw

open Finset Idealize.ShloMosaic

/-- The first moment: 0.9 of it and 0.1 of the gradient. -/
def first (g m : EReal) : EReal := Ideal.ofBits .f32 0x3F666666#32 * m + Ideal.ofBits .f32 0x3DCCCCCD#32 * g

/-- The second moment: 0.999 of it and 0.001 of the gradient's square. -/
def second (g v : EReal) : EReal := Ideal.ofBits .f32 0x3F7FBE77#32 * v + Ideal.ofBits .f32 0x3A83126F#32 * (g * g)

/-- The update: the first moment corrected, over the root of the second corrected and a small number, with 0.01 of the weight,
    times -0.001. -/
def update (m v w : EReal) : EReal := Ideal.ofBits .f32 0xBA83126F#32
  * (Ideal.div (Ideal.div m (Ideal.ofBits .f32 0x3F26BD02#32))
      (Ideal.sqrt (Ideal.div v (Ideal.ofBits .f32 0x3C231ACC#32)) + Ideal.ofBits .f32 0x322BCC77#32)
    + Ideal.ofBits .f32 0x3C23D70A#32 * w)

variable {a b : ℕ} (p : (⟨3, ![4, a, b]⟩ : Shape).Idx → EReal) (w m v : (⟨2, ![a, b]⟩ : Shape).Idx → EReal)
  (y : (⟨2, ![a, b]⟩ : Shape).Idx)

/-- The gradient, the two moments after the step and the update. -/
def grad : EReal := p (ix3 0 (y 0) (y 1)) + p (ix3 1 (y 0) (y 1)) + p (ix3 2 (y 0) (y 1)) + p (ix3 3 (y 0) (y 1))
def firsts : EReal := first (grad p y) (m y)
def seconds : EReal := second (grad p y) (v y)
def updates : EReal := update (firsts p m y) (seconds p v y) (w y)

/-- The sum over the parts as the reference forms it. -/
theorem grad_sum : 0 + ∑ k : Fin 4, p (ix3 k (y 0) (y 1)) = grad p y := by
  rw [zero_add, Fin.sum_univ_four]
  rfl

end Ffn.Adamw
-- ==== Proof.AdamwGu.lean ====
/-
  The optimiser on the feed-forward layers' first weights: what a grid point's blocks hold, what it leaves, the results of the
  call and the reference's.
-/
module

public import proofs.«01_k».proof.Proof.Gen.Kernel24Ideal.Value
public import proofs.«01_k».proof.Proof.Gen.Reference24Ideal.Run
public import proofs.«01_k».proof.Proof.Gen.Reference24Ideal.Read
public import Idealize.ShloMosaic.Lib.StableHlo.ReadAt
public import Idealize.ShloMosaic.Lib.Pipeline.ReadBack
public import proofs.«01_k».proof.Proof.Adamw

@[expose] public section

set_option maxRecDepth 16384

noncomputable section

namespace Ffn.AdamwGu

open Finset Idealize.ShloMosaic Idealize.ShloMosaic.TcCoe
open Cert.Kernel24Ideal Cert.Kernel24Ideal.Gen
open Ffn.Adamw

/-- Where each window's block lies at each point. -/
theorem at0 : ∀ t : Fin cfg0.N, win0_0.index t = ![0, t.val, 0] :=
  (by decide +kernel : ∀ t : Fin grid0.N, win0_0.index t = ![0, t.val, 0])
theorem at1 : ∀ t : Fin cfg0.N, win0_1.index t = ![t.val, 0] :=
  (by decide +kernel : ∀ t : Fin grid0.N, win0_1.index t = ![t.val, 0])
theorem at2 : ∀ t : Fin cfg0.N, win0_2.index t = ![t.val, 0] :=
  (by decide +kernel : ∀ t : Fin grid0.N, win0_2.index t = ![t.val, 0])
theorem at3 : ∀ t : Fin cfg0.N, win0_3.index t = ![t.val, 0] :=
  (by decide +kernel : ∀ t : Fin grid0.N, win0_3.index t = ![t.val, 0])
theorem at4 : ∀ t : Fin cfg0.N, win0_4.index t = ![t.val, 0] :=
  (by decide +kernel : ∀ t : Fin grid0.N, win0_4.index t = ![t.val, 0])
theorem at5 : ∀ t : Fin cfg0.N, win0_5.index t = ![t.val, 0] :=
  (by decide +kernel : ∀ t : Fin grid0.N, win0_5.index t = ![t.val, 0])
theorem at6 : ∀ t : Fin cfg0.N, win0_6.index t = ![t.val, 0] :=
  (by decide +kernel : ∀ t : Fin grid0.N, win0_6.index t = ![t.val, 0])
theorem at7 : ∀ t : Fin cfg0.N, win0_7.index t = ![t.val, 0] :=
  (by decide +kernel : ∀ t : Fin grid0.N, win0_7.index t = ![t.val, 0])

theorem lt_N (t : Fin cfg0.N) : t.val < 16 := t.isLt

/-- The sum of the four parts, the moments and the update, as the kernel forms them. -/
theorem grad_apply (p0 p1 p2 p3 : FVec Ideal S1x256x704 .bf16) (i : Fin 256) (j : Fin 704) :
    k0_pay2 (F := Ideal) p0 p1 p2 p3 (ix2 i j) = p0 (ix3 0 i j) + p1 (ix3 0 i j) + p2 (ix3 0 i j) + p3 (ix3 0 i j) := by
  unfold k0_pay2
  pointwise

theorem first_apply (p0 p1 p2 p3 : FVec Ideal S1x256x704 .bf16) (m : FVec Ideal S256x704 .f32) (i : Fin 256) (j : Fin 704) :
    k0_pay3 (F := Ideal) p0 p1 p2 p3 m (ix2 i j) = first (k0_pay2 (F := Ideal) p0 p1 p2 p3 (ix2 i j)) (m (ix2 i j)) := by
  unfold k0_pay3 first
  pointwise

theorem second_apply (p0 p1 p2 p3 : FVec Ideal S1x256x704 .bf16) (v : FVec Ideal S256x704 .f32) (i : Fin 256) (j : Fin 704) :
    k0_pay4 (F := Ideal) p0 p1 p2 p3 v (ix2 i j) = second (k0_pay2 (F := Ideal) p0 p1 p2 p3 (ix2 i j)) (v (ix2 i j)) := by
  unfold k0_pay4 second
  pointwise

theorem update_apply (m v w : FVec Ideal S256x704 .f32) (i : Fin 256) (j : Fin 704) :
    k0_pay1 (F := Ideal) m v w (ix2 i j) = update (m (ix2 i j)) (v (ix2 i j)) (w (ix2 i j)) := by
  unfold k0_pay1 update
  pointwise

variable (m : (ℓ : Loc nD τ sig) → Buf (Elt Ideal) ℓ) (c : Dev nD) (t : Fin cfg0.N)

/-- The call's arguments: the parts, the weight and the two moments. -/
def parts : FVec Ideal S4x4096x704 .bf16 := m (c, Proc.tc.devRef main_arg0)
def wts : FVec Ideal S4096x704 .f32 := m (c, Proc.tc.devRef main_arg1)
def mom : FVec Ideal S4096x704 .f32 := m (c, Proc.tc.devRef main_arg2)
def sqs : FVec Ideal S4096x704 .f32 := m (c, Proc.tc.devRef main_arg3)

/-- A point's block of each. -/
def blkP : FVec Ideal S4x256x704 .bf16 := iblk m c 0 t
def blkW : FVec Ideal S256x704 .f32 := iblk m c 1 t
def blkM : FVec Ideal S256x704 .f32 := iblk m c 2 t
def blkV : FVec Ideal S256x704 .f32 := iblk m c 3 t

/-- The row of the arrays that a row of a point's block is. -/
def rowOf (i : Fin 256) : Fin 4096 := ⟨256 * t.val + i.val, by have := lt_N t; omega⟩

theorem blkP_apply (q : Fin 4) (i : Fin 256) (j : Fin 704) : blkP m c t (ix3 q i j) = parts m c (ix3 q (rowOf t i) j) := by
  unfold blkP parts
  blk_simp [iblk, at0 t]
  rw [V_main_arg0]
  refine congrArg _ ?_
  blk_ext [at0 t, rowOf]

theorem blkW_apply (i : Fin 256) (j : Fin 704) : blkW m c t (ix2 i j) = wts m c (ix2 (rowOf t i) j) := by
  unfold blkW wts
  blk_simp [iblk, at1 t]
  rw [V_main_arg1]
  refine congrArg _ ?_
  blk_ext [at1 t, rowOf]

theorem blkM_apply (i : Fin 256) (j : Fin 704) : blkM m c t (ix2 i j) = mom m c (ix2 (rowOf t i) j) := by
  unfold blkM mom
  blk_simp [iblk, at2 t]
  rw [V_main_arg2]
  refine congrArg _ ?_
  blk_ext [at2 t, rowOf]

theorem blkV_apply (i : Fin 256) (j : Fin 704) : blkV m c t (ix2 i j) = sqs m c (ix2 (rowOf t i) j) := by
  unfold blkV sqs
  blk_simp [iblk, at3 t]
  rw [V_main_arg3]
  refine congrArg _ ?_
  blk_ext [at3 t, rowOf]

theorem ld_whole (x : FVec Ideal S256x704 .f32) : (View.ld (Val := Elt Ideal) (e' := .f32) x r0_4 : FVec Ideal S256x704 .f32) = x :=
  funext fun z => ld_part (Val := Elt Ideal) (e := .f32) x _ z z fun a => by fin_cases a <;> simp

/-- What a point sums, mixes and stores. -/
def gradB : FVec Ideal S256x704 .f32 :=
  k0_pay2 (F := Ideal) (View.ld (iblk m c 0 t) r0_0) (View.ld (iblk m c 0 t) r0_1) (View.ld (iblk m c 0 t) r0_2) (View.ld (iblk m c 0 t) r0_3)

theorem gradB_apply (i : Fin 256) (j : Fin 704) : gradB m c t (ix2 i j) = grad (parts m c) (ix2 (rowOf t i) j) := by
  refine (grad_apply _ _ _ _ i j).trans (congrArg₂ (· + ·) (congrArg₂ (· + ·) (congrArg₂ (· + ·) ?_ ?_) ?_) ?_)
  · exact (ld_part _ _ (ix3 0 i j) _ fun a => by fin_cases a <;> simp).trans (blkP_apply m c t 0 i j)
  · exact (ld_part _ _ (ix3 1 i j) _ fun a => by fin_cases a <;> simp).trans (blkP_apply m c t 1 i j)
  · exact (ld_part _ _ (ix3 2 i j) _ fun a => by fin_cases a <;> simp).trans (blkP_apply m c t 2 i j)
  · exact (ld_part _ _ (ix3 3 i j) _ fun a => by fin_cases a <;> simp).trans (blkP_apply m c t 3 i j)

/-- A whole block's offsets are zero. -/
theorem off_zero : (![0, 0] : Fin S256x704.rank → ℕ) = fun _ => 0 := funext fun a => match a with
  | ⟨0, _⟩ => rfl
  | ⟨1, _⟩ => rfl

/-- A store of a whole block leaves what it stores. -/
theorem canon_whole (w : FVec Ideal S256x704 .f32) : View.canon (Val := Elt Ideal) (s := S256x704) (e := .f32) [⟨r0_4, w⟩] = w :=
  View.canon_unit_zero (Val := Elt Ideal) (S := S256x704) (e := .f32) (off := ![0, 0]) off_zero inb_S256x704_S256x704_0_0 w

def firstB : FVec Ideal S256x704 .f32 :=
  k0_pay3 (F := Ideal) (View.ld (iblk m c 0 t) r0_0) (View.ld (iblk m c 0 t) r0_1) (View.ld (iblk m c 0 t) r0_2) (View.ld (iblk m c 0 t) r0_3)
    (View.ld (iblk m c 2 t) r0_4)

theorem firstB_apply (i : Fin 256) (j : Fin 704) :
    firstB m c t (ix2 i j) = firsts (parts m c) (mom m c) (ix2 (rowOf t i) j) :=
  (first_apply _ _ _ _ _ i j).trans (congrArg₂ first (gradB_apply m c t i j)
    ((congrFun (ld_whole (blkM m c t)) (ix2 i j)).trans (blkM_apply m c t i j)))

def secondB : FVec Ideal S256x704 .f32 :=
  k0_pay4 (F := Ideal) (View.ld (iblk m c 0 t) r0_0) (View.ld (iblk m c 0 t) r0_1) (View.ld (iblk m c 0 t) r0_2) (View.ld (iblk m c 0 t) r0_3)
    (View.ld (iblk m c 3 t) r0_4)

theorem secondB_apply (i : Fin 256) (j : Fin 704) :
    secondB m c t (ix2 i j) = seconds (parts m c) (sqs m c) (ix2 (rowOf t i) j) :=
  (second_apply _ _ _ _ _ i j).trans (congrArg₂ second (gradB_apply m c t i j)
    ((congrFun (ld_whole (blkV m c t)) (ix2 i j)).trans (blkV_apply m c t i j)))

theorem outs_4 (i : Fin 256) (j : Fin 704) : (dats m 0 c).after 4 t (ix2 i j) = grad (parts m c) (ix2 (rowOf t i) j) := by
  rw [after0_4]
  exact (congrFun (canon_whole (gradB m c t)) (ix2 i j)).trans (gradB_apply m c t i j)

theorem outs_5 (i : Fin 256) (j : Fin 704) : (dats m 0 c).after 5 t (ix2 i j)
    = updates (parts m c) (wts m c) (mom m c) (sqs m c) (ix2 (rowOf t i) j) := by
  rw [after0_5]
  refine (congrFun (canon_whole (k0_pay1 (F := Ideal) (firstB m c t) (secondB m c t) (View.ld (iblk m c 1 t) r0_4))) (ix2 i j)).trans
    ((update_apply (firstB m c t) (secondB m c t) _ i j).trans ?_)
  unfold updates
  rw [firstB_apply, secondB_apply]
  exact congrArg (update _ _) ((congrFun (ld_whole (blkW m c t)) (ix2 i j)).trans (blkW_apply m c t i j))

theorem outs_6 (i : Fin 256) (j : Fin 704) : (dats m 0 c).after 6 t (ix2 i j)
    = firsts (parts m c) (mom m c) (ix2 (rowOf t i) j) := by
  rw [after0_6]
  exact (congrFun (canon_whole (firstB m c t)) (ix2 i j)).trans (firstB_apply m c t i j)

theorem outs_7 (i : Fin 256) (j : Fin 704) : (dats m 0 c).after 7 t (ix2 i j)
    = seconds (parts m c) (sqs m c) (ix2 (rowOf t i) j) := by
  rw [after0_7]
  exact (congrFun (canon_whole (secondB m c t)) (ix2 i j)).trans (secondB_apply m c t i j)

/-- The kernel's four results. -/
theorem final_4 : (dats m 0 c).arrAt 4 cfg0.N = grad (parts m c) := by
  refine (dats m 0 c).arrAt_eq_of_covers 4 _ (by decide +kernel) fun t _ y => ?_
  blk_simp
  obtain ⟨i, j, rfl⟩ : ∃ (i : Fin 256) (j : Fin 704), y = ix2 i j := ⟨y 0, y 1, eq_ix2 y⟩
  have e : (win0_4.blk t).view.emb (ix2 i j) = ix2 (rowOf t i) j := by
    blk_ext [at4 t, rowOf]
  rw [e]
  exact outs_4 m c t i j

theorem final_5 : (dats m 0 c).arrAt 5 cfg0.N = updates (parts m c) (wts m c) (mom m c) (sqs m c) := by
  refine (dats m 0 c).arrAt_eq_of_covers 5 _ (by decide +kernel) fun t _ y => ?_
  blk_simp
  obtain ⟨i, j, rfl⟩ : ∃ (i : Fin 256) (j : Fin 704), y = ix2 i j := ⟨y 0, y 1, eq_ix2 y⟩
  have e : (win0_5.blk t).view.emb (ix2 i j) = ix2 (rowOf t i) j := by
    blk_ext [at5 t, rowOf]
  rw [e]
  exact outs_5 m c t i j

theorem final_6 : (dats m 0 c).arrAt 6 cfg0.N = firsts (parts m c) (mom m c) := by
  refine (dats m 0 c).arrAt_eq_of_covers 6 _ (by decide +kernel) fun t _ y => ?_
  blk_simp
  obtain ⟨i, j, rfl⟩ : ∃ (i : Fin 256) (j : Fin 704), y = ix2 i j := ⟨y 0, y 1, eq_ix2 y⟩
  have e : (win0_6.blk t).view.emb (ix2 i j) = ix2 (rowOf t i) j := by
    blk_ext [at6 t, rowOf]
  rw [e]
  exact outs_6 m c t i j

theorem final_7 : (dats m 0 c).arrAt 7 cfg0.N = seconds (parts m c) (sqs m c) := by
  refine (dats m 0 c).arrAt_eq_of_covers 7 _ (by decide +kernel) fun t _ y => ?_
  blk_simp
  obtain ⟨i, j, rfl⟩ : ∃ (i : Fin 256) (j : Fin 704), y = ix2 i j := ⟨y 0, y 1, eq_ix2 y⟩
  have e : (win0_7.blk t).view.emb (ix2 i j) = ix2 (rowOf t i) j := by
    blk_ext [at7 t, rowOf]
  rw [e]
  exact outs_7 m c t i j

section Reference

open Cert.Reference24Ideal.Read

variable (x0 : FVec Ideal S4x4096x704 .bf16) (x1 x2 x3 : FVec Ideal S4096x704 .f32)

/-- The reference's four results. -/
theorem ref_grad : val_main_v1 (F := Ideal) x0 = grad x0 := by
  funext y
  rw [val_main_v1_apply, val_main_cst_apply]
  refine Eq.trans (congrArg₂ (· + ·) (Ideal.ofBits_zero .f32) (Finset.sum_congr rfl fun k _ => ?_)) (grad_sum x0 y)
  rw [val_main_v0_apply]
  exact congrArg x0 (eq_ix3 _)

theorem ref_first : val_main_v6 (F := Ideal) x0 x2 = firsts x0 x2 := by
  funext y
  rw [val_main_v6_apply, val_main_v3_apply, val_main_v5_apply, val_main_v2_apply, val_main_v4_apply, ref_grad]
  rfl

theorem ref_second : val_main_v12 (F := Ideal) x0 x3 = seconds x0 x3 := by
  funext y
  rw [val_main_v12_apply, val_main_v8_apply, val_main_v11_apply, val_main_v7_apply, val_main_v9_apply, val_main_v10_apply, ref_grad]
  rfl

theorem ref_update : val_main_v25 (F := Ideal) x0 x1 x2 x3 = updates x0 x1 x2 x3 := by
  funext y
  rw [val_main_v25_apply, val_main_v23_apply, val_main_v20_apply, val_main_v14_apply, val_main_v19_apply, val_main_v17_apply,
    val_main_v16_apply, val_main_v22_apply, ref_first, ref_second, val_main_v24_apply, val_main_v21_apply, val_main_v18_apply,
    val_main_v15_apply, val_main_v13_apply]
  rfl

end Reference

end Ffn.AdamwGu
-- ==== Proof.Rest.lean ====
/-
  The claims of the short convolution's calls and of the optimiser's call: each reference runs and changes no argument, and each
  call gives its reference's results.
-/
module

public import proofs.«01_k».proof.Defs
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.ScBwd
public import proofs.«01_k».proof.Proof.ScBwdRef
public import proofs.«01_k».proof.Proof.ScFwd
public import proofs.«01_k».proof.Proof.ScFwdRef
public import proofs.«01_k».proof.Proof.AdamwGu
public import Idealize.ShloMosaic.Adequacy
public import Idealize.ShloMosaic.Init

@[expose] public section

noncomputable section

namespace Ffn

open Idealize.ShloMosaic Idealize.ShloMosaic.TcCoe Idealize.SL.Sem

/-- The reference of the short convolution's gradients runs and changes no argument. -/
theorem frame22 : Cert.quiescent_Reference22Ideal (hReference22Ideal := Cert.Reference22Ideal.Gen.facts) := fun m g _ =>
  (θ_run _ _ _).mono (fun r h => ⟨fun c => (h c).2.2.2.2, sem_eq_zero_of_no_sems (by decide) r.2⟩) (Cert.Reference22Ideal.Value.run m g)

/-- The reference of the short convolution runs and changes no argument. -/
theorem frame23 : Cert.quiescent_Reference23Ideal (hReference23Ideal := Cert.Reference23Ideal.Gen.facts) := fun m g _ =>
  (θ_run _ _ _).mono (fun r h => ⟨fun c => (h c).2, sem_eq_zero_of_no_sems (by decide) r.2⟩) (Cert.Reference23Ideal.Value.run m g)

/-- The reference of the optimiser's step runs and changes no argument. -/
theorem frame24 : Cert.quiescent_Reference24Ideal (hReference24Ideal := Cert.Reference24Ideal.Gen.facts) := fun m g _ =>
  (θ_run _ _ _).mono (fun r h => ⟨fun c => (h c).2.2.2.2, sem_eq_zero_of_no_sems (by decide) r.2⟩) (Cert.Reference24Ideal.Value.run m g)

/-- The short convolution's backward call gives the gradients of the two gates, of the value and of the weights. -/
theorem algebraic22 : Cert.algebraic_Kernel22Ideal_Reference22Ideal (hKernel22Ideal := Cert.Kernel22Ideal.Gen.facts)
    (hReference22Ideal := Cert.Reference22Ideal.Gen.facts) := by
  intro m g m' g' _ hargs
  refine ⟨_, _, _, _, Cert.Kernel22Ideal.Value.run_blocks m g, ?_⟩
  refine (θ_run _ _ _).mono (fun r h c => ?_) (Cert.Reference22Ideal.Value.run m' g')
  obtain ⟨h0, h1, h2, h3, hk⟩ := h c
  obtain ⟨a0, a1, a2⟩ := hargs c
  refine ⟨h0.trans (((Cert.Reference22Ideal.Read.val_main_v57_eq m' c).trans (ScBwdRef.ref_outGate _ _ _)).trans ?_),
    h1.trans (((Cert.Reference22Ideal.Read.val_main_v58_eq m' c).trans (ScBwdRef.ref_inGate _ _ _)).trans ?_),
    h2.trans (((Cert.Reference22Ideal.Read.val_main_v59_eq m' c).trans (ScBwdRef.ref_value _ _ _)).trans ?_),
    h3.trans (((Cert.Reference22Ideal.Read.val_main_v60_eq _ _).trans (ScBwdRef.ref_weight _ _)).trans ?_), hk⟩
  · rw [a0, a1, a2]
    exact (ScBwd.final_5 m c).symm
  · rw [a0, a1, a2]
    exact (ScBwd.final_6 m c).symm
  · rw [a0, a1, a2]
    exact (ScBwd.final_7 m c).symm
  · rw [a0, a2]
    exact (ScBwd.final_8 m c).symm

/-- The short convolution's forward call gives its result. -/
theorem algebraic23 : Cert.algebraic_Kernel23Ideal_Reference23Ideal (hKernel23Ideal := Cert.Kernel23Ideal.Gen.facts)
    (hReference23Ideal := Cert.Reference23Ideal.Gen.facts) := by
  intro m g m' g' _ hargs
  refine ⟨_, Cert.Kernel23Ideal.Value.run_blocks m g, ?_⟩
  refine (θ_run _ _ _).mono (fun r h c => ?_) (Cert.Reference23Ideal.Value.run m' g')
  obtain ⟨h0, hk⟩ := h c
  obtain ⟨a0, a1⟩ := hargs c
  refine ⟨h0.trans (((Cert.Reference23Ideal.Read.val_main_v23_eq _ _).trans (ScFwdRef.ref _ _)).trans ?_), hk⟩
  rw [a0, a1]
  exact (ScFwd.final m c).symm

/-- The optimiser's call gives the summed gradient, the update and the two moments. -/
theorem algebraic24 : Cert.algebraic_Kernel24Ideal_Reference24Ideal (hKernel24Ideal := Cert.Kernel24Ideal.Gen.facts)
    (hReference24Ideal := Cert.Reference24Ideal.Gen.facts) := by
  intro m g m' g' _ hargs
  refine ⟨_, _, _, _, Cert.Kernel24Ideal.Value.run_blocks m g, ?_⟩
  refine (θ_run _ _ _).mono (fun r h c => ?_) (Cert.Reference24Ideal.Value.run m' g')
  obtain ⟨h0, h1, h2, h3, hk⟩ := h c
  obtain ⟨a0, a1, a2, a3⟩ := hargs c
  refine ⟨h0.trans (((Cert.Reference24Ideal.Read.val_main_v1_eq _).trans (AdamwGu.ref_grad _)).trans ?_),
    h1.trans (((Cert.Reference24Ideal.Read.val_main_v25_eq _ _ _ _).trans (AdamwGu.ref_update _ _ _ _)).trans ?_),
    h2.trans (((Cert.Reference24Ideal.Read.val_main_v6_eq _ _).trans (AdamwGu.ref_first _ _)).trans ?_),
    h3.trans (((Cert.Reference24Ideal.Read.val_main_v12_eq _ _).trans (AdamwGu.ref_second _ _)).trans ?_), hk⟩
  · rw [a0]
    exact (AdamwGu.final_4 m c).symm
  · rw [a0, a1, a2, a3]
    exact (AdamwGu.final_5 m c).symm
  · rw [a0, a2]
    exact (AdamwGu.final_6 m c).symm
  · rw [a0, a3]
    exact (AdamwGu.final_7 m c).symm

end Ffn

end
-- ==== Proof.lean ====
/-
  The proof of the claim: the kernel runs, its idealization and the reference run, and at the ideal numbers the backward
  call of the scan gives the five gradients of the plain sum.
-/
module

public import proofs.«01_k».proof.Defs
public import proofs.«01_k».proof.Proof.Gen.Kernel.Frame
public import proofs.«01_k».proof.Proof.Gen.KernelIdeal.Frame
public import proofs.«01_k».proof.Proof.Finite
public import proofs.«01_k».proof.Proof.Finals
public import proofs.«01_k».proof.Proof.Layer
public import proofs.«01_k».proof.Proof.Mixers
public import proofs.«01_k».proof.Proof.SsdLayer
public import proofs.«01_k».proof.Proof.Rest
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import Idealize.ShloMosaic.Adequacy
public import Idealize.ShloMosaic.Init

@[expose] public section

noncomputable section

namespace Cert.Proof

open Idealize.ShloMosaic Idealize.ShloMosaic.TcCoe Idealize.SL.Sem

/-- The facts that the precondition's program states. -/
theorem preFacts : Cert.Pre_inputs_finite.Facts where
  reducesTo_S4096x4096_S_d0_1 := by decide
  h_S_ := by decide
  reducesTo_S4096x32_S_d0_1 := by decide
  reducesTo_S32_S_d0 := by decide
  reducesTo_S4096x2048_S_d0_1 := by decide

/-- The reference runs, changes no argument and leaves no semaphore raised: it has none. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run _ _ _).mono (fun r h => ⟨fun c => (h c).2.2.2.2.2, sem_eq_zero_of_no_sems (by decide) r.2⟩)
    (Cert.ReferenceIdeal.Value.run m g)

/-- The two programs' results agree under the precondition. -/
theorem algebraic : Cert.algebraic_KernelIdeal_ReferenceIdeal_pre_inputs_finite (hKernelIdeal := Cert.KernelIdeal.Gen.facts)
    (hReferenceIdeal := Cert.ReferenceIdeal.Gen.facts) (hPre_inputs_finite := preFacts) := by
  intro m g m' g' hpre hargs
  have := preFacts
  have hr := fun c => Ssd.reads_of_finite _ _ _ _ (hpre c)
  refine ⟨_, _, _, _, _, Cert.KernelIdeal.Value.run_blocks m g, ?_⟩
  refine (θ_run _ _ _).mono (fun r h c => ?_) (Cert.ReferenceIdeal.Value.run m' g')
  obtain ⟨h0, h1, h2, h3, h4, hk⟩ := h c
  obtain ⟨a0, a1, a2, a3⟩ := hargs c
  have hr' := hr c
  have hr'' := hr'.congr a0 a1 a2 a3
  exact ⟨h0.trans ((Ssd.ref0 m' c hr'').trans (Ssd.Host.final7 m c hr').symm),
    h1.trans ((Ssd.ref1 m' c hr'').trans (Ssd.Host.final8 m c hr').symm),
    h2.trans ((Ssd.ref2 m' c hr'').trans (Ssd.Host.final9 m c hr').symm),
    h3.trans ((Ssd.ref3 m' c hr'').trans (Ssd.Host.final10 m c hr').symm),
    h4.trans ((Ssd.ref4 m' c hr'').trans (Ssd.Host.final11 m c hr').symm), hk⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  preFacts, Ffn.Dx.preFacts, Ffn.Dact.preFacts, Ffn.MixDx.preFacts, Ffn.SsdDx.preFacts,
  fun m g _ => Cert.Kernel.Gen.frame m g, fun m g _ => Cert.KernelIdeal.Gen.frame m g, fun m g _ => Cert.KernelIdeal.Gen.frame m g,
  fun m g _ => reference_frame m g, fun m g _ => reference_frame m g,
  fun m g _ => Cert.Kernel2.Gen.frame m g, fun m g _ => Cert.Kernel2Ideal.Gen.frame m g, Ffn.frame2,
  fun m g _ => Cert.Kernel3.Gen.frame m g, fun m g _ => Cert.Kernel3Ideal.Gen.frame m g, Ffn.frame3,
  fun m g _ => Cert.Kernel4.Gen.frame m g, fun m g _ => Cert.Kernel4Ideal.Gen.frame m g,
  fun m g _ => Cert.Kernel4Ideal.Gen.frame m g, Ffn.frame4, fun m g _ => Ffn.frame4 m g trivial,
  fun m g _ => Cert.Kernel5.Gen.frame m g, fun m g _ => Cert.Kernel5Ideal.Gen.frame m g,
  fun m g _ => Cert.Kernel5Ideal.Gen.frame m g, Ffn.frame5, fun m g _ => Ffn.frame5 m g trivial,
  fun m g _ => Cert.Kernel6.Gen.frame m g, fun m g _ => Cert.Kernel6Ideal.Gen.frame m g, Ffn.frame6,
  fun m g _ => Cert.Kernel7.Gen.frame m g, fun m g _ => Cert.Kernel7Ideal.Gen.frame m g, Ffn.frame7,
  fun m g _ => Cert.Kernel8.Gen.frame m g, fun m g _ => Cert.Kernel8Ideal.Gen.frame m g,
  fun m g _ => Cert.Kernel8Ideal.Gen.frame m g, Ffn.frame8, fun m g _ => Ffn.frame8 m g trivial,
  fun m g _ => Cert.Kernel9.Gen.frame m g, fun m g _ => Cert.Kernel9Ideal.Gen.frame m g, Ffn.frame9,
  fun m g _ => Cert.Kernel10.Gen.frame m g, fun m g _ => Cert.Kernel10Ideal.Gen.frame m g, Ffn.frame10,
  fun m g _ => Cert.Kernel11.Gen.frame m g, fun m g _ => Cert.Kernel11Ideal.Gen.frame m g, Ffn.frame11,
  fun m g _ => Cert.Kernel12.Gen.frame m g, fun m g _ => Cert.Kernel12Ideal.Gen.frame m g, Ffn.frame12,
  fun m g _ => Cert.Kernel13.Gen.frame m g, fun m g _ => Cert.Kernel13Ideal.Gen.frame m g, Ffn.frame13,
  fun m g _ => Cert.Kernel14.Gen.frame m g, fun m g _ => Cert.Kernel14Ideal.Gen.frame m g, Ffn.frame14,
  fun m g _ => Cert.Kernel15.Gen.frame m g, fun m g _ => Cert.Kernel15Ideal.Gen.frame m g, Ffn.frame15,
  fun m g _ => Cert.Kernel16.Gen.frame m g, fun m g _ => Cert.Kernel16Ideal.Gen.frame m g,
  fun m g _ => Cert.Kernel16Ideal.Gen.frame m g, Ffn.frame16, fun m g _ => Ffn.frame16 m g trivial,
  fun m g _ => Cert.Kernel17.Gen.frame m g, fun m g _ => Cert.Kernel17Ideal.Gen.frame m g, Ffn.frame17,
  fun m g _ => Cert.Kernel18.Gen.frame m g, fun m g _ => Cert.Kernel18Ideal.Gen.frame m g, Ffn.frame18,
  fun m g _ => Cert.Kernel19.Gen.frame m g, fun m g _ => Cert.Kernel19Ideal.Gen.frame m g, Ffn.frame19,
  fun m g _ => Cert.Kernel20.Gen.frame m g, fun m g _ => Cert.Kernel20Ideal.Gen.frame m g, Ffn.frame20,
  fun m g _ => Cert.Kernel21.Gen.frame m g, fun m g _ => Cert.Kernel21Ideal.Gen.frame m g, Ffn.frame21,
  fun m g _ => Cert.Kernel22.Gen.frame m g, fun m g _ => Cert.Kernel22Ideal.Gen.frame m g, Ffn.frame22,
  fun m g _ => Cert.Kernel23.Gen.frame m g, fun m g _ => Cert.Kernel23Ideal.Gen.frame m g, Ffn.frame23,
  fun m g _ => Cert.Kernel24.Gen.frame m g, fun m g _ => Cert.Kernel24Ideal.Gen.frame m g, Ffn.frame24,
  trivial, algebraic, trivial, Ffn.algebraic2, trivial, Ffn.algebraic3, trivial, Ffn.algebraic4, trivial, Ffn.algebraic5,
  trivial, Ffn.algebraic6, trivial, Ffn.algebraic7,
  trivial, Ffn.algebraic8, trivial, Ffn.algebraic9, trivial, Ffn.algebraic10, trivial, Ffn.algebraic11,
  trivial, Ffn.algebraic12, trivial, Ffn.algebraic13, trivial, Ffn.algebraic14, trivial, Ffn.algebraic15,
  trivial, Ffn.algebraic16, trivial, Ffn.algebraic17, trivial, Ffn.algebraic18, trivial, Ffn.algebraic19,
  trivial, Ffn.algebraic20, trivial, Ffn.algebraic21, trivial, Ffn.algebraic22, trivial, Ffn.algebraic23,
  trivial, Ffn.algebraic24⟩

end Cert.Proof

end
